-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_ffn_bwd [hPre_finite_ffn_bwd : Cert.Pre_finite_ffn_bwd.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_ffn_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_ffn_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_ffn_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_ffn_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.1 = (fun _ => 1#1)
    ∧ (Cert.Pre_finite_ffn_bwd.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_ffn_bwd [hPre_finite_ffn_bwd : Cert.Pre_finite_ffn_bwd.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_ffn_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_ffn_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_ffn_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_ffn_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.1 = (fun _ => 1#1)
    ∧ (Cert.Pre_finite_ffn_bwd.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_ffn_fwd [hPre_finite_ffn_fwd : Cert.Pre_finite_ffn_fwd.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_ffn_fwd.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).1 = (fun _ => 1#1)
    ∧ (Cert.Pre_finite_ffn_fwd.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.1 = (fun _ => 1#1)
    ∧ (Cert.Pre_finite_ffn_fwd.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))).2.2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_ffn_fwd [hPre_finite_ffn_fwd : Cert.Pre_finite_ffn_fwd.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_ffn_fwd.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).1 = (fun _ => 1#1)
    ∧ (Cert.Pre_finite_ffn_fwd.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.1 = (fun _ => 1#1)
    ∧ (Cert.Pre_finite_ffn_fwd.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))).2.2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_ffn_bwd [hKernel2Ideal : Cert.Kernel2Ideal.Facts] [hPre_finite_ffn_bwd : Cert.Pre_finite_ffn_bwd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_ffn_bwd m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_ffn_bwd [hReference2Ideal : Cert.Reference2Ideal.Facts] [hPre_finite_ffn_bwd : Cert.Pre_finite_ffn_bwd.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_ffn_bwd m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite_ffn_fwd [hKernel9Ideal : Cert.Kernel9Ideal.Facts] [hPre_finite_ffn_fwd : Cert.Pre_finite_ffn_fwd.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_ffn_fwd m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite_ffn_fwd [hReference9Ideal : Cert.Reference9Ideal.Facts] [hPre_finite_ffn_fwd : Cert.Pre_finite_ffn_fwd.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_ffn_fwd m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal_on_proven [hKernelIdeal : Cert.KernelIdeal.Facts] [hReferenceIdeal : Cert.ReferenceIdeal.Facts] [hOn_proven : Cert.On_proven.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v297_0)) (v1 : (c : Dev Cert.KernelIdeal.nD) → Buf (Elt Ideal) ((c.tc : Thread Cert.KernelIdeal.nD Cert.KernelIdeal.τ).loc Cert.KernelIdeal.main_v297_1)) (v2 : (c : Dev Cert.KernelIdeal.nD) → Buf (Elt Ideal) ((c.tc : Thread Cert.KernelIdeal.nD Cert.KernelIdeal.τ).loc Cert.KernelIdeal.main_v297_2)) (v3 : (c : Dev Cert.KernelIdeal.nD) → Buf (Elt Ideal) ((c.tc : Thread Cert.KernelIdeal.nD Cert.KernelIdeal.τ).loc Cert.KernelIdeal.main_v297_3)) (v4 : (c : Dev Cert.KernelIdeal.nD) → Buf (Elt Ideal) ((c.tc : Thread Cert.KernelIdeal.nD Cert.KernelIdeal.τ).loc Cert.KernelIdeal.main_v297_4)) (v5 : (c : Dev Cert.KernelIdeal.nD) → Buf (Elt Ideal) ((c.tc : Thread Cert.KernelIdeal.nD Cert.KernelIdeal.τ).loc Cert.KernelIdeal.main_v297_5)) (v6 : (c : Dev Cert.KernelIdeal.nD) → Buf (Elt Ideal) ((c.tc : Thread Cert.KernelIdeal.nD Cert.KernelIdeal.τ).loc Cert.KernelIdeal.main_v297_6)) (v7 : (c : Dev Cert.KernelIdeal.nD) → Buf (Elt Ideal) ((c.tc : Thread Cert.KernelIdeal.nD Cert.KernelIdeal.τ).loc Cert.KernelIdeal.main_v297_7)) (v8 : (c : Dev Cert.KernelIdeal.nD) → Buf (Elt Ideal) ((c.tc : Thread Cert.KernelIdeal.nD Cert.KernelIdeal.τ).loc Cert.KernelIdeal.main_v297_8)) (v9 : (c : Dev Cert.KernelIdeal.nD) → Buf (Elt Ideal) ((c.tc : Thread Cert.KernelIdeal.nD Cert.KernelIdeal.τ).loc Cert.KernelIdeal.main_v297_9)) (v10 : (c : Dev Cert.KernelIdeal.nD) → Buf (Elt Ideal) ((c.tc : Thread Cert.KernelIdeal.nD Cert.KernelIdeal.τ).loc Cert.KernelIdeal.main_v297_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 8192]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.KernelIdeal.nD Cert.KernelIdeal.τ).loc Cert.KernelIdeal.main_v297_0) i = v0 c i)
          ∧ (∀ i : (⟨3, ![4, 128, 128]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 i = 1#1 → r.2.mem ((c.tc : Thread Cert.KernelIdeal.nD Cert.KernelIdeal.τ).loc Cert.KernelIdeal.main_v297_1) i = v1 c i)
          ∧ (∀ i : (⟨2, ![1, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 i = 1#1 → r.2.mem ((c.tc : Thread Cert.KernelIdeal.nD Cert.KernelIdeal.τ).loc Cert.KernelIdeal.main_v297_2) i = v2 c i)
          ∧ (∀ i : (⟨2, ![8, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 i = 1#1 → r.2.mem ((c.tc : Thread Cert.KernelIdeal.nD Cert.KernelIdeal.τ).loc Cert.KernelIdeal.main_v297_3) i = v3 c i)
          ∧ (∀ i : (⟨2, ![32, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 i = 1#1 → r.2.mem ((c.tc : Thread Cert.KernelIdeal.nD Cert.KernelIdeal.τ).loc Cert.KernelIdeal.main_v297_4) i = v4 c i)
          ∧ (∀ i : (⟨2, ![1, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 i = 1#1 → r.2.mem ((c.tc : Thread Cert.KernelIdeal.nD Cert.KernelIdeal.τ).loc Cert.KernelIdeal.main_v297_5) i = v5 c i)
          ∧ (∀ i : (⟨2, ![1, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 i = 1#1 → r.2.mem ((c.tc : Thread Cert.KernelIdeal.nD Cert.KernelIdeal.τ).loc Cert.KernelIdeal.main_v297_6) i = v6 c i)
          ∧ (∀ i : (⟨2, ![1, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 i = 1#1 → r.2.mem ((c.tc : Thread Cert.KernelIdeal.nD Cert.KernelIdeal.τ).loc Cert.KernelIdeal.main_v297_7) i = v7 c i)
          ∧ (∀ i : (⟨2, ![1, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 i = 1#1 → r.2.mem ((c.tc : Thread Cert.KernelIdeal.nD Cert.KernelIdeal.τ).loc Cert.KernelIdeal.main_v297_8) i = v8 c i)
          ∧ (∀ i : (⟨3, ![4, 128, 128]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 i = 1#1 → r.2.mem ((c.tc : Thread Cert.KernelIdeal.nD Cert.KernelIdeal.τ).loc Cert.KernelIdeal.main_v297_9) i = v9 c i)
          ∧ (∀ i : (⟨3, ![4, 128, 128]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2 i = 1#1 → r.2.mem ((c.tc : Thread Cert.KernelIdeal.nD Cert.KernelIdeal.τ).loc Cert.KernelIdeal.main_v297_10) i = v10 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 8192]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 i = 1#1 → r.2.mem ((c.tc : Thread Cert.ReferenceIdeal.nD Cert.ReferenceIdeal.τ).loc Cert.ReferenceIdeal.main_v1405) i = v0 c i)
          ∧ (∀ i : (⟨3, ![4, 128, 128]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 i = 1#1 → r.2.mem ((c.tc : Thread Cert.ReferenceIdeal.nD Cert.ReferenceIdeal.τ).loc Cert.ReferenceIdeal.main_v1390) i = v1 c i)
          ∧ (∀ i : (⟨2, ![1, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 i = 1#1 → r.2.mem ((c.tc : Thread Cert.ReferenceIdeal.nD Cert.ReferenceIdeal.τ).loc Cert.ReferenceIdeal.main_v1406) i = v2 c i)
          ∧ (∀ i : (⟨2, ![8, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 i = 1#1 → r.2.mem ((c.tc : Thread Cert.ReferenceIdeal.nD Cert.ReferenceIdeal.τ).loc Cert.ReferenceIdeal.main_v1407) i = v3 c i)
          ∧ (∀ i : (⟨2, ![32, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 i = 1#1 → r.2.mem ((c.tc : Thread Cert.ReferenceIdeal.nD Cert.ReferenceIdeal.τ).loc Cert.ReferenceIdeal.main_v1408) i = v4 c i)
          ∧ (∀ i : (⟨2, ![1, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 i = 1#1 → r.2.mem ((c.tc : Thread Cert.ReferenceIdeal.nD Cert.ReferenceIdeal.τ).loc Cert.ReferenceIdeal.main_v1409) i = v5 c i)
          ∧ (∀ i : (⟨2, ![1, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 i = 1#1 → r.2.mem ((c.tc : Thread Cert.ReferenceIdeal.nD Cert.ReferenceIdeal.τ).loc Cert.ReferenceIdeal.main_v1410) i = v6 c i)
          ∧ (∀ i : (⟨2, ![1, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 i = 1#1 → r.2.mem ((c.tc : Thread Cert.ReferenceIdeal.nD Cert.ReferenceIdeal.τ).loc Cert.ReferenceIdeal.main_v1411) i = v7 c i)
          ∧ (∀ i : (⟨2, ![1, 512]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.1 i = 1#1 → r.2.mem ((c.tc : Thread Cert.ReferenceIdeal.nD Cert.ReferenceIdeal.τ).loc Cert.ReferenceIdeal.main_v1412) i = v8 c i)
          ∧ (∀ i : (⟨3, ![4, 128, 128]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.1 i = 1#1 → r.2.mem ((c.tc : Thread Cert.ReferenceIdeal.nD Cert.ReferenceIdeal.τ).loc Cert.ReferenceIdeal.main_v693) i = v9 c i)
          ∧ (∀ i : (⟨3, ![4, 128, 128]⟩ : Shape).Idx, (Cert.On_proven.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2.2.2 i = 1#1 → r.2.mem ((c.tc : Thread Cert.ReferenceIdeal.nD Cert.ReferenceIdeal.τ).loc Cert.ReferenceIdeal.main_v688) i = v10 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_finite_ffn_bwd [hKernel2Ideal : Cert.Kernel2Ideal.Facts] [hReference2Ideal : Cert.Reference2Ideal.Facts] [hPre_finite_ffn_bwd : Cert.Pre_finite_ffn_bwd.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_ffn_bwd m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v34_0)) (v1 : (c : Dev Cert.Kernel2Ideal.nD) → Buf (Elt Ideal) ((c.tc : Thread Cert.Kernel2Ideal.nD Cert.Kernel2Ideal.τ).loc Cert.Kernel2Ideal.main_v34_1)) (v2 : (c : Dev Cert.Kernel2Ideal.nD) → Buf (Elt Ideal) ((c.tc : Thread Cert.Kernel2Ideal.nD Cert.Kernel2Ideal.τ).loc Cert.Kernel2Ideal.main_v34_2)) (v3 : (c : Dev Cert.Kernel2Ideal.nD) → Buf (Elt Ideal) ((c.tc : Thread Cert.Kernel2Ideal.nD Cert.Kernel2Ideal.τ).loc Cert.Kernel2Ideal.main_v34_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34_0) = v0 c
          ∧ r.2.mem ((c.tc : Thread Cert.Kernel2Ideal.nD Cert.Kernel2Ideal.τ).loc Cert.Kernel2Ideal.main_v34_1) = v1 c
          ∧ r.2.mem ((c.tc : Thread Cert.Kernel2Ideal.nD Cert.Kernel2Ideal.τ).loc Cert.Kernel2Ideal.main_v34_2) = v2 c
          ∧ r.2.mem ((c.tc : Thread Cert.Kernel2Ideal.nD Cert.Kernel2Ideal.τ).loc Cert.Kernel2Ideal.main_v34_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v52) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v55) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite_ffn_fwd [hKernel9Ideal : Cert.Kernel9Ideal.Facts] [hReference9Ideal : Cert.Reference9Ideal.Facts] [hPre_finite_ffn_fwd : Cert.Pre_finite_ffn_fwd.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_ffn_fwd m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v25) = v2 c
          ∧ r.2.mem ((c.tc : Thread Cert.Reference9Ideal.nD Cert.Reference9Ideal.τ).loc Cert.Reference9Ideal.main_v31) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1_0) = v0 c
          ∧ r.2.mem ((c.tc : Thread Cert.Kernel10Ideal.nD Cert.Kernel10Ideal.τ).loc Cert.Kernel10Ideal.main_v1_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite_ffn_bwd : Cert.Pre_finite_ffn_bwd.Facts) (hPre_finite_ffn_fwd : Cert.Pre_finite_ffn_fwd.Facts) (hOn_proven : Cert.On_proven.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_ffn_bwd (hKernel2Ideal := hKernel2Ideal) (hPre_finite_ffn_bwd := hPre_finite_ffn_bwd)
    ∧ quiescent_Reference2Ideal (hReference2Ideal := hReference2Ideal)
    ∧ quiescent_Reference2Ideal_pre_finite_ffn_bwd (hReference2Ideal := hReference2Ideal) (hPre_finite_ffn_bwd := hPre_finite_ffn_bwd)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_ffn_fwd (hKernel9Ideal := hKernel9Ideal) (hPre_finite_ffn_fwd := hPre_finite_ffn_fwd)
    ∧ quiescent_Reference9Ideal (hReference9Ideal := hReference9Ideal)
    ∧ quiescent_Reference9Ideal_pre_finite_ffn_fwd (hReference9Ideal := hReference9Ideal) (hPre_finite_ffn_fwd := hPre_finite_ffn_fwd)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_on_proven (hKernelIdeal := hKernelIdeal) (hReferenceIdeal := hReferenceIdeal) (hOn_proven := hOn_proven)
    ∧ preserves_Kernel2_Kernel2Ideal
    ∧ algebraic_Kernel2Ideal_Reference2Ideal_pre_finite_ffn_bwd (hKernel2Ideal := hKernel2Ideal) (hReference2Ideal := hReference2Ideal) (hPre_finite_ffn_bwd := hPre_finite_ffn_bwd)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_ffn_fwd (hKernel9Ideal := hKernel9Ideal) (hReference9Ideal := hReference9Ideal) (hPre_finite_ffn_fwd := hPre_finite_ffn_fwd)
    ∧ preserves_Kernel10_Kernel10Ideal
    ∧ algebraic_Kernel10Ideal_Reference10Ideal (hKernel10Ideal := hKernel10Ideal) (hReference10Ideal := hReference10Ideal)
-- ==== On_proven.lean ====
abbrev S4096x8192 : Shape := ⟨2, ![4096, 8192]⟩
abbrev S4096x2048 : Shape := ⟨2, ![4096, 2048]⟩
abbrev S4x128x128 : Shape := ⟨3, ![4, 128, 128]⟩
abbrev S512 : Shape := ⟨1, ![512]⟩
abbrev S3x512 : Shape := ⟨2, ![3, 512]⟩
abbrev S31x512 : Shape := ⟨2, ![31, 512]⟩
abbrev S4x128 : Shape := ⟨2, ![4, 128]⟩
abbrev S_ : Shape := ⟨0, ![]⟩
abbrev S1x512 : Shape := ⟨2, ![1, 512]⟩
abbrev S8x512 : Shape := ⟨2, ![8, 512]⟩
abbrev S32x512 : Shape := ⟨2, ![32, 512]⟩

class Facts : Prop where
  bcast_S_S4096x8192 : S_.BroadcastsInDim S4096x8192 (![] : Fin 0 → Fin S4096x8192.rank)
  bcast_S_S4x128x128 : S_.BroadcastsInDim S4x128x128 (![] : Fin 0 → Fin S4x128x128.rank)
  bcast_S_S1x512 : S_.BroadcastsInDim S1x512 (![] : Fin 0 → Fin S1x512.rank)
  bcast_S_S8x512 : S_.BroadcastsInDim S8x512 (![] : Fin 0 → Fin S8x512.rank)
  bcast_S_S32x512 : S_.BroadcastsInDim S32x512 (![] : Fin 0 → Fin S32x512.rank)

variable [Facts]

def fn_part2 {F : FTy → Type} [FloatOps F] (main_v8 : IVec S4096x8192 1) (main_v11 : IVec S4x128x128 1) (main_v14 : IVec S1x512 1) (main_v17 : IVec S8x512 1) (main_v20 : IVec S32x512 1) (main_v23 : IVec S1x512 1) (main_v26 : IVec S1x512 1) (main_v29 : IVec S1x512 1) (main_c_16 : IVec S_ 32) : IVec S4096x8192 1 × IVec S4x128x128 1 × IVec S1x512 1 × IVec S8x512 1 × IVec S32x512 1 × IVec S1x512 1 × IVec S1x512 1 × IVec S1x512 1 × IVec S1x512 1 × IVec S4x128x128 1 × IVec S4x128x128 1 :=
  let main_v30 : IVec S1x512 32 := broadcastInDim S1x512 ![] bcast_S_S1x512 main_c_16
  let main_c_17 : IVec S_ 32 := constantI S_ 32 0#32
  let main_v31 : IVec S1x512 32 := broadcastInDim S1x512 ![] bcast_S_S1x512 main_c_17
  let main_v32 : IVec S1x512 1 := cmpi .eq main_v30 main_v31
  let main_c_18 : IVec S_ 32 := constantI S_ 32 0#32
  let main_v33 : IVec S4x128x128 32 := broadcastInDim S4x128x128 ![] bcast_S_S4x128x128 main_c_18
  let main_c_19 : IVec S_ 32 := constantI S_ 32 0#32
  let main_v34 : IVec S4x128x128 32 := broadcastInDim S4x128x128 ![] bcast_S_S4x128x128 main_c_19
  let main_v35 : IVec S4x128x128 1 := cmpi .eq main_v33 main_v34
  let main_c_20 : IVec S_ 32 := constantI S_ 32 0#32
  let main_v36 : IVec S4x128x128 32 := broadcastInDim S4x128x128 ![] bcast_S_S4x128x128 main_c_20
  let main_c_21 : IVec S_ 32 := constantI S_ 32 0#32
  let main_v37 : IVec S4x128x128 32 := broadcastInDim S4x128x128 ![] bcast_S_S4x128x128 main_c_21
  let main_v38 : IVec S4x128x128 1 := cmpi .eq main_v36 main_v37
  (main_v8, main_v11, main_v14, main_v17, main_v20, main_v23, main_v26, main_v29, main_v32, main_v35, main_v38)

def fn_part1 {F : FTy → Type} [FloatOps F] (main_v8 : IVec S4096x8192 1) (main_v11 : IVec S4x128x128 1) (main_v14 : IVec S1x512 1) (main_v15 : IVec S8x512 32) : IVec S4096x8192 1 × IVec S4x128x128 1 × IVec S1x512 1 × IVec S8x512 1 × IVec S32x512 1 × IVec S1x512 1 × IVec S1x512 1 × IVec S1x512 1 × IVec S1x512 1 × IVec S4x128x128 1 × IVec S4x128x128 1 :=
  let main_c_7 : IVec S_ 32 := constantI S_ 32 0#32
  let main_v16 : IVec S8x512 32 := broadcastInDim S8x512 ![] bcast_S_S8x512 main_c_7
  let main_v17 : IVec S8x512 1 := cmpi .eq main_v15 main_v16
  let main_c_8 : IVec S_ 32 := constantI S_ 32 0#32
  let main_v18 : IVec S32x512 32 := broadcastInDim S32x512 ![] bcast_S_S32x512 main_c_8
  let main_c_9 : IVec S_ 32 := constantI S_ 32 0#32
  let main_v19 : IVec S32x512 32 := broadcastInDim S32x512 ![] bcast_S_S32x512 main_c_9
  let main_v20 : IVec S32x512 1 := cmpi .sgt main_v18 main_v19
  let main_c_10 : IVec S_ 32 := constantI S_ 32 0#32
  let main_v21 : IVec S1x512 32 := broadcastInDim S1x512 ![] bcast_S_S1x512 main_c_10
  let main_c_11 : IVec S_ 32 := constantI S_ 32 0#32
  let main_v22 : IVec S1x512 32 := broadcastInDim S1x512 ![] bcast_S_S1x512 main_c_11
  let main_v23 : IVec S1x512 1 := cmpi .sgt main_v21 main_v22
  let main_c_12 : IVec S_ 32 := constantI S_ 32 0#32
  let main_v24 : IVec S1x512 32 := broadcastInDim S1x512 ![] bcast_S_S1x512 main_c_12
  let main_c_13 : IVec S_ 32 := constantI S_ 32 0#32
  let main_v25 : IVec S1x512 32 := broadcastInDim S1x512 ![] bcast_S_S1x512 main_c_13
  let main_v26 : IVec S1x512 1 := cmpi .sgt main_v24 main_v25
  let main_c_14 : IVec S_ 32 := constantI S_ 32 0#32
  let main_v27 : IVec S1x512 32 := broadcastInDim S1x512 ![] bcast_S_S1x512 main_c_14
  let main_c_15 : IVec S_ 32 := constantI S_ 32 0#32
  let main_v28 : IVec S1x512 32 := broadcastInDim S1x512 ![] bcast_S_S1x512 main_c_15
  let main_v29 : IVec S1x512 1 := cmpi .eq main_v27 main_v28
  let main_c_16 : IVec S_ 32 := constantI S_ 32 0#32
  fn_part2 (F := F) main_v8 main_v11 main_v14 main_v17 main_v20 main_v23 main_v26 main_v29 main_c_16

def fn {F : FTy → Type} [FloatOps F] (main_arg0 : FVec F S4096x8192 .bf16) (main_arg1 : FVec F S4096x2048 .bf16) (main_arg2 : FVec F S4096x8192 .bf16) (main_arg3 : FVec F S4x128x128 .f32) (main_arg4 : FVec F S512 .f32) (main_arg5 : FVec F S3x512 .f32) (main_arg6 : FVec F S31x512 .f32) (main_arg7 : FVec F S512 .f32) (main_arg8 : FVec F S512 .f32) (main_arg9 : FVec F S512 .f32) (main_arg10 : FVec F S512 .f32) (main_arg11 : FVec F S4x128x128 .f32) (main_arg12 : FVec F S4x128 .f32) : IVec S4096x8192 1 × IVec S4x128x128 1 × IVec S1x512 1 × IVec S8x512 1 × IVec S32x512 1 × IVec S1x512 1 × IVec S1x512 1 × IVec S1x512 1 × IVec S1x512 1 × IVec S4x128x128 1 × IVec S4x128x128 1 :=
  let main_v0 : IVec S4096x8192 32 := iotaInDim S4096x8192 32 1
  let main_c : IVec S_ 32 := constantI S_ 32 512#32
  let main_v1 : IVec S4096x8192 32 := broadcastInDim S4096x8192 ![] bcast_S_S4096x8192 main_c
  let main_v2 : IVec S4096x8192 1 := cmpi .sge main_v0 main_v1
  let main_c_0 : IVec S_ 32 := constantI S_ 32 2048#32
  let main_v3 : IVec S4096x8192 32 := broadcastInDim S4096x8192 ![] bcast_S_S4096x8192 main_c_0
  let main_v4 : IVec S4096x8192 1 := cmpi .slt main_v0 main_v3
  let main_v5 : IVec S4096x8192 1 := andi main_v2 main_v4
  let main_c_1 : IVec S_ 32 := constantI S_ 32 4096#32
  let main_v6 : IVec S4096x8192 32 := broadcastInDim S4096x8192 ![] bcast_S_S4096x8192 main_c_1
  let main_v7 : IVec S4096x8192 1 := cmpi .sge main_v0 main_v6
  let main_v8 : IVec S4096x8192 1 := ori main_v5 main_v7
  let main_c_2 : IVec S_ 32 := constantI S_ 32 0#32
  let main_v9 : IVec S4x128x128 32 := broadcastInDim S4x128x128 ![] bcast_S_S4x128x128 main_c_2
  let main_c_3 : IVec S_ 32 := constantI S_ 32 0#32
  let main_v10 : IVec S4x128x128 32 := broadcastInDim S4x128x128 ![] bcast_S_S4x128x128 main_c_3
  let main_v11 : IVec S4x128x128 1 := cmpi .sgt main_v9 main_v10
  let main_c_4 : IVec S_ 32 := constantI S_ 32 0#32
  let main_v12 : IVec S1x512 32 := broadcastInDim S1x512 ![] bcast_S_S1x512 main_c_4
  let main_c_5 : IVec S_ 32 := constantI S_ 32 0#32
  let main_v13 : IVec S1x512 32 := broadcastInDim S1x512 ![] bcast_S_S1x512 main_c_5
  let main_v14 : IVec S1x512 1 := cmpi .sgt main_v12 main_v13
  let main_c_6 : IVec S_ 32 := constantI S_ 32 0#32
  let main_v15 : IVec S8x512 32 := broadcastInDim S8x512 ![] bcast_S_S8x512 main_c_6
  fn_part1 (F := F) main_v8 main_v11 main_v14 main_v15
-- ==== Pre_finite_ffn_bwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bitsLt_bf16_f32 : FTy.bits .bf16 < FTy.bits .f32
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S4096x1024 .f32) (main_arg2 : FVec F S1024 .f32) (main_arg3 : FVec F S1024x5632 .bf16) (main_arg4 : FVec F S2816x1024 .bf16) : IVec S4096x1024 1 × IVec S4096x1024 1 × IVec S1024 1 × IVec S1024x5632 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := (extf .f32 · bitsLt_bf16_f32) main_arg3
  let main_v10 : FVec F S1024x5632 .f32 := Host.absf main_v9
  let main_cst_2 : FVec F S_ .f32 := constant S_ .f32 0x7F800000#32
  let main_v11 : FVec F S1024x5632 .f32 := broadcastInDim S1024x5632 ![] bcast_S_S1024x5632 main_cst_2
  let main_v12 : IVec S1024x5632 1 := cmpf .olt main_v10 main_v11
  let main_v13 : FVec F S2816x1024 .f32 := (extf .f32 · bitsLt_bf16_f32) main_arg4
  let main_v14 : FVec F S2816x1024 .f32 := Host.absf main_v13
  let main_cst_3 : FVec F S_ .f32 := constant S_ .f32 0x7F800000#32
  let main_v15 : FVec F S2816x1024 .f32 := broadcastInDim S2816x1024 ![] bcast_S_S2816x1024 main_cst_3
  let main_v16 : IVec S2816x1024 1 := cmpf .olt main_v14 main_v15
  (main_v2, main_v5, main_v8, main_v12, main_v16)
-- ==== Pre_finite_ffn_fwd.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)
  bitsLt_bf16_f32 : FTy.bits .bf16 < FTy.bits .f32
  bcast_S_S1024x5632 : S_.BroadcastsInDim S1024x5632 (![] : Fin 0 → Fin S1024x5632.rank)

variable [Facts]

def fn {F : FTy → Type} [FloatOps F] (main_arg0 : FVec F S4096x1024 .f32) (main_arg1 : FVec F S1024 .f32) (main_arg2 : FVec F S1024x5632 .bf16) (main_arg3 : FVec F S2816x1024 .bf16) : IVec S4096x1024 1 × IVec S1024 1 × IVec S1024x5632 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .f32 := (extf .f32 · bitsLt_bf16_f32) main_arg2
  let main_v7 : FVec F S1024x5632 .f32 := Host.absf main_v6
  let main_cst_1 : FVec F S_ .f32 := constant S_ .f32 0x7F800000#32
  let main_v8 : FVec F S1024x5632 .f32 := broadcastInDim S1024x5632 ![] bcast_S_S1024x5632 main_cst_1
  let main_v9 : IVec S1024x5632 1 := cmpf .olt main_v7 main_v8
  (main_v2, main_v5, main_v9)
-- ==== Kernel.lean ====
abbrev S4096x8192 : Shape := ⟨2, ![4096, 8192]⟩
abbrev S4096x2048 : Shape := ⟨2, ![4096, 2048]⟩
abbrev S4x128x128 : Shape := ⟨3, ![4, 128, 128]⟩
abbrev S512 : Shape := ⟨1, ![512]⟩
abbrev S3x512 : Shape := ⟨2, ![3, 512]⟩
abbrev S31x512 : Shape := ⟨2, ![31, 512]⟩
abbrev S4x128 : Shape := ⟨2, ![4, 128]⟩
abbrev S4096x512 : Shape := ⟨2, ![4096, 512]⟩
abbrev S_ : Shape := ⟨0, ![]⟩
abbrev S1x512 : Shape := ⟨2, ![1, 512]⟩
abbrev S4095x512 : Shape := ⟨2, ![4095, 512]⟩
abbrev S2x512 : Shape := ⟨2, ![2, 512]⟩
abbrev S4094x512 : Shape := ⟨2, ![4094, 512]⟩
abbrev S4093x512 : Shape := ⟨2, ![4093, 512]⟩
abbrev S4x512 : Shape := ⟨2, ![4, 512]⟩
abbrev S4092x512 : Shape := ⟨2, ![4092, 512]⟩
abbrev S5x512 : Shape := ⟨2, ![5, 512]⟩
abbrev S4091x512 : Shape := ⟨2, ![4091, 512]⟩
abbrev S6x512 : Shape := ⟨2, ![6, 512]⟩
abbrev S4090x512 : Shape := ⟨2, ![4090, 512]⟩
abbrev S7x512 : Shape := ⟨2, ![7, 512]⟩
abbrev S4089x512 : Shape := ⟨2, ![4089, 512]⟩
abbrev S8x512 : Shape := ⟨2, ![8, 512]⟩
abbrev S4088x512 : Shape := ⟨2, ![4088, 512]⟩
abbrev S9x512 : Shape := ⟨2, ![9, 512]⟩
abbrev S4087x512 : Shape := ⟨2, ![4087, 512]⟩
abbrev S10x512 : Shape := ⟨2, ![10, 512]⟩
abbrev S4086x512 : Shape := ⟨2, ![4086, 512]⟩
abbrev S11x512 : Shape := ⟨2, ![11, 512]⟩
abbrev S4085x512 : Shape := ⟨2, ![4085, 512]⟩
abbrev S12x512 : Shape := ⟨2, ![12, 512]⟩
abbrev S4084x512 : Shape := ⟨2, ![4084, 512]⟩
abbrev S13x512 : Shape := ⟨2, ![13, 512]⟩
abbrev S4083x512 : Shape := ⟨2, ![4083, 512]⟩
abbrev S14x512 : Shape := ⟨2, ![14, 512]⟩
abbrev S4082x512 : Shape := ⟨2, ![4082, 512]⟩
abbrev S15x512 : Shape := ⟨2, ![15, 512]⟩
abbrev S4081x512 : Shape := ⟨2, ![4081, 512]⟩
abbrev S16x512 : Shape := ⟨2, ![16, 512]⟩
abbrev S4080x512 : Shape := ⟨2, ![4080, 512]⟩
abbrev S17x512 : Shape := ⟨2, ![17, 512]⟩
abbrev S4079x512 : Shape := ⟨2, ![4079, 512]⟩
abbrev S18x512 : Shape := ⟨2, ![18, 512]⟩
abbrev S4078x512 : Shape := ⟨2, ![4078, 512]⟩
abbrev S19x512 : Shape := ⟨2, ![19, 512]⟩
abbrev S4077x512 : Shape := ⟨2, ![4077, 512]⟩
abbrev S20x512 : Shape := ⟨2, ![20, 512]⟩
abbrev S4076x512 : Shape := ⟨2, ![4076, 512]⟩
abbrev S21x512 : Shape := ⟨2, ![21, 512]⟩
abbrev S4075x512 : Shape := ⟨2, ![4075, 512]⟩
abbrev S22x512 : Shape := ⟨2, ![22, 512]⟩
abbrev S4074x512 : Shape := ⟨2, ![4074, 512]⟩
abbrev S23x512 : Shape := ⟨2, ![23, 512]⟩
abbrev S4073x512 : Shape := ⟨2, ![4073, 512]⟩
abbrev S24x512 : Shape := ⟨2, ![24, 512]⟩
abbrev S4072x512 : Shape := ⟨2, ![4072, 512]⟩
abbrev S25x512 : Shape := ⟨2, ![25, 512]⟩
abbrev S4071x512 : Shape := ⟨2, ![4071, 512]⟩
abbrev S26x512 : Shape := ⟨2, ![26, 512]⟩
abbrev S4070x512 : Shape := ⟨2, ![4070, 512]⟩
abbrev S27x512 : Shape := ⟨2, ![27, 512]⟩
abbrev S4069x512 : Shape := ⟨2, ![4069, 512]⟩
abbrev S28x512 : Shape := ⟨2, ![28, 512]⟩
abbrev S4068x512 : Shape := ⟨2, ![4068, 512]⟩
abbrev S29x512 : Shape := ⟨2, ![29, 512]⟩
abbrev S4067x512 : Shape := ⟨2, ![4067, 512]⟩
abbrev S30x512 : Shape := ⟨2, ![30, 512]⟩
abbrev S4066x512 : Shape := ⟨2, ![4066, 512]⟩
abbrev S32x512 : Shape := ⟨2, ![32, 512]⟩
abbrev S128x4 : Shape := ⟨2, ![128, 4]⟩
abbrev S32x4096 : Shape := ⟨2, ![32, 4096]⟩
abbrev S512x4096 : Shape := ⟨2, ![512, 4096]⟩
abbrev S32x2048 : Shape := ⟨2, ![32, 2048]⟩
abbrev S512x2048 : Shape := ⟨2, ![512, 2048]⟩
abbrev S512x512 : Shape := ⟨2, ![512, 512]⟩
abbrev S576x4096 : Shape := ⟨2, ![576, 4096]⟩
abbrev S576x2048 : Shape := ⟨2, ![576, 2048]⟩
abbrev S576x1 : Shape := ⟨2, ![576, 1]⟩
abbrev S576x512 : Shape := ⟨2, ![576, 512]⟩
abbrev S576x128 : Shape := ⟨2, ![576, 128]⟩
abbrev S1x128x128 : Shape := ⟨3, ![1, 128, 128]⟩
abbrev S128x128 : Shape := ⟨2, ![128, 128]⟩
abbrev S512x128 : Shape := ⟨2, ![512, 128]⟩
abbrev S128 : Shape := ⟨1, ![128]⟩
abbrev S1x128 : Shape := ⟨2, ![1, 128]⟩
abbrev S544x512 : Shape := ⟨2, ![544, 512]⟩
abbrev S544 : Shape := ⟨1, ![544]⟩
abbrev S544x1 : Shape := ⟨2, ![544, 1]⟩
abbrev S512x1 : Shape := ⟨2, ![512, 1]⟩
abbrev S128x1 : Shape := ⟨2, ![128, 1]⟩

abbrev nBuf : Space → Nat
  | .hbm => 358
  | .vmem => 40
  | .smem => 0
  | _ => 0

abbrev hbmTy0_0 (i : Nat) : BufTy := match i % 128 with
  | 0 => ⟨S4096x8192, .bf16⟩
  | 1 => ⟨S4096x2048, .bf16⟩
  | 2 => ⟨S4096x8192, .bf16⟩
  | 3 => ⟨S4x128x128, .f32⟩
  | 4 => ⟨S512, .f32⟩
  | 5 => ⟨S3x512, .f32⟩
  | 6 => ⟨S31x512, .f32⟩
  | 7 => ⟨S512, .f32⟩
  | 8 => ⟨S512, .f32⟩
  | 9 => ⟨S512, .f32⟩
  | 10 => ⟨S512, .f32⟩
  | 11 => ⟨S4x128x128, .f32⟩
  | 12 => ⟨S4x128, .f32⟩
  | 13 => ⟨S4096x512, .bf16⟩
  | 14 => ⟨S4096x512, .f32⟩
  | 15 => ⟨S4096x512, .bf16⟩
  | 16 => ⟨S4096x512, .f32⟩
  | 17 => ⟨S4096x512, .f32⟩
  | 18 => ⟨S4096x512, .f32⟩
  | 19 => ⟨S_, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S4096x512, .f32⟩
  | 26 => ⟨S1x512, .f32⟩
  | 27 => ⟨S512, .f32⟩
  | 28 => ⟨S1x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S1x512, .f32⟩
  | 35 => ⟨S512, .f32⟩
  | 36 => ⟨S_, .f32⟩
  | 37 => ⟨S1x512, .f32⟩
  | 38 => ⟨S4095x512, .f32⟩
  | 39 => ⟨S4096x512, .f32⟩
  | 40 => ⟨S1x512, .f32⟩
  | 41 => ⟨S4096x512, .f32⟩
  | 42 => ⟨S4096x512, .f32⟩
  | 43 => ⟨S4096x512, .f32⟩
  | 44 => ⟨S1x512, .f32⟩
  | 45 => ⟨S512, .f32⟩
  | 46 => ⟨S_, .f32⟩
  | 47 => ⟨S2x512, .f32⟩
  | 48 => ⟨S4094x512, .f32⟩
  | 49 => ⟨S4096x512, .f32⟩
  | 50 => ⟨S1x512, .f32⟩
  | 51 => ⟨S4096x512, .f32⟩
  | 52 => ⟨S4096x512, .f32⟩
  | 53 => ⟨S4096x512, .f32⟩
  | 54 => ⟨S1x512, .f32⟩
  | 55 => ⟨S512, .f32⟩
  | 56 => ⟨S_, .f32⟩
  | 57 => ⟨S3x512, .f32⟩
  | 58 => ⟨S4093x512, .f32⟩
  | 59 => ⟨S4096x512, .f32⟩
  | 60 => ⟨S1x512, .f32⟩
  | 61 => ⟨S4096x512, .f32⟩
  | 62 => ⟨S4096x512, .f32⟩
  | 63 => ⟨S4096x512, .f32⟩
  | 64 => ⟨S1x512, .f32⟩
  | 65 => ⟨S512, .f32⟩
  | 66 => ⟨S_, .f32⟩
  | 67 => ⟨S4x512, .f32⟩
  | 68 => ⟨S4092x512, .f32⟩
  | 69 => ⟨S4096x512, .f32⟩
  | 70 => ⟨S1x512, .f32⟩
  | 71 => ⟨S4096x512, .f32⟩
  | 72 => ⟨S4096x512, .f32⟩
  | 73 => ⟨S4096x512, .f32⟩
  | 74 => ⟨S1x512, .f32⟩
  | 75 => ⟨S512, .f32⟩
  | 76 => ⟨S_, .f32⟩
  | 77 => ⟨S5x512, .f32⟩
  | 78 => ⟨S4091x512, .f32⟩
  | 79 => ⟨S4096x512, .f32⟩
  | 80 => ⟨S1x512, .f32⟩
  | 81 => ⟨S4096x512, .f32⟩
  | 82 => ⟨S4096x512, .f32⟩
  | 83 => ⟨S4096x512, .f32⟩
  | 84 => ⟨S1x512, .f32⟩
  | 85 => ⟨S512, .f32⟩
  | 86 => ⟨S_, .f32⟩
  | 87 => ⟨S6x512, .f32⟩
  | 88 => ⟨S4090x512, .f32⟩
  | 89 => ⟨S4096x512, .f32⟩
  | 90 => ⟨S1x512, .f32⟩
  | 91 => ⟨S4096x512, .f32⟩
  | 92 => ⟨S4096x512, .f32⟩
  | 93 => ⟨S4096x512, .f32⟩
  | 94 => ⟨S1x512, .f32⟩
  | 95 => ⟨S512, .f32⟩
  | 96 => ⟨S_, .f32⟩
  | 97 => ⟨S7x512, .f32⟩
  | 98 => ⟨S4089x512, .f32⟩
  | 99 => ⟨S4096x512, .f32⟩
  | 100 => ⟨S1x512, .f32⟩
  | 101 => ⟨S4096x512, .f32⟩
  | 102 => ⟨S4096x512, .f32⟩
  | 103 => ⟨S4096x512, .f32⟩
  | 104 => ⟨S1x512, .f32⟩
  | 105 => ⟨S512, .f32⟩
  | 106 => ⟨S_, .f32⟩
  | 107 => ⟨S8x512, .f32⟩
  | 108 => ⟨S4088x512, .f32⟩
  | 109 => ⟨S4096x512, .f32⟩
  | 110 => ⟨S1x512, .f32⟩
  | 111 => ⟨S4096x512, .f32⟩
  | 112 => ⟨S4096x512, .f32⟩
  | 113 => ⟨S4096x512, .f32⟩
  | 114 => ⟨S1x512, .f32⟩
  | 115 => ⟨S512, .f32⟩
  | 116 => ⟨S_, .f32⟩
  | 117 => ⟨S9x512, .f32⟩
  | 118 => ⟨S4087x512, .f32⟩
  | 119 => ⟨S4096x512, .f32⟩
  | 120 => ⟨S1x512, .f32⟩
  | 121 => ⟨S4096x512, .f32⟩
  | 122 => ⟨S4096x512, .f32⟩
  | 123 => ⟨S4096x512, .f32⟩
  | 124 => ⟨S1x512, .f32⟩
  | 125 => ⟨S512, .f32⟩
  | 126 => ⟨S_, .f32⟩
  | 127 => ⟨S10x512, .f32⟩
  | _ => ⟨S4096x8192, .bf16⟩

abbrev hbmTy0_1 (i : Nat) : BufTy := match i % 128 with
  | 0 => ⟨S4086x512, .f32⟩
  | 1 => ⟨S4096x512, .f32⟩
  | 2 => ⟨S1x512, .f32⟩
  | 3 => ⟨S4096x512, .f32⟩
  | 4 => ⟨S4096x512, .f32⟩
  | 5 => ⟨S4096x512, .f32⟩
  | 6 => ⟨S1x512, .f32⟩
  | 7 => ⟨S512, .f32⟩
  | 8 => ⟨S_, .f32⟩
  | 9 => ⟨S11x512, .f32⟩
  | 10 => ⟨S4085x512, .f32⟩
  | 11 => ⟨S4096x512, .f32⟩
  | 12 => ⟨S1x512, .f32⟩
  | 13 => ⟨S4096x512, .f32⟩
  | 14 => ⟨S4096x512, .f32⟩
  | 15 => ⟨S4096x512, .f32⟩
  | 16 => ⟨S1x512, .f32⟩
  | 17 => ⟨S512, .f32⟩
  | 18 => ⟨S_, .f32⟩
  | 19 => ⟨S12x512, .f32⟩
  | 20 => ⟨S4084x512, .f32⟩
  | 21 => ⟨S4096x512, .f32⟩
  | 22 => ⟨S1x512, .f32⟩
  | 23 => ⟨S4096x512, .f32⟩
  | 24 => ⟨S4096x512, .f32⟩
  | 25 => ⟨S4096x512, .f32⟩
  | 26 => ⟨S1x512, .f32⟩
  | 27 => ⟨S512, .f32⟩
  | 28 => ⟨S_, .f32⟩
  | 29 => ⟨S13x512, .f32⟩
  | 30 => ⟨S4083x512, .f32⟩
  | 31 => ⟨S4096x512, .f32⟩
  | 32 => ⟨S1x512, .f32⟩
  | 33 => ⟨S4096x512, .f32⟩
  | 34 => ⟨S4096x512, .f32⟩
  | 35 => ⟨S4096x512, .f32⟩
  | 36 => ⟨S1x512, .f32⟩
  | 37 => ⟨S512, .f32⟩
  | 38 => ⟨S_, .f32⟩
  | 39 => ⟨S14x512, .f32⟩
  | 40 => ⟨S4082x512, .f32⟩
  | 41 => ⟨S4096x512, .f32⟩
  | 42 => ⟨S1x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S_, .f32⟩
  | 49 => ⟨S15x512, .f32⟩
  | 50 => ⟨S4081x512, .f32⟩
  | 51 => ⟨S4096x512, .f32⟩
  | 52 => ⟨S1x512, .f32⟩
  | 53 => ⟨S4096x512, .f32⟩
  | 54 => ⟨S4096x512, .f32⟩
  | 55 => ⟨S4096x512, .f32⟩
  | 56 => ⟨S1x512, .f32⟩
  | 57 => ⟨S512, .f32⟩
  | 58 => ⟨S_, .f32⟩
  | 59 => ⟨S16x512, .f32⟩
  | 60 => ⟨S4080x512, .f32⟩
  | 61 => ⟨S4096x512, .f32⟩
  | 62 => ⟨S1x512, .f32⟩
  | 63 => ⟨S4096x512, .f32⟩
  | 64 => ⟨S4096x512, .f32⟩
  | 65 => ⟨S4096x512, .f32⟩
  | 66 => ⟨S1x512, .f32⟩
  | 67 => ⟨S512, .f32⟩
  | 68 => ⟨S_, .f32⟩
  | 69 => ⟨S17x512, .f32⟩
  | 70 => ⟨S4079x512, .f32⟩
  | 71 => ⟨S4096x512, .f32⟩
  | 72 => ⟨S1x512, .f32⟩
  | 73 => ⟨S4096x512, .f32⟩
  | 74 => ⟨S4096x512, .f32⟩
  | 75 => ⟨S4096x512, .f32⟩
  | 76 => ⟨S1x512, .f32⟩
  | 77 => ⟨S512, .f32⟩
  | 78 => ⟨S_, .f32⟩
  | 79 => ⟨S18x512, .f32⟩
  | 80 => ⟨S4078x512, .f32⟩
  | 81 => ⟨S4096x512, .f32⟩
  | 82 => ⟨S1x512, .f32⟩
  | 83 => ⟨S4096x512, .f32⟩
  | 84 => ⟨S4096x512, .f32⟩
  | 85 => ⟨S4096x512, .f32⟩
  | 86 => ⟨S1x512, .f32⟩
  | 87 => ⟨S512, .f32⟩
  | 88 => ⟨S_, .f32⟩
  | 89 => ⟨S19x512, .f32⟩
  | 90 => ⟨S4077x512, .f32⟩
  | 91 => ⟨S4096x512, .f32⟩
  | 92 => ⟨S1x512, .f32⟩
  | 93 => ⟨S4096x512, .f32⟩
  | 94 => ⟨S4096x512, .f32⟩
  | 95 => ⟨S4096x512, .f32⟩
  | 96 => ⟨S1x512, .f32⟩
  | 97 => ⟨S512, .f32⟩
  | 98 => ⟨S_, .f32⟩
  | 99 => ⟨S20x512, .f32⟩
  | 100 => ⟨S4076x512, .f32⟩
  | 101 => ⟨S4096x512, .f32⟩
  | 102 => ⟨S1x512, .f32⟩
  | 103 => ⟨S4096x512, .f32⟩
  | 104 => ⟨S4096x512, .f32⟩
  | 105 => ⟨S4096x512, .f32⟩
  | 106 => ⟨S1x512, .f32⟩
  | 107 => ⟨S512, .f32⟩
  | 108 => ⟨S_, .f32⟩
  | 109 => ⟨S21x512, .f32⟩
  | 110 => ⟨S4075x512, .f32⟩
  | 111 => ⟨S4096x512, .f32⟩
  | 112 => ⟨S1x512, .f32⟩
  | 113 => ⟨S4096x512, .f32⟩
  | 114 => ⟨S4096x512, .f32⟩
  | 115 => ⟨S4096x512, .f32⟩
  | 116 => ⟨S1x512, .f32⟩
  | 117 => ⟨S512, .f32⟩
  | 118 => ⟨S_, .f32⟩
  | 119 => ⟨S22x512, .f32⟩
  | 120 => ⟨S4074x512, .f32⟩
  | 121 => ⟨S4096x512, .f32⟩
  | 122 => ⟨S1x512, .f32⟩
  | 123 => ⟨S4096x512, .f32⟩
  | 124 => ⟨S4096x512, .f32⟩
  | 125 => ⟨S4096x512, .f32⟩
  | 126 => ⟨S1x512, .f32⟩
  | 127 => ⟨S512, .f32⟩
  | _ => ⟨S4096x8192, .bf16⟩

abbrev hbmTy0_2 (i : Nat) : BufTy := match i % 128 with
  | 0 => ⟨S_, .f32⟩
  | 1 => ⟨S23x512, .f32⟩
  | 2 => ⟨S4073x512, .f32⟩
  | 3 => ⟨S4096x512, .f32⟩
  | 4 => ⟨S1x512, .f32⟩
  | 5 => ⟨S4096x512, .f32⟩
  | 6 => ⟨S4096x512, .f32⟩
  | 7 => ⟨S4096x512, .f32⟩
  | 8 => ⟨S1x512, .f32⟩
  | 9 => ⟨S512, .f32⟩
  | 10 => ⟨S_, .f32⟩
  | 11 => ⟨S24x512, .f32⟩
  | 12 => ⟨S4072x512, .f32⟩
  | 13 => ⟨S4096x512, .f32⟩
  | 14 => ⟨S1x512, .f32⟩
  | 15 => ⟨S4096x512, .f32⟩
  | 16 => ⟨S4096x512, .f32⟩
  | 17 => ⟨S4096x512, .f32⟩
  | 18 => ⟨S1x512, .f32⟩
  | 19 => ⟨S512, .f32⟩
  | 20 => ⟨S_, .f32⟩
  | 21 => ⟨S25x512, .f32⟩
  | 22 => ⟨S4071x512, .f32⟩
  | 23 => ⟨S4096x512, .f32⟩
  | 24 => ⟨S1x512, .f32⟩
  | 25 => ⟨S4096x512, .f32⟩
  | 26 => ⟨S4096x512, .f32⟩
  | 27 => ⟨S4096x512, .f32⟩
  | 28 => ⟨S1x512, .f32⟩
  | 29 => ⟨S512, .f32⟩
  | 30 => ⟨S_, .f32⟩
  | 31 => ⟨S26x512, .f32⟩
  | 32 => ⟨S4070x512, .f32⟩
  | 33 => ⟨S4096x512, .f32⟩
  | 34 => ⟨S1x512, .f32⟩
  | 35 => ⟨S4096x512, .f32⟩
  | 36 => ⟨S4096x512, .f32⟩
  | 37 => ⟨S4096x512, .f32⟩
  | 38 => ⟨S1x512, .f32⟩
  | 39 => ⟨S512, .f32⟩
  | 40 => ⟨S_, .f32⟩
  | 41 => ⟨S27x512, .f32⟩
  | 42 => ⟨S4069x512, .f32⟩
  | 43 => ⟨S4096x512, .f32⟩
  | 44 => ⟨S1x512, .f32⟩
  | 45 => ⟨S4096x512, .f32⟩
  | 46 => ⟨S4096x512, .f32⟩
  | 47 => ⟨S4096x512, .f32⟩
  | 48 => ⟨S1x512, .f32⟩
  | 49 => ⟨S512, .f32⟩
  | 50 => ⟨S_, .f32⟩
  | 51 => ⟨S28x512, .f32⟩
  | 52 => ⟨S4068x512, .f32⟩
  | 53 => ⟨S4096x512, .f32⟩
  | 54 => ⟨S1x512, .f32⟩
  | 55 => ⟨S4096x512, .f32⟩
  | 56 => ⟨S4096x512, .f32⟩
  | 57 => ⟨S4096x512, .f32⟩
  | 58 => ⟨S1x512, .f32⟩
  | 59 => ⟨S512, .f32⟩
  | 60 => ⟨S_, .f32⟩
  | 61 => ⟨S29x512, .f32⟩
  | 62 => ⟨S4067x512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S_, .f32⟩
  | 71 => ⟨S30x512, .f32⟩
  | 72 => ⟨S4066x512, .f32⟩
  | 73 => ⟨S4096x512, .f32⟩
  | 74 => ⟨S1x512, .f32⟩
  | 75 => ⟨S4096x512, .f32⟩
  | 76 => ⟨S4096x512, .f32⟩
  | 77 => ⟨S4096x512, .f32⟩
  | 78 => ⟨S4096x512, .bf16⟩
  | 79 => ⟨S1x512, .f32⟩
  | 80 => ⟨S_, .i32⟩
  | 81 => ⟨S_, .f32⟩
  | 82 => ⟨S8x512, .f32⟩
  | 83 => ⟨S_, .i32⟩
  | 84 => ⟨S_, .f32⟩
  | 85 => ⟨S32x512, .f32⟩
  | 86 => ⟨S1x512, .f32⟩
  | 87 => ⟨S1x512, .f32⟩
  | 88 => ⟨S1x512, .f32⟩
  | 89 => ⟨S1x512, .f32⟩
  | 90 => ⟨S128x4, .f32⟩
  | 91 => ⟨S4096x8192, .bf16⟩
  | 92 => ⟨S4x128x128, .f32⟩
  | 93 => ⟨S1x512, .f32⟩
  | 94 => ⟨S8x512, .f32⟩
  | 95 => ⟨S32x512, .f32⟩
  | 96 => ⟨S1x512, .f32⟩
  | 97 => ⟨S1x512, .f32⟩
  | 98 => ⟨S1x512, .f32⟩
  | 99 => ⟨S1x512, .f32⟩
  | 100 => ⟨S4x128x128, .f32⟩
  | 101 => ⟨S4x128x128, .f32⟩
  | _ => ⟨S4096x8192, .bf16⟩

abbrev hbmTy (i : Nat) : BufTy := match i / 128 with
  | 0 => hbmTy0_0 i
  | 1 => hbmTy0_1 i
  | 2 => hbmTy0_2 i
  | _ => ⟨S4096x8192, .bf16⟩

abbrev bufTy : (tb : Table) → Fin (tcTables nBuf tb) → BufTy
  | .hbm, ⟨i, _⟩ => hbmTy i
  | .local _ .vmem, ⟨0, _⟩ => ⟨S32x4096, .bf16⟩
  | .local _ .vmem, ⟨1, _⟩ => ⟨S32x4096, .bf16⟩
  | .local _ .vmem, ⟨2, _⟩ => ⟨S512x4096, .bf16⟩
  | .local _ .vmem, ⟨3, _⟩ => ⟨S512x4096, .bf16⟩
  | .local _ .vmem, ⟨4, _⟩ => ⟨S32x4096, .bf16⟩
  | .local _ .vmem, ⟨5, _⟩ => ⟨S32x4096, .bf16⟩
  | .local _ .vmem, ⟨6, _⟩ => ⟨S32x2048, .bf16⟩
  | .local _ .vmem, ⟨7, _⟩ => ⟨S32x2048, .bf16⟩
  | .local _ .vmem, ⟨8, _⟩ => ⟨S512x2048, .bf16⟩
  | .local _ .vmem, ⟨9, _⟩ => ⟨S512x2048, .bf16⟩
  | .local _ .vmem, ⟨10, _⟩ => ⟨S32x2048, .bf16⟩
  | .local _ .vmem, ⟨11, _⟩ => ⟨S32x2048, .bf16⟩
  | .local _ .vmem, ⟨12, _⟩ => ⟨S512x512, .bf16⟩
  | .local _ .vmem, ⟨13, _⟩ => ⟨S512x512, .bf16⟩
  | .local _ .vmem, ⟨14, _⟩ => ⟨S32x512, .bf16⟩
  | .local _ .vmem, ⟨15, _⟩ => ⟨S32x512, .bf16⟩
  | .local _ .vmem, ⟨16, _⟩ => ⟨S4x128x128, .f32⟩
  | .local _ .vmem, ⟨17, _⟩ => ⟨S1x512, .f32⟩
  | .local _ .vmem, ⟨18, _⟩ => ⟨S8x512, .f32⟩
  | .local _ .vmem, ⟨19, _⟩ => ⟨S32x512, .f32⟩
  | .local _ .vmem, ⟨20, _⟩ => ⟨S1x512, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S4x128x128, .f32⟩
  | .local _ .vmem, ⟨25, _⟩ => ⟨S128x4, .f32⟩
  | .local _ .vmem, ⟨26, _⟩ => ⟨S512x4096, .bf16⟩
  | .local _ .vmem, ⟨27, _⟩ => ⟨S512x4096, .bf16⟩
  | .local _ .vmem, ⟨28, _⟩ => ⟨S4x128x128, .f32⟩
  | .local _ .vmem, ⟨29, _⟩ => ⟨S1x512, .f32⟩
  | .local _ .vmem, ⟨30, _⟩ => ⟨S8x512, .f32⟩
  | .local _ .vmem, ⟨31, _⟩ => ⟨S32x512, .f32⟩
  | .local _ .vmem, ⟨32, _⟩ => ⟨S1x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S4x128x128, .f32⟩
  | .local _ .vmem, ⟨37, _⟩ => ⟨S4x128x128, .f32⟩
  | .local _ .vmem, ⟨38, _⟩ => ⟨S576x4096, .bf16⟩
  | .local _ .vmem, ⟨39, _⟩ => ⟨S576x2048, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_5 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_6 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_7 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_8 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_9 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_10 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_cst_11 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_cst_12 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_13 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_14 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_15 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_cst_16 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_17 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_cst_18 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_cst_19 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_cst_20 : Ref sig .tc := ⟨.hbm, 216, rfl⟩
abbrev main_v182 : Ref sig .tc := ⟨.hbm, 217, rfl⟩
abbrev main_v183 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_cst_21 : Ref sig .tc := ⟨.hbm, 226, rfl⟩
abbrev main_v191 : Ref sig .tc := ⟨.hbm, 227, rfl⟩
abbrev main_v192 : Ref sig .tc := ⟨.hbm, 228, rfl⟩
abbrev main_v193 : Ref sig .tc := ⟨.hbm, 229, rfl⟩
abbrev main_v194 : Ref sig .tc := ⟨.hbm, 230, rfl⟩
abbrev main_v195 : Ref sig .tc := ⟨.hbm, 231, rfl⟩
abbrev main_v196 : Ref sig .tc := ⟨.hbm, 232, rfl⟩
abbrev main_v197 : Ref sig .tc := ⟨.hbm, 233, rfl⟩
abbrev main_v198 : Ref sig .tc := ⟨.hbm, 234, rfl⟩
abbrev main_v199 : Ref sig .tc := ⟨.hbm, 235, rfl⟩
abbrev main_cst_22 : Ref sig .tc := ⟨.hbm, 236, rfl⟩
abbrev main_v200 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_v204 : Ref sig .tc := ⟨.hbm, 241, rfl⟩
abbrev main_v205 : Ref sig .tc := ⟨.hbm, 242, rfl⟩
abbrev main_v206 : Ref sig .tc := ⟨.hbm, 243, rfl⟩
abbrev main_v207 : Ref sig .tc := ⟨.hbm, 244, rfl⟩
abbrev main_v208 : Ref sig .tc := ⟨.hbm, 245, rfl⟩
abbrev main_cst_23 : Ref sig .tc := ⟨.hbm, 246, rfl⟩
abbrev main_v209 : Ref sig .tc := ⟨.hbm, 247, rfl⟩
abbrev main_v210 : Ref sig .tc := ⟨.hbm, 248, rfl⟩
abbrev main_v211 : Ref sig .tc := ⟨.hbm, 249, rfl⟩
abbrev main_v212 : Ref sig .tc := ⟨.hbm, 250, rfl⟩
abbrev main_v213 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_cst_24 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_cst_25 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_cst_26 : Ref sig .tc := ⟨.hbm, 276, rfl⟩
abbrev main_v236 : Ref sig .tc := ⟨.hbm, 277, rfl⟩
abbrev main_v237 : Ref sig .tc := ⟨.hbm, 278, rfl⟩
abbrev main_v238 : Ref sig .tc := ⟨.hbm, 279, rfl⟩
abbrev main_v239 : Ref sig .tc := ⟨.hbm, 280, rfl⟩
abbrev main_v240 : Ref sig .tc := ⟨.hbm, 281, rfl⟩
abbrev main_v241 : Ref sig .tc := ⟨.hbm, 282, rfl⟩
abbrev main_v242 : Ref sig .tc := ⟨.hbm, 283, rfl⟩
abbrev main_v243 : Ref sig .tc := ⟨.hbm, 284, rfl⟩
abbrev main_v244 : Ref sig .tc := ⟨.hbm, 285, rfl⟩
abbrev main_cst_27 : Ref sig .tc := ⟨.hbm, 286, rfl⟩
abbrev main_v245 : Ref sig .tc := ⟨.hbm, 287, rfl⟩
abbrev main_v246 : Ref sig .tc := ⟨.hbm, 288, rfl⟩
abbrev main_v247 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_cst_28 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩
abbrev main_v260 : Ref sig .tc := ⟨.hbm, 303, rfl⟩
abbrev main_v261 : Ref sig .tc := ⟨.hbm, 304, rfl⟩
abbrev main_v262 : Ref sig .tc := ⟨.hbm, 305, rfl⟩
abbrev main_cst_29 : Ref sig .tc := ⟨.hbm, 306, rfl⟩
abbrev main_v263 : Ref sig .tc := ⟨.hbm, 307, rfl⟩
abbrev main_v264 : Ref sig .tc := ⟨.hbm, 308, rfl⟩
abbrev main_v265 : Ref sig .tc := ⟨.hbm, 309, rfl⟩
abbrev main_v266 : Ref sig .tc := ⟨.hbm, 310, rfl⟩
abbrev main_v267 : Ref sig .tc := ⟨.hbm, 311, rfl⟩
abbrev main_v268 : Ref sig .tc := ⟨.hbm, 312, rfl⟩
abbrev main_v269 : Ref sig .tc := ⟨.hbm, 313, rfl⟩
abbrev main_v270 : Ref sig .tc := ⟨.hbm, 314, rfl⟩
abbrev main_v271 : Ref sig .tc := ⟨.hbm, 315, rfl⟩
abbrev main_cst_30 : Ref sig .tc := ⟨.hbm, 316, rfl⟩
abbrev main_v272 : Ref sig .tc := ⟨.hbm, 317, rfl⟩
abbrev main_v273 : Ref sig .tc := ⟨.hbm, 318, rfl⟩
abbrev main_v274 : Ref sig .tc := ⟨.hbm, 319, rfl⟩
abbrev main_v275 : Ref sig .tc := ⟨.hbm, 320, rfl⟩
abbrev main_v276 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_cst_31 : Ref sig .tc := ⟨.hbm, 326, rfl⟩
abbrev main_v281 : Ref sig .tc := ⟨.hbm, 327, rfl⟩
abbrev main_v282 : Ref sig .tc := ⟨.hbm, 328, rfl⟩
abbrev main_v283 : Ref sig .tc := ⟨.hbm, 329, rfl⟩
abbrev main_v284 : Ref sig .tc := ⟨.hbm, 330, rfl⟩
abbrev main_v285 : Ref sig .tc := ⟨.hbm, 331, rfl⟩
abbrev main_v286 : Ref sig .tc := ⟨.hbm, 332, rfl⟩
abbrev main_v287 : Ref sig .tc := ⟨.hbm, 333, rfl⟩
abbrev main_v288 : Ref sig .tc := ⟨.hbm, 334, rfl⟩
abbrev main_v289 : Ref sig .tc := ⟨.hbm, 335, rfl⟩
abbrev main_c : Ref sig .tc := ⟨.hbm, 336, rfl⟩
abbrev main_call0_v0 : Ref sig .tc := ⟨.hbm, 337, rfl⟩
abbrev main_v290 : Ref sig .tc := ⟨.hbm, 338, rfl⟩
abbrev main_c_32 : Ref sig .tc := ⟨.hbm, 339, rfl⟩
abbrev main_call1_v0 : Ref sig .tc := ⟨.hbm, 340, rfl⟩
abbrev main_v291 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297_0 : Ref sig .tc := ⟨.hbm, 347, rfl⟩
abbrev main_v297_1 : Ref sig .tc := ⟨.hbm, 348, rfl⟩
abbrev main_v297_2 : Ref sig .tc := ⟨.hbm, 349, rfl⟩
abbrev main_v297_3 : Ref sig .tc := ⟨.hbm, 350, rfl⟩
abbrev main_v297_4 : Ref sig .tc := ⟨.hbm, 351, rfl⟩
abbrev main_v297_5 : Ref sig .tc := ⟨.hbm, 352, rfl⟩
abbrev main_v297_6 : Ref sig .tc := ⟨.hbm, 353, rfl⟩
abbrev main_v297_7 : Ref sig .tc := ⟨.hbm, 354, rfl⟩
abbrev main_v297_8 : Ref sig .tc := ⟨.hbm, 355, rfl⟩
abbrev main_v297_9 : Ref sig .tc := ⟨.hbm, 356, rfl⟩
abbrev main_v297_10 : Ref sig .tc := ⟨.hbm, 357, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg22_0 : Ref sig .tc := ⟨.vmem, 31, rfl⟩
abbrev cc0_stg23_0 : Ref sig .tc := ⟨.vmem, 32, rfl⟩
abbrev cc0_stg24_0 : Ref sig .tc := ⟨.vmem, 33, rfl⟩
abbrev cc0_stg25_0 : Ref sig .tc := ⟨.vmem, 34, rfl⟩
abbrev cc0_stg26_0 : Ref sig .tc := ⟨.vmem, 35, rfl⟩
abbrev cc0_stg27_0 : Ref sig .tc := ⟨.vmem, 36, rfl⟩
abbrev cc0_stg28_0 : Ref sig .tc := ⟨.vmem, 37, rfl⟩
abbrev cc0_scratch0 : Ref sig .tc := ⟨.vmem, 38, rfl⟩
abbrev cc0_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27
abbrev cc0_sem19_0 : DmaSem sig := 28
abbrev cc0_sem20_0 : DmaSem sig := 29
abbrev cc0_sem21_0 : DmaSem sig := 30
abbrev cc0_sem22_0 : DmaSem sig := 31
abbrev cc0_sem23_0 : DmaSem sig := 32
abbrev cc0_sem24_0 : DmaSem sig := 33
abbrev cc0_sem25_0 : DmaSem sig := 34
abbrev cc0_sem26_0 : DmaSem sig := 35
abbrev cc0_sem27_0 : DmaSem sig := 36
abbrev cc0_sem28_0 : DmaSem sig := 37

abbrev nD : Nat := 1
abbrev τ : Topo := Topo.v7x

variable {F : FTy → Type} [FloatOps F]

abbrev grid0 : Pipeline.Grid := ⟨1, ![8], ![false]⟩

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v132 : BitVec 32 := Scalar.extui v0
  let c0_i32_57 : BitVec 32 := 0#32
  let v133 : BitVec 1 := Scalar.cmpi .ne v132 c0_i32_57
  v133

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_58 : BitVec 1 := 1#1
  let v134 : BitVec 1 := Scalar.xori v0 true_58
  let v135 : BitVec 32 := Scalar.extui v134
  let c0_i32_60 : BitVec 32 := 0#32
  let v136 : BitVec 1 := Scalar.cmpi .ne v135 c0_i32_60
  v136

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let v161 : BitVec 32 := Scalar.extui v0
  let c0_i32_72 : BitVec 32 := 0#32
  let v162 : BitVec 1 := Scalar.cmpi .ne v161 c0_i32_72
  v162

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let true_73 : BitVec 1 := 1#1
  let v163 : BitVec 1 := Scalar.xori v0 true_73
  let v164 : BitVec 32 := Scalar.extui v163
  let c0_i32_75 : BitVec 32 := 0#32
  let v165 : BitVec 1 := Scalar.cmpi .ne v164 c0_i32_75
  v165

def k0_cond12 (i : grid0.Coords) : BitVec 1 :=
  let arg0 : BitVec 32 := BitVec.ofNat 32 (i 0).val
  let c0_i32 : BitVec 32 := 0#32
  let v0 : BitVec 1 := Scalar.cmpi .eq arg0 c0_i32
  let v190 : BitVec 32 := Scalar.extui v0
  let c0_i32_87 : BitVec 32 := 0#32
  let v191 : BitVec 1 := Scalar.cmpi .ne v190 c0_i32_87
  v191

def k0_cond13 (i : grid0.Coords) : BitVec 1 :=
  let arg0 : BitVec 32 := BitVec.ofNat 32 (i 0).val
  let c0_i32 : BitVec 32 := 0#32
  let v0 : BitVec 1 := Scalar.cmpi .eq arg0 c0_i32
  let true_88 : BitVec 1 := 1#1
  let v192 : BitVec 1 := Scalar.xori v0 true_88
  let v193 : BitVec 32 := Scalar.extui v192
  let c0_i32_90 : BitVec 32 := 0#32
  let v194 : BitVec 1 := Scalar.cmpi .ne v193 c0_i32_90
  v194

def k0_cond16 (i : grid0.Coords) : BitVec 1 :=
  let arg0 : BitVec 32 := BitVec.ofNat 32 (i 0).val
  let c0_i32 : BitVec 32 := 0#32
  let v0 : BitVec 1 := Scalar.cmpi .eq arg0 c0_i32
  let v219 : BitVec 32 := Scalar.extui v0
  let c0_i32_101 : BitVec 32 := 0#32
  let v220 : BitVec 1 := Scalar.cmpi .ne v219 c0_i32_101
  v220

def k0_cond17 (i : grid0.Coords) : BitVec 1 :=
  let arg0 : BitVec 32 := BitVec.ofNat 32 (i 0).val
  let c0_i32 : BitVec 32 := 0#32
  let v0 : BitVec 1 := Scalar.cmpi .eq arg0 c0_i32
  let true_102 : BitVec 1 := 1#1
  let v221 : BitVec 1 := Scalar.xori v0 true_102
  let v222 : BitVec 32 := Scalar.extui v221
  let c0_i32_104 : BitVec 32 := 0#32
  let v223 : BitVec 1 := Scalar.cmpi .ne v222 c0_i32_104
  v223

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v119 : BitVec 32 := Scalar.extui v0
  let c0_i32_51 : BitVec 32 := 0#32
  let v120 : BitVec 1 := Scalar.cmpi .ne v119 c0_i32_51
  v120

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v121 : BitVec 1 := Scalar.xori v0 v_true
  let v122 : BitVec 32 := Scalar.extui v121
  let c0_i32_52 : BitVec 32 := 0#32
  let v123 : BitVec 1 := Scalar.cmpi .ne v122 c0_i32_52
  v123

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v148 : BitVec 32 := Scalar.extui v0
  let c0_i32_66 : BitVec 32 := 0#32
  let v149 : BitVec 1 := Scalar.cmpi .ne v148 c0_i32_66
  v149

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_67 : BitVec 1 := 1#1
  let v150 : BitVec 1 := Scalar.xori v0 true_67
  let v151 : BitVec 32 := Scalar.extui v150
  let c0_i32_68 : BitVec 32 := 0#32
  let v152 : BitVec 1 := Scalar.cmpi .ne v151 c0_i32_68
  v152

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let v177 : BitVec 32 := Scalar.extui v0
  let c0_i32_81 : BitVec 32 := 0#32
  let v178 : BitVec 1 := Scalar.cmpi .ne v177 c0_i32_81
  v178

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let true_82 : BitVec 1 := 1#1
  let v179 : BitVec 1 := Scalar.xori v0 true_82
  let v180 : BitVec 32 := Scalar.extui v179
  let c0_i32_83 : BitVec 32 := 0#32
  let v181 : BitVec 1 := Scalar.cmpi .ne v180 c0_i32_83
  v181

def k0_cond14 (i : grid0.Coords) : BitVec 1 :=
  let arg0 : BitVec 32 := BitVec.ofNat 32 (i 0).val
  let c0_i32 : BitVec 32 := 0#32
  let v0 : BitVec 1 := Scalar.cmpi .eq arg0 c0_i32
  let v206 : BitVec 32 := Scalar.extui v0
  let c0_i32_96 : BitVec 32 := 0#32
  let v207 : BitVec 1 := Scalar.cmpi .ne v206 c0_i32_96
  v207

def k0_cond15 (i : grid0.Coords) : BitVec 1 :=
  let arg0 : BitVec 32 := BitVec.ofNat 32 (i 0).val
  let c0_i32 : BitVec 32 := 0#32
  let v0 : BitVec 1 := Scalar.cmpi .eq arg0 c0_i32
  let true_97 : BitVec 1 := 1#1
  let v208 : BitVec 1 := Scalar.xori v0 true_97
  let v209 : BitVec 32 := Scalar.extui v208
  let c0_i32_98 : BitVec 32 := 0#32
  let v210 : BitVec 1 := Scalar.cmpi .ne v209 c0_i32_98
  v210

def k0_cond18 (i : grid0.Coords) : BitVec 1 :=
  let arg0 : BitVec 32 := BitVec.ofNat 32 (i 0).val
  let c0_i32 : BitVec 32 := 0#32
  let v0 : BitVec 1 := Scalar.cmpi .eq arg0 c0_i32
  let v434 : BitVec 32 := Scalar.extui v0
  let c0_i32_194 : BitVec 32 := 0#32
  let v435 : BitVec 1 := Scalar.cmpi .ne v434 c0_i32_194
  v435

def k0_cond19 (i : grid0.Coords) : BitVec 1 :=
  let arg0 : BitVec 32 := BitVec.ofNat 32 (i 0).val
  let c0_i32 : BitVec 32 := 0#32
  let v0 : BitVec 1 := Scalar.cmpi .eq arg0 c0_i32
  let true_195 : BitVec 1 := 1#1
  let v436 : BitVec 1 := Scalar.xori v0 true_195
  let v437 : BitVec 32 := Scalar.extui v436
  let c0_i32_196 : BitVec 32 := 0#32
  let v438 : BitVec 1 := Scalar.cmpi .ne v437 c0_i32_196
  v438

def k0_cond20 (i : grid0.Coords) : BitVec 1 :=
  let arg0 : BitVec 32 := BitVec.ofNat 32 (i 0).val
  let c0_i32 : BitVec 32 := 0#32
  let v0 : BitVec 1 := Scalar.cmpi .eq arg0 c0_i32
  let v442 : BitVec 32 := Scalar.extui v0
  let c0_i32_198 : BitVec 32 := 0#32
  let v443 : BitVec 1 := Scalar.cmpi .ne v442 c0_i32_198
  v443

def k0_cond21 (i : grid0.Coords) : BitVec 1 :=
  let arg0 : BitVec 32 := BitVec.ofNat 32 (i 0).val
  let c0_i32 : BitVec 32 := 0#32
  let v0 : BitVec 1 := Scalar.cmpi .eq arg0 c0_i32
  let true_199 : BitVec 1 := 1#1
  let v444 : BitVec 1 := Scalar.xori v0 true_199
  let v445 : BitVec 32 := Scalar.extui v444
  let c0_i32_200 : BitVec 32 := 0#32
  let v446 : BitVec 1 := Scalar.cmpi .ne v445 c0_i32_200
  v446

def k0_cond38 (i : grid0.Coords) : BitVec 1 :=
  let arg0 : BitVec 32 := BitVec.ofNat 32 (i 0).val
  let c0_i32 : BitVec 32 := 0#32
  let v0 : BitVec 1 := Scalar.cmpi .eq arg0 c0_i32
  let v1744 : BitVec 32 := Scalar.extui v0
  let c0_i32_726 : BitVec 32 := 0#32
  let v1745 : BitVec 1 := Scalar.cmpi .ne v1744 c0_i32_726
  v1745

def k0_cond39 (i : grid0.Coords) : BitVec 1 :=
  let arg0 : BitVec 32 := BitVec.ofNat 32 (i 0).val
  let c0_i32 : BitVec 32 := 0#32
  let v0 : BitVec 1 := Scalar.cmpi .eq arg0 c0_i32
  let true_727 : BitVec 1 := 1#1
  let v1746 : BitVec 1 := Scalar.xori v0 true_727
  let v1747 : BitVec 32 := Scalar.extui v1746
  let c0_i32_728 : BitVec 32 := 0#32
  let v1748 : BitVec 1 := Scalar.cmpi .ne v1747 c0_i32_728
  v1748

def k0_cond40 (i : grid0.Coords) : BitVec 1 :=
  let arg0 : BitVec 32 := BitVec.ofNat 32 (i 0).val
  let c0_i32 : BitVec 32 := 0#32
  let v0 : BitVec 1 := Scalar.cmpi .eq arg0 c0_i32
  let v1751 : BitVec 32 := Scalar.extui v0
  let c0_i32_730 : BitVec 32 := 0#32
  let v1752 : BitVec 1 := Scalar.cmpi .ne v1751 c0_i32_730
  v1752

def k0_cond41 (i : grid0.Coords) : BitVec 1 :=
  let arg0 : BitVec 32 := BitVec.ofNat 32 (i 0).val
  let c0_i32 : BitVec 32 := 0#32
  let v0 : BitVec 1 := Scalar.cmpi .eq arg0 c0_i32
  let true_731 : BitVec 1 := 1#1
  let v1753 : BitVec 1 := Scalar.xori v0 true_731
  let v1754 : BitVec 32 := Scalar.extui v1753
  let c0_i32_732 : BitVec 32 := 0#32
  let v1755 : BitVec 1 := Scalar.cmpi .ne v1754 c0_i32_732
  v1755

def k0_cond22 (i : grid0.Coords) : BitVec 1 :=
  let arg0 : BitVec 32 := BitVec.ofNat 32 (i 0).val
  let c0_i32 : BitVec 32 := 0#32
  let v0 : BitVec 1 := Scalar.cmpi .eq arg0 c0_i32
  let v1189 : BitVec 32 := Scalar.extui v0
  let c0_i32_500 : BitVec 32 := 0#32
  let v1190 : BitVec 1 := Scalar.cmpi .ne v1189 c0_i32_500
  v1190

def k0_cond23 (i : grid0.Coords) : BitVec 1 :=
  let arg0 : BitVec 32 := BitVec.ofNat 32 (i 0).val
  let c0_i32 : BitVec 32 := 0#32
  let v0 : BitVec 1 := Scalar.cmpi .eq arg0 c0_i32
  let true_501 : BitVec 1 := 1#1
  let v1191 : BitVec 1 := Scalar.xori v0 true_501
  let v1192 : BitVec 32 := Scalar.extui v1191
  let c0_i32_503 : BitVec 32 := 0#32
  let v1193 : BitVec 1 := Scalar.cmpi .ne v1192 c0_i32_503
  v1193

def k0_cond26 (i : grid0.Coords) : BitVec 1 :=
  let arg0 : BitVec 32 := BitVec.ofNat 32 (i 0).val
  let c0_i32 : BitVec 32 := 0#32
  let v0 : BitVec 1 := Scalar.cmpi .eq arg0 c0_i32
  let v1369 : BitVec 32 := Scalar.extui v0
  let c0_i32_572 : BitVec 32 := 0#32
  let v1370 : BitVec 1 := Scalar.cmpi .ne v1369 c0_i32_572
  v1370

def k0_cond27 (i : grid0.Coords) : BitVec 1 :=
  let arg0 : BitVec 32 := BitVec.ofNat 32 (i 0).val
  let c0_i32 : BitVec 32 := 0#32
  let v0 : BitVec 1 := Scalar.cmpi .eq arg0 c0_i32
  let true_573 : BitVec 1 := 1#1
  let v1371 : BitVec 1 := Scalar.xori v0 true_573
  let v1372 : BitVec 32 := Scalar.extui v1371
  let c0_i32_575 : BitVec 32 := 0#32
  let v1373 : BitVec 1 := Scalar.cmpi .ne v1372 c0_i32_575
  v1373

def k0_cond30 (i : grid0.Coords) : BitVec 1 :=
  let arg0 : BitVec 32 := BitVec.ofNat 32 (i 0).val
  let c0_i32 : BitVec 32 := 0#32
  let v0 : BitVec 1 := Scalar.cmpi .eq arg0 c0_i32
  let v1549 : BitVec 32 := Scalar.extui v0
  let c0_i32_644 : BitVec 32 := 0#32
  let v1550 : BitVec 1 := Scalar.cmpi .ne v1549 c0_i32_644
  v1550

def k0_cond31 (i : grid0.Coords) : BitVec 1 :=
  let arg0 : BitVec 32 := BitVec.ofNat 32 (i 0).val
  let c0_i32 : BitVec 32 := 0#32
  let v0 : BitVec 1 := Scalar.cmpi .eq arg0 c0_i32
  let true_645 : BitVec 1 := 1#1
  let v1551 : BitVec 1 := Scalar.xori v0 true_645
  let v1552 : BitVec 32 := Scalar.extui v1551
  let c0_i32_647 : BitVec 32 := 0#32
  let v1553 : BitVec 1 := Scalar.cmpi .ne v1552 c0_i32_647
  v1553

def k0_cond34 (i : grid0.Coords) : BitVec 1 :=
  let arg0 : BitVec 32 := BitVec.ofNat 32 (i 0).val
  let c0_i32 : BitVec 32 := 0#32
  let v0 : BitVec 1 := Scalar.cmpi .eq arg0 c0_i32
  let v1729 : BitVec 32 := Scalar.extui v0
  let c0_i32_716 : BitVec 32 := 0#32
  let v1730 : BitVec 1 := Scalar.cmpi .ne v1729 c0_i32_716
  v1730

def k0_cond35 (i : grid0.Coords) : BitVec 1 :=
  let arg0 : BitVec 32 := BitVec.ofNat 32 (i 0).val
  let c0_i32 : BitVec 32 := 0#32
  let v0 : BitVec 1 := Scalar.cmpi .eq arg0 c0_i32
  let true_717 : BitVec 1 := 1#1
  let v1731 : BitVec 1 := Scalar.xori v0 true_717
  let v1732 : BitVec 32 := Scalar.extui v1731
  let c0_i32_719 : BitVec 32 := 0#32
  let v1733 : BitVec 1 := Scalar.cmpi .ne v1732 c0_i32_719
  v1733

def k0_cond24 (i : grid0.Coords) : BitVec 1 :=
  let arg0 : BitVec 32 := BitVec.ofNat 32 (i 0).val
  let c0_i32 : BitVec 32 := 0#32
  let v0 : BitVec 1 := Scalar.cmpi .eq arg0 c0_i32
  let v1194 : BitVec 32 := Scalar.extui v0
  let c0_i32_505 : BitVec 32 := 0#32
  let v1195 : BitVec 1 := Scalar.cmpi .ne v1194 c0_i32_505
  v1195

def k0_cond25 (i : grid0.Coords) : BitVec 1 :=
  let arg0 : BitVec 32 := BitVec.ofNat 32 (i 0).val
  let c0_i32 : BitVec 32 := 0#32
  let v0 : BitVec 1 := Scalar.cmpi .eq arg0 c0_i32
  let true_506 : BitVec 1 := 1#1
  let v1196 : BitVec 1 := Scalar.xori v0 true_506
  let v1197 : BitVec 32 := Scalar.extui v1196
  let c0_i32_508 : BitVec 32 := 0#32
  let v1198 : BitVec 1 := Scalar.cmpi .ne v1197 c0_i32_508
  v1198

def k0_cond28 (i : grid0.Coords) : BitVec 1 :=
  let arg0 : BitVec 32 := BitVec.ofNat 32 (i 0).val
  let c0_i32 : BitVec 32 := 0#32
  let v0 : BitVec 1 := Scalar.cmpi .eq arg0 c0_i32
  let v1374 : BitVec 32 := Scalar.extui v0
  let c0_i32_577 : BitVec 32 := 0#32
  let v1375 : BitVec 1 := Scalar.cmpi .ne v1374 c0_i32_577
  v1375

def k0_cond29 (i : grid0.Coords) : BitVec 1 :=
  let arg0 : BitVec 32 := BitVec.ofNat 32 (i 0).val
  let c0_i32 : BitVec 32 := 0#32
  let v0 : BitVec 1 := Scalar.cmpi .eq arg0 c0_i32
  let true_578 : BitVec 1 := 1#1
  let v1376 : BitVec 1 := Scalar.xori v0 true_578
  let v1377 : BitVec 32 := Scalar.extui v1376
  let c0_i32_580 : BitVec 32 := 0#32
  let v1378 : BitVec 1 := Scalar.cmpi .ne v1377 c0_i32_580
  v1378

def k0_cond32 (i : grid0.Coords) : BitVec 1 :=
  let arg0 : BitVec 32 := BitVec.ofNat 32 (i 0).val
  let c0_i32 : BitVec 32 := 0#32
  let v0 : BitVec 1 := Scalar.cmpi .eq arg0 c0_i32
  let v1554 : BitVec 32 := Scalar.extui v0
  let c0_i32_649 : BitVec 32 := 0#32
  let v1555 : BitVec 1 := Scalar.cmpi .ne v1554 c0_i32_649
  v1555

def k0_cond33 (i : grid0.Coords) : BitVec 1 :=
  let arg0 : BitVec 32 := BitVec.ofNat 32 (i 0).val
  let c0_i32 : BitVec 32 := 0#32
  let v0 : BitVec 1 := Scalar.cmpi .eq arg0 c0_i32
  let true_650 : BitVec 1 := 1#1
  let v1556 : BitVec 1 := Scalar.xori v0 true_650
  let v1557 : BitVec 32 := Scalar.extui v1556
  let c0_i32_652 : BitVec 32 := 0#32
  let v1558 : BitVec 1 := Scalar.cmpi .ne v1557 c0_i32_652
  v1558

def k0_cond36 (i : grid0.Coords) : BitVec 1 :=
  let arg0 : BitVec 32 := BitVec.ofNat 32 (i 0).val
  let c0_i32 : BitVec 32 := 0#32
  let v0 : BitVec 1 := Scalar.cmpi .eq arg0 c0_i32
  let v1734 : BitVec 32 := Scalar.extui v0
  let c0_i32_721 : BitVec 32 := 0#32
  let v1735 : BitVec 1 := Scalar.cmpi .ne v1734 c0_i32_721
  v1735

def k0_cond37 (i : grid0.Coords) : BitVec 1 :=
  let arg0 : BitVec 32 := BitVec.ofNat 32 (i 0).val
  let c0_i32 : BitVec 32 := 0#32
  let v0 : BitVec 1 := Scalar.cmpi .eq arg0 c0_i32
  let true_722 : BitVec 1 := 1#1
  let v1736 : BitVec 1 := Scalar.xori v0 true_722
  let v1737 : BitVec 32 := Scalar.extui v1736
  let c0_i32_724 : BitVec 32 := 0#32
  let v1738 : BitVec 1 := Scalar.cmpi .ne v1737 c0_i32_724
  v1738

def cc0_transform_0 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S32x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S4x128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x4 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x4096 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S4x128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S8x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S32x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S4x128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S4x128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]
-- ==== ReferenceIdeal.lean ====
abbrev S4096x8192 : Shape := ⟨2, ![4096, 8192]⟩
abbrev S4096x2048 : Shape := ⟨2, ![4096, 2048]⟩
abbrev S4x128x128 : Shape := ⟨3, ![4, 128, 128]⟩
abbrev S512 : Shape := ⟨1, ![512]⟩
abbrev S3x512 : Shape := ⟨2, ![3, 512]⟩
abbrev S31x512 : Shape := ⟨2, ![31, 512]⟩
abbrev S4x128 : Shape := ⟨2, ![4, 128]⟩
abbrev S4x128x1 : Shape := ⟨3, ![4, 128, 1]⟩
abbrev S4096x4096 : Shape := ⟨2, ![4096, 4096]⟩
abbrev S4096x512 : Shape := ⟨2, ![4096, 512]⟩
abbrev S4096 : Shape := ⟨1, ![4096]⟩
abbrev S4096x128 : Shape := ⟨2, ![4096, 128]⟩
abbrev S_ : Shape := ⟨0, ![]⟩
abbrev S4096x1 : Shape := ⟨2, ![4096, 1]⟩
abbrev S1x128 : Shape := ⟨2, ![1, 128]⟩
abbrev S4095x128 : Shape := ⟨2, ![4095, 128]⟩
abbrev S1x128x128 : Shape := ⟨3, ![1, 128, 128]⟩
abbrev S128x128 : Shape := ⟨2, ![128, 128]⟩
abbrev S2x128 : Shape := ⟨2, ![2, 128]⟩
abbrev S4094x128 : Shape := ⟨2, ![4094, 128]⟩
abbrev S3x128 : Shape := ⟨2, ![3, 128]⟩
abbrev S4093x128 : Shape := ⟨2, ![4093, 128]⟩
abbrev S4092x128 : Shape := ⟨2, ![4092, 128]⟩
abbrev S5x128 : Shape := ⟨2, ![5, 128]⟩
abbrev S4091x128 : Shape := ⟨2, ![4091, 128]⟩
abbrev S6x128 : Shape := ⟨2, ![6, 128]⟩
abbrev S4090x128 : Shape := ⟨2, ![4090, 128]⟩
abbrev S7x128 : Shape := ⟨2, ![7, 128]⟩
abbrev S4089x128 : Shape := ⟨2, ![4089, 128]⟩
abbrev S8x128 : Shape := ⟨2, ![8, 128]⟩
abbrev S4088x128 : Shape := ⟨2, ![4088, 128]⟩
abbrev S9x128 : Shape := ⟨2, ![9, 128]⟩
abbrev S4087x128 : Shape := ⟨2, ![4087, 128]⟩
abbrev S10x128 : Shape := ⟨2, ![10, 128]⟩
abbrev S4086x128 : Shape := ⟨2, ![4086, 128]⟩
abbrev S11x128 : Shape := ⟨2, ![11, 128]⟩
abbrev S4085x128 : Shape := ⟨2, ![4085, 128]⟩
abbrev S12x128 : Shape := ⟨2, ![12, 128]⟩
abbrev S4084x128 : Shape := ⟨2, ![4084, 128]⟩
abbrev S13x128 : Shape := ⟨2, ![13, 128]⟩
abbrev S4083x128 : Shape := ⟨2, ![4083, 128]⟩
abbrev S14x128 : Shape := ⟨2, ![14, 128]⟩
abbrev S4082x128 : Shape := ⟨2, ![4082, 128]⟩
abbrev S15x128 : Shape := ⟨2, ![15, 128]⟩
abbrev S4081x128 : Shape := ⟨2, ![4081, 128]⟩
abbrev S1x512 : Shape := ⟨2, ![1, 512]⟩
abbrev S4096x1536 : Shape := ⟨2, ![4096, 1536]⟩
abbrev S4095x512 : Shape := ⟨2, ![4095, 512]⟩
abbrev S2x512 : Shape := ⟨2, ![2, 512]⟩
abbrev S4094x512 : Shape := ⟨2, ![4094, 512]⟩
abbrev S4096x1024 : Shape := ⟨2, ![4096, 1024]⟩
abbrev S4093x512 : Shape := ⟨2, ![4093, 512]⟩
abbrev S4x512 : Shape := ⟨2, ![4, 512]⟩
abbrev S4092x512 : Shape := ⟨2, ![4092, 512]⟩
abbrev S5x512 : Shape := ⟨2, ![5, 512]⟩
abbrev S4091x512 : Shape := ⟨2, ![4091, 512]⟩
abbrev S6x512 : Shape := ⟨2, ![6, 512]⟩
abbrev S4090x512 : Shape := ⟨2, ![4090, 512]⟩
abbrev S7x512 : Shape := ⟨2, ![7, 512]⟩
abbrev S4089x512 : Shape := ⟨2, ![4089, 512]⟩
abbrev S8x512 : Shape := ⟨2, ![8, 512]⟩
abbrev S4088x512 : Shape := ⟨2, ![4088, 512]⟩
abbrev S9x512 : Shape := ⟨2, ![9, 512]⟩
abbrev S4087x512 : Shape := ⟨2, ![4087, 512]⟩
abbrev S10x512 : Shape := ⟨2, ![10, 512]⟩
abbrev S4086x512 : Shape := ⟨2, ![4086, 512]⟩
abbrev S11x512 : Shape := ⟨2, ![11, 512]⟩
abbrev S4085x512 : Shape := ⟨2, ![4085, 512]⟩
abbrev S12x512 : Shape := ⟨2, ![12, 512]⟩
abbrev S4084x512 : Shape := ⟨2, ![4084, 512]⟩
abbrev S13x512 : Shape := ⟨2, ![13, 512]⟩
abbrev S4083x512 : Shape := ⟨2, ![4083, 512]⟩
abbrev S14x512 : Shape := ⟨2, ![14, 512]⟩
abbrev S4082x512 : Shape := ⟨2, ![4082, 512]⟩
abbrev S15x512 : Shape := ⟨2, ![15, 512]⟩
abbrev S4081x512 : Shape := ⟨2, ![4081, 512]⟩
abbrev S16x512 : Shape := ⟨2, ![16, 512]⟩
abbrev S4080x512 : Shape := ⟨2, ![4080, 512]⟩
abbrev S17x512 : Shape := ⟨2, ![17, 512]⟩
abbrev S4079x512 : Shape := ⟨2, ![4079, 512]⟩
abbrev S18x512 : Shape := ⟨2, ![18, 512]⟩
abbrev S4078x512 : Shape := ⟨2, ![4078, 512]⟩
abbrev S19x512 : Shape := ⟨2, ![19, 512]⟩
abbrev S4077x512 : Shape := ⟨2, ![4077, 512]⟩
abbrev S20x512 : Shape := ⟨2, ![20, 512]⟩
abbrev S4076x512 : Shape := ⟨2, ![4076, 512]⟩
abbrev S21x512 : Shape := ⟨2, ![21, 512]⟩
abbrev S4075x512 : Shape := ⟨2, ![4075, 512]⟩
abbrev S22x512 : Shape := ⟨2, ![22, 512]⟩
abbrev S4074x512 : Shape := ⟨2, ![4074, 512]⟩
abbrev S23x512 : Shape := ⟨2, ![23, 512]⟩
abbrev S4073x512 : Shape := ⟨2, ![4073, 512]⟩
abbrev S24x512 : Shape := ⟨2, ![24, 512]⟩
abbrev S4072x512 : Shape := ⟨2, ![4072, 512]⟩
abbrev S25x512 : Shape := ⟨2, ![25, 512]⟩
abbrev S4071x512 : Shape := ⟨2, ![4071, 512]⟩
abbrev S26x512 : Shape := ⟨2, ![26, 512]⟩
abbrev S4070x512 : Shape := ⟨2, ![4070, 512]⟩
abbrev S27x512 : Shape := ⟨2, ![27, 512]⟩
abbrev S4069x512 : Shape := ⟨2, ![4069, 512]⟩
abbrev S28x512 : Shape := ⟨2, ![28, 512]⟩
abbrev S4068x512 : Shape := ⟨2, ![4068, 512]⟩
abbrev S29x512 : Shape := ⟨2, ![29, 512]⟩
abbrev S4067x512 : Shape := ⟨2, ![4067, 512]⟩
abbrev S30x512 : Shape := ⟨2, ![30, 512]⟩
abbrev S4066x512 : Shape := ⟨2, ![4066, 512]⟩
abbrev S32x128x4x128 : Shape := ⟨4, ![32, 128, 4, 128]⟩
abbrev S128 : Shape := ⟨1, ![128]⟩
abbrev S128x1 : Shape := ⟨2, ![128, 1]⟩
abbrev S4x32x128x128 : Shape := ⟨4, ![4, 32, 128, 128]⟩
abbrev S128x4x128 : Shape := ⟨3, ![128, 4, 128]⟩
abbrev S1x128x4x128 : Shape := ⟨4, ![1, 128, 4, 128]⟩
abbrev S32x512 : Shape := ⟨2, ![32, 512]⟩

abbrev nBuf : Space → Nat
  | .hbm => 1859
  | .vmem => 0
  | .smem => 0
  | _ => 0

abbrev hbmTy0_0 (i : Nat) : BufTy := match i % 128 with
  | 0 => ⟨S4096x8192, .bf16⟩
  | 1 => ⟨S4096x2048, .bf16⟩
  | 2 => ⟨S4096x8192, .bf16⟩
  | 3 => ⟨S4x128x128, .f32⟩
  | 4 => ⟨S512, .f32⟩
  | 5 => ⟨S3x512, .f32⟩
  | 6 => ⟨S31x512, .f32⟩
  | 7 => ⟨S512, .f32⟩
  | 8 => ⟨S512, .f32⟩
  | 9 => ⟨S512, .f32⟩
  | 10 => ⟨S512, .f32⟩
  | 11 => ⟨S4x128x128, .f32⟩
  | 12 => ⟨S4x128, .f32⟩
  | 13 => ⟨S4x128x1, .f32⟩
  | 14 => ⟨S4x128x128, .f32⟩
  | 15 => ⟨S4096x4096, .bf16⟩
  | 16 => ⟨S4096x4096, .f32⟩
  | 17 => ⟨S4096x512, .f32⟩
  | 18 => ⟨S4096, .i32⟩
  | 19 => ⟨S4096x128, .f32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S4096, .f32⟩
  | 27 => ⟨S4096x1, .f32⟩
  | 28 => ⟨S_, .f32⟩
  | 29 => ⟨S4096x128, .f32⟩
  | 30 => ⟨S4096x128, .f32⟩
  | 31 => ⟨S_, .f32⟩
  | 32 => ⟨S1x128, .f32⟩
  | 33 => ⟨S4095x128, .f32⟩
  | 34 => ⟨S4096x128, .f32⟩
  | 35 => ⟨S_, .f32⟩
  | 36 => ⟨S1x128, .f32⟩
  | 37 => ⟨S4096x128, .f32⟩
  | 38 => ⟨S4096x128, .f32⟩
  | 39 => ⟨S4096x128, .f32⟩
  | 40 => ⟨S4096x128, .f32⟩
  | 41 => ⟨S1x128x128, .f32⟩
  | 42 => ⟨S128x128, .f32⟩
  | 43 => ⟨S4096x128, .f32⟩
  | 44 => ⟨S4096x128, .f32⟩
  | 45 => ⟨S_, .i32⟩
  | 46 => ⟨S4096, .i32⟩
  | 47 => ⟨S4096, .i32⟩
  | 48 => ⟨S_, .i32⟩
  | 49 => ⟨S4096, .i32⟩
  | 50 => ⟨S4096, .i32⟩
  | 51 => ⟨S4096, .f32⟩
  | 52 => ⟨S4096x1, .f32⟩
  | 53 => ⟨S_, .f32⟩
  | 54 => ⟨S4096x128, .f32⟩
  | 55 => ⟨S4096x128, .f32⟩
  | 56 => ⟨S_, .f32⟩
  | 57 => ⟨S1x128, .f32⟩
  | 58 => ⟨S4095x128, .f32⟩
  | 59 => ⟨S4096x128, .f32⟩
  | 60 => ⟨S_, .f32⟩
  | 61 => ⟨S1x128, .f32⟩
  | 62 => ⟨S4096x128, .f32⟩
  | 63 => ⟨S_, .f32⟩
  | 64 => ⟨S2x128, .f32⟩
  | 65 => ⟨S4094x128, .f32⟩
  | 66 => ⟨S4096x128, .f32⟩
  | 67 => ⟨S_, .f32⟩
  | 68 => ⟨S2x128, .f32⟩
  | 69 => ⟨S4096x128, .f32⟩
  | 70 => ⟨S_, .f32⟩
  | 71 => ⟨S3x128, .f32⟩
  | 72 => ⟨S4093x128, .f32⟩
  | 73 => ⟨S4096x128, .f32⟩
  | 74 => ⟨S_, .f32⟩
  | 75 => ⟨S3x128, .f32⟩
  | 76 => ⟨S4096x128, .f32⟩
  | 77 => ⟨S4096x128, .f32⟩
  | 78 => ⟨S4096x128, .f32⟩
  | 79 => ⟨S4096x128, .f32⟩
  | 80 => ⟨S1x128x128, .f32⟩
  | 81 => ⟨S128x128, .f32⟩
  | 82 => ⟨S4096x128, .f32⟩
  | 83 => ⟨S4096x128, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .f32⟩
  | 91 => ⟨S4096x1, .f32⟩
  | 92 => ⟨S_, .f32⟩
  | 93 => ⟨S4096x128, .f32⟩
  | 94 => ⟨S4096x128, .f32⟩
  | 95 => ⟨S_, .f32⟩
  | 96 => ⟨S1x128, .f32⟩
  | 97 => ⟨S4095x128, .f32⟩
  | 98 => ⟨S4096x128, .f32⟩
  | 99 => ⟨S_, .f32⟩
  | 100 => ⟨S1x128, .f32⟩
  | 101 => ⟨S4096x128, .f32⟩
  | 102 => ⟨S_, .f32⟩
  | 103 => ⟨S2x128, .f32⟩
  | 104 => ⟨S4094x128, .f32⟩
  | 105 => ⟨S4096x128, .f32⟩
  | 106 => ⟨S_, .f32⟩
  | 107 => ⟨S2x128, .f32⟩
  | 108 => ⟨S4096x128, .f32⟩
  | 109 => ⟨S_, .f32⟩
  | 110 => ⟨S3x128, .f32⟩
  | 111 => ⟨S4093x128, .f32⟩
  | 112 => ⟨S4096x128, .f32⟩
  | 113 => ⟨S_, .f32⟩
  | 114 => ⟨S3x128, .f32⟩
  | 115 => ⟨S4096x128, .f32⟩
  | 116 => ⟨S_, .f32⟩
  | 117 => ⟨S4x128, .f32⟩
  | 118 => ⟨S4092x128, .f32⟩
  | 119 => ⟨S4096x128, .f32⟩
  | 120 => ⟨S_, .f32⟩
  | 121 => ⟨S4x128, .f32⟩
  | 122 => ⟨S4096x128, .f32⟩
  | 123 => ⟨S_, .f32⟩
  | 124 => ⟨S5x128, .f32⟩
  | 125 => ⟨S4091x128, .f32⟩
  | 126 => ⟨S4096x128, .f32⟩
  | 127 => ⟨S_, .f32⟩
  | _ => ⟨S4096x8192, .bf16⟩

abbrev hbmTy0_1 (i : Nat) : BufTy := match i % 128 with
  | 0 => ⟨S5x128, .f32⟩
  | 1 => ⟨S4096x128, .f32⟩
  | 2 => ⟨S_, .f32⟩
  | 3 => ⟨S6x128, .f32⟩
  | 4 => ⟨S4090x128, .f32⟩
  | 5 => ⟨S4096x128, .f32⟩
  | 6 => ⟨S_, .f32⟩
  | 7 => ⟨S6x128, .f32⟩
  | 8 => ⟨S4096x128, .f32⟩
  | 9 => ⟨S_, .f32⟩
  | 10 => ⟨S7x128, .f32⟩
  | 11 => ⟨S4089x128, .f32⟩
  | 12 => ⟨S4096x128, .f32⟩
  | 13 => ⟨S_, .f32⟩
  | 14 => ⟨S7x128, .f32⟩
  | 15 => ⟨S4096x128, .f32⟩
  | 16 => ⟨S4096x128, .f32⟩
  | 17 => ⟨S4096x128, .f32⟩
  | 18 => ⟨S4096x128, .f32⟩
  | 19 => ⟨S1x128x128, .f32⟩
  | 20 => ⟨S128x128, .f32⟩
  | 21 => ⟨S4096x128, .f32⟩
  | 22 => ⟨S4096x128, .f32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S4096, .f32⟩
  | 30 => ⟨S4096x1, .f32⟩
  | 31 => ⟨S_, .f32⟩
  | 32 => ⟨S4096x128, .f32⟩
  | 33 => ⟨S4096x128, .f32⟩
  | 34 => ⟨S_, .f32⟩
  | 35 => ⟨S1x128, .f32⟩
  | 36 => ⟨S4095x128, .f32⟩
  | 37 => ⟨S4096x128, .f32⟩
  | 38 => ⟨S_, .f32⟩
  | 39 => ⟨S1x128, .f32⟩
  | 40 => ⟨S4096x128, .f32⟩
  | 41 => ⟨S_, .f32⟩
  | 42 => ⟨S2x128, .f32⟩
  | 43 => ⟨S4094x128, .f32⟩
  | 44 => ⟨S4096x128, .f32⟩
  | 45 => ⟨S_, .f32⟩
  | 46 => ⟨S2x128, .f32⟩
  | 47 => ⟨S4096x128, .f32⟩
  | 48 => ⟨S_, .f32⟩
  | 49 => ⟨S3x128, .f32⟩
  | 50 => ⟨S4093x128, .f32⟩
  | 51 => ⟨S4096x128, .f32⟩
  | 52 => ⟨S_, .f32⟩
  | 53 => ⟨S3x128, .f32⟩
  | 54 => ⟨S4096x128, .f32⟩
  | 55 => ⟨S_, .f32⟩
  | 56 => ⟨S4x128, .f32⟩
  | 57 => ⟨S4092x128, .f32⟩
  | 58 => ⟨S4096x128, .f32⟩
  | 59 => ⟨S_, .f32⟩
  | 60 => ⟨S4x128, .f32⟩
  | 61 => ⟨S4096x128, .f32⟩
  | 62 => ⟨S_, .f32⟩
  | 63 => ⟨S5x128, .f32⟩
  | 64 => ⟨S4091x128, .f32⟩
  | 65 => ⟨S4096x128, .f32⟩
  | 66 => ⟨S_, .f32⟩
  | 67 => ⟨S5x128, .f32⟩
  | 68 => ⟨S4096x128, .f32⟩
  | 69 => ⟨S_, .f32⟩
  | 70 => ⟨S6x128, .f32⟩
  | 71 => ⟨S4090x128, .f32⟩
  | 72 => ⟨S4096x128, .f32⟩
  | 73 => ⟨S_, .f32⟩
  | 74 => ⟨S6x128, .f32⟩
  | 75 => ⟨S4096x128, .f32⟩
  | 76 => ⟨S_, .f32⟩
  | 77 => ⟨S7x128, .f32⟩
  | 78 => ⟨S4089x128, .f32⟩
  | 79 => ⟨S4096x128, .f32⟩
  | 80 => ⟨S_, .f32⟩
  | 81 => ⟨S7x128, .f32⟩
  | 82 => ⟨S4096x128, .f32⟩
  | 83 => ⟨S_, .f32⟩
  | 84 => ⟨S8x128, .f32⟩
  | 85 => ⟨S4088x128, .f32⟩
  | 86 => ⟨S4096x128, .f32⟩
  | 87 => ⟨S_, .f32⟩
  | 88 => ⟨S8x128, .f32⟩
  | 89 => ⟨S4096x128, .f32⟩
  | 90 => ⟨S_, .f32⟩
  | 91 => ⟨S9x128, .f32⟩
  | 92 => ⟨S4087x128, .f32⟩
  | 93 => ⟨S4096x128, .f32⟩
  | 94 => ⟨S_, .f32⟩
  | 95 => ⟨S9x128, .f32⟩
  | 96 => ⟨S4096x128, .f32⟩
  | 97 => ⟨S_, .f32⟩
  | 98 => ⟨S10x128, .f32⟩
  | 99 => ⟨S4086x128, .f32⟩
  | 100 => ⟨S4096x128, .f32⟩
  | 101 => ⟨S_, .f32⟩
  | 102 => ⟨S10x128, .f32⟩
  | 103 => ⟨S4096x128, .f32⟩
  | 104 => ⟨S_, .f32⟩
  | 105 => ⟨S11x128, .f32⟩
  | 106 => ⟨S4085x128, .f32⟩
  | 107 => ⟨S4096x128, .f32⟩
  | 108 => ⟨S_, .f32⟩
  | 109 => ⟨S11x128, .f32⟩
  | 110 => ⟨S4096x128, .f32⟩
  | 111 => ⟨S_, .f32⟩
  | 112 => ⟨S12x128, .f32⟩
  | 113 => ⟨S4084x128, .f32⟩
  | 114 => ⟨S4096x128, .f32⟩
  | 115 => ⟨S_, .f32⟩
  | 116 => ⟨S12x128, .f32⟩
  | 117 => ⟨S4096x128, .f32⟩
  | 118 => ⟨S_, .f32⟩
  | 119 => ⟨S13x128, .f32⟩
  | 120 => ⟨S4083x128, .f32⟩
  | 121 => ⟨S4096x128, .f32⟩
  | 122 => ⟨S_, .f32⟩
  | 123 => ⟨S13x128, .f32⟩
  | 124 => ⟨S4096x128, .f32⟩
  | 125 => ⟨S_, .f32⟩
  | 126 => ⟨S14x128, .f32⟩
  | 127 => ⟨S4082x128, .f32⟩
  | _ => ⟨S4096x8192, .bf16⟩

abbrev hbmTy0_2 (i : Nat) : BufTy := match i % 128 with
  | 0 => ⟨S4096x128, .f32⟩
  | 1 => ⟨S_, .f32⟩
  | 2 => ⟨S14x128, .f32⟩
  | 3 => ⟨S4096x128, .f32⟩
  | 4 => ⟨S_, .f32⟩
  | 5 => ⟨S15x128, .f32⟩
  | 6 => ⟨S4081x128, .f32⟩
  | 7 => ⟨S4096x128, .f32⟩
  | 8 => ⟨S_, .f32⟩
  | 9 => ⟨S15x128, .f32⟩
  | 10 => ⟨S4096x128, .f32⟩
  | 11 => ⟨S4096x128, .f32⟩
  | 12 => ⟨S4096x128, .f32⟩
  | 13 => ⟨S4096x128, .f32⟩
  | 14 => ⟨S1x128x128, .f32⟩
  | 15 => ⟨S128x128, .f32⟩
  | 16 => ⟨S4096x128, .f32⟩
  | 17 => ⟨S4096x512, .f32⟩
  | 18 => ⟨S1x512, .f32⟩
  | 19 => ⟨S4096x512, .f32⟩
  | 20 => ⟨S4096x512, .f32⟩
  | 21 => ⟨S4096x1536, .f32⟩
  | 22 => ⟨S4096x512, .f32⟩
  | 23 => ⟨S4096x512, .f32⟩
  | 24 => ⟨S4096x512, .f32⟩
  | 25 => ⟨S4096x512, .f32⟩
  | 26 => ⟨S1x512, .f32⟩
  | 27 => ⟨S512, .f32⟩
  | 28 => ⟨S1x512, .f32⟩
  | 29 => ⟨S4096x512, .f32⟩
  | 30 => ⟨S4096x512, .f32⟩
  | 31 => ⟨S_, .f32⟩
  | 32 => ⟨S4096x512, .f32⟩
  | 33 => ⟨S4096x512, .f32⟩
  | 34 => ⟨S1x512, .f32⟩
  | 35 => ⟨S512, .f32⟩
  | 36 => ⟨S_, .f32⟩
  | 37 => ⟨S1x512, .f32⟩
  | 38 => ⟨S4095x512, .f32⟩
  | 39 => ⟨S4096x512, .f32⟩
  | 40 => ⟨S_, .f32⟩
  | 41 => ⟨S1x512, .f32⟩
  | 42 => ⟨S1x512, .f32⟩
  | 43 => ⟨S4096x512, .f32⟩
  | 44 => ⟨S4096x512, .f32⟩
  | 45 => ⟨S4096x512, .f32⟩
  | 46 => ⟨S1x512, .f32⟩
  | 47 => ⟨S512, .f32⟩
  | 48 => ⟨S_, .f32⟩
  | 49 => ⟨S2x512, .f32⟩
  | 50 => ⟨S4094x512, .f32⟩
  | 51 => ⟨S4096x512, .f32⟩
  | 52 => ⟨S_, .f32⟩
  | 53 => ⟨S2x512, .f32⟩
  | 54 => ⟨S1x512, .f32⟩
  | 55 => ⟨S4096x512, .f32⟩
  | 56 => ⟨S4096x512, .f32⟩
  | 57 => ⟨S4096x512, .f32⟩
  | 58 => ⟨S4096x512, .f32⟩
  | 59 => ⟨S4096x1024, .f32⟩
  | 60 => ⟨S4096x512, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S4096x512, .f32⟩
  | 74 => ⟨S4096x512, .f32⟩
  | 75 => ⟨S1x512, .f32⟩
  | 76 => ⟨S512, .f32⟩
  | 77 => ⟨S1x512, .f32⟩
  | 78 => ⟨S4096x512, .f32⟩
  | 79 => ⟨S4096x512, .f32⟩
  | 80 => ⟨S_, .f32⟩
  | 81 => ⟨S4096x512, .f32⟩
  | 82 => ⟨S4096x512, .f32⟩
  | 83 => ⟨S1x512, .f32⟩
  | 84 => ⟨S512, .f32⟩
  | 85 => ⟨S_, .f32⟩
  | 86 => ⟨S1x512, .f32⟩
  | 87 => ⟨S4095x512, .f32⟩
  | 88 => ⟨S4096x512, .f32⟩
  | 89 => ⟨S_, .f32⟩
  | 90 => ⟨S1x512, .f32⟩
  | 91 => ⟨S1x512, .f32⟩
  | 92 => ⟨S4096x512, .f32⟩
  | 93 => ⟨S4096x512, .f32⟩
  | 94 => ⟨S4096x512, .f32⟩
  | 95 => ⟨S1x512, .f32⟩
  | 96 => ⟨S512, .f32⟩
  | 97 => ⟨S_, .f32⟩
  | 98 => ⟨S2x512, .f32⟩
  | 99 => ⟨S4094x512, .f32⟩
  | 100 => ⟨S4096x512, .f32⟩
  | 101 => ⟨S_, .f32⟩
  | 102 => ⟨S2x512, .f32⟩
  | 103 => ⟨S1x512, .f32⟩
  | 104 => ⟨S4096x512, .f32⟩
  | 105 => ⟨S4096x512, .f32⟩
  | 106 => ⟨S4096x512, .f32⟩
  | 107 => ⟨S1x512, .f32⟩
  | 108 => ⟨S512, .f32⟩
  | 109 => ⟨S_, .f32⟩
  | 110 => ⟨S3x512, .f32⟩
  | 111 => ⟨S4093x512, .f32⟩
  | 112 => ⟨S4096x512, .f32⟩
  | 113 => ⟨S_, .f32⟩
  | 114 => ⟨S3x512, .f32⟩
  | 115 => ⟨S1x512, .f32⟩
  | 116 => ⟨S4096x512, .f32⟩
  | 117 => ⟨S4096x512, .f32⟩
  | 118 => ⟨S4096x512, .f32⟩
  | 119 => ⟨S1x512, .f32⟩
  | 120 => ⟨S512, .f32⟩
  | 121 => ⟨S_, .f32⟩
  | 122 => ⟨S4x512, .f32⟩
  | 123 => ⟨S4092x512, .f32⟩
  | 124 => ⟨S4096x512, .f32⟩
  | 125 => ⟨S_, .f32⟩
  | 126 => ⟨S4x512, .f32⟩
  | 127 => ⟨S1x512, .f32⟩
  | _ => ⟨S4096x8192, .bf16⟩

abbrev hbmTy0_3 (i : Nat) : BufTy := match i % 128 with
  | 0 => ⟨S4096x512, .f32⟩
  | 1 => ⟨S4096x512, .f32⟩
  | 2 => ⟨S4096x512, .f32⟩
  | 3 => ⟨S1x512, .f32⟩
  | 4 => ⟨S512, .f32⟩
  | 5 => ⟨S_, .f32⟩
  | 6 => ⟨S5x512, .f32⟩
  | 7 => ⟨S4091x512, .f32⟩
  | 8 => ⟨S4096x512, .f32⟩
  | 9 => ⟨S_, .f32⟩
  | 10 => ⟨S5x512, .f32⟩
  | 11 => ⟨S1x512, .f32⟩
  | 12 => ⟨S4096x512, .f32⟩
  | 13 => ⟨S4096x512, .f32⟩
  | 14 => ⟨S4096x512, .f32⟩
  | 15 => ⟨S1x512, .f32⟩
  | 16 => ⟨S512, .f32⟩
  | 17 => ⟨S_, .f32⟩
  | 18 => ⟨S6x512, .f32⟩
  | 19 => ⟨S4090x512, .f32⟩
  | 20 => ⟨S4096x512, .f32⟩
  | 21 => ⟨S_, .f32⟩
  | 22 => ⟨S6x512, .f32⟩
  | 23 => ⟨S1x512, .f32⟩
  | 24 => ⟨S4096x512, .f32⟩
  | 25 => ⟨S4096x512, .f32⟩
  | 26 => ⟨S4096x512, .f32⟩
  | 27 => ⟨S1x512, .f32⟩
  | 28 => ⟨S512, .f32⟩
  | 29 => ⟨S_, .f32⟩
  | 30 => ⟨S7x512, .f32⟩
  | 31 => ⟨S4089x512, .f32⟩
  | 32 => ⟨S4096x512, .f32⟩
  | 33 => ⟨S_, .f32⟩
  | 34 => ⟨S7x512, .f32⟩
  | 35 => ⟨S1x512, .f32⟩
  | 36 => ⟨S4096x512, .f32⟩
  | 37 => ⟨S4096x512, .f32⟩
  | 38 => ⟨S4096x512, .f32⟩
  | 39 => ⟨S1x512, .f32⟩
  | 40 => ⟨S512, .f32⟩
  | 41 => ⟨S_, .f32⟩
  | 42 => ⟨S8x512, .f32⟩
  | 43 => ⟨S4088x512, .f32⟩
  | 44 => ⟨S4096x512, .f32⟩
  | 45 => ⟨S_, .f32⟩
  | 46 => ⟨S8x512, .f32⟩
  | 47 => ⟨S1x512, .f32⟩
  | 48 => ⟨S4096x512, .f32⟩
  | 49 => ⟨S4096x512, .f32⟩
  | 50 => ⟨S4096x512, .f32⟩
  | 51 => ⟨S1x512, .f32⟩
  | 52 => ⟨S512, .f32⟩
  | 53 => ⟨S_, .f32⟩
  | 54 => ⟨S9x512, .f32⟩
  | 55 => ⟨S4087x512, .f32⟩
  | 56 => ⟨S4096x512, .f32⟩
  | 57 => ⟨S_, .f32⟩
  | 58 => ⟨S9x512, .f32⟩
  | 59 => ⟨S1x512, .f32⟩
  | 60 => ⟨S4096x512, .f32⟩
  | 61 => ⟨S4096x512, .f32⟩
  | 62 => ⟨S4096x512, .f32⟩
  | 63 => ⟨S1x512, .f32⟩
  | 64 => ⟨S512, .f32⟩
  | 65 => ⟨S_, .f32⟩
  | 66 => ⟨S10x512, .f32⟩
  | 67 => ⟨S4086x512, .f32⟩
  | 68 => ⟨S4096x512, .f32⟩
  | 69 => ⟨S_, .f32⟩
  | 70 => ⟨S10x512, .f32⟩
  | 71 => ⟨S1x512, .f32⟩
  | 72 => ⟨S4096x512, .f32⟩
  | 73 => ⟨S4096x512, .f32⟩
  | 74 => ⟨S4096x512, .f32⟩
  | 75 => ⟨S1x512, .f32⟩
  | 76 => ⟨S512, .f32⟩
  | 77 => ⟨S_, .f32⟩
  | 78 => ⟨S11x512, .f32⟩
  | 79 => ⟨S4085x512, .f32⟩
  | 80 => ⟨S4096x512, .f32⟩
  | 81 => ⟨S_, .f32⟩
  | 82 => ⟨S11x512, .f32⟩
  | 83 => ⟨S1x512, .f32⟩
  | 84 => ⟨S4096x512, .f32⟩
  | 85 => ⟨S4096x512, .f32⟩
  | 86 => ⟨S4096x512, .f32⟩
  | 87 => ⟨S1x512, .f32⟩
  | 88 => ⟨S512, .f32⟩
  | 89 => ⟨S_, .f32⟩
  | 90 => ⟨S12x512, .f32⟩
  | 91 => ⟨S4084x512, .f32⟩
  | 92 => ⟨S4096x512, .f32⟩
  | 93 => ⟨S_, .f32⟩
  | 94 => ⟨S12x512, .f32⟩
  | 95 => ⟨S1x512, .f32⟩
  | 96 => ⟨S4096x512, .f32⟩
  | 97 => ⟨S4096x512, .f32⟩
  | 98 => ⟨S4096x512, .f32⟩
  | 99 => ⟨S1x512, .f32⟩
  | 100 => ⟨S512, .f32⟩
  | 101 => ⟨S_, .f32⟩
  | 102 => ⟨S13x512, .f32⟩
  | 103 => ⟨S4083x512, .f32⟩
  | 104 => ⟨S4096x512, .f32⟩
  | 105 => ⟨S_, .f32⟩
  | 106 => ⟨S13x512, .f32⟩
  | 107 => ⟨S1x512, .f32⟩
  | 108 => ⟨S4096x512, .f32⟩
  | 109 => ⟨S4096x512, .f32⟩
  | 110 => ⟨S4096x512, .f32⟩
  | 111 => ⟨S1x512, .f32⟩
  | 112 => ⟨S512, .f32⟩
  | 113 => ⟨S_, .f32⟩
  | 114 => ⟨S14x512, .f32⟩
  | 115 => ⟨S4082x512, .f32⟩
  | 116 => ⟨S4096x512, .f32⟩
  | 117 => ⟨S_, .f32⟩
  | 118 => ⟨S14x512, .f32⟩
  | 119 => ⟨S1x512, .f32⟩
  | 120 => ⟨S4096x512, .f32⟩
  | 121 => ⟨S4096x512, .f32⟩
  | 122 => ⟨S4096x512, .f32⟩
  | 123 => ⟨S1x512, .f32⟩
  | 124 => ⟨S512, .f32⟩
  | 125 => ⟨S_, .f32⟩
  | 126 => ⟨S15x512, .f32⟩
  | 127 => ⟨S4081x512, .f32⟩
  | _ => ⟨S4096x8192, .bf16⟩

abbrev hbmTy0_4 (i : Nat) : BufTy := match i % 128 with
  | 0 => ⟨S4096x512, .f32⟩
  | 1 => ⟨S_, .f32⟩
  | 2 => ⟨S15x512, .f32⟩
  | 3 => ⟨S1x512, .f32⟩
  | 4 => ⟨S4096x512, .f32⟩
  | 5 => ⟨S4096x512, .f32⟩
  | 6 => ⟨S4096x512, .f32⟩
  | 7 => ⟨S1x512, .f32⟩
  | 8 => ⟨S512, .f32⟩
  | 9 => ⟨S_, .f32⟩
  | 10 => ⟨S16x512, .f32⟩
  | 11 => ⟨S4080x512, .f32⟩
  | 12 => ⟨S4096x512, .f32⟩
  | 13 => ⟨S_, .f32⟩
  | 14 => ⟨S16x512, .f32⟩
  | 15 => ⟨S1x512, .f32⟩
  | 16 => ⟨S4096x512, .f32⟩
  | 17 => ⟨S4096x512, .f32⟩
  | 18 => ⟨S4096x512, .f32⟩
  | 19 => ⟨S1x512, .f32⟩
  | 20 => ⟨S512, .f32⟩
  | 21 => ⟨S_, .f32⟩
  | 22 => ⟨S17x512, .f32⟩
  | 23 => ⟨S4079x512, .f32⟩
  | 24 => ⟨S4096x512, .f32⟩
  | 25 => ⟨S_, .f32⟩
  | 26 => ⟨S17x512, .f32⟩
  | 27 => ⟨S1x512, .f32⟩
  | 28 => ⟨S4096x512, .f32⟩
  | 29 => ⟨S4096x512, .f32⟩
  | 30 => ⟨S4096x512, .f32⟩
  | 31 => ⟨S1x512, .f32⟩
  | 32 => ⟨S512, .f32⟩
  | 33 => ⟨S_, .f32⟩
  | 34 => ⟨S18x512, .f32⟩
  | 35 => ⟨S4078x512, .f32⟩
  | 36 => ⟨S4096x512, .f32⟩
  | 37 => ⟨S_, .f32⟩
  | 38 => ⟨S18x512, .f32⟩
  | 39 => ⟨S1x512, .f32⟩
  | 40 => ⟨S4096x512, .f32⟩
  | 41 => ⟨S4096x512, .f32⟩
  | 42 => ⟨S4096x512, .f32⟩
  | 43 => ⟨S1x512, .f32⟩
  | 44 => ⟨S512, .f32⟩
  | 45 => ⟨S_, .f32⟩
  | 46 => ⟨S19x512, .f32⟩
  | 47 => ⟨S4077x512, .f32⟩
  | 48 => ⟨S4096x512, .f32⟩
  | 49 => ⟨S_, .f32⟩
  | 50 => ⟨S19x512, .f32⟩
  | 51 => ⟨S1x512, .f32⟩
  | 52 => ⟨S4096x512, .f32⟩
  | 53 => ⟨S4096x512, .f32⟩
  | 54 => ⟨S4096x512, .f32⟩
  | 55 => ⟨S1x512, .f32⟩
  | 56 => ⟨S512, .f32⟩
  | 57 => ⟨S_, .f32⟩
  | 58 => ⟨S20x512, .f32⟩
  | 59 => ⟨S4076x512, .f32⟩
  | 60 => ⟨S4096x512, .f32⟩
  | 61 => ⟨S_, .f32⟩
  | 62 => ⟨S20x512, .f32⟩
  | 63 => ⟨S1x512, .f32⟩
  | 64 => ⟨S4096x512, .f32⟩
  | 65 => ⟨S4096x512, .f32⟩
  | 66 => ⟨S4096x512, .f32⟩
  | 67 => ⟨S1x512, .f32⟩
  | 68 => ⟨S512, .f32⟩
  | 69 => ⟨S_, .f32⟩
  | 70 => ⟨S21x512, .f32⟩
  | 71 => ⟨S4075x512, .f32⟩
  | 72 => ⟨S4096x512, .f32⟩
  | 73 => ⟨S_, .f32⟩
  | 74 => ⟨S21x512, .f32⟩
  | 75 => ⟨S1x512, .f32⟩
  | 76 => ⟨S4096x512, .f32⟩
  | 77 => ⟨S4096x512, .f32⟩
  | 78 => ⟨S4096x512, .f32⟩
  | 79 => ⟨S1x512, .f32⟩
  | 80 => ⟨S512, .f32⟩
  | 81 => ⟨S_, .f32⟩
  | 82 => ⟨S22x512, .f32⟩
  | 83 => ⟨S4074x512, .f32⟩
  | 84 => ⟨S4096x512, .f32⟩
  | 85 => ⟨S_, .f32⟩
  | 86 => ⟨S22x512, .f32⟩
  | 87 => ⟨S1x512, .f32⟩
  | 88 => ⟨S4096x512, .f32⟩
  | 89 => ⟨S4096x512, .f32⟩
  | 90 => ⟨S4096x512, .f32⟩
  | 91 => ⟨S1x512, .f32⟩
  | 92 => ⟨S512, .f32⟩
  | 93 => ⟨S_, .f32⟩
  | 94 => ⟨S23x512, .f32⟩
  | 95 => ⟨S4073x512, .f32⟩
  | 96 => ⟨S4096x512, .f32⟩
  | 97 => ⟨S_, .f32⟩
  | 98 => ⟨S23x512, .f32⟩
  | 99 => ⟨S1x512, .f32⟩
  | 100 => ⟨S4096x512, .f32⟩
  | 101 => ⟨S4096x512, .f32⟩
  | 102 => ⟨S4096x512, .f32⟩
  | 103 => ⟨S1x512, .f32⟩
  | 104 => ⟨S512, .f32⟩
  | 105 => ⟨S_, .f32⟩
  | 106 => ⟨S24x512, .f32⟩
  | 107 => ⟨S4072x512, .f32⟩
  | 108 => ⟨S4096x512, .f32⟩
  | 109 => ⟨S_, .f32⟩
  | 110 => ⟨S24x512, .f32⟩
  | 111 => ⟨S1x512, .f32⟩
  | 112 => ⟨S4096x512, .f32⟩
  | 113 => ⟨S4096x512, .f32⟩
  | 114 => ⟨S4096x512, .f32⟩
  | 115 => ⟨S1x512, .f32⟩
  | 116 => ⟨S512, .f32⟩
  | 117 => ⟨S_, .f32⟩
  | 118 => ⟨S25x512, .f32⟩
  | 119 => ⟨S4071x512, .f32⟩
  | 120 => ⟨S4096x512, .f32⟩
  | 121 => ⟨S_, .f32⟩
  | 122 => ⟨S25x512, .f32⟩
  | 123 => ⟨S1x512, .f32⟩
  | 124 => ⟨S4096x512, .f32⟩
  | 125 => ⟨S4096x512, .f32⟩
  | 126 => ⟨S4096x512, .f32⟩
  | 127 => ⟨S1x512, .f32⟩
  | _ => ⟨S4096x8192, .bf16⟩

abbrev hbmTy0_5 (i : Nat) : BufTy := match i % 128 with
  | 0 => ⟨S512, .f32⟩
  | 1 => ⟨S_, .f32⟩
  | 2 => ⟨S26x512, .f32⟩
  | 3 => ⟨S4070x512, .f32⟩
  | 4 => ⟨S4096x512, .f32⟩
  | 5 => ⟨S_, .f32⟩
  | 6 => ⟨S26x512, .f32⟩
  | 7 => ⟨S1x512, .f32⟩
  | 8 => ⟨S4096x512, .f32⟩
  | 9 => ⟨S4096x512, .f32⟩
  | 10 => ⟨S4096x512, .f32⟩
  | 11 => ⟨S1x512, .f32⟩
  | 12 => ⟨S512, .f32⟩
  | 13 => ⟨S_, .f32⟩
  | 14 => ⟨S27x512, .f32⟩
  | 15 => ⟨S4069x512, .f32⟩
  | 16 => ⟨S4096x512, .f32⟩
  | 17 => ⟨S_, .f32⟩
  | 18 => ⟨S27x512, .f32⟩
  | 19 => ⟨S1x512, .f32⟩
  | 20 => ⟨S4096x512, .f32⟩
  | 21 => ⟨S4096x512, .f32⟩
  | 22 => ⟨S4096x512, .f32⟩
  | 23 => ⟨S1x512, .f32⟩
  | 24 => ⟨S512, .f32⟩
  | 25 => ⟨S_, .f32⟩
  | 26 => ⟨S28x512, .f32⟩
  | 27 => ⟨S4068x512, .f32⟩
  | 28 => ⟨S4096x512, .f32⟩
  | 29 => ⟨S_, .f32⟩
  | 30 => ⟨S28x512, .f32⟩
  | 31 => ⟨S1x512, .f32⟩
  | 32 => ⟨S4096x512, .f32⟩
  | 33 => ⟨S4096x512, .f32⟩
  | 34 => ⟨S4096x512, .f32⟩
  | 35 => ⟨S1x512, .f32⟩
  | 36 => ⟨S512, .f32⟩
  | 37 => ⟨S_, .f32⟩
  | 38 => ⟨S29x512, .f32⟩
  | 39 => ⟨S4067x512, .f32⟩
  | 40 => ⟨S4096x512, .f32⟩
  | 41 => ⟨S_, .f32⟩
  | 42 => ⟨S29x512, .f32⟩
  | 43 => ⟨S1x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S_, .f32⟩
  | 50 => ⟨S30x512, .f32⟩
  | 51 => ⟨S4066x512, .f32⟩
  | 52 => ⟨S4096x512, .f32⟩
  | 53 => ⟨S_, .f32⟩
  | 54 => ⟨S30x512, .f32⟩
  | 55 => ⟨S1x512, .f32⟩
  | 56 => ⟨S4096x512, .f32⟩
  | 57 => ⟨S4096x512, .f32⟩
  | 58 => ⟨S4096x512, .f32⟩
  | 59 => ⟨S_, .f32⟩
  | 60 => ⟨S4096, .f32⟩
  | 61 => ⟨S4096x1, .f32⟩
  | 62 => ⟨S_, .f32⟩
  | 63 => ⟨S4096x1, .f32⟩
  | 64 => ⟨S4096x1, .f32⟩
  | 65 => ⟨S4096x512, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S_, .f32⟩
  | 72 => ⟨S4096, .f32⟩
  | 73 => ⟨S4096x1, .f32⟩
  | 74 => ⟨S_, .f32⟩
  | 75 => ⟨S4096x1, .f32⟩
  | 76 => ⟨S4096x1, .f32⟩
  | 77 => ⟨S4096x512, .f32⟩
  | 78 => ⟨S4096x512, .f32⟩
  | 79 => ⟨S_, .f32⟩
  | 80 => ⟨S4096x1, .f32⟩
  | 81 => ⟨S4096x1, .f32⟩
  | 82 => ⟨S4096x1, .f32⟩
  | 83 => ⟨S4096x1, .f32⟩
  | 84 => ⟨S_, .f32⟩
  | 85 => ⟨S4096x1, .f32⟩
  | 86 => ⟨S4096x1, .f32⟩
  | 87 => ⟨S4096x512, .f32⟩
  | 88 => ⟨S4096x512, .f32⟩
  | 89 => ⟨S1x512, .f32⟩
  | 90 => ⟨S4096x512, .f32⟩
  | 91 => ⟨S4096x512, .f32⟩
  | 92 => ⟨S1x512, .f32⟩
  | 93 => ⟨S4096x512, .f32⟩
  | 94 => ⟨S4096x512, .f32⟩
  | 95 => ⟨S4096x512, .f32⟩
  | 96 => ⟨S4096x512, .f32⟩
  | 97 => ⟨S_, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S_, .f32⟩
  | 104 => ⟨S4096x512, .f32⟩
  | 105 => ⟨S4096x512, .f32⟩
  | 106 => ⟨S4096x512, .f32⟩
  | 107 => ⟨S4096x512, .f32⟩
  | 108 => ⟨S4096x1024, .f32⟩
  | 109 => ⟨S4096x512, .f32⟩
  | 110 => ⟨S4096x512, .f32⟩
  | 111 => ⟨S4096x512, .f32⟩
  | 112 => ⟨S4096x512, .f32⟩
  | 113 => ⟨S_, .f32⟩
  | 114 => ⟨S4096x512, .f32⟩
  | 115 => ⟨S4096x512, .f32⟩
  | 116 => ⟨S_, .f32⟩
  | 117 => ⟨S4096x512, .f32⟩
  | 118 => ⟨S4096x512, .f32⟩
  | 119 => ⟨S4096x512, .f32⟩
  | 120 => ⟨S_, .f32⟩
  | 121 => ⟨S4096x512, .f32⟩
  | 122 => ⟨S4096x512, .f32⟩
  | 123 => ⟨S4096x512, .f32⟩
  | 124 => ⟨S_, .f32⟩
  | 125 => ⟨S4096x512, .f32⟩
  | 126 => ⟨S4096x512, .f32⟩
  | 127 => ⟨S_, .f32⟩
  | _ => ⟨S4096x8192, .bf16⟩

abbrev hbmTy0_6 (i : Nat) : BufTy := match i % 128 with
  | 0 => ⟨S4096x512, .f32⟩
  | 1 => ⟨S4096x512, .f32⟩
  | 2 => ⟨S4096x512, .f32⟩
  | 3 => ⟨S_, .f32⟩
  | 4 => ⟨S4096x512, .f32⟩
  | 5 => ⟨S4096x512, .f32⟩
  | 6 => ⟨S_, .f32⟩
  | 7 => ⟨S4096x512, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S_, .f32⟩
  | 15 => ⟨S4096x512, .f32⟩
  | 16 => ⟨S4096x512, .f32⟩
  | 17 => ⟨S_, .f32⟩
  | 18 => ⟨S4096x512, .f32⟩
  | 19 => ⟨S4096x512, .f32⟩
  | 20 => ⟨S4096x512, .f32⟩
  | 21 => ⟨S_, .f32⟩
  | 22 => ⟨S4096x512, .f32⟩
  | 23 => ⟨S4096x512, .f32⟩
  | 24 => ⟨S4096x512, .f32⟩
  | 25 => ⟨S_, .f32⟩
  | 26 => ⟨S4096x512, .f32⟩
  | 27 => ⟨S4096x512, .f32⟩
  | 28 => ⟨S_, .f32⟩
  | 29 => ⟨S4096x512, .f32⟩
  | 30 => ⟨S4096x512, .f32⟩
  | 31 => ⟨S4096x512, .f32⟩
  | 32 => ⟨S_, .f32⟩
  | 33 => ⟨S4096x512, .f32⟩
  | 34 => ⟨S4096x512, .f32⟩
  | 35 => ⟨S_, .f32⟩
  | 36 => ⟨S4096x512, .f32⟩
  | 37 => ⟨S4096x512, .f32⟩
  | 38 => ⟨S4096x512, .f32⟩
  | 39 => ⟨S_, .f32⟩
  | 40 => ⟨S4096, .f32⟩
  | 41 => ⟨S4096x1, .f32⟩
  | 42 => ⟨S_, .f32⟩
  | 43 => ⟨S4096x1, .f32⟩
  | 44 => ⟨S4096x1, .f32⟩
  | 45 => ⟨S4096x512, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S_, .f32⟩
  | 52 => ⟨S4096, .f32⟩
  | 53 => ⟨S4096x1, .f32⟩
  | 54 => ⟨S_, .f32⟩
  | 55 => ⟨S4096x1, .f32⟩
  | 56 => ⟨S4096x1, .f32⟩
  | 57 => ⟨S4096x512, .f32⟩
  | 58 => ⟨S4096x512, .f32⟩
  | 59 => ⟨S_, .f32⟩
  | 60 => ⟨S4096x1, .f32⟩
  | 61 => ⟨S4096x1, .f32⟩
  | 62 => ⟨S4096x1, .f32⟩
  | 63 => ⟨S4096x1, .f32⟩
  | 64 => ⟨S_, .f32⟩
  | 65 => ⟨S4096x1, .f32⟩
  | 66 => ⟨S4096x1, .f32⟩
  | 67 => ⟨S4096x512, .f32⟩
  | 68 => ⟨S4096x512, .f32⟩
  | 69 => ⟨S1x512, .f32⟩
  | 70 => ⟨S4096x512, .f32⟩
  | 71 => ⟨S4096x512, .f32⟩
  | 72 => ⟨S1x512, .f32⟩
  | 73 => ⟨S4096x512, .f32⟩
  | 74 => ⟨S4096x512, .f32⟩
  | 75 => ⟨S32x128x4x128, .f32⟩
  | 76 => ⟨S128, .i32⟩
  | 77 => ⟨S1x128, .i32⟩
  | 78 => ⟨S_, .i32⟩
  | 79 => ⟨S_, .i32⟩
  | 80 => ⟨S1x128, .i32⟩
  | 81 => ⟨S1x128, .i32⟩
  | 82 => ⟨S1x128, .i32⟩
  | 83 => ⟨S_, .i32⟩
  | 84 => ⟨S1x128, .i32⟩
  | 85 => ⟨S1x128, .i1⟩
  | 86 => ⟨S1x128, .i32⟩
  | 87 => ⟨S1x128, .i32⟩
  | 88 => ⟨S_, .i32⟩
  | 89 => ⟨S1x128, .i32⟩
  | 90 => ⟨S1x128, .i1⟩
  | 91 => ⟨S1x128, .i1⟩
  | 92 => ⟨S_, .i32⟩
  | 93 => ⟨S1x128, .i32⟩
  | 94 => ⟨S1x128, .i32⟩
  | 95 => ⟨S1x128, .i32⟩
  | 96 => ⟨S128x1, .i32⟩
  | 97 => ⟨S_, .i32⟩
  | 98 => ⟨S_, .i32⟩
  | 99 => ⟨S128x1, .i32⟩
  | 100 => ⟨S128x1, .i32⟩
  | 101 => ⟨S128x1, .i32⟩
  | 102 => ⟨S_, .i32⟩
  | 103 => ⟨S128x1, .i32⟩
  | 104 => ⟨S128x1, .i1⟩
  | 105 => ⟨S128x1, .i32⟩
  | 106 => ⟨S128x1, .i32⟩
  | 107 => ⟨S_, .i32⟩
  | 108 => ⟨S128x1, .i32⟩
  | 109 => ⟨S128x1, .i1⟩
  | 110 => ⟨S128x1, .i1⟩
  | 111 => ⟨S_, .i32⟩
  | 112 => ⟨S128x1, .i32⟩
  | 113 => ⟨S128x1, .i32⟩
  | 114 => ⟨S128x1, .i32⟩
  | 115 => ⟨S128x128, .i32⟩
  | 116 => ⟨S128x128, .i32⟩
  | 117 => ⟨S128x128, .i1⟩
  | 118 => ⟨S1x128x128, .i1⟩
  | 119 => ⟨S_, .f32⟩
  | 120 => ⟨S_, .f32⟩
  | 121 => ⟨S4x128x128, .i1⟩
  | 122 => ⟨S4x128x128, .f32⟩
  | 123 => ⟨S4x128x128, .f32⟩
  | 124 => ⟨S_, .f32⟩
  | 125 => ⟨S4x128x128, .f32⟩
  | 126 => ⟨S4x32x128x128, .f32⟩
  | 127 => ⟨S32x128x4x128, .f32⟩
  | _ => ⟨S4096x8192, .bf16⟩

abbrev hbmTy0_7 (i : Nat) : BufTy := match i % 128 with
  | 0 => ⟨S128x4x128, .f32⟩
  | 1 => ⟨S1x128x4x128, .f32⟩
  | 2 => ⟨S32x128x4x128, .f32⟩
  | 3 => ⟨S32x128x4x128, .f32⟩
  | 4 => ⟨S4096x512, .f32⟩
  | 5 => ⟨S4096x512, .f32⟩
  | 6 => ⟨S4096x2048, .f32⟩
  | 7 => ⟨S4096x2048, .f32⟩
  | 8 => ⟨S4096x512, .f32⟩
  | 9 => ⟨S4096x512, .f32⟩
  | 10 => ⟨S4096x512, .f32⟩
  | 11 => ⟨S4096x512, .f32⟩
  | 12 => ⟨S4096x512, .f32⟩
  | 13 => ⟨S4096x512, .f32⟩
  | 14 => ⟨S32x128x4x128, .f32⟩
  | 15 => ⟨S_, .f32⟩
  | 16 => ⟨S128x4x128, .f32⟩
  | 17 => ⟨S1x128x4x128, .f32⟩
  | 18 => ⟨S_, .f32⟩
  | 19 => ⟨S128x4x128, .f32⟩
  | 20 => ⟨S4x128x128, .f32⟩
  | 21 => ⟨S4x32x128x128, .f32⟩
  | 22 => ⟨S4x128x128, .f32⟩
  | 23 => ⟨S4x32x128x128, .f32⟩
  | 24 => ⟨S32x128x4x128, .f32⟩
  | 25 => ⟨S_, .f32⟩
  | 26 => ⟨S4x128x128, .f32⟩
  | 27 => ⟨S4x128x128, .f32⟩
  | 28 => ⟨S4096x512, .f32⟩
  | 29 => ⟨S_, .f32⟩
  | 30 => ⟨S512, .f32⟩
  | 31 => ⟨S1x512, .f32⟩
  | 32 => ⟨S_, .f32⟩
  | 33 => ⟨S512, .f32⟩
  | 34 => ⟨S4096x512, .f32⟩
  | 35 => ⟨S_, .f32⟩
  | 36 => ⟨S512, .f32⟩
  | 37 => ⟨S1x512, .f32⟩
  | 38 => ⟨S4096x512, .f32⟩
  | 39 => ⟨S4096x512, .f32⟩
  | 40 => ⟨S_, .f32⟩
  | 41 => ⟨S512, .f32⟩
  | 42 => ⟨S4096x512, .f32⟩
  | 43 => ⟨S_, .f32⟩
  | 44 => ⟨S4096, .f32⟩
  | 45 => ⟨S4096x1, .f32⟩
  | 46 => ⟨S4096x512, .f32⟩
  | 47 => ⟨S4096x512, .f32⟩
  | 48 => ⟨S4096x1, .f32⟩
  | 49 => ⟨S4096x512, .f32⟩
  | 50 => ⟨S_, .f32⟩
  | 51 => ⟨S4096, .f32⟩
  | 52 => ⟨S4096x1, .f32⟩
  | 53 => ⟨S_, .f32⟩
  | 54 => ⟨S4096x1, .f32⟩
  | 55 => ⟨S4096x1, .f32⟩
  | 56 => ⟨S_, .f32⟩
  | 57 => ⟨S4096, .f32⟩
  | 58 => ⟨S4096x512, .f32⟩
  | 59 => ⟨S4096x512, .f32⟩
  | 60 => ⟨S4096x512, .f32⟩
  | 61 => ⟨S_, .f32⟩
  | 62 => ⟨S4096, .f32⟩
  | 63 => ⟨S4096x1, .f32⟩
  | 64 => ⟨S4096x512, .f32⟩
  | 65 => ⟨S4096x1, .f32⟩
  | 66 => ⟨S_, .f32⟩
  | 67 => ⟨S4096x1, .f32⟩
  | 68 => ⟨S4096x1, .f32⟩
  | 69 => ⟨S_, .f32⟩
  | 70 => ⟨S4096, .f32⟩
  | 71 => ⟨S4096x512, .f32⟩
  | 72 => ⟨S4096x512, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S4096x512, .f32⟩
  | 83 => ⟨S_, .f32⟩
  | 84 => ⟨S4096x512, .f32⟩
  | 85 => ⟨S4096x512, .f32⟩
  | 86 => ⟨S4096x512, .f32⟩
  | 87 => ⟨S4096x512, .f32⟩
  | 88 => ⟨S_, .f32⟩
  | 89 => ⟨S4096x1024, .f32⟩
  | 90 => ⟨S4096x512, .f32⟩
  | 91 => ⟨S4096x512, .f32⟩
  | 92 => ⟨S_, .f32⟩
  | 93 => ⟨S4096x512, .f32⟩
  | 94 => ⟨S4096x512, .f32⟩
  | 95 => ⟨S4096x512, .f32⟩
  | 96 => ⟨S_, .f32⟩
  | 97 => ⟨S4096x512, .f32⟩
  | 98 => ⟨S4096x512, .f32⟩
  | 99 => ⟨S4096x512, .f32⟩
  | 100 => ⟨S_, .f32⟩
  | 101 => ⟨S4096x512, .f32⟩
  | 102 => ⟨S4096x512, .f32⟩
  | 103 => ⟨S4096x512, .f32⟩
  | 104 => ⟨S4096x512, .f32⟩
  | 105 => ⟨S_, .f32⟩
  | 106 => ⟨S4096x1024, .f32⟩
  | 107 => ⟨S4096x1024, .f32⟩
  | 108 => ⟨S_, .f32⟩
  | 109 => ⟨S4096x4096, .f32⟩
  | 110 => ⟨S4096x512, .f32⟩
  | 111 => ⟨S4096x512, .f32⟩
  | 112 => ⟨S4096x512, .f32⟩
  | 113 => ⟨S4096x512, .f32⟩
  | 114 => ⟨S_, .f32⟩
  | 115 => ⟨S512, .f32⟩
  | 116 => ⟨S1x512, .f32⟩
  | 117 => ⟨S_, .f32⟩
  | 118 => ⟨S512, .f32⟩
  | 119 => ⟨S4096x512, .f32⟩
  | 120 => ⟨S_, .f32⟩
  | 121 => ⟨S512, .f32⟩
  | 122 => ⟨S1x512, .f32⟩
  | 123 => ⟨S4096x512, .f32⟩
  | 124 => ⟨S4096x512, .f32⟩
  | 125 => ⟨S_, .f32⟩
  | 126 => ⟨S512, .f32⟩
  | 127 => ⟨S4096x512, .f32⟩
  | _ => ⟨S4096x8192, .bf16⟩

abbrev hbmTy0_8 (i : Nat) : BufTy := match i % 128 with
  | 0 => ⟨S_, .f32⟩
  | 1 => ⟨S4096, .f32⟩
  | 2 => ⟨S4096x1, .f32⟩
  | 3 => ⟨S4096x512, .f32⟩
  | 4 => ⟨S4096x512, .f32⟩
  | 5 => ⟨S4096x1, .f32⟩
  | 6 => ⟨S4096x512, .f32⟩
  | 7 => ⟨S_, .f32⟩
  | 8 => ⟨S4096, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096, .f32⟩
  | 15 => ⟨S4096x512, .f32⟩
  | 16 => ⟨S4096x512, .f32⟩
  | 17 => ⟨S4096x512, .f32⟩
  | 18 => ⟨S_, .f32⟩
  | 19 => ⟨S4096, .f32⟩
  | 20 => ⟨S4096x1, .f32⟩
  | 21 => ⟨S4096x512, .f32⟩
  | 22 => ⟨S4096x1, .f32⟩
  | 23 => ⟨S_, .f32⟩
  | 24 => ⟨S4096x1, .f32⟩
  | 25 => ⟨S4096x1, .f32⟩
  | 26 => ⟨S_, .f32⟩
  | 27 => ⟨S4096, .f32⟩
  | 28 => ⟨S4096x512, .f32⟩
  | 29 => ⟨S4096x512, .f32⟩
  | 30 => ⟨S4096x512, .f32⟩
  | 31 => ⟨S4096x512, .f32⟩
  | 32 => ⟨S4096x512, .f32⟩
  | 33 => ⟨S_, .f32⟩
  | 34 => ⟨S512, .f32⟩
  | 35 => ⟨S1x512, .f32⟩
  | 36 => ⟨S_, .f32⟩
  | 37 => ⟨S512, .f32⟩
  | 38 => ⟨S30x512, .f32⟩
  | 39 => ⟨S4066x512, .f32⟩
  | 40 => ⟨S_, .f32⟩
  | 41 => ⟨S4096x512, .f32⟩
  | 42 => ⟨S1x512, .f32⟩
  | 43 => ⟨S_, .f32⟩
  | 44 => ⟨S31x512, .f32⟩
  | 45 => ⟨S4096x512, .f32⟩
  | 46 => ⟨S4096x512, .f32⟩
  | 47 => ⟨S4096x512, .f32⟩
  | 48 => ⟨S_, .f32⟩
  | 49 => ⟨S512, .f32⟩
  | 50 => ⟨S1x512, .f32⟩
  | 51 => ⟨S_, .f32⟩
  | 52 => ⟨S512, .f32⟩
  | 53 => ⟨S29x512, .f32⟩
  | 54 => ⟨S4067x512, .f32⟩
  | 55 => ⟨S_, .f32⟩
  | 56 => ⟨S4096x512, .f32⟩
  | 57 => ⟨S4096x512, .f32⟩
  | 58 => ⟨S1x512, .f32⟩
  | 59 => ⟨S_, .f32⟩
  | 60 => ⟨S31x512, .f32⟩
  | 61 => ⟨S31x512, .f32⟩
  | 62 => ⟨S4096x512, .f32⟩
  | 63 => ⟨S4096x512, .f32⟩
  | 64 => ⟨S4096x512, .f32⟩
  | 65 => ⟨S_, .f32⟩
  | 66 => ⟨S512, .f32⟩
  | 67 => ⟨S1x512, .f32⟩
  | 68 => ⟨S_, .f32⟩
  | 69 => ⟨S512, .f32⟩
  | 70 => ⟨S28x512, .f32⟩
  | 71 => ⟨S4068x512, .f32⟩
  | 72 => ⟨S_, .f32⟩
  | 73 => ⟨S4096x512, .f32⟩
  | 74 => ⟨S4096x512, .f32⟩
  | 75 => ⟨S1x512, .f32⟩
  | 76 => ⟨S_, .f32⟩
  | 77 => ⟨S31x512, .f32⟩
  | 78 => ⟨S31x512, .f32⟩
  | 79 => ⟨S4096x512, .f32⟩
  | 80 => ⟨S4096x512, .f32⟩
  | 81 => ⟨S4096x512, .f32⟩
  | 82 => ⟨S_, .f32⟩
  | 83 => ⟨S512, .f32⟩
  | 84 => ⟨S1x512, .f32⟩
  | 85 => ⟨S_, .f32⟩
  | 86 => ⟨S512, .f32⟩
  | 87 => ⟨S27x512, .f32⟩
  | 88 => ⟨S4069x512, .f32⟩
  | 89 => ⟨S_, .f32⟩
  | 90 => ⟨S4096x512, .f32⟩
  | 91 => ⟨S4096x512, .f32⟩
  | 92 => ⟨S1x512, .f32⟩
  | 93 => ⟨S_, .f32⟩
  | 94 => ⟨S31x512, .f32⟩
  | 95 => ⟨S31x512, .f32⟩
  | 96 => ⟨S4096x512, .f32⟩
  | 97 => ⟨S4096x512, .f32⟩
  | 98 => ⟨S4096x512, .f32⟩
  | 99 => ⟨S_, .f32⟩
  | 100 => ⟨S512, .f32⟩
  | 101 => ⟨S1x512, .f32⟩
  | 102 => ⟨S_, .f32⟩
  | 103 => ⟨S512, .f32⟩
  | 104 => ⟨S26x512, .f32⟩
  | 105 => ⟨S4070x512, .f32⟩
  | 106 => ⟨S_, .f32⟩
  | 107 => ⟨S4096x512, .f32⟩
  | 108 => ⟨S4096x512, .f32⟩
  | 109 => ⟨S1x512, .f32⟩
  | 110 => ⟨S_, .f32⟩
  | 111 => ⟨S31x512, .f32⟩
  | 112 => ⟨S31x512, .f32⟩
  | 113 => ⟨S4096x512, .f32⟩
  | 114 => ⟨S4096x512, .f32⟩
  | 115 => ⟨S4096x512, .f32⟩
  | 116 => ⟨S_, .f32⟩
  | 117 => ⟨S512, .f32⟩
  | 118 => ⟨S1x512, .f32⟩
  | 119 => ⟨S_, .f32⟩
  | 120 => ⟨S512, .f32⟩
  | 121 => ⟨S25x512, .f32⟩
  | 122 => ⟨S4071x512, .f32⟩
  | 123 => ⟨S_, .f32⟩
  | 124 => ⟨S4096x512, .f32⟩
  | 125 => ⟨S4096x512, .f32⟩
  | 126 => ⟨S1x512, .f32⟩
  | 127 => ⟨S_, .f32⟩
  | _ => ⟨S4096x8192, .bf16⟩

abbrev hbmTy0_9 (i : Nat) : BufTy := match i % 128 with
  | 0 => ⟨S31x512, .f32⟩
  | 1 => ⟨S31x512, .f32⟩
  | 2 => ⟨S4096x512, .f32⟩
  | 3 => ⟨S4096x512, .f32⟩
  | 4 => ⟨S4096x512, .f32⟩
  | 5 => ⟨S_, .f32⟩
  | 6 => ⟨S512, .f32⟩
  | 7 => ⟨S1x512, .f32⟩
  | 8 => ⟨S_, .f32⟩
  | 9 => ⟨S512, .f32⟩
  | 10 => ⟨S24x512, .f32⟩
  | 11 => ⟨S4072x512, .f32⟩
  | 12 => ⟨S_, .f32⟩
  | 13 => ⟨S4096x512, .f32⟩
  | 14 => ⟨S4096x512, .f32⟩
  | 15 => ⟨S1x512, .f32⟩
  | 16 => ⟨S_, .f32⟩
  | 17 => ⟨S31x512, .f32⟩
  | 18 => ⟨S31x512, .f32⟩
  | 19 => ⟨S4096x512, .f32⟩
  | 20 => ⟨S4096x512, .f32⟩
  | 21 => ⟨S4096x512, .f32⟩
  | 22 => ⟨S_, .f32⟩
  | 23 => ⟨S512, .f32⟩
  | 24 => ⟨S1x512, .f32⟩
  | 25 => ⟨S_, .f32⟩
  | 26 => ⟨S512, .f32⟩
  | 27 => ⟨S23x512, .f32⟩
  | 28 => ⟨S4073x512, .f32⟩
  | 29 => ⟨S_, .f32⟩
  | 30 => ⟨S4096x512, .f32⟩
  | 31 => ⟨S4096x512, .f32⟩
  | 32 => ⟨S1x512, .f32⟩
  | 33 => ⟨S_, .f32⟩
  | 34 => ⟨S31x512, .f32⟩
  | 35 => ⟨S31x512, .f32⟩
  | 36 => ⟨S4096x512, .f32⟩
  | 37 => ⟨S4096x512, .f32⟩
  | 38 => ⟨S4096x512, .f32⟩
  | 39 => ⟨S_, .f32⟩
  | 40 => ⟨S512, .f32⟩
  | 41 => ⟨S1x512, .f32⟩
  | 42 => ⟨S_, .f32⟩
  | 43 => ⟨S512, .f32⟩
  | 44 => ⟨S22x512, .f32⟩
  | 45 => ⟨S4074x512, .f32⟩
  | 46 => ⟨S_, .f32⟩
  | 47 => ⟨S4096x512, .f32⟩
  | 48 => ⟨S4096x512, .f32⟩
  | 49 => ⟨S1x512, .f32⟩
  | 50 => ⟨S_, .f32⟩
  | 51 => ⟨S31x512, .f32⟩
  | 52 => ⟨S31x512, .f32⟩
  | 53 => ⟨S4096x512, .f32⟩
  | 54 => ⟨S4096x512, .f32⟩
  | 55 => ⟨S4096x512, .f32⟩
  | 56 => ⟨S_, .f32⟩
  | 57 => ⟨S512, .f32⟩
  | 58 => ⟨S1x512, .f32⟩
  | 59 => ⟨S_, .f32⟩
  | 60 => ⟨S512, .f32⟩
  | 61 => ⟨S21x512, .f32⟩
  | 62 => ⟨S4075x512, .f32⟩
  | 63 => ⟨S_, .f32⟩
  | 64 => ⟨S4096x512, .f32⟩
  | 65 => ⟨S4096x512, .f32⟩
  | 66 => ⟨S1x512, .f32⟩
  | 67 => ⟨S_, .f32⟩
  | 68 => ⟨S31x512, .f32⟩
  | 69 => ⟨S31x512, .f32⟩
  | 70 => ⟨S4096x512, .f32⟩
  | 71 => ⟨S4096x512, .f32⟩
  | 72 => ⟨S4096x512, .f32⟩
  | 73 => ⟨S_, .f32⟩
  | 74 => ⟨S512, .f32⟩
  | 75 => ⟨S1x512, .f32⟩
  | 76 => ⟨S_, .f32⟩
  | 77 => ⟨S512, .f32⟩
  | 78 => ⟨S20x512, .f32⟩
  | 79 => ⟨S4076x512, .f32⟩
  | 80 => ⟨S_, .f32⟩
  | 81 => ⟨S4096x512, .f32⟩
  | 82 => ⟨S4096x512, .f32⟩
  | 83 => ⟨S1x512, .f32⟩
  | 84 => ⟨S_, .f32⟩
  | 85 => ⟨S31x512, .f32⟩
  | 86 => ⟨S31x512, .f32⟩
  | 87 => ⟨S4096x512, .f32⟩
  | 88 => ⟨S4096x512, .f32⟩
  | 89 => ⟨S4096x512, .f32⟩
  | 90 => ⟨S_, .f32⟩
  | 91 => ⟨S512, .f32⟩
  | 92 => ⟨S1x512, .f32⟩
  | 93 => ⟨S_, .f32⟩
  | 94 => ⟨S512, .f32⟩
  | 95 => ⟨S19x512, .f32⟩
  | 96 => ⟨S4077x512, .f32⟩
  | 97 => ⟨S_, .f32⟩
  | 98 => ⟨S4096x512, .f32⟩
  | 99 => ⟨S4096x512, .f32⟩
  | 100 => ⟨S1x512, .f32⟩
  | 101 => ⟨S_, .f32⟩
  | 102 => ⟨S31x512, .f32⟩
  | 103 => ⟨S31x512, .f32⟩
  | 104 => ⟨S4096x512, .f32⟩
  | 105 => ⟨S4096x512, .f32⟩
  | 106 => ⟨S4096x512, .f32⟩
  | 107 => ⟨S_, .f32⟩
  | 108 => ⟨S512, .f32⟩
  | 109 => ⟨S1x512, .f32⟩
  | 110 => ⟨S_, .f32⟩
  | 111 => ⟨S512, .f32⟩
  | 112 => ⟨S18x512, .f32⟩
  | 113 => ⟨S4078x512, .f32⟩
  | 114 => ⟨S_, .f32⟩
  | 115 => ⟨S4096x512, .f32⟩
  | 116 => ⟨S4096x512, .f32⟩
  | 117 => ⟨S1x512, .f32⟩
  | 118 => ⟨S_, .f32⟩
  | 119 => ⟨S31x512, .f32⟩
  | 120 => ⟨S31x512, .f32⟩
  | 121 => ⟨S4096x512, .f32⟩
  | 122 => ⟨S4096x512, .f32⟩
  | 123 => ⟨S4096x512, .f32⟩
  | 124 => ⟨S_, .f32⟩
  | 125 => ⟨S512, .f32⟩
  | 126 => ⟨S1x512, .f32⟩
  | 127 => ⟨S_, .f32⟩
  | _ => ⟨S4096x8192, .bf16⟩

abbrev hbmTy0_10 (i : Nat) : BufTy := match i % 128 with
  | 0 => ⟨S512, .f32⟩
  | 1 => ⟨S17x512, .f32⟩
  | 2 => ⟨S4079x512, .f32⟩
  | 3 => ⟨S_, .f32⟩
  | 4 => ⟨S4096x512, .f32⟩
  | 5 => ⟨S4096x512, .f32⟩
  | 6 => ⟨S1x512, .f32⟩
  | 7 => ⟨S_, .f32⟩
  | 8 => ⟨S31x512, .f32⟩
  | 9 => ⟨S31x512, .f32⟩
  | 10 => ⟨S4096x512, .f32⟩
  | 11 => ⟨S4096x512, .f32⟩
  | 12 => ⟨S4096x512, .f32⟩
  | 13 => ⟨S_, .f32⟩
  | 14 => ⟨S512, .f32⟩
  | 15 => ⟨S1x512, .f32⟩
  | 16 => ⟨S_, .f32⟩
  | 17 => ⟨S512, .f32⟩
  | 18 => ⟨S16x512, .f32⟩
  | 19 => ⟨S4080x512, .f32⟩
  | 20 => ⟨S_, .f32⟩
  | 21 => ⟨S4096x512, .f32⟩
  | 22 => ⟨S4096x512, .f32⟩
  | 23 => ⟨S1x512, .f32⟩
  | 24 => ⟨S_, .f32⟩
  | 25 => ⟨S31x512, .f32⟩
  | 26 => ⟨S31x512, .f32⟩
  | 27 => ⟨S4096x512, .f32⟩
  | 28 => ⟨S4096x512, .f32⟩
  | 29 => ⟨S4096x512, .f32⟩
  | 30 => ⟨S_, .f32⟩
  | 31 => ⟨S512, .f32⟩
  | 32 => ⟨S1x512, .f32⟩
  | 33 => ⟨S_, .f32⟩
  | 34 => ⟨S512, .f32⟩
  | 35 => ⟨S15x512, .f32⟩
  | 36 => ⟨S4081x512, .f32⟩
  | 37 => ⟨S_, .f32⟩
  | 38 => ⟨S4096x512, .f32⟩
  | 39 => ⟨S4096x512, .f32⟩
  | 40 => ⟨S1x512, .f32⟩
  | 41 => ⟨S_, .f32⟩
  | 42 => ⟨S31x512, .f32⟩
  | 43 => ⟨S31x512, .f32⟩
  | 44 => ⟨S4096x512, .f32⟩
  | 45 => ⟨S4096x512, .f32⟩
  | 46 => ⟨S4096x512, .f32⟩
  | 47 => ⟨S_, .f32⟩
  | 48 => ⟨S512, .f32⟩
  | 49 => ⟨S1x512, .f32⟩
  | 50 => ⟨S_, .f32⟩
  | 51 => ⟨S512, .f32⟩
  | 52 => ⟨S14x512, .f32⟩
  | 53 => ⟨S4082x512, .f32⟩
  | 54 => ⟨S_, .f32⟩
  | 55 => ⟨S4096x512, .f32⟩
  | 56 => ⟨S4096x512, .f32⟩
  | 57 => ⟨S1x512, .f32⟩
  | 58 => ⟨S_, .f32⟩
  | 59 => ⟨S31x512, .f32⟩
  | 60 => ⟨S31x512, .f32⟩
  | 61 => ⟨S4096x512, .f32⟩
  | 62 => ⟨S4096x512, .f32⟩
  | 63 => ⟨S4096x512, .f32⟩
  | 64 => ⟨S_, .f32⟩
  | 65 => ⟨S512, .f32⟩
  | 66 => ⟨S1x512, .f32⟩
  | 67 => ⟨S_, .f32⟩
  | 68 => ⟨S512, .f32⟩
  | 69 => ⟨S13x512, .f32⟩
  | 70 => ⟨S4083x512, .f32⟩
  | 71 => ⟨S_, .f32⟩
  | 72 => ⟨S4096x512, .f32⟩
  | 73 => ⟨S4096x512, .f32⟩
  | 74 => ⟨S1x512, .f32⟩
  | 75 => ⟨S_, .f32⟩
  | 76 => ⟨S31x512, .f32⟩
  | 77 => ⟨S31x512, .f32⟩
  | 78 => ⟨S4096x512, .f32⟩
  | 79 => ⟨S4096x512, .f32⟩
  | 80 => ⟨S4096x512, .f32⟩
  | 81 => ⟨S_, .f32⟩
  | 82 => ⟨S512, .f32⟩
  | 83 => ⟨S1x512, .f32⟩
  | 84 => ⟨S_, .f32⟩
  | 85 => ⟨S512, .f32⟩
  | 86 => ⟨S12x512, .f32⟩
  | 87 => ⟨S4084x512, .f32⟩
  | 88 => ⟨S_, .f32⟩
  | 89 => ⟨S4096x512, .f32⟩
  | 90 => ⟨S4096x512, .f32⟩
  | 91 => ⟨S1x512, .f32⟩
  | 92 => ⟨S_, .f32⟩
  | 93 => ⟨S31x512, .f32⟩
  | 94 => ⟨S31x512, .f32⟩
  | 95 => ⟨S4096x512, .f32⟩
  | 96 => ⟨S4096x512, .f32⟩
  | 97 => ⟨S4096x512, .f32⟩
  | 98 => ⟨S_, .f32⟩
  | 99 => ⟨S512, .f32⟩
  | 100 => ⟨S1x512, .f32⟩
  | 101 => ⟨S_, .f32⟩
  | 102 => ⟨S512, .f32⟩
  | 103 => ⟨S11x512, .f32⟩
  | 104 => ⟨S4085x512, .f32⟩
  | 105 => ⟨S_, .f32⟩
  | 106 => ⟨S4096x512, .f32⟩
  | 107 => ⟨S4096x512, .f32⟩
  | 108 => ⟨S1x512, .f32⟩
  | 109 => ⟨S_, .f32⟩
  | 110 => ⟨S31x512, .f32⟩
  | 111 => ⟨S31x512, .f32⟩
  | 112 => ⟨S4096x512, .f32⟩
  | 113 => ⟨S4096x512, .f32⟩
  | 114 => ⟨S4096x512, .f32⟩
  | 115 => ⟨S_, .f32⟩
  | 116 => ⟨S512, .f32⟩
  | 117 => ⟨S1x512, .f32⟩
  | 118 => ⟨S_, .f32⟩
  | 119 => ⟨S512, .f32⟩
  | 120 => ⟨S10x512, .f32⟩
  | 121 => ⟨S4086x512, .f32⟩
  | 122 => ⟨S_, .f32⟩
  | 123 => ⟨S4096x512, .f32⟩
  | 124 => ⟨S4096x512, .f32⟩
  | 125 => ⟨S1x512, .f32⟩
  | 126 => ⟨S_, .f32⟩
  | 127 => ⟨S31x512, .f32⟩
  | _ => ⟨S4096x8192, .bf16⟩

abbrev hbmTy0_11 (i : Nat) : BufTy := match i % 128 with
  | 0 => ⟨S31x512, .f32⟩
  | 1 => ⟨S4096x512, .f32⟩
  | 2 => ⟨S4096x512, .f32⟩
  | 3 => ⟨S4096x512, .f32⟩
  | 4 => ⟨S_, .f32⟩
  | 5 => ⟨S512, .f32⟩
  | 6 => ⟨S1x512, .f32⟩
  | 7 => ⟨S_, .f32⟩
  | 8 => ⟨S512, .f32⟩
  | 9 => ⟨S9x512, .f32⟩
  | 10 => ⟨S4087x512, .f32⟩
  | 11 => ⟨S_, .f32⟩
  | 12 => ⟨S4096x512, .f32⟩
  | 13 => ⟨S4096x512, .f32⟩
  | 14 => ⟨S1x512, .f32⟩
  | 15 => ⟨S_, .f32⟩
  | 16 => ⟨S31x512, .f32⟩
  | 17 => ⟨S31x512, .f32⟩
  | 18 => ⟨S4096x512, .f32⟩
  | 19 => ⟨S4096x512, .f32⟩
  | 20 => ⟨S4096x512, .f32⟩
  | 21 => ⟨S_, .f32⟩
  | 22 => ⟨S512, .f32⟩
  | 23 => ⟨S1x512, .f32⟩
  | 24 => ⟨S_, .f32⟩
  | 25 => ⟨S512, .f32⟩
  | 26 => ⟨S8x512, .f32⟩
  | 27 => ⟨S4088x512, .f32⟩
  | 28 => ⟨S_, .f32⟩
  | 29 => ⟨S4096x512, .f32⟩
  | 30 => ⟨S4096x512, .f32⟩
  | 31 => ⟨S1x512, .f32⟩
  | 32 => ⟨S_, .f32⟩
  | 33 => ⟨S31x512, .f32⟩
  | 34 => ⟨S31x512, .f32⟩
  | 35 => ⟨S4096x512, .f32⟩
  | 36 => ⟨S4096x512, .f32⟩
  | 37 => ⟨S4096x512, .f32⟩
  | 38 => ⟨S_, .f32⟩
  | 39 => ⟨S512, .f32⟩
  | 40 => ⟨S1x512, .f32⟩
  | 41 => ⟨S_, .f32⟩
  | 42 => ⟨S512, .f32⟩
  | 43 => ⟨S7x512, .f32⟩
  | 44 => ⟨S4089x512, .f32⟩
  | 45 => ⟨S_, .f32⟩
  | 46 => ⟨S4096x512, .f32⟩
  | 47 => ⟨S4096x512, .f32⟩
  | 48 => ⟨S1x512, .f32⟩
  | 49 => ⟨S_, .f32⟩
  | 50 => ⟨S31x512, .f32⟩
  | 51 => ⟨S31x512, .f32⟩
  | 52 => ⟨S4096x512, .f32⟩
  | 53 => ⟨S4096x512, .f32⟩
  | 54 => ⟨S4096x512, .f32⟩
  | 55 => ⟨S_, .f32⟩
  | 56 => ⟨S512, .f32⟩
  | 57 => ⟨S1x512, .f32⟩
  | 58 => ⟨S_, .f32⟩
  | 59 => ⟨S512, .f32⟩
  | 60 => ⟨S6x512, .f32⟩
  | 61 => ⟨S4090x512, .f32⟩
  | 62 => ⟨S_, .f32⟩
  | 63 => ⟨S4096x512, .f32⟩
  | 64 => ⟨S4096x512, .f32⟩
  | 65 => ⟨S1x512, .f32⟩
  | 66 => ⟨S_, .f32⟩
  | 67 => ⟨S31x512, .f32⟩
  | 68 => ⟨S31x512, .f32⟩
  | 69 => ⟨S4096x512, .f32⟩
  | 70 => ⟨S4096x512, .f32⟩
  | 71 => ⟨S4096x512, .f32⟩
  | 72 => ⟨S_, .f32⟩
  | 73 => ⟨S512, .f32⟩
  | 74 => ⟨S1x512, .f32⟩
  | 75 => ⟨S_, .f32⟩
  | 76 => ⟨S512, .f32⟩
  | 77 => ⟨S5x512, .f32⟩
  | 78 => ⟨S4091x512, .f32⟩
  | 79 => ⟨S_, .f32⟩
  | 80 => ⟨S4096x512, .f32⟩
  | 81 => ⟨S4096x512, .f32⟩
  | 82 => ⟨S1x512, .f32⟩
  | 83 => ⟨S_, .f32⟩
  | 84 => ⟨S31x512, .f32⟩
  | 85 => ⟨S31x512, .f32⟩
  | 86 => ⟨S4096x512, .f32⟩
  | 87 => ⟨S4096x512, .f32⟩
  | 88 => ⟨S4096x512, .f32⟩
  | 89 => ⟨S_, .f32⟩
  | 90 => ⟨S512, .f32⟩
  | 91 => ⟨S1x512, .f32⟩
  | 92 => ⟨S_, .f32⟩
  | 93 => ⟨S512, .f32⟩
  | 94 => ⟨S4x512, .f32⟩
  | 95 => ⟨S4092x512, .f32⟩
  | 96 => ⟨S_, .f32⟩
  | 97 => ⟨S4096x512, .f32⟩
  | 98 => ⟨S4096x512, .f32⟩
  | 99 => ⟨S1x512, .f32⟩
  | 100 => ⟨S_, .f32⟩
  | 101 => ⟨S31x512, .f32⟩
  | 102 => ⟨S31x512, .f32⟩
  | 103 => ⟨S4096x512, .f32⟩
  | 104 => ⟨S4096x512, .f32⟩
  | 105 => ⟨S4096x512, .f32⟩
  | 106 => ⟨S_, .f32⟩
  | 107 => ⟨S512, .f32⟩
  | 108 => ⟨S1x512, .f32⟩
  | 109 => ⟨S_, .f32⟩
  | 110 => ⟨S512, .f32⟩
  | 111 => ⟨S3x512, .f32⟩
  | 112 => ⟨S4093x512, .f32⟩
  | 113 => ⟨S_, .f32⟩
  | 114 => ⟨S4096x512, .f32⟩
  | 115 => ⟨S4096x512, .f32⟩
  | 116 => ⟨S1x512, .f32⟩
  | 117 => ⟨S_, .f32⟩
  | 118 => ⟨S31x512, .f32⟩
  | 119 => ⟨S31x512, .f32⟩
  | 120 => ⟨S4096x512, .f32⟩
  | 121 => ⟨S4096x512, .f32⟩
  | 122 => ⟨S4096x512, .f32⟩
  | 123 => ⟨S_, .f32⟩
  | 124 => ⟨S512, .f32⟩
  | 125 => ⟨S1x512, .f32⟩
  | 126 => ⟨S_, .f32⟩
  | 127 => ⟨S512, .f32⟩
  | _ => ⟨S4096x8192, .bf16⟩

abbrev hbmTy0_12 (i : Nat) : BufTy := match i % 128 with
  | 0 => ⟨S2x512, .f32⟩
  | 1 => ⟨S4094x512, .f32⟩
  | 2 => ⟨S_, .f32⟩
  | 3 => ⟨S4096x512, .f32⟩
  | 4 => ⟨S4096x512, .f32⟩
  | 5 => ⟨S1x512, .f32⟩
  | 6 => ⟨S_, .f32⟩
  | 7 => ⟨S31x512, .f32⟩
  | 8 => ⟨S31x512, .f32⟩
  | 9 => ⟨S4096x512, .f32⟩
  | 10 => ⟨S4096x512, .f32⟩
  | 11 => ⟨S4096x512, .f32⟩
  | 12 => ⟨S_, .f32⟩
  | 13 => ⟨S512, .f32⟩
  | 14 => ⟨S1x512, .f32⟩
  | 15 => ⟨S_, .f32⟩
  | 16 => ⟨S512, .f32⟩
  | 17 => ⟨S1x512, .f32⟩
  | 18 => ⟨S4095x512, .f32⟩
  | 19 => ⟨S_, .f32⟩
  | 20 => ⟨S4096x512, .f32⟩
  | 21 => ⟨S4096x512, .f32⟩
  | 22 => ⟨S1x512, .f32⟩
  | 23 => ⟨S_, .f32⟩
  | 24 => ⟨S31x512, .f32⟩
  | 25 => ⟨S31x512, .f32⟩
  | 26 => ⟨S4096x512, .f32⟩
  | 27 => ⟨S4096x512, .f32⟩
  | 28 => ⟨S4096x512, .f32⟩
  | 29 => ⟨S4096x512, .f32⟩
  | 30 => ⟨S_, .f32⟩
  | 31 => ⟨S512, .f32⟩
  | 32 => ⟨S1x512, .f32⟩
  | 33 => ⟨S_, .f32⟩
  | 34 => ⟨S512, .f32⟩
  | 35 => ⟨S1x512, .f32⟩
  | 36 => ⟨S_, .f32⟩
  | 37 => ⟨S31x512, .f32⟩
  | 38 => ⟨S31x512, .f32⟩
  | 39 => ⟨S4096x512, .f32⟩
  | 40 => ⟨S4096x512, .f32⟩
  | 41 => ⟨S4096x512, .f32⟩
  | 42 => ⟨S_, .f32⟩
  | 43 => ⟨S4096x1024, .f32⟩
  | 44 => ⟨S_, .f32⟩
  | 45 => ⟨S4096x1024, .f32⟩
  | 46 => ⟨S4096x1024, .f32⟩
  | 47 => ⟨S_, .f32⟩
  | 48 => ⟨S4096x4096, .f32⟩
  | 49 => ⟨S4096x4096, .f32⟩
  | 50 => ⟨S4096x512, .f32⟩
  | 51 => ⟨S4096x512, .f32⟩
  | 52 => ⟨S4096x512, .f32⟩
  | 53 => ⟨S4096x512, .f32⟩
  | 54 => ⟨S4096x512, .f32⟩
  | 55 => ⟨S_, .f32⟩
  | 56 => ⟨S512, .f32⟩
  | 57 => ⟨S1x512, .f32⟩
  | 58 => ⟨S_, .f32⟩
  | 59 => ⟨S512, .f32⟩
  | 60 => ⟨S2x512, .f32⟩
  | 61 => ⟨S4094x512, .f32⟩
  | 62 => ⟨S_, .f32⟩
  | 63 => ⟨S4096x512, .f32⟩
  | 64 => ⟨S1x512, .f32⟩
  | 65 => ⟨S_, .f32⟩
  | 66 => ⟨S3x512, .f32⟩
  | 67 => ⟨S4096x512, .f32⟩
  | 68 => ⟨S4096x512, .f32⟩
  | 69 => ⟨S4096x512, .f32⟩
  | 70 => ⟨S_, .f32⟩
  | 71 => ⟨S512, .f32⟩
  | 72 => ⟨S1x512, .f32⟩
  | 73 => ⟨S_, .f32⟩
  | 74 => ⟨S512, .f32⟩
  | 75 => ⟨S1x512, .f32⟩
  | 76 => ⟨S4095x512, .f32⟩
  | 77 => ⟨S_, .f32⟩
  | 78 => ⟨S4096x512, .f32⟩
  | 79 => ⟨S4096x512, .f32⟩
  | 80 => ⟨S1x512, .f32⟩
  | 81 => ⟨S_, .f32⟩
  | 82 => ⟨S3x512, .f32⟩
  | 83 => ⟨S3x512, .f32⟩
  | 84 => ⟨S4096x512, .f32⟩
  | 85 => ⟨S4096x512, .f32⟩
  | 86 => ⟨S4096x512, .f32⟩
  | 87 => ⟨S4096x512, .f32⟩
  | 88 => ⟨S_, .f32⟩
  | 89 => ⟨S512, .f32⟩
  | 90 => ⟨S1x512, .f32⟩
  | 91 => ⟨S_, .f32⟩
  | 92 => ⟨S512, .f32⟩
  | 93 => ⟨S1x512, .f32⟩
  | 94 => ⟨S_, .f32⟩
  | 95 => ⟨S3x512, .f32⟩
  | 96 => ⟨S3x512, .f32⟩
  | 97 => ⟨S4096x512, .f32⟩
  | 98 => ⟨S4096x512, .f32⟩
  | 99 => ⟨S_, .f32⟩
  | 100 => ⟨S4096x1536, .f32⟩
  | 101 => ⟨S_, .f32⟩
  | 102 => ⟨S4096x1536, .f32⟩
  | 103 => ⟨S4096x1536, .f32⟩
  | 104 => ⟨S_, .f32⟩
  | 105 => ⟨S4096x1536, .f32⟩
  | 106 => ⟨S4096x1536, .f32⟩
  | 107 => ⟨S_, .f32⟩
  | 108 => ⟨S4096x4096, .f32⟩
  | 109 => ⟨S4096x4096, .f32⟩
  | 110 => ⟨S4096x512, .f32⟩
  | 111 => ⟨S_, .f32⟩
  | 112 => ⟨S512, .f32⟩
  | 113 => ⟨S1x512, .f32⟩
  | 114 => ⟨S4096x512, .f32⟩
  | 115 => ⟨S4096x512, .f32⟩
  | 116 => ⟨S_, .f32⟩
  | 117 => ⟨S512, .f32⟩
  | 118 => ⟨S4096x128, .f32⟩
  | 119 => ⟨S4096x128, .f32⟩
  | 120 => ⟨S4096x128, .f32⟩
  | 121 => ⟨S4096x128, .f32⟩
  | 122 => ⟨S128x128, .f32⟩
  | 123 => ⟨S128x128, .f32⟩
  | 124 => ⟨S4096x128, .f32⟩
  | 125 => ⟨S1x128x128, .f32⟩
  | 126 => ⟨S_, .f32⟩
  | 127 => ⟨S4x128x128, .f32⟩
  | _ => ⟨S4096x8192, .bf16⟩

abbrev hbmTy0_13 (i : Nat) : BufTy := match i % 128 with
  | 0 => ⟨S4096x128, .f32⟩
  | 1 => ⟨S4096x128, .f32⟩
  | 2 => ⟨S4096x128, .f32⟩
  | 3 => ⟨S15x128, .f32⟩
  | 4 => ⟨S4081x128, .f32⟩
  | 5 => ⟨S_, .f32⟩
  | 6 => ⟨S4096x128, .f32⟩
  | 7 => ⟨S4096x128, .f32⟩
  | 8 => ⟨S14x128, .f32⟩
  | 9 => ⟨S4082x128, .f32⟩
  | 10 => ⟨S_, .f32⟩
  | 11 => ⟨S4096x128, .f32⟩
  | 12 => ⟨S4096x128, .f32⟩
  | 13 => ⟨S13x128, .f32⟩
  | 14 => ⟨S4083x128, .f32⟩
  | 15 => ⟨S_, .f32⟩
  | 16 => ⟨S4096x128, .f32⟩
  | 17 => ⟨S4096x128, .f32⟩
  | 18 => ⟨S12x128, .f32⟩
  | 19 => ⟨S4084x128, .f32⟩
  | 20 => ⟨S_, .f32⟩
  | 21 => ⟨S4096x128, .f32⟩
  | 22 => ⟨S4096x128, .f32⟩
  | 23 => ⟨S11x128, .f32⟩
  | 24 => ⟨S4085x128, .f32⟩
  | 25 => ⟨S_, .f32⟩
  | 26 => ⟨S4096x128, .f32⟩
  | 27 => ⟨S4096x128, .f32⟩
  | 28 => ⟨S10x128, .f32⟩
  | 29 => ⟨S4086x128, .f32⟩
  | 30 => ⟨S_, .f32⟩
  | 31 => ⟨S4096x128, .f32⟩
  | 32 => ⟨S4096x128, .f32⟩
  | 33 => ⟨S9x128, .f32⟩
  | 34 => ⟨S4087x128, .f32⟩
  | 35 => ⟨S_, .f32⟩
  | 36 => ⟨S4096x128, .f32⟩
  | 37 => ⟨S4096x128, .f32⟩
  | 38 => ⟨S8x128, .f32⟩
  | 39 => ⟨S4088x128, .f32⟩
  | 40 => ⟨S_, .f32⟩
  | 41 => ⟨S4096x128, .f32⟩
  | 42 => ⟨S4096x128, .f32⟩
  | 43 => ⟨S7x128, .f32⟩
  | 44 => ⟨S4089x128, .f32⟩
  | 45 => ⟨S_, .f32⟩
  | 46 => ⟨S4096x128, .f32⟩
  | 47 => ⟨S4096x128, .f32⟩
  | 48 => ⟨S6x128, .f32⟩
  | 49 => ⟨S4090x128, .f32⟩
  | 50 => ⟨S_, .f32⟩
  | 51 => ⟨S4096x128, .f32⟩
  | 52 => ⟨S4096x128, .f32⟩
  | 53 => ⟨S5x128, .f32⟩
  | 54 => ⟨S4091x128, .f32⟩
  | 55 => ⟨S_, .f32⟩
  | 56 => ⟨S4096x128, .f32⟩
  | 57 => ⟨S4096x128, .f32⟩
  | 58 => ⟨S4x128, .f32⟩
  | 59 => ⟨S4092x128, .f32⟩
  | 60 => ⟨S_, .f32⟩
  | 61 => ⟨S4096x128, .f32⟩
  | 62 => ⟨S4096x128, .f32⟩
  | 63 => ⟨S3x128, .f32⟩
  | 64 => ⟨S4093x128, .f32⟩
  | 65 => ⟨S_, .f32⟩
  | 66 => ⟨S4096x128, .f32⟩
  | 67 => ⟨S4096x128, .f32⟩
  | 68 => ⟨S2x128, .f32⟩
  | 69 => ⟨S4094x128, .f32⟩
  | 70 => ⟨S_, .f32⟩
  | 71 => ⟨S4096x128, .f32⟩
  | 72 => ⟨S4096x128, .f32⟩
  | 73 => ⟨S4096x128, .f32⟩
  | 74 => ⟨S1x128, .f32⟩
  | 75 => ⟨S4095x128, .f32⟩
  | 76 => ⟨S_, .f32⟩
  | 77 => ⟨S4096x128, .f32⟩
  | 78 => ⟨S4096x128, .f32⟩
  | 79 => ⟨S_, .f32⟩
  | 80 => ⟨S4096x512, .f32⟩
  | 81 => ⟨S128x128, .f32⟩
  | 82 => ⟨S128x128, .f32⟩
  | 83 => ⟨S4096x128, .f32⟩
  | 84 => ⟨S1x128x128, .f32⟩
  | 85 => ⟨S_, .f32⟩
  | 86 => ⟨S4x128x128, .f32⟩
  | 87 => ⟨S4x128x128, .f32⟩
  | 88 => ⟨S4096x128, .f32⟩
  | 89 => ⟨S4096x128, .f32⟩
  | 90 => ⟨S4096x128, .f32⟩
  | 91 => ⟨S7x128, .f32⟩
  | 92 => ⟨S4089x128, .f32⟩
  | 93 => ⟨S_, .f32⟩
  | 94 => ⟨S4096x128, .f32⟩
  | 95 => ⟨S4096x128, .f32⟩
  | 96 => ⟨S6x128, .f32⟩
  | 97 => ⟨S4090x128, .f32⟩
  | 98 => ⟨S_, .f32⟩
  | 99 => ⟨S4096x128, .f32⟩
  | 100 => ⟨S4096x128, .f32⟩
  | 101 => ⟨S5x128, .f32⟩
  | 102 => ⟨S4091x128, .f32⟩
  | 103 => ⟨S_, .f32⟩
  | 104 => ⟨S4096x128, .f32⟩
  | 105 => ⟨S4096x128, .f32⟩
  | 106 => ⟨S4x128, .f32⟩
  | 107 => ⟨S4092x128, .f32⟩
  | 108 => ⟨S_, .f32⟩
  | 109 => ⟨S4096x128, .f32⟩
  | 110 => ⟨S4096x128, .f32⟩
  | 111 => ⟨S3x128, .f32⟩
  | 112 => ⟨S4093x128, .f32⟩
  | 113 => ⟨S_, .f32⟩
  | 114 => ⟨S4096x128, .f32⟩
  | 115 => ⟨S4096x128, .f32⟩
  | 116 => ⟨S2x128, .f32⟩
  | 117 => ⟨S4094x128, .f32⟩
  | 118 => ⟨S_, .f32⟩
  | 119 => ⟨S4096x128, .f32⟩
  | 120 => ⟨S4096x128, .f32⟩
  | 121 => ⟨S4096x128, .f32⟩
  | 122 => ⟨S1x128, .f32⟩
  | 123 => ⟨S4095x128, .f32⟩
  | 124 => ⟨S_, .f32⟩
  | 125 => ⟨S4096x128, .f32⟩
  | 126 => ⟨S4096x128, .f32⟩
  | 127 => ⟨S_, .f32⟩
  | _ => ⟨S4096x8192, .bf16⟩

abbrev hbmTy0_14 (i : Nat) : BufTy := match i % 128 with
  | 0 => ⟨S4096x512, .f32⟩
  | 1 => ⟨S4096x512, .f32⟩
  | 2 => ⟨S128x128, .f32⟩
  | 3 => ⟨S128x128, .f32⟩
  | 4 => ⟨S4096x128, .f32⟩
  | 5 => ⟨S1x128x128, .f32⟩
  | 6 => ⟨S_, .f32⟩
  | 7 => ⟨S4x128x128, .f32⟩
  | 8 => ⟨S4x128x128, .f32⟩
  | 9 => ⟨S4096x128, .f32⟩
  | 10 => ⟨S4096x128, .f32⟩
  | 11 => ⟨S4096x128, .f32⟩
  | 12 => ⟨S3x128, .f32⟩
  | 13 => ⟨S4093x128, .f32⟩
  | 14 => ⟨S_, .f32⟩
  | 15 => ⟨S4096x128, .f32⟩
  | 16 => ⟨S4096x128, .f32⟩
  | 17 => ⟨S2x128, .f32⟩
  | 18 => ⟨S4094x128, .f32⟩
  | 19 => ⟨S_, .f32⟩
  | 20 => ⟨S4096x128, .f32⟩
  | 21 => ⟨S4096x128, .f32⟩
  | 22 => ⟨S4096x128, .f32⟩
  | 23 => ⟨S1x128, .f32⟩
  | 24 => ⟨S4095x128, .f32⟩
  | 25 => ⟨S_, .f32⟩
  | 26 => ⟨S4096x128, .f32⟩
  | 27 => ⟨S4096x128, .f32⟩
  | 28 => ⟨S_, .f32⟩
  | 29 => ⟨S4096x512, .f32⟩
  | 30 => ⟨S4096x512, .f32⟩
  | 31 => ⟨S128x128, .f32⟩
  | 32 => ⟨S128x128, .f32⟩
  | 33 => ⟨S4096x128, .f32⟩
  | 34 => ⟨S1x128x128, .f32⟩
  | 35 => ⟨S_, .f32⟩
  | 36 => ⟨S4x128x128, .f32⟩
  | 37 => ⟨S4x128x128, .f32⟩
  | 38 => ⟨S4096x128, .f32⟩
  | 39 => ⟨S4096x128, .f32⟩
  | 40 => ⟨S4096x128, .f32⟩
  | 41 => ⟨S4096x128, .f32⟩
  | 42 => ⟨S1x128, .f32⟩
  | 43 => ⟨S4095x128, .f32⟩
  | 44 => ⟨S_, .f32⟩
  | 45 => ⟨S4096x128, .f32⟩
  | 46 => ⟨S4096x128, .f32⟩
  | 47 => ⟨S_, .f32⟩
  | 48 => ⟨S4096x512, .f32⟩
  | 49 => ⟨S4096x512, .f32⟩
  | 50 => ⟨S_, .f32⟩
  | 51 => ⟨S4096x4096, .f32⟩
  | 52 => ⟨S4096x4096, .f32⟩
  | 53 => ⟨S4096x4096, .bf16⟩
  | 54 => ⟨S4096x4096, .bf16⟩
  | 55 => ⟨S4096x8192, .bf16⟩
  | 56 => ⟨S1x512, .f32⟩
  | 57 => ⟨S_, .i32⟩
  | 58 => ⟨S_, .f32⟩
  | 59 => ⟨S8x512, .f32⟩
  | 60 => ⟨S_, .i32⟩
  | 61 => ⟨S_, .f32⟩
  | 62 => ⟨S32x512, .f32⟩
  | 63 => ⟨S1x512, .f32⟩
  | 64 => ⟨S1x512, .f32⟩
  | 65 => ⟨S1x512, .f32⟩
  | 66 => ⟨S1x512, .f32⟩
  | _ => ⟨S4096x8192, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S4096x8192, .bf16⟩

abbrev bufTy : (tb : Table) → Fin (tcTables nBuf tb) → BufTy
  | .hbm, ⟨i, _⟩ => hbmTy i
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_c_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_c_12 : Ref sig .tc := ⟨.hbm, 84, rfl⟩
abbrev main_v57 : Ref sig .tc := ⟨.hbm, 85, rfl⟩
abbrev main_v58 : Ref sig .tc := ⟨.hbm, 86, rfl⟩
abbrev main_c_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_14 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_16 : Ref sig .tc := ⟨.hbm, 99, rfl⟩
abbrev main_v68 : Ref sig .tc := ⟨.hbm, 100, rfl⟩
abbrev main_v69 : Ref sig .tc := ⟨.hbm, 101, rfl⟩
abbrev main_cst_17 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_18 : Ref sig .tc := ⟨.hbm, 106, rfl⟩
abbrev main_v73 : Ref sig .tc := ⟨.hbm, 107, rfl⟩
abbrev main_v74 : Ref sig .tc := ⟨.hbm, 108, rfl⟩
abbrev main_cst_19 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_cst_20 : Ref sig .tc := ⟨.hbm, 113, rfl⟩
abbrev main_v78 : Ref sig .tc := ⟨.hbm, 114, rfl⟩
abbrev main_v79 : Ref sig .tc := ⟨.hbm, 115, rfl⟩
abbrev main_cst_21 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_22 : Ref sig .tc := ⟨.hbm, 120, rfl⟩
abbrev main_v83 : Ref sig .tc := ⟨.hbm, 121, rfl⟩
abbrev main_v84 : Ref sig .tc := ⟨.hbm, 122, rfl⟩
abbrev main_cst_23 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_24 : Ref sig .tc := ⟨.hbm, 127, rfl⟩
abbrev main_v88 : Ref sig .tc := ⟨.hbm, 128, rfl⟩
abbrev main_v89 : Ref sig .tc := ⟨.hbm, 129, rfl⟩
abbrev main_cst_25 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_26 : Ref sig .tc := ⟨.hbm, 134, rfl⟩
abbrev main_v93 : Ref sig .tc := ⟨.hbm, 135, rfl⟩
abbrev main_v94 : Ref sig .tc := ⟨.hbm, 136, rfl⟩
abbrev main_cst_27 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_28 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_c_29 : Ref sig .tc := ⟨.hbm, 151, rfl⟩
abbrev main_v107 : Ref sig .tc := ⟨.hbm, 152, rfl⟩
abbrev main_v108 : Ref sig .tc := ⟨.hbm, 153, rfl⟩
abbrev main_c_30 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_31 : Ref sig .tc := ⟨.hbm, 159, rfl⟩
abbrev main_v113 : Ref sig .tc := ⟨.hbm, 160, rfl⟩
abbrev main_v114 : Ref sig .tc := ⟨.hbm, 161, rfl⟩
abbrev main_cst_32 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_33 : Ref sig .tc := ⟨.hbm, 166, rfl⟩
abbrev main_v118 : Ref sig .tc := ⟨.hbm, 167, rfl⟩
abbrev main_v119 : Ref sig .tc := ⟨.hbm, 168, rfl⟩
abbrev main_cst_34 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_35 : Ref sig .tc := ⟨.hbm, 173, rfl⟩
abbrev main_v123 : Ref sig .tc := ⟨.hbm, 174, rfl⟩
abbrev main_v124 : Ref sig .tc := ⟨.hbm, 175, rfl⟩
abbrev main_cst_36 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_37 : Ref sig .tc := ⟨.hbm, 180, rfl⟩
abbrev main_v128 : Ref sig .tc := ⟨.hbm, 181, rfl⟩
abbrev main_v129 : Ref sig .tc := ⟨.hbm, 182, rfl⟩
abbrev main_cst_38 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_cst_39 : Ref sig .tc := ⟨.hbm, 187, rfl⟩
abbrev main_v133 : Ref sig .tc := ⟨.hbm, 188, rfl⟩
abbrev main_v134 : Ref sig .tc := ⟨.hbm, 189, rfl⟩
abbrev main_cst_40 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_cst_41 : Ref sig .tc := ⟨.hbm, 194, rfl⟩
abbrev main_v138 : Ref sig .tc := ⟨.hbm, 195, rfl⟩
abbrev main_v139 : Ref sig .tc := ⟨.hbm, 196, rfl⟩
abbrev main_cst_42 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_43 : Ref sig .tc := ⟨.hbm, 201, rfl⟩
abbrev main_v143 : Ref sig .tc := ⟨.hbm, 202, rfl⟩
abbrev main_v144 : Ref sig .tc := ⟨.hbm, 203, rfl⟩
abbrev main_cst_44 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_45 : Ref sig .tc := ⟨.hbm, 208, rfl⟩
abbrev main_v148 : Ref sig .tc := ⟨.hbm, 209, rfl⟩
abbrev main_v149 : Ref sig .tc := ⟨.hbm, 210, rfl⟩
abbrev main_cst_46 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_cst_47 : Ref sig .tc := ⟨.hbm, 215, rfl⟩
abbrev main_v153 : Ref sig .tc := ⟨.hbm, 216, rfl⟩
abbrev main_v154 : Ref sig .tc := ⟨.hbm, 217, rfl⟩
abbrev main_cst_48 : Ref sig .tc := ⟨.hbm, 218, rfl⟩
abbrev main_v155 : Ref sig .tc := ⟨.hbm, 219, rfl⟩
abbrev main_v156 : Ref sig .tc := ⟨.hbm, 220, rfl⟩
abbrev main_v157 : Ref sig .tc := ⟨.hbm, 221, rfl⟩
abbrev main_cst_49 : Ref sig .tc := ⟨.hbm, 222, rfl⟩
abbrev main_v158 : Ref sig .tc := ⟨.hbm, 223, rfl⟩
abbrev main_v159 : Ref sig .tc := ⟨.hbm, 224, rfl⟩
abbrev main_cst_50 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_cst_51 : Ref sig .tc := ⟨.hbm, 229, rfl⟩
abbrev main_v163 : Ref sig .tc := ⟨.hbm, 230, rfl⟩
abbrev main_v164 : Ref sig .tc := ⟨.hbm, 231, rfl⟩
abbrev main_cst_52 : Ref sig .tc := ⟨.hbm, 232, rfl⟩
abbrev main_v165 : Ref sig .tc := ⟨.hbm, 233, rfl⟩
abbrev main_v166 : Ref sig .tc := ⟨.hbm, 234, rfl⟩
abbrev main_v167 : Ref sig .tc := ⟨.hbm, 235, rfl⟩
abbrev main_cst_53 : Ref sig .tc := ⟨.hbm, 236, rfl⟩
abbrev main_v168 : Ref sig .tc := ⟨.hbm, 237, rfl⟩
abbrev main_v169 : Ref sig .tc := ⟨.hbm, 238, rfl⟩
abbrev main_cst_54 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_cst_55 : Ref sig .tc := ⟨.hbm, 243, rfl⟩
abbrev main_v173 : Ref sig .tc := ⟨.hbm, 244, rfl⟩
abbrev main_v174 : Ref sig .tc := ⟨.hbm, 245, rfl⟩
abbrev main_cst_56 : Ref sig .tc := ⟨.hbm, 246, rfl⟩
abbrev main_v175 : Ref sig .tc := ⟨.hbm, 247, rfl⟩
abbrev main_v176 : Ref sig .tc := ⟨.hbm, 248, rfl⟩
abbrev main_v177 : Ref sig .tc := ⟨.hbm, 249, rfl⟩
abbrev main_cst_57 : Ref sig .tc := ⟨.hbm, 250, rfl⟩
abbrev main_v178 : Ref sig .tc := ⟨.hbm, 251, rfl⟩
abbrev main_v179 : Ref sig .tc := ⟨.hbm, 252, rfl⟩
abbrev main_cst_58 : Ref sig .tc := ⟨.hbm, 253, rfl⟩
abbrev main_v180 : Ref sig .tc := ⟨.hbm, 254, rfl⟩
abbrev main_v181 : Ref sig .tc := ⟨.hbm, 255, rfl⟩
abbrev main_v182 : Ref sig .tc := ⟨.hbm, 256, rfl⟩
abbrev main_cst_59 : Ref sig .tc := ⟨.hbm, 257, rfl⟩
abbrev main_v183 : Ref sig .tc := ⟨.hbm, 258, rfl⟩
abbrev main_v184 : Ref sig .tc := ⟨.hbm, 259, rfl⟩
abbrev main_cst_60 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_cst_61 : Ref sig .tc := ⟨.hbm, 264, rfl⟩
abbrev main_v188 : Ref sig .tc := ⟨.hbm, 265, rfl⟩
abbrev main_v189 : Ref sig .tc := ⟨.hbm, 266, rfl⟩
abbrev main_v190 : Ref sig .tc := ⟨.hbm, 267, rfl⟩
abbrev main_v191 : Ref sig .tc := ⟨.hbm, 268, rfl⟩
abbrev main_v192 : Ref sig .tc := ⟨.hbm, 269, rfl⟩
abbrev main_v193 : Ref sig .tc := ⟨.hbm, 270, rfl⟩
abbrev main_v194 : Ref sig .tc := ⟨.hbm, 271, rfl⟩
abbrev main_v195 : Ref sig .tc := ⟨.hbm, 272, rfl⟩
abbrev main_v196 : Ref sig .tc := ⟨.hbm, 273, rfl⟩
abbrev main_v197 : Ref sig .tc := ⟨.hbm, 274, rfl⟩
abbrev main_v198 : Ref sig .tc := ⟨.hbm, 275, rfl⟩
abbrev main_v199 : Ref sig .tc := ⟨.hbm, 276, rfl⟩
abbrev main_v200 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_v204 : Ref sig .tc := ⟨.hbm, 281, rfl⟩
abbrev main_v205 : Ref sig .tc := ⟨.hbm, 282, rfl⟩
abbrev main_v206 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_cst_62 : Ref sig .tc := ⟨.hbm, 287, rfl⟩
abbrev main_v210 : Ref sig .tc := ⟨.hbm, 288, rfl⟩
abbrev main_v211 : Ref sig .tc := ⟨.hbm, 289, rfl⟩
abbrev main_v212 : Ref sig .tc := ⟨.hbm, 290, rfl⟩
abbrev main_v213 : Ref sig .tc := ⟨.hbm, 291, rfl⟩
abbrev main_cst_63 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_cst_64 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_cst_65 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_cst_66 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_cst_67 : Ref sig .tc := ⟨.hbm, 320, rfl⟩
abbrev main_v238 : Ref sig .tc := ⟨.hbm, 321, rfl⟩
abbrev main_v239 : Ref sig .tc := ⟨.hbm, 322, rfl⟩
abbrev main_cst_68 : Ref sig .tc := ⟨.hbm, 323, rfl⟩
abbrev main_v240 : Ref sig .tc := ⟨.hbm, 324, rfl⟩
abbrev main_v241 : Ref sig .tc := ⟨.hbm, 325, rfl⟩
abbrev main_cst_69 : Ref sig .tc := ⟨.hbm, 326, rfl⟩
abbrev main_v242 : Ref sig .tc := ⟨.hbm, 327, rfl⟩
abbrev main_v243 : Ref sig .tc := ⟨.hbm, 328, rfl⟩
abbrev main_v244 : Ref sig .tc := ⟨.hbm, 329, rfl⟩
abbrev main_v245 : Ref sig .tc := ⟨.hbm, 330, rfl⟩
abbrev main_v246 : Ref sig .tc := ⟨.hbm, 331, rfl⟩
abbrev main_v247 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_cst_70 : Ref sig .tc := ⟨.hbm, 336, rfl⟩
abbrev main_v251 : Ref sig .tc := ⟨.hbm, 337, rfl⟩
abbrev main_v252 : Ref sig .tc := ⟨.hbm, 338, rfl⟩
abbrev main_v253 : Ref sig .tc := ⟨.hbm, 339, rfl⟩
abbrev main_v254 : Ref sig .tc := ⟨.hbm, 340, rfl⟩
abbrev main_cst_71 : Ref sig .tc := ⟨.hbm, 341, rfl⟩
abbrev main_v255 : Ref sig .tc := ⟨.hbm, 342, rfl⟩
abbrev main_v256 : Ref sig .tc := ⟨.hbm, 343, rfl⟩
abbrev main_v257 : Ref sig .tc := ⟨.hbm, 344, rfl⟩
abbrev main_cst_72 : Ref sig .tc := ⟨.hbm, 345, rfl⟩
abbrev main_v258 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev main_v263 : Ref sig .tc := ⟨.hbm, 351, rfl⟩
abbrev main_v264 : Ref sig .tc := ⟨.hbm, 352, rfl⟩
abbrev main_cst_73 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_cst_74 : Ref sig .tc := ⟨.hbm, 357, rfl⟩
abbrev main_v268 : Ref sig .tc := ⟨.hbm, 358, rfl⟩
abbrev main_v269 : Ref sig .tc := ⟨.hbm, 359, rfl⟩
abbrev main_v270 : Ref sig .tc := ⟨.hbm, 360, rfl⟩
abbrev main_v271 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_cst_75 : Ref sig .tc := ⟨.hbm, 365, rfl⟩
abbrev main_v275 : Ref sig .tc := ⟨.hbm, 366, rfl⟩
abbrev main_v276 : Ref sig .tc := ⟨.hbm, 367, rfl⟩
abbrev main_v277 : Ref sig .tc := ⟨.hbm, 368, rfl⟩
abbrev main_cst_76 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_cst_77 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_cst_78 : Ref sig .tc := ⟨.hbm, 381, rfl⟩
abbrev main_v288 : Ref sig .tc := ⟨.hbm, 382, rfl⟩
abbrev main_v289 : Ref sig .tc := ⟨.hbm, 383, rfl⟩
abbrev main_v290 : Ref sig .tc := ⟨.hbm, 384, rfl⟩
abbrev main_v291 : Ref sig .tc := ⟨.hbm, 385, rfl⟩
abbrev main_v292 : Ref sig .tc := ⟨.hbm, 386, rfl⟩
abbrev main_v293 : Ref sig .tc := ⟨.hbm, 387, rfl⟩
abbrev main_v294 : Ref sig .tc := ⟨.hbm, 388, rfl⟩
abbrev main_cst_79 : Ref sig .tc := ⟨.hbm, 389, rfl⟩
abbrev main_v295 : Ref sig .tc := ⟨.hbm, 390, rfl⟩
abbrev main_v296 : Ref sig .tc := ⟨.hbm, 391, rfl⟩
abbrev main_v297 : Ref sig .tc := ⟨.hbm, 392, rfl⟩
abbrev main_cst_80 : Ref sig .tc := ⟨.hbm, 393, rfl⟩
abbrev main_v298 : Ref sig .tc := ⟨.hbm, 394, rfl⟩
abbrev main_v299 : Ref sig .tc := ⟨.hbm, 395, rfl⟩
abbrev main_v300 : Ref sig .tc := ⟨.hbm, 396, rfl⟩
abbrev main_v301 : Ref sig .tc := ⟨.hbm, 397, rfl⟩
abbrev main_v302 : Ref sig .tc := ⟨.hbm, 398, rfl⟩
abbrev main_v303 : Ref sig .tc := ⟨.hbm, 399, rfl⟩
abbrev main_v304 : Ref sig .tc := ⟨.hbm, 400, rfl⟩
abbrev main_cst_81 : Ref sig .tc := ⟨.hbm, 401, rfl⟩
abbrev main_v305 : Ref sig .tc := ⟨.hbm, 402, rfl⟩
abbrev main_v306 : Ref sig .tc := ⟨.hbm, 403, rfl⟩
abbrev main_v307 : Ref sig .tc := ⟨.hbm, 404, rfl⟩
abbrev main_cst_82 : Ref sig .tc := ⟨.hbm, 405, rfl⟩
abbrev main_v308 : Ref sig .tc := ⟨.hbm, 406, rfl⟩
abbrev main_v309 : Ref sig .tc := ⟨.hbm, 407, rfl⟩
abbrev main_v310 : Ref sig .tc := ⟨.hbm, 408, rfl⟩
abbrev main_v311 : Ref sig .tc := ⟨.hbm, 409, rfl⟩
abbrev main_v312 : Ref sig .tc := ⟨.hbm, 410, rfl⟩
abbrev main_v313 : Ref sig .tc := ⟨.hbm, 411, rfl⟩
abbrev main_v314 : Ref sig .tc := ⟨.hbm, 412, rfl⟩
abbrev main_cst_83 : Ref sig .tc := ⟨.hbm, 413, rfl⟩
abbrev main_v315 : Ref sig .tc := ⟨.hbm, 414, rfl⟩
abbrev main_v316 : Ref sig .tc := ⟨.hbm, 415, rfl⟩
abbrev main_v317 : Ref sig .tc := ⟨.hbm, 416, rfl⟩
abbrev main_cst_84 : Ref sig .tc := ⟨.hbm, 417, rfl⟩
abbrev main_v318 : Ref sig .tc := ⟨.hbm, 418, rfl⟩
abbrev main_v319 : Ref sig .tc := ⟨.hbm, 419, rfl⟩
abbrev main_v320 : Ref sig .tc := ⟨.hbm, 420, rfl⟩
abbrev main_v321 : Ref sig .tc := ⟨.hbm, 421, rfl⟩
abbrev main_v322 : Ref sig .tc := ⟨.hbm, 422, rfl⟩
abbrev main_v323 : Ref sig .tc := ⟨.hbm, 423, rfl⟩
abbrev main_v324 : Ref sig .tc := ⟨.hbm, 424, rfl⟩
abbrev main_cst_85 : Ref sig .tc := ⟨.hbm, 425, rfl⟩
abbrev main_v325 : Ref sig .tc := ⟨.hbm, 426, rfl⟩
abbrev main_v326 : Ref sig .tc := ⟨.hbm, 427, rfl⟩
abbrev main_v327 : Ref sig .tc := ⟨.hbm, 428, rfl⟩
abbrev main_cst_86 : Ref sig .tc := ⟨.hbm, 429, rfl⟩
abbrev main_v328 : Ref sig .tc := ⟨.hbm, 430, rfl⟩
abbrev main_v329 : Ref sig .tc := ⟨.hbm, 431, rfl⟩
abbrev main_v330 : Ref sig .tc := ⟨.hbm, 432, rfl⟩
abbrev main_v331 : Ref sig .tc := ⟨.hbm, 433, rfl⟩
abbrev main_v332 : Ref sig .tc := ⟨.hbm, 434, rfl⟩
abbrev main_v333 : Ref sig .tc := ⟨.hbm, 435, rfl⟩
abbrev main_v334 : Ref sig .tc := ⟨.hbm, 436, rfl⟩
abbrev main_cst_87 : Ref sig .tc := ⟨.hbm, 437, rfl⟩
abbrev main_v335 : Ref sig .tc := ⟨.hbm, 438, rfl⟩
abbrev main_v336 : Ref sig .tc := ⟨.hbm, 439, rfl⟩
abbrev main_v337 : Ref sig .tc := ⟨.hbm, 440, rfl⟩
abbrev main_cst_88 : Ref sig .tc := ⟨.hbm, 441, rfl⟩
abbrev main_v338 : Ref sig .tc := ⟨.hbm, 442, rfl⟩
abbrev main_v339 : Ref sig .tc := ⟨.hbm, 443, rfl⟩
abbrev main_v340 : Ref sig .tc := ⟨.hbm, 444, rfl⟩
abbrev main_v341 : Ref sig .tc := ⟨.hbm, 445, rfl⟩
abbrev main_v342 : Ref sig .tc := ⟨.hbm, 446, rfl⟩
abbrev main_v343 : Ref sig .tc := ⟨.hbm, 447, rfl⟩
abbrev main_v344 : Ref sig .tc := ⟨.hbm, 448, rfl⟩
abbrev main_cst_89 : Ref sig .tc := ⟨.hbm, 449, rfl⟩
abbrev main_v345 : Ref sig .tc := ⟨.hbm, 450, rfl⟩
abbrev main_v346 : Ref sig .tc := ⟨.hbm, 451, rfl⟩
abbrev main_v347 : Ref sig .tc := ⟨.hbm, 452, rfl⟩
abbrev main_cst_90 : Ref sig .tc := ⟨.hbm, 453, rfl⟩
abbrev main_v348 : Ref sig .tc := ⟨.hbm, 454, rfl⟩
abbrev main_v349 : Ref sig .tc := ⟨.hbm, 455, rfl⟩
abbrev main_v350 : Ref sig .tc := ⟨.hbm, 456, rfl⟩
abbrev main_v351 : Ref sig .tc := ⟨.hbm, 457, rfl⟩
abbrev main_v352 : Ref sig .tc := ⟨.hbm, 458, rfl⟩
abbrev main_v353 : Ref sig .tc := ⟨.hbm, 459, rfl⟩
abbrev main_v354 : Ref sig .tc := ⟨.hbm, 460, rfl⟩
abbrev main_cst_91 : Ref sig .tc := ⟨.hbm, 461, rfl⟩
abbrev main_v355 : Ref sig .tc := ⟨.hbm, 462, rfl⟩
abbrev main_v356 : Ref sig .tc := ⟨.hbm, 463, rfl⟩
abbrev main_v357 : Ref sig .tc := ⟨.hbm, 464, rfl⟩
abbrev main_cst_92 : Ref sig .tc := ⟨.hbm, 465, rfl⟩
abbrev main_v358 : Ref sig .tc := ⟨.hbm, 466, rfl⟩
abbrev main_v359 : Ref sig .tc := ⟨.hbm, 467, rfl⟩
abbrev main_v360 : Ref sig .tc := ⟨.hbm, 468, rfl⟩
abbrev main_v361 : Ref sig .tc := ⟨.hbm, 469, rfl⟩
abbrev main_v362 : Ref sig .tc := ⟨.hbm, 470, rfl⟩
abbrev main_v363 : Ref sig .tc := ⟨.hbm, 471, rfl⟩
abbrev main_v364 : Ref sig .tc := ⟨.hbm, 472, rfl⟩
abbrev main_cst_93 : Ref sig .tc := ⟨.hbm, 473, rfl⟩
abbrev main_v365 : Ref sig .tc := ⟨.hbm, 474, rfl⟩
abbrev main_v366 : Ref sig .tc := ⟨.hbm, 475, rfl⟩
abbrev main_v367 : Ref sig .tc := ⟨.hbm, 476, rfl⟩
abbrev main_cst_94 : Ref sig .tc := ⟨.hbm, 477, rfl⟩
abbrev main_v368 : Ref sig .tc := ⟨.hbm, 478, rfl⟩
abbrev main_v369 : Ref sig .tc := ⟨.hbm, 479, rfl⟩
abbrev main_v370 : Ref sig .tc := ⟨.hbm, 480, rfl⟩
abbrev main_v371 : Ref sig .tc := ⟨.hbm, 481, rfl⟩
abbrev main_v372 : Ref sig .tc := ⟨.hbm, 482, rfl⟩
abbrev main_v373 : Ref sig .tc := ⟨.hbm, 483, rfl⟩
abbrev main_v374 : Ref sig .tc := ⟨.hbm, 484, rfl⟩
abbrev main_cst_95 : Ref sig .tc := ⟨.hbm, 485, rfl⟩
abbrev main_v375 : Ref sig .tc := ⟨.hbm, 486, rfl⟩
abbrev main_v376 : Ref sig .tc := ⟨.hbm, 487, rfl⟩
abbrev main_v377 : Ref sig .tc := ⟨.hbm, 488, rfl⟩
abbrev main_cst_96 : Ref sig .tc := ⟨.hbm, 489, rfl⟩
abbrev main_v378 : Ref sig .tc := ⟨.hbm, 490, rfl⟩
abbrev main_v379 : Ref sig .tc := ⟨.hbm, 491, rfl⟩
abbrev main_v380 : Ref sig .tc := ⟨.hbm, 492, rfl⟩
abbrev main_v381 : Ref sig .tc := ⟨.hbm, 493, rfl⟩
abbrev main_v382 : Ref sig .tc := ⟨.hbm, 494, rfl⟩
abbrev main_v383 : Ref sig .tc := ⟨.hbm, 495, rfl⟩
abbrev main_v384 : Ref sig .tc := ⟨.hbm, 496, rfl⟩
abbrev main_cst_97 : Ref sig .tc := ⟨.hbm, 497, rfl⟩
abbrev main_v385 : Ref sig .tc := ⟨.hbm, 498, rfl⟩
abbrev main_v386 : Ref sig .tc := ⟨.hbm, 499, rfl⟩
abbrev main_v387 : Ref sig .tc := ⟨.hbm, 500, rfl⟩
abbrev main_cst_98 : Ref sig .tc := ⟨.hbm, 501, rfl⟩
abbrev main_v388 : Ref sig .tc := ⟨.hbm, 502, rfl⟩
abbrev main_v389 : Ref sig .tc := ⟨.hbm, 503, rfl⟩
abbrev main_v390 : Ref sig .tc := ⟨.hbm, 504, rfl⟩
abbrev main_v391 : Ref sig .tc := ⟨.hbm, 505, rfl⟩
abbrev main_v392 : Ref sig .tc := ⟨.hbm, 506, rfl⟩
abbrev main_v393 : Ref sig .tc := ⟨.hbm, 507, rfl⟩
abbrev main_v394 : Ref sig .tc := ⟨.hbm, 508, rfl⟩
abbrev main_cst_99 : Ref sig .tc := ⟨.hbm, 509, rfl⟩
abbrev main_v395 : Ref sig .tc := ⟨.hbm, 510, rfl⟩
abbrev main_v396 : Ref sig .tc := ⟨.hbm, 511, rfl⟩
abbrev main_v397 : Ref sig .tc := ⟨.hbm, 512, rfl⟩
abbrev main_cst_100 : Ref sig .tc := ⟨.hbm, 513, rfl⟩
abbrev main_v398 : Ref sig .tc := ⟨.hbm, 514, rfl⟩
abbrev main_v399 : Ref sig .tc := ⟨.hbm, 515, rfl⟩
abbrev main_v400 : Ref sig .tc := ⟨.hbm, 516, rfl⟩
abbrev main_v401 : Ref sig .tc := ⟨.hbm, 517, rfl⟩
abbrev main_v402 : Ref sig .tc := ⟨.hbm, 518, rfl⟩
abbrev main_v403 : Ref sig .tc := ⟨.hbm, 519, rfl⟩
abbrev main_v404 : Ref sig .tc := ⟨.hbm, 520, rfl⟩
abbrev main_cst_101 : Ref sig .tc := ⟨.hbm, 521, rfl⟩
abbrev main_v405 : Ref sig .tc := ⟨.hbm, 522, rfl⟩
abbrev main_v406 : Ref sig .tc := ⟨.hbm, 523, rfl⟩
abbrev main_v407 : Ref sig .tc := ⟨.hbm, 524, rfl⟩
abbrev main_cst_102 : Ref sig .tc := ⟨.hbm, 525, rfl⟩
abbrev main_v408 : Ref sig .tc := ⟨.hbm, 526, rfl⟩
abbrev main_v409 : Ref sig .tc := ⟨.hbm, 527, rfl⟩
abbrev main_v410 : Ref sig .tc := ⟨.hbm, 528, rfl⟩
abbrev main_v411 : Ref sig .tc := ⟨.hbm, 529, rfl⟩
abbrev main_v412 : Ref sig .tc := ⟨.hbm, 530, rfl⟩
abbrev main_v413 : Ref sig .tc := ⟨.hbm, 531, rfl⟩
abbrev main_v414 : Ref sig .tc := ⟨.hbm, 532, rfl⟩
abbrev main_cst_103 : Ref sig .tc := ⟨.hbm, 533, rfl⟩
abbrev main_v415 : Ref sig .tc := ⟨.hbm, 534, rfl⟩
abbrev main_v416 : Ref sig .tc := ⟨.hbm, 535, rfl⟩
abbrev main_v417 : Ref sig .tc := ⟨.hbm, 536, rfl⟩
abbrev main_cst_104 : Ref sig .tc := ⟨.hbm, 537, rfl⟩
abbrev main_v418 : Ref sig .tc := ⟨.hbm, 538, rfl⟩
abbrev main_v419 : Ref sig .tc := ⟨.hbm, 539, rfl⟩
abbrev main_v420 : Ref sig .tc := ⟨.hbm, 540, rfl⟩
abbrev main_v421 : Ref sig .tc := ⟨.hbm, 541, rfl⟩
abbrev main_v422 : Ref sig .tc := ⟨.hbm, 542, rfl⟩
abbrev main_v423 : Ref sig .tc := ⟨.hbm, 543, rfl⟩
abbrev main_v424 : Ref sig .tc := ⟨.hbm, 544, rfl⟩
abbrev main_cst_105 : Ref sig .tc := ⟨.hbm, 545, rfl⟩
abbrev main_v425 : Ref sig .tc := ⟨.hbm, 546, rfl⟩
abbrev main_v426 : Ref sig .tc := ⟨.hbm, 547, rfl⟩
abbrev main_v427 : Ref sig .tc := ⟨.hbm, 548, rfl⟩
abbrev main_cst_106 : Ref sig .tc := ⟨.hbm, 549, rfl⟩
abbrev main_v428 : Ref sig .tc := ⟨.hbm, 550, rfl⟩
abbrev main_v429 : Ref sig .tc := ⟨.hbm, 551, rfl⟩
abbrev main_v430 : Ref sig .tc := ⟨.hbm, 552, rfl⟩
abbrev main_v431 : Ref sig .tc := ⟨.hbm, 553, rfl⟩
abbrev main_v432 : Ref sig .tc := ⟨.hbm, 554, rfl⟩
abbrev main_v433 : Ref sig .tc := ⟨.hbm, 555, rfl⟩
abbrev main_v434 : Ref sig .tc := ⟨.hbm, 556, rfl⟩
abbrev main_cst_107 : Ref sig .tc := ⟨.hbm, 557, rfl⟩
abbrev main_v435 : Ref sig .tc := ⟨.hbm, 558, rfl⟩
abbrev main_v436 : Ref sig .tc := ⟨.hbm, 559, rfl⟩
abbrev main_v437 : Ref sig .tc := ⟨.hbm, 560, rfl⟩
abbrev main_cst_108 : Ref sig .tc := ⟨.hbm, 561, rfl⟩
abbrev main_v438 : Ref sig .tc := ⟨.hbm, 562, rfl⟩
abbrev main_v439 : Ref sig .tc := ⟨.hbm, 563, rfl⟩
abbrev main_v440 : Ref sig .tc := ⟨.hbm, 564, rfl⟩
abbrev main_v441 : Ref sig .tc := ⟨.hbm, 565, rfl⟩
abbrev main_v442 : Ref sig .tc := ⟨.hbm, 566, rfl⟩
abbrev main_v443 : Ref sig .tc := ⟨.hbm, 567, rfl⟩
abbrev main_v444 : Ref sig .tc := ⟨.hbm, 568, rfl⟩
abbrev main_cst_109 : Ref sig .tc := ⟨.hbm, 569, rfl⟩
abbrev main_v445 : Ref sig .tc := ⟨.hbm, 570, rfl⟩
abbrev main_v446 : Ref sig .tc := ⟨.hbm, 571, rfl⟩
abbrev main_v447 : Ref sig .tc := ⟨.hbm, 572, rfl⟩
abbrev main_cst_110 : Ref sig .tc := ⟨.hbm, 573, rfl⟩
abbrev main_v448 : Ref sig .tc := ⟨.hbm, 574, rfl⟩
abbrev main_v449 : Ref sig .tc := ⟨.hbm, 575, rfl⟩
abbrev main_v450 : Ref sig .tc := ⟨.hbm, 576, rfl⟩
abbrev main_v451 : Ref sig .tc := ⟨.hbm, 577, rfl⟩
abbrev main_v452 : Ref sig .tc := ⟨.hbm, 578, rfl⟩
abbrev main_v453 : Ref sig .tc := ⟨.hbm, 579, rfl⟩
abbrev main_v454 : Ref sig .tc := ⟨.hbm, 580, rfl⟩
abbrev main_cst_111 : Ref sig .tc := ⟨.hbm, 581, rfl⟩
abbrev main_v455 : Ref sig .tc := ⟨.hbm, 582, rfl⟩
abbrev main_v456 : Ref sig .tc := ⟨.hbm, 583, rfl⟩
abbrev main_v457 : Ref sig .tc := ⟨.hbm, 584, rfl⟩
abbrev main_cst_112 : Ref sig .tc := ⟨.hbm, 585, rfl⟩
abbrev main_v458 : Ref sig .tc := ⟨.hbm, 586, rfl⟩
abbrev main_v459 : Ref sig .tc := ⟨.hbm, 587, rfl⟩
abbrev main_v460 : Ref sig .tc := ⟨.hbm, 588, rfl⟩
abbrev main_v461 : Ref sig .tc := ⟨.hbm, 589, rfl⟩
abbrev main_v462 : Ref sig .tc := ⟨.hbm, 590, rfl⟩
abbrev main_v463 : Ref sig .tc := ⟨.hbm, 591, rfl⟩
abbrev main_v464 : Ref sig .tc := ⟨.hbm, 592, rfl⟩
abbrev main_cst_113 : Ref sig .tc := ⟨.hbm, 593, rfl⟩
abbrev main_v465 : Ref sig .tc := ⟨.hbm, 594, rfl⟩
abbrev main_v466 : Ref sig .tc := ⟨.hbm, 595, rfl⟩
abbrev main_v467 : Ref sig .tc := ⟨.hbm, 596, rfl⟩
abbrev main_cst_114 : Ref sig .tc := ⟨.hbm, 597, rfl⟩
abbrev main_v468 : Ref sig .tc := ⟨.hbm, 598, rfl⟩
abbrev main_v469 : Ref sig .tc := ⟨.hbm, 599, rfl⟩
abbrev main_v470 : Ref sig .tc := ⟨.hbm, 600, rfl⟩
abbrev main_v471 : Ref sig .tc := ⟨.hbm, 601, rfl⟩
abbrev main_v472 : Ref sig .tc := ⟨.hbm, 602, rfl⟩
abbrev main_v473 : Ref sig .tc := ⟨.hbm, 603, rfl⟩
abbrev main_v474 : Ref sig .tc := ⟨.hbm, 604, rfl⟩
abbrev main_cst_115 : Ref sig .tc := ⟨.hbm, 605, rfl⟩
abbrev main_v475 : Ref sig .tc := ⟨.hbm, 606, rfl⟩
abbrev main_v476 : Ref sig .tc := ⟨.hbm, 607, rfl⟩
abbrev main_v477 : Ref sig .tc := ⟨.hbm, 608, rfl⟩
abbrev main_cst_116 : Ref sig .tc := ⟨.hbm, 609, rfl⟩
abbrev main_v478 : Ref sig .tc := ⟨.hbm, 610, rfl⟩
abbrev main_v479 : Ref sig .tc := ⟨.hbm, 611, rfl⟩
abbrev main_v480 : Ref sig .tc := ⟨.hbm, 612, rfl⟩
abbrev main_v481 : Ref sig .tc := ⟨.hbm, 613, rfl⟩
abbrev main_v482 : Ref sig .tc := ⟨.hbm, 614, rfl⟩
abbrev main_v483 : Ref sig .tc := ⟨.hbm, 615, rfl⟩
abbrev main_v484 : Ref sig .tc := ⟨.hbm, 616, rfl⟩
abbrev main_cst_117 : Ref sig .tc := ⟨.hbm, 617, rfl⟩
abbrev main_v485 : Ref sig .tc := ⟨.hbm, 618, rfl⟩
abbrev main_v486 : Ref sig .tc := ⟨.hbm, 619, rfl⟩
abbrev main_v487 : Ref sig .tc := ⟨.hbm, 620, rfl⟩
abbrev main_cst_118 : Ref sig .tc := ⟨.hbm, 621, rfl⟩
abbrev main_v488 : Ref sig .tc := ⟨.hbm, 622, rfl⟩
abbrev main_v489 : Ref sig .tc := ⟨.hbm, 623, rfl⟩
abbrev main_v490 : Ref sig .tc := ⟨.hbm, 624, rfl⟩
abbrev main_v491 : Ref sig .tc := ⟨.hbm, 625, rfl⟩
abbrev main_v492 : Ref sig .tc := ⟨.hbm, 626, rfl⟩
abbrev main_v493 : Ref sig .tc := ⟨.hbm, 627, rfl⟩
abbrev main_v494 : Ref sig .tc := ⟨.hbm, 628, rfl⟩
abbrev main_cst_119 : Ref sig .tc := ⟨.hbm, 629, rfl⟩
abbrev main_v495 : Ref sig .tc := ⟨.hbm, 630, rfl⟩
abbrev main_v496 : Ref sig .tc := ⟨.hbm, 631, rfl⟩
abbrev main_v497 : Ref sig .tc := ⟨.hbm, 632, rfl⟩
abbrev main_cst_120 : Ref sig .tc := ⟨.hbm, 633, rfl⟩
abbrev main_v498 : Ref sig .tc := ⟨.hbm, 634, rfl⟩
abbrev main_v499 : Ref sig .tc := ⟨.hbm, 635, rfl⟩
abbrev main_v500 : Ref sig .tc := ⟨.hbm, 636, rfl⟩
abbrev main_v501 : Ref sig .tc := ⟨.hbm, 637, rfl⟩
abbrev main_v502 : Ref sig .tc := ⟨.hbm, 638, rfl⟩
abbrev main_v503 : Ref sig .tc := ⟨.hbm, 639, rfl⟩
abbrev main_v504 : Ref sig .tc := ⟨.hbm, 640, rfl⟩
abbrev main_cst_121 : Ref sig .tc := ⟨.hbm, 641, rfl⟩
abbrev main_v505 : Ref sig .tc := ⟨.hbm, 642, rfl⟩
abbrev main_v506 : Ref sig .tc := ⟨.hbm, 643, rfl⟩
abbrev main_v507 : Ref sig .tc := ⟨.hbm, 644, rfl⟩
abbrev main_cst_122 : Ref sig .tc := ⟨.hbm, 645, rfl⟩
abbrev main_v508 : Ref sig .tc := ⟨.hbm, 646, rfl⟩
abbrev main_v509 : Ref sig .tc := ⟨.hbm, 647, rfl⟩
abbrev main_v510 : Ref sig .tc := ⟨.hbm, 648, rfl⟩
abbrev main_v511 : Ref sig .tc := ⟨.hbm, 649, rfl⟩
abbrev main_v512 : Ref sig .tc := ⟨.hbm, 650, rfl⟩
abbrev main_v513 : Ref sig .tc := ⟨.hbm, 651, rfl⟩
abbrev main_v514 : Ref sig .tc := ⟨.hbm, 652, rfl⟩
abbrev main_cst_123 : Ref sig .tc := ⟨.hbm, 653, rfl⟩
abbrev main_v515 : Ref sig .tc := ⟨.hbm, 654, rfl⟩
abbrev main_v516 : Ref sig .tc := ⟨.hbm, 655, rfl⟩
abbrev main_v517 : Ref sig .tc := ⟨.hbm, 656, rfl⟩
abbrev main_cst_124 : Ref sig .tc := ⟨.hbm, 657, rfl⟩
abbrev main_v518 : Ref sig .tc := ⟨.hbm, 658, rfl⟩
abbrev main_v519 : Ref sig .tc := ⟨.hbm, 659, rfl⟩
abbrev main_v520 : Ref sig .tc := ⟨.hbm, 660, rfl⟩
abbrev main_v521 : Ref sig .tc := ⟨.hbm, 661, rfl⟩
abbrev main_v522 : Ref sig .tc := ⟨.hbm, 662, rfl⟩
abbrev main_v523 : Ref sig .tc := ⟨.hbm, 663, rfl⟩
abbrev main_v524 : Ref sig .tc := ⟨.hbm, 664, rfl⟩
abbrev main_cst_125 : Ref sig .tc := ⟨.hbm, 665, rfl⟩
abbrev main_v525 : Ref sig .tc := ⟨.hbm, 666, rfl⟩
abbrev main_v526 : Ref sig .tc := ⟨.hbm, 667, rfl⟩
abbrev main_v527 : Ref sig .tc := ⟨.hbm, 668, rfl⟩
abbrev main_cst_126 : Ref sig .tc := ⟨.hbm, 669, rfl⟩
abbrev main_v528 : Ref sig .tc := ⟨.hbm, 670, rfl⟩
abbrev main_v529 : Ref sig .tc := ⟨.hbm, 671, rfl⟩
abbrev main_v530 : Ref sig .tc := ⟨.hbm, 672, rfl⟩
abbrev main_v531 : Ref sig .tc := ⟨.hbm, 673, rfl⟩
abbrev main_v532 : Ref sig .tc := ⟨.hbm, 674, rfl⟩
abbrev main_v533 : Ref sig .tc := ⟨.hbm, 675, rfl⟩
abbrev main_v534 : Ref sig .tc := ⟨.hbm, 676, rfl⟩
abbrev main_cst_127 : Ref sig .tc := ⟨.hbm, 677, rfl⟩
abbrev main_v535 : Ref sig .tc := ⟨.hbm, 678, rfl⟩
abbrev main_v536 : Ref sig .tc := ⟨.hbm, 679, rfl⟩
abbrev main_v537 : Ref sig .tc := ⟨.hbm, 680, rfl⟩
abbrev main_cst_128 : Ref sig .tc := ⟨.hbm, 681, rfl⟩
abbrev main_v538 : Ref sig .tc := ⟨.hbm, 682, rfl⟩
abbrev main_v539 : Ref sig .tc := ⟨.hbm, 683, rfl⟩
abbrev main_v540 : Ref sig .tc := ⟨.hbm, 684, rfl⟩
abbrev main_v541 : Ref sig .tc := ⟨.hbm, 685, rfl⟩
abbrev main_v542 : Ref sig .tc := ⟨.hbm, 686, rfl⟩
abbrev main_v543 : Ref sig .tc := ⟨.hbm, 687, rfl⟩
abbrev main_v544 : Ref sig .tc := ⟨.hbm, 688, rfl⟩
abbrev main_cst_129 : Ref sig .tc := ⟨.hbm, 689, rfl⟩
abbrev main_v545 : Ref sig .tc := ⟨.hbm, 690, rfl⟩
abbrev main_v546 : Ref sig .tc := ⟨.hbm, 691, rfl⟩
abbrev main_v547 : Ref sig .tc := ⟨.hbm, 692, rfl⟩
abbrev main_cst_130 : Ref sig .tc := ⟨.hbm, 693, rfl⟩
abbrev main_v548 : Ref sig .tc := ⟨.hbm, 694, rfl⟩
abbrev main_v549 : Ref sig .tc := ⟨.hbm, 695, rfl⟩
abbrev main_v550 : Ref sig .tc := ⟨.hbm, 696, rfl⟩
abbrev main_v551 : Ref sig .tc := ⟨.hbm, 697, rfl⟩
abbrev main_v552 : Ref sig .tc := ⟨.hbm, 698, rfl⟩
abbrev main_cst_131 : Ref sig .tc := ⟨.hbm, 699, rfl⟩
abbrev main_v553 : Ref sig .tc := ⟨.hbm, 700, rfl⟩
abbrev main_v554 : Ref sig .tc := ⟨.hbm, 701, rfl⟩
abbrev main_cst_132 : Ref sig .tc := ⟨.hbm, 702, rfl⟩
abbrev main_v555 : Ref sig .tc := ⟨.hbm, 703, rfl⟩
abbrev main_v556 : Ref sig .tc := ⟨.hbm, 704, rfl⟩
abbrev main_v557 : Ref sig .tc := ⟨.hbm, 705, rfl⟩
abbrev main_v558 : Ref sig .tc := ⟨.hbm, 706, rfl⟩
abbrev main_v559 : Ref sig .tc := ⟨.hbm, 707, rfl⟩
abbrev main_cst_133 : Ref sig .tc := ⟨.hbm, 708, rfl⟩
abbrev main_v560 : Ref sig .tc := ⟨.hbm, 709, rfl⟩
abbrev main_v561 : Ref sig .tc := ⟨.hbm, 710, rfl⟩
abbrev main_cst_134 : Ref sig .tc := ⟨.hbm, 711, rfl⟩
abbrev main_v562 : Ref sig .tc := ⟨.hbm, 712, rfl⟩
abbrev main_v563 : Ref sig .tc := ⟨.hbm, 713, rfl⟩
abbrev main_cst_135 : Ref sig .tc := ⟨.hbm, 714, rfl⟩
abbrev main_v564 : Ref sig .tc := ⟨.hbm, 715, rfl⟩
abbrev main_v565 : Ref sig .tc := ⟨.hbm, 716, rfl⟩
abbrev main_v566 : Ref sig .tc := ⟨.hbm, 717, rfl⟩
abbrev main_v567 : Ref sig .tc := ⟨.hbm, 718, rfl⟩
abbrev main_cst_136 : Ref sig .tc := ⟨.hbm, 719, rfl⟩
abbrev main_v568 : Ref sig .tc := ⟨.hbm, 720, rfl⟩
abbrev main_v569 : Ref sig .tc := ⟨.hbm, 721, rfl⟩
abbrev main_v570 : Ref sig .tc := ⟨.hbm, 722, rfl⟩
abbrev main_v571 : Ref sig .tc := ⟨.hbm, 723, rfl⟩
abbrev main_cst_137 : Ref sig .tc := ⟨.hbm, 724, rfl⟩
abbrev main_v572 : Ref sig .tc := ⟨.hbm, 725, rfl⟩
abbrev main_v573 : Ref sig .tc := ⟨.hbm, 726, rfl⟩
abbrev main_v574 : Ref sig .tc := ⟨.hbm, 727, rfl⟩
abbrev main_v575 : Ref sig .tc := ⟨.hbm, 728, rfl⟩
abbrev main_v576 : Ref sig .tc := ⟨.hbm, 729, rfl⟩
abbrev main_v577 : Ref sig .tc := ⟨.hbm, 730, rfl⟩
abbrev main_v578 : Ref sig .tc := ⟨.hbm, 731, rfl⟩
abbrev main_v579 : Ref sig .tc := ⟨.hbm, 732, rfl⟩
abbrev main_v580 : Ref sig .tc := ⟨.hbm, 733, rfl⟩
abbrev main_v581 : Ref sig .tc := ⟨.hbm, 734, rfl⟩
abbrev main_call0_v0 : Ref sig .tc := ⟨.hbm, 735, rfl⟩
abbrev main_call0_v1 : Ref sig .tc := ⟨.hbm, 736, rfl⟩
abbrev main_call0_cst : Ref sig .tc := ⟨.hbm, 737, rfl⟩
abbrev main_call0_v2 : Ref sig .tc := ⟨.hbm, 738, rfl⟩
abbrev main_call0_v3 : Ref sig .tc := ⟨.hbm, 739, rfl⟩
abbrev main_call0_cst_0 : Ref sig .tc := ⟨.hbm, 740, rfl⟩
abbrev main_call0_v4 : Ref sig .tc := ⟨.hbm, 741, rfl⟩
abbrev main_v582_2 : Ref sig .tc := ⟨.hbm, 742, rfl⟩
abbrev main_call0_cst_1 : Ref sig .tc := ⟨.hbm, 743, rfl⟩
abbrev main_call0_v6 : Ref sig .tc := ⟨.hbm, 744, rfl⟩
abbrev main_call0_v7 : Ref sig .tc := ⟨.hbm, 745, rfl⟩
abbrev main_v582_1 : Ref sig .tc := ⟨.hbm, 746, rfl⟩
abbrev main_v582_0 : Ref sig .tc := ⟨.hbm, 747, rfl⟩
abbrev main_v583 : Ref sig .tc := ⟨.hbm, 748, rfl⟩
abbrev main_v584 : Ref sig .tc := ⟨.hbm, 749, rfl⟩
abbrev main_v585 : Ref sig .tc := ⟨.hbm, 750, rfl⟩
abbrev main_v586 : Ref sig .tc := ⟨.hbm, 751, rfl⟩
abbrev main_v587 : Ref sig .tc := ⟨.hbm, 752, rfl⟩
abbrev main_cst_138 : Ref sig .tc := ⟨.hbm, 753, rfl⟩
abbrev main_v588 : Ref sig .tc := ⟨.hbm, 754, rfl⟩
abbrev main_v589 : Ref sig .tc := ⟨.hbm, 755, rfl⟩
abbrev main_cst_139 : Ref sig .tc := ⟨.hbm, 756, rfl⟩
abbrev main_v590 : Ref sig .tc := ⟨.hbm, 757, rfl⟩
abbrev main_v591 : Ref sig .tc := ⟨.hbm, 758, rfl⟩
abbrev main_v592 : Ref sig .tc := ⟨.hbm, 759, rfl⟩
abbrev main_cst_140 : Ref sig .tc := ⟨.hbm, 760, rfl⟩
abbrev main_v593 : Ref sig .tc := ⟨.hbm, 761, rfl⟩
abbrev main_v594 : Ref sig .tc := ⟨.hbm, 762, rfl⟩
abbrev main_v595 : Ref sig .tc := ⟨.hbm, 763, rfl⟩
abbrev main_cst_141 : Ref sig .tc := ⟨.hbm, 764, rfl⟩
abbrev main_v596 : Ref sig .tc := ⟨.hbm, 765, rfl⟩
abbrev main_v597 : Ref sig .tc := ⟨.hbm, 766, rfl⟩
abbrev main_cst_142 : Ref sig .tc := ⟨.hbm, 767, rfl⟩
abbrev main_v598 : Ref sig .tc := ⟨.hbm, 768, rfl⟩
abbrev main_v599 : Ref sig .tc := ⟨.hbm, 769, rfl⟩
abbrev main_v600 : Ref sig .tc := ⟨.hbm, 770, rfl⟩
abbrev main_cst_143 : Ref sig .tc := ⟨.hbm, 771, rfl⟩
abbrev main_v601 : Ref sig .tc := ⟨.hbm, 772, rfl⟩
abbrev main_v602 : Ref sig .tc := ⟨.hbm, 773, rfl⟩
abbrev main_cst_144 : Ref sig .tc := ⟨.hbm, 774, rfl⟩
abbrev main_v603 : Ref sig .tc := ⟨.hbm, 775, rfl⟩
abbrev main_v604 : Ref sig .tc := ⟨.hbm, 776, rfl⟩
abbrev main_v605 : Ref sig .tc := ⟨.hbm, 777, rfl⟩
abbrev main_v606 : Ref sig .tc := ⟨.hbm, 778, rfl⟩
abbrev main_v607 : Ref sig .tc := ⟨.hbm, 779, rfl⟩
abbrev main_v608 : Ref sig .tc := ⟨.hbm, 780, rfl⟩
abbrev main_v609 : Ref sig .tc := ⟨.hbm, 781, rfl⟩
abbrev main_cst_145 : Ref sig .tc := ⟨.hbm, 782, rfl⟩
abbrev main_v610 : Ref sig .tc := ⟨.hbm, 783, rfl⟩
abbrev main_v611 : Ref sig .tc := ⟨.hbm, 784, rfl⟩
abbrev main_cst_146 : Ref sig .tc := ⟨.hbm, 785, rfl⟩
abbrev main_v612 : Ref sig .tc := ⟨.hbm, 786, rfl⟩
abbrev main_v613 : Ref sig .tc := ⟨.hbm, 787, rfl⟩
abbrev main_v614 : Ref sig .tc := ⟨.hbm, 788, rfl⟩
abbrev main_cst_147 : Ref sig .tc := ⟨.hbm, 789, rfl⟩
abbrev main_v615 : Ref sig .tc := ⟨.hbm, 790, rfl⟩
abbrev main_v616 : Ref sig .tc := ⟨.hbm, 791, rfl⟩
abbrev main_v617 : Ref sig .tc := ⟨.hbm, 792, rfl⟩
abbrev main_cst_148 : Ref sig .tc := ⟨.hbm, 793, rfl⟩
abbrev main_v618 : Ref sig .tc := ⟨.hbm, 794, rfl⟩
abbrev main_v619 : Ref sig .tc := ⟨.hbm, 795, rfl⟩
abbrev main_cst_149 : Ref sig .tc := ⟨.hbm, 796, rfl⟩
abbrev main_v620 : Ref sig .tc := ⟨.hbm, 797, rfl⟩
abbrev main_v621 : Ref sig .tc := ⟨.hbm, 798, rfl⟩
abbrev main_v622 : Ref sig .tc := ⟨.hbm, 799, rfl⟩
abbrev main_cst_150 : Ref sig .tc := ⟨.hbm, 800, rfl⟩
abbrev main_v623 : Ref sig .tc := ⟨.hbm, 801, rfl⟩
abbrev main_v624 : Ref sig .tc := ⟨.hbm, 802, rfl⟩
abbrev main_cst_151 : Ref sig .tc := ⟨.hbm, 803, rfl⟩
abbrev main_v625 : Ref sig .tc := ⟨.hbm, 804, rfl⟩
abbrev main_v626 : Ref sig .tc := ⟨.hbm, 805, rfl⟩
abbrev main_v627 : Ref sig .tc := ⟨.hbm, 806, rfl⟩
abbrev main_cst_152 : Ref sig .tc := ⟨.hbm, 807, rfl⟩
abbrev main_v628 : Ref sig .tc := ⟨.hbm, 808, rfl⟩
abbrev main_v629 : Ref sig .tc := ⟨.hbm, 809, rfl⟩
abbrev main_cst_153 : Ref sig .tc := ⟨.hbm, 810, rfl⟩
abbrev main_v630 : Ref sig .tc := ⟨.hbm, 811, rfl⟩
abbrev main_v631 : Ref sig .tc := ⟨.hbm, 812, rfl⟩
abbrev main_v632 : Ref sig .tc := ⟨.hbm, 813, rfl⟩
abbrev main_v633 : Ref sig .tc := ⟨.hbm, 814, rfl⟩
abbrev main_v634 : Ref sig .tc := ⟨.hbm, 815, rfl⟩
abbrev main_cst_154 : Ref sig .tc := ⟨.hbm, 816, rfl⟩
abbrev main_v635 : Ref sig .tc := ⟨.hbm, 817, rfl⟩
abbrev main_v636 : Ref sig .tc := ⟨.hbm, 818, rfl⟩
abbrev main_cst_155 : Ref sig .tc := ⟨.hbm, 819, rfl⟩
abbrev main_v637 : Ref sig .tc := ⟨.hbm, 820, rfl⟩
abbrev main_v638 : Ref sig .tc := ⟨.hbm, 821, rfl⟩
abbrev main_cst_156 : Ref sig .tc := ⟨.hbm, 822, rfl⟩
abbrev main_v639 : Ref sig .tc := ⟨.hbm, 823, rfl⟩
abbrev main_v640 : Ref sig .tc := ⟨.hbm, 824, rfl⟩
abbrev main_v641 : Ref sig .tc := ⟨.hbm, 825, rfl⟩
abbrev main_v642 : Ref sig .tc := ⟨.hbm, 826, rfl⟩
abbrev main_cst_157 : Ref sig .tc := ⟨.hbm, 827, rfl⟩
abbrev main_v643 : Ref sig .tc := ⟨.hbm, 828, rfl⟩
abbrev main_v644 : Ref sig .tc := ⟨.hbm, 829, rfl⟩
abbrev main_v645 : Ref sig .tc := ⟨.hbm, 830, rfl⟩
abbrev main_v646 : Ref sig .tc := ⟨.hbm, 831, rfl⟩
abbrev main_cst_158 : Ref sig .tc := ⟨.hbm, 832, rfl⟩
abbrev main_v647 : Ref sig .tc := ⟨.hbm, 833, rfl⟩
abbrev main_v648 : Ref sig .tc := ⟨.hbm, 834, rfl⟩
abbrev main_v649 : Ref sig .tc := ⟨.hbm, 835, rfl⟩
abbrev main_v650 : Ref sig .tc := ⟨.hbm, 836, rfl⟩
abbrev main_v651 : Ref sig .tc := ⟨.hbm, 837, rfl⟩
abbrev main_v652 : Ref sig .tc := ⟨.hbm, 838, rfl⟩
abbrev main_v653 : Ref sig .tc := ⟨.hbm, 839, rfl⟩
abbrev main_v654 : Ref sig .tc := ⟨.hbm, 840, rfl⟩
abbrev main_v655 : Ref sig .tc := ⟨.hbm, 841, rfl⟩
abbrev main_v656 : Ref sig .tc := ⟨.hbm, 842, rfl⟩
abbrev main_v657 : Ref sig .tc := ⟨.hbm, 843, rfl⟩
abbrev main_v658 : Ref sig .tc := ⟨.hbm, 844, rfl⟩
abbrev main_v659 : Ref sig .tc := ⟨.hbm, 845, rfl⟩
abbrev main_c_159 : Ref sig .tc := ⟨.hbm, 846, rfl⟩
abbrev main_call1_v0 : Ref sig .tc := ⟨.hbm, 847, rfl⟩
abbrev main_call1_v1 : Ref sig .tc := ⟨.hbm, 848, rfl⟩
abbrev main_call1_v2 : Ref sig .tc := ⟨.hbm, 849, rfl⟩
abbrev main_call1_v3 : Ref sig .tc := ⟨.hbm, 850, rfl⟩
abbrev main_call1_v4 : Ref sig .tc := ⟨.hbm, 851, rfl⟩
abbrev main_call1_v5 : Ref sig .tc := ⟨.hbm, 852, rfl⟩
abbrev main_call1_v6 : Ref sig .tc := ⟨.hbm, 853, rfl⟩
abbrev main_call1_v7 : Ref sig .tc := ⟨.hbm, 854, rfl⟩
abbrev main_call1_v8 : Ref sig .tc := ⟨.hbm, 855, rfl⟩
abbrev main_call1_c : Ref sig .tc := ⟨.hbm, 856, rfl⟩
abbrev main_call1_v9 : Ref sig .tc := ⟨.hbm, 857, rfl⟩
abbrev main_call1_v10 : Ref sig .tc := ⟨.hbm, 858, rfl⟩
abbrev main_call1_v11 : Ref sig .tc := ⟨.hbm, 859, rfl⟩
abbrev main_call1_c_0 : Ref sig .tc := ⟨.hbm, 860, rfl⟩
abbrev main_call1_v12 : Ref sig .tc := ⟨.hbm, 861, rfl⟩
abbrev main_call1_v13 : Ref sig .tc := ⟨.hbm, 862, rfl⟩
abbrev main_v660 : Ref sig .tc := ⟨.hbm, 863, rfl⟩
abbrev main_v661 : Ref sig .tc := ⟨.hbm, 864, rfl⟩
abbrev main_c_160 : Ref sig .tc := ⟨.hbm, 865, rfl⟩
abbrev main_call2_v0 : Ref sig .tc := ⟨.hbm, 866, rfl⟩
abbrev main_call2_v1 : Ref sig .tc := ⟨.hbm, 867, rfl⟩
abbrev main_call2_v2 : Ref sig .tc := ⟨.hbm, 868, rfl⟩
abbrev main_call2_v3 : Ref sig .tc := ⟨.hbm, 869, rfl⟩
abbrev main_call2_v4 : Ref sig .tc := ⟨.hbm, 870, rfl⟩
abbrev main_call2_v5 : Ref sig .tc := ⟨.hbm, 871, rfl⟩
abbrev main_call2_v6 : Ref sig .tc := ⟨.hbm, 872, rfl⟩
abbrev main_call2_v7 : Ref sig .tc := ⟨.hbm, 873, rfl⟩
abbrev main_call2_v8 : Ref sig .tc := ⟨.hbm, 874, rfl⟩
abbrev main_call2_c : Ref sig .tc := ⟨.hbm, 875, rfl⟩
abbrev main_call2_v9 : Ref sig .tc := ⟨.hbm, 876, rfl⟩
abbrev main_call2_v10 : Ref sig .tc := ⟨.hbm, 877, rfl⟩
abbrev main_call2_v11 : Ref sig .tc := ⟨.hbm, 878, rfl⟩
abbrev main_call2_c_0 : Ref sig .tc := ⟨.hbm, 879, rfl⟩
abbrev main_call2_v12 : Ref sig .tc := ⟨.hbm, 880, rfl⟩
abbrev main_call2_v13 : Ref sig .tc := ⟨.hbm, 881, rfl⟩
abbrev main_v662 : Ref sig .tc := ⟨.hbm, 882, rfl⟩
abbrev main_v663 : Ref sig .tc := ⟨.hbm, 883, rfl⟩
abbrev main_v664 : Ref sig .tc := ⟨.hbm, 884, rfl⟩
abbrev main_v665 : Ref sig .tc := ⟨.hbm, 885, rfl⟩
abbrev main_v666 : Ref sig .tc := ⟨.hbm, 886, rfl⟩
abbrev main_cst_161 : Ref sig .tc := ⟨.hbm, 887, rfl⟩
abbrev main_call3_v0 : Ref sig .tc := ⟨.hbm, 888, rfl⟩
abbrev main_v667_1 : Ref sig .tc := ⟨.hbm, 889, rfl⟩
abbrev main_call3_v2 : Ref sig .tc := ⟨.hbm, 890, rfl⟩
abbrev main_v667_0 : Ref sig .tc := ⟨.hbm, 891, rfl⟩
abbrev main_call3_cst : Ref sig .tc := ⟨.hbm, 892, rfl⟩
abbrev main_v667_2 : Ref sig .tc := ⟨.hbm, 893, rfl⟩
abbrev main_v668 : Ref sig .tc := ⟨.hbm, 894, rfl⟩
abbrev main_v669 : Ref sig .tc := ⟨.hbm, 895, rfl⟩
abbrev main_v670 : Ref sig .tc := ⟨.hbm, 896, rfl⟩
abbrev main_v671 : Ref sig .tc := ⟨.hbm, 897, rfl⟩
abbrev main_v672 : Ref sig .tc := ⟨.hbm, 898, rfl⟩
abbrev main_v673 : Ref sig .tc := ⟨.hbm, 899, rfl⟩
abbrev main_v674 : Ref sig .tc := ⟨.hbm, 900, rfl⟩
abbrev main_v675 : Ref sig .tc := ⟨.hbm, 901, rfl⟩
abbrev main_v676 : Ref sig .tc := ⟨.hbm, 902, rfl⟩
abbrev main_v677 : Ref sig .tc := ⟨.hbm, 903, rfl⟩
abbrev main_v678 : Ref sig .tc := ⟨.hbm, 904, rfl⟩
abbrev main_v679 : Ref sig .tc := ⟨.hbm, 905, rfl⟩
abbrev main_v680 : Ref sig .tc := ⟨.hbm, 906, rfl⟩
abbrev main_v681 : Ref sig .tc := ⟨.hbm, 907, rfl⟩
abbrev main_v682 : Ref sig .tc := ⟨.hbm, 908, rfl⟩
abbrev main_v683 : Ref sig .tc := ⟨.hbm, 909, rfl⟩
abbrev main_v684 : Ref sig .tc := ⟨.hbm, 910, rfl⟩
abbrev main_cst_162 : Ref sig .tc := ⟨.hbm, 911, rfl⟩
abbrev main_v685 : Ref sig .tc := ⟨.hbm, 912, rfl⟩
abbrev main_v686 : Ref sig .tc := ⟨.hbm, 913, rfl⟩
abbrev main_cst_163 : Ref sig .tc := ⟨.hbm, 914, rfl⟩
abbrev main_v687 : Ref sig .tc := ⟨.hbm, 915, rfl⟩
abbrev main_v688 : Ref sig .tc := ⟨.hbm, 916, rfl⟩
abbrev main_v689 : Ref sig .tc := ⟨.hbm, 917, rfl⟩
abbrev main_v690 : Ref sig .tc := ⟨.hbm, 918, rfl⟩
abbrev main_v691 : Ref sig .tc := ⟨.hbm, 919, rfl⟩
abbrev main_v692 : Ref sig .tc := ⟨.hbm, 920, rfl⟩
abbrev main_call4_cst : Ref sig .tc := ⟨.hbm, 921, rfl⟩
abbrev main_call4_v0 : Ref sig .tc := ⟨.hbm, 922, rfl⟩
abbrev main_v693 : Ref sig .tc := ⟨.hbm, 923, rfl⟩
abbrev main_v694 : Ref sig .tc := ⟨.hbm, 924, rfl⟩
abbrev main_cst_164 : Ref sig .tc := ⟨.hbm, 925, rfl⟩
abbrev main_v695 : Ref sig .tc := ⟨.hbm, 926, rfl⟩
abbrev main_v696 : Ref sig .tc := ⟨.hbm, 927, rfl⟩
abbrev main_cst_165 : Ref sig .tc := ⟨.hbm, 928, rfl⟩
abbrev main_v697 : Ref sig .tc := ⟨.hbm, 929, rfl⟩
abbrev main_v698 : Ref sig .tc := ⟨.hbm, 930, rfl⟩
abbrev main_cst_166 : Ref sig .tc := ⟨.hbm, 931, rfl⟩
abbrev main_v699 : Ref sig .tc := ⟨.hbm, 932, rfl⟩
abbrev main_v700 : Ref sig .tc := ⟨.hbm, 933, rfl⟩
abbrev main_v701 : Ref sig .tc := ⟨.hbm, 934, rfl⟩
abbrev main_v702 : Ref sig .tc := ⟨.hbm, 935, rfl⟩
abbrev main_cst_167 : Ref sig .tc := ⟨.hbm, 936, rfl⟩
abbrev main_v703 : Ref sig .tc := ⟨.hbm, 937, rfl⟩
abbrev main_v704 : Ref sig .tc := ⟨.hbm, 938, rfl⟩
abbrev main_cst_168 : Ref sig .tc := ⟨.hbm, 939, rfl⟩
abbrev main_v705 : Ref sig .tc := ⟨.hbm, 940, rfl⟩
abbrev main_v706 : Ref sig .tc := ⟨.hbm, 941, rfl⟩
abbrev main_v707 : Ref sig .tc := ⟨.hbm, 942, rfl⟩
abbrev main_v708 : Ref sig .tc := ⟨.hbm, 943, rfl⟩
abbrev main_v709 : Ref sig .tc := ⟨.hbm, 944, rfl⟩
abbrev main_v710 : Ref sig .tc := ⟨.hbm, 945, rfl⟩
abbrev main_cst_169 : Ref sig .tc := ⟨.hbm, 946, rfl⟩
abbrev main_v711 : Ref sig .tc := ⟨.hbm, 947, rfl⟩
abbrev main_v712 : Ref sig .tc := ⟨.hbm, 948, rfl⟩
abbrev main_cst_170 : Ref sig .tc := ⟨.hbm, 949, rfl⟩
abbrev main_v713 : Ref sig .tc := ⟨.hbm, 950, rfl⟩
abbrev main_v714 : Ref sig .tc := ⟨.hbm, 951, rfl⟩
abbrev main_cst_171 : Ref sig .tc := ⟨.hbm, 952, rfl⟩
abbrev main_v715 : Ref sig .tc := ⟨.hbm, 953, rfl⟩
abbrev main_v716 : Ref sig .tc := ⟨.hbm, 954, rfl⟩
abbrev main_v717 : Ref sig .tc := ⟨.hbm, 955, rfl⟩
abbrev main_v718 : Ref sig .tc := ⟨.hbm, 956, rfl⟩
abbrev main_cst_172 : Ref sig .tc := ⟨.hbm, 957, rfl⟩
abbrev main_v719 : Ref sig .tc := ⟨.hbm, 958, rfl⟩
abbrev main_v720 : Ref sig .tc := ⟨.hbm, 959, rfl⟩
abbrev main_v721 : Ref sig .tc := ⟨.hbm, 960, rfl⟩
abbrev main_v722 : Ref sig .tc := ⟨.hbm, 961, rfl⟩
abbrev main_cst_173 : Ref sig .tc := ⟨.hbm, 962, rfl⟩
abbrev main_v723 : Ref sig .tc := ⟨.hbm, 963, rfl⟩
abbrev main_v724 : Ref sig .tc := ⟨.hbm, 964, rfl⟩
abbrev main_cst_174 : Ref sig .tc := ⟨.hbm, 965, rfl⟩
abbrev main_v725 : Ref sig .tc := ⟨.hbm, 966, rfl⟩
abbrev main_v726 : Ref sig .tc := ⟨.hbm, 967, rfl⟩
abbrev main_v727 : Ref sig .tc := ⟨.hbm, 968, rfl⟩
abbrev main_v728 : Ref sig .tc := ⟨.hbm, 969, rfl⟩
abbrev main_v729 : Ref sig .tc := ⟨.hbm, 970, rfl⟩
abbrev main_cst_175 : Ref sig .tc := ⟨.hbm, 971, rfl⟩
abbrev main_v730 : Ref sig .tc := ⟨.hbm, 972, rfl⟩
abbrev main_v731 : Ref sig .tc := ⟨.hbm, 973, rfl⟩
abbrev main_v732 : Ref sig .tc := ⟨.hbm, 974, rfl⟩
abbrev main_cst_176 : Ref sig .tc := ⟨.hbm, 975, rfl⟩
abbrev main_v733 : Ref sig .tc := ⟨.hbm, 976, rfl⟩
abbrev main_v734 : Ref sig .tc := ⟨.hbm, 977, rfl⟩
abbrev main_v735 : Ref sig .tc := ⟨.hbm, 978, rfl⟩
abbrev main_cst_177 : Ref sig .tc := ⟨.hbm, 979, rfl⟩
abbrev main_v736 : Ref sig .tc := ⟨.hbm, 980, rfl⟩
abbrev main_v737 : Ref sig .tc := ⟨.hbm, 981, rfl⟩
abbrev main_v738 : Ref sig .tc := ⟨.hbm, 982, rfl⟩
abbrev main_v739 : Ref sig .tc := ⟨.hbm, 983, rfl⟩
abbrev main_cst_178 : Ref sig .tc := ⟨.hbm, 984, rfl⟩
abbrev main_v740 : Ref sig .tc := ⟨.hbm, 985, rfl⟩
abbrev main_v741 : Ref sig .tc := ⟨.hbm, 986, rfl⟩
abbrev main_v742 : Ref sig .tc := ⟨.hbm, 987, rfl⟩
abbrev main_cst_179 : Ref sig .tc := ⟨.hbm, 988, rfl⟩
abbrev main_v743 : Ref sig .tc := ⟨.hbm, 989, rfl⟩
abbrev main_v744 : Ref sig .tc := ⟨.hbm, 990, rfl⟩
abbrev main_v745 : Ref sig .tc := ⟨.hbm, 991, rfl⟩
abbrev main_cst_180 : Ref sig .tc := ⟨.hbm, 992, rfl⟩
abbrev main_v746 : Ref sig .tc := ⟨.hbm, 993, rfl⟩
abbrev main_v747 : Ref sig .tc := ⟨.hbm, 994, rfl⟩
abbrev main_v748 : Ref sig .tc := ⟨.hbm, 995, rfl⟩
abbrev main_cst_181 : Ref sig .tc := ⟨.hbm, 996, rfl⟩
abbrev main_v749 : Ref sig .tc := ⟨.hbm, 997, rfl⟩
abbrev main_v750 : Ref sig .tc := ⟨.hbm, 998, rfl⟩
abbrev main_v751 : Ref sig .tc := ⟨.hbm, 999, rfl⟩
abbrev main_v752 : Ref sig .tc := ⟨.hbm, 1000, rfl⟩
abbrev main_cst_182 : Ref sig .tc := ⟨.hbm, 1001, rfl⟩
abbrev main_v753 : Ref sig .tc := ⟨.hbm, 1002, rfl⟩
abbrev main_v754 : Ref sig .tc := ⟨.hbm, 1003, rfl⟩
abbrev main_cst_183 : Ref sig .tc := ⟨.hbm, 1004, rfl⟩
abbrev main_v755 : Ref sig .tc := ⟨.hbm, 1005, rfl⟩
abbrev main_call5_v0 : Ref sig .tc := ⟨.hbm, 1006, rfl⟩
abbrev main_call5_v1 : Ref sig .tc := ⟨.hbm, 1007, rfl⟩
abbrev main_call5_v2 : Ref sig .tc := ⟨.hbm, 1008, rfl⟩
abbrev main_v756 : Ref sig .tc := ⟨.hbm, 1009, rfl⟩
abbrev main_cst_184 : Ref sig .tc := ⟨.hbm, 1010, rfl⟩
abbrev main_v757 : Ref sig .tc := ⟨.hbm, 1011, rfl⟩
abbrev main_v758 : Ref sig .tc := ⟨.hbm, 1012, rfl⟩
abbrev main_cst_185 : Ref sig .tc := ⟨.hbm, 1013, rfl⟩
abbrev main_v759 : Ref sig .tc := ⟨.hbm, 1014, rfl⟩
abbrev main_v760 : Ref sig .tc := ⟨.hbm, 1015, rfl⟩
abbrev main_cst_186 : Ref sig .tc := ⟨.hbm, 1016, rfl⟩
abbrev main_v761 : Ref sig .tc := ⟨.hbm, 1017, rfl⟩
abbrev main_v762 : Ref sig .tc := ⟨.hbm, 1018, rfl⟩
abbrev main_v763 : Ref sig .tc := ⟨.hbm, 1019, rfl⟩
abbrev main_v764 : Ref sig .tc := ⟨.hbm, 1020, rfl⟩
abbrev main_cst_187 : Ref sig .tc := ⟨.hbm, 1021, rfl⟩
abbrev main_v765 : Ref sig .tc := ⟨.hbm, 1022, rfl⟩
abbrev main_v766 : Ref sig .tc := ⟨.hbm, 1023, rfl⟩
abbrev main_cst_188 : Ref sig .tc := ⟨.hbm, 1024, rfl⟩
abbrev main_v767 : Ref sig .tc := ⟨.hbm, 1025, rfl⟩
abbrev main_v768 : Ref sig .tc := ⟨.hbm, 1026, rfl⟩
abbrev main_v769 : Ref sig .tc := ⟨.hbm, 1027, rfl⟩
abbrev main_v770 : Ref sig .tc := ⟨.hbm, 1028, rfl⟩
abbrev main_v771 : Ref sig .tc := ⟨.hbm, 1029, rfl⟩
abbrev main_v772 : Ref sig .tc := ⟨.hbm, 1030, rfl⟩
abbrev main_cst_189 : Ref sig .tc := ⟨.hbm, 1031, rfl⟩
abbrev main_v773 : Ref sig .tc := ⟨.hbm, 1032, rfl⟩
abbrev main_v774 : Ref sig .tc := ⟨.hbm, 1033, rfl⟩
abbrev main_cst_190 : Ref sig .tc := ⟨.hbm, 1034, rfl⟩
abbrev main_v775 : Ref sig .tc := ⟨.hbm, 1035, rfl⟩
abbrev main_v776 : Ref sig .tc := ⟨.hbm, 1036, rfl⟩
abbrev main_cst_191 : Ref sig .tc := ⟨.hbm, 1037, rfl⟩
abbrev main_v777 : Ref sig .tc := ⟨.hbm, 1038, rfl⟩
abbrev main_v778 : Ref sig .tc := ⟨.hbm, 1039, rfl⟩
abbrev main_v779 : Ref sig .tc := ⟨.hbm, 1040, rfl⟩
abbrev main_v780 : Ref sig .tc := ⟨.hbm, 1041, rfl⟩
abbrev main_cst_192 : Ref sig .tc := ⟨.hbm, 1042, rfl⟩
abbrev main_v781 : Ref sig .tc := ⟨.hbm, 1043, rfl⟩
abbrev main_v782 : Ref sig .tc := ⟨.hbm, 1044, rfl⟩
abbrev main_v783 : Ref sig .tc := ⟨.hbm, 1045, rfl⟩
abbrev main_v784 : Ref sig .tc := ⟨.hbm, 1046, rfl⟩
abbrev main_cst_193 : Ref sig .tc := ⟨.hbm, 1047, rfl⟩
abbrev main_v785 : Ref sig .tc := ⟨.hbm, 1048, rfl⟩
abbrev main_v786 : Ref sig .tc := ⟨.hbm, 1049, rfl⟩
abbrev main_cst_194 : Ref sig .tc := ⟨.hbm, 1050, rfl⟩
abbrev main_v787 : Ref sig .tc := ⟨.hbm, 1051, rfl⟩
abbrev main_v788 : Ref sig .tc := ⟨.hbm, 1052, rfl⟩
abbrev main_v789 : Ref sig .tc := ⟨.hbm, 1053, rfl⟩
abbrev main_v790 : Ref sig .tc := ⟨.hbm, 1054, rfl⟩
abbrev main_v791 : Ref sig .tc := ⟨.hbm, 1055, rfl⟩
abbrev main_v792 : Ref sig .tc := ⟨.hbm, 1056, rfl⟩
abbrev main_cst_195 : Ref sig .tc := ⟨.hbm, 1057, rfl⟩
abbrev main_v793 : Ref sig .tc := ⟨.hbm, 1058, rfl⟩
abbrev main_v794 : Ref sig .tc := ⟨.hbm, 1059, rfl⟩
abbrev main_cst_196 : Ref sig .tc := ⟨.hbm, 1060, rfl⟩
abbrev main_v795 : Ref sig .tc := ⟨.hbm, 1061, rfl⟩
abbrev main_v796 : Ref sig .tc := ⟨.hbm, 1062, rfl⟩
abbrev main_v797 : Ref sig .tc := ⟨.hbm, 1063, rfl⟩
abbrev main_cst_197 : Ref sig .tc := ⟨.hbm, 1064, rfl⟩
abbrev main_v798 : Ref sig .tc := ⟨.hbm, 1065, rfl⟩
abbrev main_v799 : Ref sig .tc := ⟨.hbm, 1066, rfl⟩
abbrev main_cst_198 : Ref sig .tc := ⟨.hbm, 1067, rfl⟩
abbrev main_v800 : Ref sig .tc := ⟨.hbm, 1068, rfl⟩
abbrev main_v801 : Ref sig .tc := ⟨.hbm, 1069, rfl⟩
abbrev main_v802 : Ref sig .tc := ⟨.hbm, 1070, rfl⟩
abbrev main_v803 : Ref sig .tc := ⟨.hbm, 1071, rfl⟩
abbrev main_cst_199 : Ref sig .tc := ⟨.hbm, 1072, rfl⟩
abbrev main_v804 : Ref sig .tc := ⟨.hbm, 1073, rfl⟩
abbrev main_v805 : Ref sig .tc := ⟨.hbm, 1074, rfl⟩
abbrev main_cst_200 : Ref sig .tc := ⟨.hbm, 1075, rfl⟩
abbrev main_v806 : Ref sig .tc := ⟨.hbm, 1076, rfl⟩
abbrev main_v807 : Ref sig .tc := ⟨.hbm, 1077, rfl⟩
abbrev main_v808 : Ref sig .tc := ⟨.hbm, 1078, rfl⟩
abbrev main_cst_201 : Ref sig .tc := ⟨.hbm, 1079, rfl⟩
abbrev main_v809 : Ref sig .tc := ⟨.hbm, 1080, rfl⟩
abbrev main_v810 : Ref sig .tc := ⟨.hbm, 1081, rfl⟩
abbrev main_v811 : Ref sig .tc := ⟨.hbm, 1082, rfl⟩
abbrev main_cst_202 : Ref sig .tc := ⟨.hbm, 1083, rfl⟩
abbrev main_v812 : Ref sig .tc := ⟨.hbm, 1084, rfl⟩
abbrev main_v813 : Ref sig .tc := ⟨.hbm, 1085, rfl⟩
abbrev main_v814 : Ref sig .tc := ⟨.hbm, 1086, rfl⟩
abbrev main_v815 : Ref sig .tc := ⟨.hbm, 1087, rfl⟩
abbrev main_v816 : Ref sig .tc := ⟨.hbm, 1088, rfl⟩
abbrev main_cst_203 : Ref sig .tc := ⟨.hbm, 1089, rfl⟩
abbrev main_v817 : Ref sig .tc := ⟨.hbm, 1090, rfl⟩
abbrev main_v818 : Ref sig .tc := ⟨.hbm, 1091, rfl⟩
abbrev main_cst_204 : Ref sig .tc := ⟨.hbm, 1092, rfl⟩
abbrev main_v819 : Ref sig .tc := ⟨.hbm, 1093, rfl⟩
abbrev main_v820 : Ref sig .tc := ⟨.hbm, 1094, rfl⟩
abbrev main_v821 : Ref sig .tc := ⟨.hbm, 1095, rfl⟩
abbrev main_cst_205 : Ref sig .tc := ⟨.hbm, 1096, rfl⟩
abbrev main_v822 : Ref sig .tc := ⟨.hbm, 1097, rfl⟩
abbrev main_v823 : Ref sig .tc := ⟨.hbm, 1098, rfl⟩
abbrev main_v824 : Ref sig .tc := ⟨.hbm, 1099, rfl⟩
abbrev main_cst_206 : Ref sig .tc := ⟨.hbm, 1100, rfl⟩
abbrev main_v825 : Ref sig .tc := ⟨.hbm, 1101, rfl⟩
abbrev main_v826 : Ref sig .tc := ⟨.hbm, 1102, rfl⟩
abbrev main_v827 : Ref sig .tc := ⟨.hbm, 1103, rfl⟩
abbrev main_v828 : Ref sig .tc := ⟨.hbm, 1104, rfl⟩
abbrev main_v829 : Ref sig .tc := ⟨.hbm, 1105, rfl⟩
abbrev main_cst_207 : Ref sig .tc := ⟨.hbm, 1106, rfl⟩
abbrev main_v830 : Ref sig .tc := ⟨.hbm, 1107, rfl⟩
abbrev main_v831 : Ref sig .tc := ⟨.hbm, 1108, rfl⟩
abbrev main_cst_208 : Ref sig .tc := ⟨.hbm, 1109, rfl⟩
abbrev main_v832 : Ref sig .tc := ⟨.hbm, 1110, rfl⟩
abbrev main_v833 : Ref sig .tc := ⟨.hbm, 1111, rfl⟩
abbrev main_v834 : Ref sig .tc := ⟨.hbm, 1112, rfl⟩
abbrev main_cst_209 : Ref sig .tc := ⟨.hbm, 1113, rfl⟩
abbrev main_v835 : Ref sig .tc := ⟨.hbm, 1114, rfl⟩
abbrev main_v836 : Ref sig .tc := ⟨.hbm, 1115, rfl⟩
abbrev main_v837 : Ref sig .tc := ⟨.hbm, 1116, rfl⟩
abbrev main_cst_210 : Ref sig .tc := ⟨.hbm, 1117, rfl⟩
abbrev main_v838 : Ref sig .tc := ⟨.hbm, 1118, rfl⟩
abbrev main_v839 : Ref sig .tc := ⟨.hbm, 1119, rfl⟩
abbrev main_v840 : Ref sig .tc := ⟨.hbm, 1120, rfl⟩
abbrev main_v841 : Ref sig .tc := ⟨.hbm, 1121, rfl⟩
abbrev main_v842 : Ref sig .tc := ⟨.hbm, 1122, rfl⟩
abbrev main_cst_211 : Ref sig .tc := ⟨.hbm, 1123, rfl⟩
abbrev main_v843 : Ref sig .tc := ⟨.hbm, 1124, rfl⟩
abbrev main_v844 : Ref sig .tc := ⟨.hbm, 1125, rfl⟩
abbrev main_cst_212 : Ref sig .tc := ⟨.hbm, 1126, rfl⟩
abbrev main_v845 : Ref sig .tc := ⟨.hbm, 1127, rfl⟩
abbrev main_v846 : Ref sig .tc := ⟨.hbm, 1128, rfl⟩
abbrev main_v847 : Ref sig .tc := ⟨.hbm, 1129, rfl⟩
abbrev main_cst_213 : Ref sig .tc := ⟨.hbm, 1130, rfl⟩
abbrev main_v848 : Ref sig .tc := ⟨.hbm, 1131, rfl⟩
abbrev main_v849 : Ref sig .tc := ⟨.hbm, 1132, rfl⟩
abbrev main_v850 : Ref sig .tc := ⟨.hbm, 1133, rfl⟩
abbrev main_cst_214 : Ref sig .tc := ⟨.hbm, 1134, rfl⟩
abbrev main_v851 : Ref sig .tc := ⟨.hbm, 1135, rfl⟩
abbrev main_v852 : Ref sig .tc := ⟨.hbm, 1136, rfl⟩
abbrev main_v853 : Ref sig .tc := ⟨.hbm, 1137, rfl⟩
abbrev main_v854 : Ref sig .tc := ⟨.hbm, 1138, rfl⟩
abbrev main_v855 : Ref sig .tc := ⟨.hbm, 1139, rfl⟩
abbrev main_cst_215 : Ref sig .tc := ⟨.hbm, 1140, rfl⟩
abbrev main_v856 : Ref sig .tc := ⟨.hbm, 1141, rfl⟩
abbrev main_v857 : Ref sig .tc := ⟨.hbm, 1142, rfl⟩
abbrev main_cst_216 : Ref sig .tc := ⟨.hbm, 1143, rfl⟩
abbrev main_v858 : Ref sig .tc := ⟨.hbm, 1144, rfl⟩
abbrev main_v859 : Ref sig .tc := ⟨.hbm, 1145, rfl⟩
abbrev main_v860 : Ref sig .tc := ⟨.hbm, 1146, rfl⟩
abbrev main_cst_217 : Ref sig .tc := ⟨.hbm, 1147, rfl⟩
abbrev main_v861 : Ref sig .tc := ⟨.hbm, 1148, rfl⟩
abbrev main_v862 : Ref sig .tc := ⟨.hbm, 1149, rfl⟩
abbrev main_v863 : Ref sig .tc := ⟨.hbm, 1150, rfl⟩
abbrev main_cst_218 : Ref sig .tc := ⟨.hbm, 1151, rfl⟩
abbrev main_v864 : Ref sig .tc := ⟨.hbm, 1152, rfl⟩
abbrev main_v865 : Ref sig .tc := ⟨.hbm, 1153, rfl⟩
abbrev main_v866 : Ref sig .tc := ⟨.hbm, 1154, rfl⟩
abbrev main_v867 : Ref sig .tc := ⟨.hbm, 1155, rfl⟩
abbrev main_v868 : Ref sig .tc := ⟨.hbm, 1156, rfl⟩
abbrev main_cst_219 : Ref sig .tc := ⟨.hbm, 1157, rfl⟩
abbrev main_v869 : Ref sig .tc := ⟨.hbm, 1158, rfl⟩
abbrev main_v870 : Ref sig .tc := ⟨.hbm, 1159, rfl⟩
abbrev main_cst_220 : Ref sig .tc := ⟨.hbm, 1160, rfl⟩
abbrev main_v871 : Ref sig .tc := ⟨.hbm, 1161, rfl⟩
abbrev main_v872 : Ref sig .tc := ⟨.hbm, 1162, rfl⟩
abbrev main_v873 : Ref sig .tc := ⟨.hbm, 1163, rfl⟩
abbrev main_cst_221 : Ref sig .tc := ⟨.hbm, 1164, rfl⟩
abbrev main_v874 : Ref sig .tc := ⟨.hbm, 1165, rfl⟩
abbrev main_v875 : Ref sig .tc := ⟨.hbm, 1166, rfl⟩
abbrev main_v876 : Ref sig .tc := ⟨.hbm, 1167, rfl⟩
abbrev main_cst_222 : Ref sig .tc := ⟨.hbm, 1168, rfl⟩
abbrev main_v877 : Ref sig .tc := ⟨.hbm, 1169, rfl⟩
abbrev main_v878 : Ref sig .tc := ⟨.hbm, 1170, rfl⟩
abbrev main_v879 : Ref sig .tc := ⟨.hbm, 1171, rfl⟩
abbrev main_v880 : Ref sig .tc := ⟨.hbm, 1172, rfl⟩
abbrev main_v881 : Ref sig .tc := ⟨.hbm, 1173, rfl⟩
abbrev main_cst_223 : Ref sig .tc := ⟨.hbm, 1174, rfl⟩
abbrev main_v882 : Ref sig .tc := ⟨.hbm, 1175, rfl⟩
abbrev main_v883 : Ref sig .tc := ⟨.hbm, 1176, rfl⟩
abbrev main_cst_224 : Ref sig .tc := ⟨.hbm, 1177, rfl⟩
abbrev main_v884 : Ref sig .tc := ⟨.hbm, 1178, rfl⟩
abbrev main_v885 : Ref sig .tc := ⟨.hbm, 1179, rfl⟩
abbrev main_v886 : Ref sig .tc := ⟨.hbm, 1180, rfl⟩
abbrev main_cst_225 : Ref sig .tc := ⟨.hbm, 1181, rfl⟩
abbrev main_v887 : Ref sig .tc := ⟨.hbm, 1182, rfl⟩
abbrev main_v888 : Ref sig .tc := ⟨.hbm, 1183, rfl⟩
abbrev main_v889 : Ref sig .tc := ⟨.hbm, 1184, rfl⟩
abbrev main_cst_226 : Ref sig .tc := ⟨.hbm, 1185, rfl⟩
abbrev main_v890 : Ref sig .tc := ⟨.hbm, 1186, rfl⟩
abbrev main_v891 : Ref sig .tc := ⟨.hbm, 1187, rfl⟩
abbrev main_v892 : Ref sig .tc := ⟨.hbm, 1188, rfl⟩
abbrev main_v893 : Ref sig .tc := ⟨.hbm, 1189, rfl⟩
abbrev main_v894 : Ref sig .tc := ⟨.hbm, 1190, rfl⟩
abbrev main_cst_227 : Ref sig .tc := ⟨.hbm, 1191, rfl⟩
abbrev main_v895 : Ref sig .tc := ⟨.hbm, 1192, rfl⟩
abbrev main_v896 : Ref sig .tc := ⟨.hbm, 1193, rfl⟩
abbrev main_cst_228 : Ref sig .tc := ⟨.hbm, 1194, rfl⟩
abbrev main_v897 : Ref sig .tc := ⟨.hbm, 1195, rfl⟩
abbrev main_v898 : Ref sig .tc := ⟨.hbm, 1196, rfl⟩
abbrev main_v899 : Ref sig .tc := ⟨.hbm, 1197, rfl⟩
abbrev main_cst_229 : Ref sig .tc := ⟨.hbm, 1198, rfl⟩
abbrev main_v900 : Ref sig .tc := ⟨.hbm, 1199, rfl⟩
abbrev main_v901 : Ref sig .tc := ⟨.hbm, 1200, rfl⟩
abbrev main_v902 : Ref sig .tc := ⟨.hbm, 1201, rfl⟩
abbrev main_cst_230 : Ref sig .tc := ⟨.hbm, 1202, rfl⟩
abbrev main_v903 : Ref sig .tc := ⟨.hbm, 1203, rfl⟩
abbrev main_v904 : Ref sig .tc := ⟨.hbm, 1204, rfl⟩
abbrev main_v905 : Ref sig .tc := ⟨.hbm, 1205, rfl⟩
abbrev main_v906 : Ref sig .tc := ⟨.hbm, 1206, rfl⟩
abbrev main_v907 : Ref sig .tc := ⟨.hbm, 1207, rfl⟩
abbrev main_cst_231 : Ref sig .tc := ⟨.hbm, 1208, rfl⟩
abbrev main_v908 : Ref sig .tc := ⟨.hbm, 1209, rfl⟩
abbrev main_v909 : Ref sig .tc := ⟨.hbm, 1210, rfl⟩
abbrev main_cst_232 : Ref sig .tc := ⟨.hbm, 1211, rfl⟩
abbrev main_v910 : Ref sig .tc := ⟨.hbm, 1212, rfl⟩
abbrev main_v911 : Ref sig .tc := ⟨.hbm, 1213, rfl⟩
abbrev main_v912 : Ref sig .tc := ⟨.hbm, 1214, rfl⟩
abbrev main_cst_233 : Ref sig .tc := ⟨.hbm, 1215, rfl⟩
abbrev main_v913 : Ref sig .tc := ⟨.hbm, 1216, rfl⟩
abbrev main_v914 : Ref sig .tc := ⟨.hbm, 1217, rfl⟩
abbrev main_v915 : Ref sig .tc := ⟨.hbm, 1218, rfl⟩
abbrev main_cst_234 : Ref sig .tc := ⟨.hbm, 1219, rfl⟩
abbrev main_v916 : Ref sig .tc := ⟨.hbm, 1220, rfl⟩
abbrev main_v917 : Ref sig .tc := ⟨.hbm, 1221, rfl⟩
abbrev main_v918 : Ref sig .tc := ⟨.hbm, 1222, rfl⟩
abbrev main_v919 : Ref sig .tc := ⟨.hbm, 1223, rfl⟩
abbrev main_v920 : Ref sig .tc := ⟨.hbm, 1224, rfl⟩
abbrev main_cst_235 : Ref sig .tc := ⟨.hbm, 1225, rfl⟩
abbrev main_v921 : Ref sig .tc := ⟨.hbm, 1226, rfl⟩
abbrev main_v922 : Ref sig .tc := ⟨.hbm, 1227, rfl⟩
abbrev main_cst_236 : Ref sig .tc := ⟨.hbm, 1228, rfl⟩
abbrev main_v923 : Ref sig .tc := ⟨.hbm, 1229, rfl⟩
abbrev main_v924 : Ref sig .tc := ⟨.hbm, 1230, rfl⟩
abbrev main_v925 : Ref sig .tc := ⟨.hbm, 1231, rfl⟩
abbrev main_cst_237 : Ref sig .tc := ⟨.hbm, 1232, rfl⟩
abbrev main_v926 : Ref sig .tc := ⟨.hbm, 1233, rfl⟩
abbrev main_v927 : Ref sig .tc := ⟨.hbm, 1234, rfl⟩
abbrev main_v928 : Ref sig .tc := ⟨.hbm, 1235, rfl⟩
abbrev main_cst_238 : Ref sig .tc := ⟨.hbm, 1236, rfl⟩
abbrev main_v929 : Ref sig .tc := ⟨.hbm, 1237, rfl⟩
abbrev main_v930 : Ref sig .tc := ⟨.hbm, 1238, rfl⟩
abbrev main_v931 : Ref sig .tc := ⟨.hbm, 1239, rfl⟩
abbrev main_v932 : Ref sig .tc := ⟨.hbm, 1240, rfl⟩
abbrev main_v933 : Ref sig .tc := ⟨.hbm, 1241, rfl⟩
abbrev main_cst_239 : Ref sig .tc := ⟨.hbm, 1242, rfl⟩
abbrev main_v934 : Ref sig .tc := ⟨.hbm, 1243, rfl⟩
abbrev main_v935 : Ref sig .tc := ⟨.hbm, 1244, rfl⟩
abbrev main_cst_240 : Ref sig .tc := ⟨.hbm, 1245, rfl⟩
abbrev main_v936 : Ref sig .tc := ⟨.hbm, 1246, rfl⟩
abbrev main_v937 : Ref sig .tc := ⟨.hbm, 1247, rfl⟩
abbrev main_v938 : Ref sig .tc := ⟨.hbm, 1248, rfl⟩
abbrev main_cst_241 : Ref sig .tc := ⟨.hbm, 1249, rfl⟩
abbrev main_v939 : Ref sig .tc := ⟨.hbm, 1250, rfl⟩
abbrev main_v940 : Ref sig .tc := ⟨.hbm, 1251, rfl⟩
abbrev main_v941 : Ref sig .tc := ⟨.hbm, 1252, rfl⟩
abbrev main_cst_242 : Ref sig .tc := ⟨.hbm, 1253, rfl⟩
abbrev main_v942 : Ref sig .tc := ⟨.hbm, 1254, rfl⟩
abbrev main_v943 : Ref sig .tc := ⟨.hbm, 1255, rfl⟩
abbrev main_v944 : Ref sig .tc := ⟨.hbm, 1256, rfl⟩
abbrev main_v945 : Ref sig .tc := ⟨.hbm, 1257, rfl⟩
abbrev main_v946 : Ref sig .tc := ⟨.hbm, 1258, rfl⟩
abbrev main_cst_243 : Ref sig .tc := ⟨.hbm, 1259, rfl⟩
abbrev main_v947 : Ref sig .tc := ⟨.hbm, 1260, rfl⟩
abbrev main_v948 : Ref sig .tc := ⟨.hbm, 1261, rfl⟩
abbrev main_cst_244 : Ref sig .tc := ⟨.hbm, 1262, rfl⟩
abbrev main_v949 : Ref sig .tc := ⟨.hbm, 1263, rfl⟩
abbrev main_v950 : Ref sig .tc := ⟨.hbm, 1264, rfl⟩
abbrev main_v951 : Ref sig .tc := ⟨.hbm, 1265, rfl⟩
abbrev main_cst_245 : Ref sig .tc := ⟨.hbm, 1266, rfl⟩
abbrev main_v952 : Ref sig .tc := ⟨.hbm, 1267, rfl⟩
abbrev main_v953 : Ref sig .tc := ⟨.hbm, 1268, rfl⟩
abbrev main_v954 : Ref sig .tc := ⟨.hbm, 1269, rfl⟩
abbrev main_cst_246 : Ref sig .tc := ⟨.hbm, 1270, rfl⟩
abbrev main_v955 : Ref sig .tc := ⟨.hbm, 1271, rfl⟩
abbrev main_v956 : Ref sig .tc := ⟨.hbm, 1272, rfl⟩
abbrev main_v957 : Ref sig .tc := ⟨.hbm, 1273, rfl⟩
abbrev main_v958 : Ref sig .tc := ⟨.hbm, 1274, rfl⟩
abbrev main_v959 : Ref sig .tc := ⟨.hbm, 1275, rfl⟩
abbrev main_cst_247 : Ref sig .tc := ⟨.hbm, 1276, rfl⟩
abbrev main_v960 : Ref sig .tc := ⟨.hbm, 1277, rfl⟩
abbrev main_v961 : Ref sig .tc := ⟨.hbm, 1278, rfl⟩
abbrev main_cst_248 : Ref sig .tc := ⟨.hbm, 1279, rfl⟩
abbrev main_v962 : Ref sig .tc := ⟨.hbm, 1280, rfl⟩
abbrev main_v963 : Ref sig .tc := ⟨.hbm, 1281, rfl⟩
abbrev main_v964 : Ref sig .tc := ⟨.hbm, 1282, rfl⟩
abbrev main_cst_249 : Ref sig .tc := ⟨.hbm, 1283, rfl⟩
abbrev main_v965 : Ref sig .tc := ⟨.hbm, 1284, rfl⟩
abbrev main_v966 : Ref sig .tc := ⟨.hbm, 1285, rfl⟩
abbrev main_v967 : Ref sig .tc := ⟨.hbm, 1286, rfl⟩
abbrev main_cst_250 : Ref sig .tc := ⟨.hbm, 1287, rfl⟩
abbrev main_v968 : Ref sig .tc := ⟨.hbm, 1288, rfl⟩
abbrev main_v969 : Ref sig .tc := ⟨.hbm, 1289, rfl⟩
abbrev main_v970 : Ref sig .tc := ⟨.hbm, 1290, rfl⟩
abbrev main_v971 : Ref sig .tc := ⟨.hbm, 1291, rfl⟩
abbrev main_v972 : Ref sig .tc := ⟨.hbm, 1292, rfl⟩
abbrev main_cst_251 : Ref sig .tc := ⟨.hbm, 1293, rfl⟩
abbrev main_v973 : Ref sig .tc := ⟨.hbm, 1294, rfl⟩
abbrev main_v974 : Ref sig .tc := ⟨.hbm, 1295, rfl⟩
abbrev main_cst_252 : Ref sig .tc := ⟨.hbm, 1296, rfl⟩
abbrev main_v975 : Ref sig .tc := ⟨.hbm, 1297, rfl⟩
abbrev main_v976 : Ref sig .tc := ⟨.hbm, 1298, rfl⟩
abbrev main_v977 : Ref sig .tc := ⟨.hbm, 1299, rfl⟩
abbrev main_cst_253 : Ref sig .tc := ⟨.hbm, 1300, rfl⟩
abbrev main_v978 : Ref sig .tc := ⟨.hbm, 1301, rfl⟩
abbrev main_v979 : Ref sig .tc := ⟨.hbm, 1302, rfl⟩
abbrev main_v980 : Ref sig .tc := ⟨.hbm, 1303, rfl⟩
abbrev main_cst_254 : Ref sig .tc := ⟨.hbm, 1304, rfl⟩
abbrev main_v981 : Ref sig .tc := ⟨.hbm, 1305, rfl⟩
abbrev main_v982 : Ref sig .tc := ⟨.hbm, 1306, rfl⟩
abbrev main_v983 : Ref sig .tc := ⟨.hbm, 1307, rfl⟩
abbrev main_v984 : Ref sig .tc := ⟨.hbm, 1308, rfl⟩
abbrev main_v985 : Ref sig .tc := ⟨.hbm, 1309, rfl⟩
abbrev main_cst_255 : Ref sig .tc := ⟨.hbm, 1310, rfl⟩
abbrev main_v986 : Ref sig .tc := ⟨.hbm, 1311, rfl⟩
abbrev main_v987 : Ref sig .tc := ⟨.hbm, 1312, rfl⟩
abbrev main_cst_256 : Ref sig .tc := ⟨.hbm, 1313, rfl⟩
abbrev main_v988 : Ref sig .tc := ⟨.hbm, 1314, rfl⟩
abbrev main_v989 : Ref sig .tc := ⟨.hbm, 1315, rfl⟩
abbrev main_v990 : Ref sig .tc := ⟨.hbm, 1316, rfl⟩
abbrev main_cst_257 : Ref sig .tc := ⟨.hbm, 1317, rfl⟩
abbrev main_v991 : Ref sig .tc := ⟨.hbm, 1318, rfl⟩
abbrev main_v992 : Ref sig .tc := ⟨.hbm, 1319, rfl⟩
abbrev main_v993 : Ref sig .tc := ⟨.hbm, 1320, rfl⟩
abbrev main_cst_258 : Ref sig .tc := ⟨.hbm, 1321, rfl⟩
abbrev main_v994 : Ref sig .tc := ⟨.hbm, 1322, rfl⟩
abbrev main_v995 : Ref sig .tc := ⟨.hbm, 1323, rfl⟩
abbrev main_v996 : Ref sig .tc := ⟨.hbm, 1324, rfl⟩
abbrev main_v997 : Ref sig .tc := ⟨.hbm, 1325, rfl⟩
abbrev main_v998 : Ref sig .tc := ⟨.hbm, 1326, rfl⟩
abbrev main_cst_259 : Ref sig .tc := ⟨.hbm, 1327, rfl⟩
abbrev main_v999 : Ref sig .tc := ⟨.hbm, 1328, rfl⟩
abbrev main_v1000 : Ref sig .tc := ⟨.hbm, 1329, rfl⟩
abbrev main_cst_260 : Ref sig .tc := ⟨.hbm, 1330, rfl⟩
abbrev main_v1001 : Ref sig .tc := ⟨.hbm, 1331, rfl⟩
abbrev main_v1002 : Ref sig .tc := ⟨.hbm, 1332, rfl⟩
abbrev main_v1003 : Ref sig .tc := ⟨.hbm, 1333, rfl⟩
abbrev main_cst_261 : Ref sig .tc := ⟨.hbm, 1334, rfl⟩
abbrev main_v1004 : Ref sig .tc := ⟨.hbm, 1335, rfl⟩
abbrev main_v1005 : Ref sig .tc := ⟨.hbm, 1336, rfl⟩
abbrev main_v1006 : Ref sig .tc := ⟨.hbm, 1337, rfl⟩
abbrev main_cst_262 : Ref sig .tc := ⟨.hbm, 1338, rfl⟩
abbrev main_v1007 : Ref sig .tc := ⟨.hbm, 1339, rfl⟩
abbrev main_v1008 : Ref sig .tc := ⟨.hbm, 1340, rfl⟩
abbrev main_v1009 : Ref sig .tc := ⟨.hbm, 1341, rfl⟩
abbrev main_v1010 : Ref sig .tc := ⟨.hbm, 1342, rfl⟩
abbrev main_v1011 : Ref sig .tc := ⟨.hbm, 1343, rfl⟩
abbrev main_cst_263 : Ref sig .tc := ⟨.hbm, 1344, rfl⟩
abbrev main_v1012 : Ref sig .tc := ⟨.hbm, 1345, rfl⟩
abbrev main_v1013 : Ref sig .tc := ⟨.hbm, 1346, rfl⟩
abbrev main_cst_264 : Ref sig .tc := ⟨.hbm, 1347, rfl⟩
abbrev main_v1014 : Ref sig .tc := ⟨.hbm, 1348, rfl⟩
abbrev main_v1015 : Ref sig .tc := ⟨.hbm, 1349, rfl⟩
abbrev main_v1016 : Ref sig .tc := ⟨.hbm, 1350, rfl⟩
abbrev main_cst_265 : Ref sig .tc := ⟨.hbm, 1351, rfl⟩
abbrev main_v1017 : Ref sig .tc := ⟨.hbm, 1352, rfl⟩
abbrev main_v1018 : Ref sig .tc := ⟨.hbm, 1353, rfl⟩
abbrev main_v1019 : Ref sig .tc := ⟨.hbm, 1354, rfl⟩
abbrev main_cst_266 : Ref sig .tc := ⟨.hbm, 1355, rfl⟩
abbrev main_v1020 : Ref sig .tc := ⟨.hbm, 1356, rfl⟩
abbrev main_v1021 : Ref sig .tc := ⟨.hbm, 1357, rfl⟩
abbrev main_v1022 : Ref sig .tc := ⟨.hbm, 1358, rfl⟩
abbrev main_v1023 : Ref sig .tc := ⟨.hbm, 1359, rfl⟩
abbrev main_v1024 : Ref sig .tc := ⟨.hbm, 1360, rfl⟩
abbrev main_cst_267 : Ref sig .tc := ⟨.hbm, 1361, rfl⟩
abbrev main_v1025 : Ref sig .tc := ⟨.hbm, 1362, rfl⟩
abbrev main_v1026 : Ref sig .tc := ⟨.hbm, 1363, rfl⟩
abbrev main_cst_268 : Ref sig .tc := ⟨.hbm, 1364, rfl⟩
abbrev main_v1027 : Ref sig .tc := ⟨.hbm, 1365, rfl⟩
abbrev main_v1028 : Ref sig .tc := ⟨.hbm, 1366, rfl⟩
abbrev main_v1029 : Ref sig .tc := ⟨.hbm, 1367, rfl⟩
abbrev main_cst_269 : Ref sig .tc := ⟨.hbm, 1368, rfl⟩
abbrev main_v1030 : Ref sig .tc := ⟨.hbm, 1369, rfl⟩
abbrev main_v1031 : Ref sig .tc := ⟨.hbm, 1370, rfl⟩
abbrev main_v1032 : Ref sig .tc := ⟨.hbm, 1371, rfl⟩
abbrev main_cst_270 : Ref sig .tc := ⟨.hbm, 1372, rfl⟩
abbrev main_v1033 : Ref sig .tc := ⟨.hbm, 1373, rfl⟩
abbrev main_v1034 : Ref sig .tc := ⟨.hbm, 1374, rfl⟩
abbrev main_v1035 : Ref sig .tc := ⟨.hbm, 1375, rfl⟩
abbrev main_v1036 : Ref sig .tc := ⟨.hbm, 1376, rfl⟩
abbrev main_v1037 : Ref sig .tc := ⟨.hbm, 1377, rfl⟩
abbrev main_cst_271 : Ref sig .tc := ⟨.hbm, 1378, rfl⟩
abbrev main_v1038 : Ref sig .tc := ⟨.hbm, 1379, rfl⟩
abbrev main_v1039 : Ref sig .tc := ⟨.hbm, 1380, rfl⟩
abbrev main_cst_272 : Ref sig .tc := ⟨.hbm, 1381, rfl⟩
abbrev main_v1040 : Ref sig .tc := ⟨.hbm, 1382, rfl⟩
abbrev main_v1041 : Ref sig .tc := ⟨.hbm, 1383, rfl⟩
abbrev main_v1042 : Ref sig .tc := ⟨.hbm, 1384, rfl⟩
abbrev main_cst_273 : Ref sig .tc := ⟨.hbm, 1385, rfl⟩
abbrev main_v1043 : Ref sig .tc := ⟨.hbm, 1386, rfl⟩
abbrev main_v1044 : Ref sig .tc := ⟨.hbm, 1387, rfl⟩
abbrev main_v1045 : Ref sig .tc := ⟨.hbm, 1388, rfl⟩
abbrev main_cst_274 : Ref sig .tc := ⟨.hbm, 1389, rfl⟩
abbrev main_v1046 : Ref sig .tc := ⟨.hbm, 1390, rfl⟩
abbrev main_v1047 : Ref sig .tc := ⟨.hbm, 1391, rfl⟩
abbrev main_v1048 : Ref sig .tc := ⟨.hbm, 1392, rfl⟩
abbrev main_v1049 : Ref sig .tc := ⟨.hbm, 1393, rfl⟩
abbrev main_v1050 : Ref sig .tc := ⟨.hbm, 1394, rfl⟩
abbrev main_cst_275 : Ref sig .tc := ⟨.hbm, 1395, rfl⟩
abbrev main_v1051 : Ref sig .tc := ⟨.hbm, 1396, rfl⟩
abbrev main_v1052 : Ref sig .tc := ⟨.hbm, 1397, rfl⟩
abbrev main_cst_276 : Ref sig .tc := ⟨.hbm, 1398, rfl⟩
abbrev main_v1053 : Ref sig .tc := ⟨.hbm, 1399, rfl⟩
abbrev main_v1054 : Ref sig .tc := ⟨.hbm, 1400, rfl⟩
abbrev main_v1055 : Ref sig .tc := ⟨.hbm, 1401, rfl⟩
abbrev main_cst_277 : Ref sig .tc := ⟨.hbm, 1402, rfl⟩
abbrev main_v1056 : Ref sig .tc := ⟨.hbm, 1403, rfl⟩
abbrev main_v1057 : Ref sig .tc := ⟨.hbm, 1404, rfl⟩
abbrev main_v1058 : Ref sig .tc := ⟨.hbm, 1405, rfl⟩
abbrev main_cst_278 : Ref sig .tc := ⟨.hbm, 1406, rfl⟩
abbrev main_v1059 : Ref sig .tc := ⟨.hbm, 1407, rfl⟩
abbrev main_v1060 : Ref sig .tc := ⟨.hbm, 1408, rfl⟩
abbrev main_v1061 : Ref sig .tc := ⟨.hbm, 1409, rfl⟩
abbrev main_v1062 : Ref sig .tc := ⟨.hbm, 1410, rfl⟩
abbrev main_v1063 : Ref sig .tc := ⟨.hbm, 1411, rfl⟩
abbrev main_cst_279 : Ref sig .tc := ⟨.hbm, 1412, rfl⟩
abbrev main_v1064 : Ref sig .tc := ⟨.hbm, 1413, rfl⟩
abbrev main_v1065 : Ref sig .tc := ⟨.hbm, 1414, rfl⟩
abbrev main_cst_280 : Ref sig .tc := ⟨.hbm, 1415, rfl⟩
abbrev main_v1066 : Ref sig .tc := ⟨.hbm, 1416, rfl⟩
abbrev main_v1067 : Ref sig .tc := ⟨.hbm, 1417, rfl⟩
abbrev main_v1068 : Ref sig .tc := ⟨.hbm, 1418, rfl⟩
abbrev main_cst_281 : Ref sig .tc := ⟨.hbm, 1419, rfl⟩
abbrev main_v1069 : Ref sig .tc := ⟨.hbm, 1420, rfl⟩
abbrev main_v1070 : Ref sig .tc := ⟨.hbm, 1421, rfl⟩
abbrev main_v1071 : Ref sig .tc := ⟨.hbm, 1422, rfl⟩
abbrev main_cst_282 : Ref sig .tc := ⟨.hbm, 1423, rfl⟩
abbrev main_v1072 : Ref sig .tc := ⟨.hbm, 1424, rfl⟩
abbrev main_v1073 : Ref sig .tc := ⟨.hbm, 1425, rfl⟩
abbrev main_v1074 : Ref sig .tc := ⟨.hbm, 1426, rfl⟩
abbrev main_v1075 : Ref sig .tc := ⟨.hbm, 1427, rfl⟩
abbrev main_v1076 : Ref sig .tc := ⟨.hbm, 1428, rfl⟩
abbrev main_cst_283 : Ref sig .tc := ⟨.hbm, 1429, rfl⟩
abbrev main_v1077 : Ref sig .tc := ⟨.hbm, 1430, rfl⟩
abbrev main_v1078 : Ref sig .tc := ⟨.hbm, 1431, rfl⟩
abbrev main_cst_284 : Ref sig .tc := ⟨.hbm, 1432, rfl⟩
abbrev main_v1079 : Ref sig .tc := ⟨.hbm, 1433, rfl⟩
abbrev main_v1080 : Ref sig .tc := ⟨.hbm, 1434, rfl⟩
abbrev main_v1081 : Ref sig .tc := ⟨.hbm, 1435, rfl⟩
abbrev main_cst_285 : Ref sig .tc := ⟨.hbm, 1436, rfl⟩
abbrev main_v1082 : Ref sig .tc := ⟨.hbm, 1437, rfl⟩
abbrev main_v1083 : Ref sig .tc := ⟨.hbm, 1438, rfl⟩
abbrev main_v1084 : Ref sig .tc := ⟨.hbm, 1439, rfl⟩
abbrev main_cst_286 : Ref sig .tc := ⟨.hbm, 1440, rfl⟩
abbrev main_v1085 : Ref sig .tc := ⟨.hbm, 1441, rfl⟩
abbrev main_v1086 : Ref sig .tc := ⟨.hbm, 1442, rfl⟩
abbrev main_v1087 : Ref sig .tc := ⟨.hbm, 1443, rfl⟩
abbrev main_v1088 : Ref sig .tc := ⟨.hbm, 1444, rfl⟩
abbrev main_v1089 : Ref sig .tc := ⟨.hbm, 1445, rfl⟩
abbrev main_cst_287 : Ref sig .tc := ⟨.hbm, 1446, rfl⟩
abbrev main_v1090 : Ref sig .tc := ⟨.hbm, 1447, rfl⟩
abbrev main_v1091 : Ref sig .tc := ⟨.hbm, 1448, rfl⟩
abbrev main_cst_288 : Ref sig .tc := ⟨.hbm, 1449, rfl⟩
abbrev main_v1092 : Ref sig .tc := ⟨.hbm, 1450, rfl⟩
abbrev main_v1093 : Ref sig .tc := ⟨.hbm, 1451, rfl⟩
abbrev main_v1094 : Ref sig .tc := ⟨.hbm, 1452, rfl⟩
abbrev main_cst_289 : Ref sig .tc := ⟨.hbm, 1453, rfl⟩
abbrev main_v1095 : Ref sig .tc := ⟨.hbm, 1454, rfl⟩
abbrev main_v1096 : Ref sig .tc := ⟨.hbm, 1455, rfl⟩
abbrev main_v1097 : Ref sig .tc := ⟨.hbm, 1456, rfl⟩
abbrev main_cst_290 : Ref sig .tc := ⟨.hbm, 1457, rfl⟩
abbrev main_v1098 : Ref sig .tc := ⟨.hbm, 1458, rfl⟩
abbrev main_v1099 : Ref sig .tc := ⟨.hbm, 1459, rfl⟩
abbrev main_v1100 : Ref sig .tc := ⟨.hbm, 1460, rfl⟩
abbrev main_v1101 : Ref sig .tc := ⟨.hbm, 1461, rfl⟩
abbrev main_v1102 : Ref sig .tc := ⟨.hbm, 1462, rfl⟩
abbrev main_cst_291 : Ref sig .tc := ⟨.hbm, 1463, rfl⟩
abbrev main_v1103 : Ref sig .tc := ⟨.hbm, 1464, rfl⟩
abbrev main_v1104 : Ref sig .tc := ⟨.hbm, 1465, rfl⟩
abbrev main_cst_292 : Ref sig .tc := ⟨.hbm, 1466, rfl⟩
abbrev main_v1105 : Ref sig .tc := ⟨.hbm, 1467, rfl⟩
abbrev main_v1106 : Ref sig .tc := ⟨.hbm, 1468, rfl⟩
abbrev main_v1107 : Ref sig .tc := ⟨.hbm, 1469, rfl⟩
abbrev main_cst_293 : Ref sig .tc := ⟨.hbm, 1470, rfl⟩
abbrev main_v1108 : Ref sig .tc := ⟨.hbm, 1471, rfl⟩
abbrev main_v1109 : Ref sig .tc := ⟨.hbm, 1472, rfl⟩
abbrev main_v1110 : Ref sig .tc := ⟨.hbm, 1473, rfl⟩
abbrev main_cst_294 : Ref sig .tc := ⟨.hbm, 1474, rfl⟩
abbrev main_v1111 : Ref sig .tc := ⟨.hbm, 1475, rfl⟩
abbrev main_v1112 : Ref sig .tc := ⟨.hbm, 1476, rfl⟩
abbrev main_v1113 : Ref sig .tc := ⟨.hbm, 1477, rfl⟩
abbrev main_v1114 : Ref sig .tc := ⟨.hbm, 1478, rfl⟩
abbrev main_v1115 : Ref sig .tc := ⟨.hbm, 1479, rfl⟩
abbrev main_cst_295 : Ref sig .tc := ⟨.hbm, 1480, rfl⟩
abbrev main_v1116 : Ref sig .tc := ⟨.hbm, 1481, rfl⟩
abbrev main_v1117 : Ref sig .tc := ⟨.hbm, 1482, rfl⟩
abbrev main_cst_296 : Ref sig .tc := ⟨.hbm, 1483, rfl⟩
abbrev main_v1118 : Ref sig .tc := ⟨.hbm, 1484, rfl⟩
abbrev main_v1119 : Ref sig .tc := ⟨.hbm, 1485, rfl⟩
abbrev main_v1120 : Ref sig .tc := ⟨.hbm, 1486, rfl⟩
abbrev main_cst_297 : Ref sig .tc := ⟨.hbm, 1487, rfl⟩
abbrev main_v1121 : Ref sig .tc := ⟨.hbm, 1488, rfl⟩
abbrev main_v1122 : Ref sig .tc := ⟨.hbm, 1489, rfl⟩
abbrev main_v1123 : Ref sig .tc := ⟨.hbm, 1490, rfl⟩
abbrev main_cst_298 : Ref sig .tc := ⟨.hbm, 1491, rfl⟩
abbrev main_v1124 : Ref sig .tc := ⟨.hbm, 1492, rfl⟩
abbrev main_v1125 : Ref sig .tc := ⟨.hbm, 1493, rfl⟩
abbrev main_v1126 : Ref sig .tc := ⟨.hbm, 1494, rfl⟩
abbrev main_v1127 : Ref sig .tc := ⟨.hbm, 1495, rfl⟩
abbrev main_v1128 : Ref sig .tc := ⟨.hbm, 1496, rfl⟩
abbrev main_cst_299 : Ref sig .tc := ⟨.hbm, 1497, rfl⟩
abbrev main_v1129 : Ref sig .tc := ⟨.hbm, 1498, rfl⟩
abbrev main_v1130 : Ref sig .tc := ⟨.hbm, 1499, rfl⟩
abbrev main_cst_300 : Ref sig .tc := ⟨.hbm, 1500, rfl⟩
abbrev main_v1131 : Ref sig .tc := ⟨.hbm, 1501, rfl⟩
abbrev main_v1132 : Ref sig .tc := ⟨.hbm, 1502, rfl⟩
abbrev main_v1133 : Ref sig .tc := ⟨.hbm, 1503, rfl⟩
abbrev main_cst_301 : Ref sig .tc := ⟨.hbm, 1504, rfl⟩
abbrev main_v1134 : Ref sig .tc := ⟨.hbm, 1505, rfl⟩
abbrev main_v1135 : Ref sig .tc := ⟨.hbm, 1506, rfl⟩
abbrev main_v1136 : Ref sig .tc := ⟨.hbm, 1507, rfl⟩
abbrev main_cst_302 : Ref sig .tc := ⟨.hbm, 1508, rfl⟩
abbrev main_v1137 : Ref sig .tc := ⟨.hbm, 1509, rfl⟩
abbrev main_v1138 : Ref sig .tc := ⟨.hbm, 1510, rfl⟩
abbrev main_v1139 : Ref sig .tc := ⟨.hbm, 1511, rfl⟩
abbrev main_v1140 : Ref sig .tc := ⟨.hbm, 1512, rfl⟩
abbrev main_v1141 : Ref sig .tc := ⟨.hbm, 1513, rfl⟩
abbrev main_cst_303 : Ref sig .tc := ⟨.hbm, 1514, rfl⟩
abbrev main_v1142 : Ref sig .tc := ⟨.hbm, 1515, rfl⟩
abbrev main_v1143 : Ref sig .tc := ⟨.hbm, 1516, rfl⟩
abbrev main_cst_304 : Ref sig .tc := ⟨.hbm, 1517, rfl⟩
abbrev main_v1144 : Ref sig .tc := ⟨.hbm, 1518, rfl⟩
abbrev main_v1145 : Ref sig .tc := ⟨.hbm, 1519, rfl⟩
abbrev main_v1146 : Ref sig .tc := ⟨.hbm, 1520, rfl⟩
abbrev main_cst_305 : Ref sig .tc := ⟨.hbm, 1521, rfl⟩
abbrev main_v1147 : Ref sig .tc := ⟨.hbm, 1522, rfl⟩
abbrev main_v1148 : Ref sig .tc := ⟨.hbm, 1523, rfl⟩
abbrev main_v1149 : Ref sig .tc := ⟨.hbm, 1524, rfl⟩
abbrev main_cst_306 : Ref sig .tc := ⟨.hbm, 1525, rfl⟩
abbrev main_v1150 : Ref sig .tc := ⟨.hbm, 1526, rfl⟩
abbrev main_v1151 : Ref sig .tc := ⟨.hbm, 1527, rfl⟩
abbrev main_v1152 : Ref sig .tc := ⟨.hbm, 1528, rfl⟩
abbrev main_v1153 : Ref sig .tc := ⟨.hbm, 1529, rfl⟩
abbrev main_v1154 : Ref sig .tc := ⟨.hbm, 1530, rfl⟩
abbrev main_cst_307 : Ref sig .tc := ⟨.hbm, 1531, rfl⟩
abbrev main_v1155 : Ref sig .tc := ⟨.hbm, 1532, rfl⟩
abbrev main_v1156 : Ref sig .tc := ⟨.hbm, 1533, rfl⟩
abbrev main_cst_308 : Ref sig .tc := ⟨.hbm, 1534, rfl⟩
abbrev main_v1157 : Ref sig .tc := ⟨.hbm, 1535, rfl⟩
abbrev main_v1158 : Ref sig .tc := ⟨.hbm, 1536, rfl⟩
abbrev main_v1159 : Ref sig .tc := ⟨.hbm, 1537, rfl⟩
abbrev main_cst_309 : Ref sig .tc := ⟨.hbm, 1538, rfl⟩
abbrev main_v1160 : Ref sig .tc := ⟨.hbm, 1539, rfl⟩
abbrev main_v1161 : Ref sig .tc := ⟨.hbm, 1540, rfl⟩
abbrev main_v1162 : Ref sig .tc := ⟨.hbm, 1541, rfl⟩
abbrev main_cst_310 : Ref sig .tc := ⟨.hbm, 1542, rfl⟩
abbrev main_v1163 : Ref sig .tc := ⟨.hbm, 1543, rfl⟩
abbrev main_v1164 : Ref sig .tc := ⟨.hbm, 1544, rfl⟩
abbrev main_v1165 : Ref sig .tc := ⟨.hbm, 1545, rfl⟩
abbrev main_v1166 : Ref sig .tc := ⟨.hbm, 1546, rfl⟩
abbrev main_v1167 : Ref sig .tc := ⟨.hbm, 1547, rfl⟩
abbrev main_cst_311 : Ref sig .tc := ⟨.hbm, 1548, rfl⟩
abbrev main_v1168 : Ref sig .tc := ⟨.hbm, 1549, rfl⟩
abbrev main_v1169 : Ref sig .tc := ⟨.hbm, 1550, rfl⟩
abbrev main_cst_312 : Ref sig .tc := ⟨.hbm, 1551, rfl⟩
abbrev main_v1170 : Ref sig .tc := ⟨.hbm, 1552, rfl⟩
abbrev main_v1171 : Ref sig .tc := ⟨.hbm, 1553, rfl⟩
abbrev main_v1172 : Ref sig .tc := ⟨.hbm, 1554, rfl⟩
abbrev main_cst_313 : Ref sig .tc := ⟨.hbm, 1555, rfl⟩
abbrev main_v1173 : Ref sig .tc := ⟨.hbm, 1556, rfl⟩
abbrev main_v1174 : Ref sig .tc := ⟨.hbm, 1557, rfl⟩
abbrev main_v1175 : Ref sig .tc := ⟨.hbm, 1558, rfl⟩
abbrev main_cst_314 : Ref sig .tc := ⟨.hbm, 1559, rfl⟩
abbrev main_v1176 : Ref sig .tc := ⟨.hbm, 1560, rfl⟩
abbrev main_v1177 : Ref sig .tc := ⟨.hbm, 1561, rfl⟩
abbrev main_v1178 : Ref sig .tc := ⟨.hbm, 1562, rfl⟩
abbrev main_v1179 : Ref sig .tc := ⟨.hbm, 1563, rfl⟩
abbrev main_v1180 : Ref sig .tc := ⟨.hbm, 1564, rfl⟩
abbrev main_v1181 : Ref sig .tc := ⟨.hbm, 1565, rfl⟩
abbrev main_cst_315 : Ref sig .tc := ⟨.hbm, 1566, rfl⟩
abbrev main_v1182 : Ref sig .tc := ⟨.hbm, 1567, rfl⟩
abbrev main_v1183 : Ref sig .tc := ⟨.hbm, 1568, rfl⟩
abbrev main_cst_316 : Ref sig .tc := ⟨.hbm, 1569, rfl⟩
abbrev main_v1184 : Ref sig .tc := ⟨.hbm, 1570, rfl⟩
abbrev main_v1185 : Ref sig .tc := ⟨.hbm, 1571, rfl⟩
abbrev main_cst_317 : Ref sig .tc := ⟨.hbm, 1572, rfl⟩
abbrev main_v1186 : Ref sig .tc := ⟨.hbm, 1573, rfl⟩
abbrev main_v1187 : Ref sig .tc := ⟨.hbm, 1574, rfl⟩
abbrev main_v1188 : Ref sig .tc := ⟨.hbm, 1575, rfl⟩
abbrev main_v1189 : Ref sig .tc := ⟨.hbm, 1576, rfl⟩
abbrev main_v1190 : Ref sig .tc := ⟨.hbm, 1577, rfl⟩
abbrev main_cst_318 : Ref sig .tc := ⟨.hbm, 1578, rfl⟩
abbrev main_v1191 : Ref sig .tc := ⟨.hbm, 1579, rfl⟩
abbrev main_cst_319 : Ref sig .tc := ⟨.hbm, 1580, rfl⟩
abbrev main_v1192 : Ref sig .tc := ⟨.hbm, 1581, rfl⟩
abbrev main_v1193 : Ref sig .tc := ⟨.hbm, 1582, rfl⟩
abbrev main_cst_320 : Ref sig .tc := ⟨.hbm, 1583, rfl⟩
abbrev main_v1194 : Ref sig .tc := ⟨.hbm, 1584, rfl⟩
abbrev main_v1195 : Ref sig .tc := ⟨.hbm, 1585, rfl⟩
abbrev main_v1196 : Ref sig .tc := ⟨.hbm, 1586, rfl⟩
abbrev main_v1197 : Ref sig .tc := ⟨.hbm, 1587, rfl⟩
abbrev main_v1198 : Ref sig .tc := ⟨.hbm, 1588, rfl⟩
abbrev main_v1199 : Ref sig .tc := ⟨.hbm, 1589, rfl⟩
abbrev main_v1200 : Ref sig .tc := ⟨.hbm, 1590, rfl⟩
abbrev main_cst_321 : Ref sig .tc := ⟨.hbm, 1591, rfl⟩
abbrev main_v1201 : Ref sig .tc := ⟨.hbm, 1592, rfl⟩
abbrev main_v1202 : Ref sig .tc := ⟨.hbm, 1593, rfl⟩
abbrev main_cst_322 : Ref sig .tc := ⟨.hbm, 1594, rfl⟩
abbrev main_v1203 : Ref sig .tc := ⟨.hbm, 1595, rfl⟩
abbrev main_v1204 : Ref sig .tc := ⟨.hbm, 1596, rfl⟩
abbrev main_v1205 : Ref sig .tc := ⟨.hbm, 1597, rfl⟩
abbrev main_cst_323 : Ref sig .tc := ⟨.hbm, 1598, rfl⟩
abbrev main_v1206 : Ref sig .tc := ⟨.hbm, 1599, rfl⟩
abbrev main_v1207 : Ref sig .tc := ⟨.hbm, 1600, rfl⟩
abbrev main_cst_324 : Ref sig .tc := ⟨.hbm, 1601, rfl⟩
abbrev main_v1208 : Ref sig .tc := ⟨.hbm, 1602, rfl⟩
abbrev main_v1209 : Ref sig .tc := ⟨.hbm, 1603, rfl⟩
abbrev main_v1210 : Ref sig .tc := ⟨.hbm, 1604, rfl⟩
abbrev main_v1211 : Ref sig .tc := ⟨.hbm, 1605, rfl⟩
abbrev main_cst_325 : Ref sig .tc := ⟨.hbm, 1606, rfl⟩
abbrev main_v1212 : Ref sig .tc := ⟨.hbm, 1607, rfl⟩
abbrev main_v1213 : Ref sig .tc := ⟨.hbm, 1608, rfl⟩
abbrev main_cst_326 : Ref sig .tc := ⟨.hbm, 1609, rfl⟩
abbrev main_v1214 : Ref sig .tc := ⟨.hbm, 1610, rfl⟩
abbrev main_v1215 : Ref sig .tc := ⟨.hbm, 1611, rfl⟩
abbrev main_v1216 : Ref sig .tc := ⟨.hbm, 1612, rfl⟩
abbrev main_cst_327 : Ref sig .tc := ⟨.hbm, 1613, rfl⟩
abbrev main_v1217 : Ref sig .tc := ⟨.hbm, 1614, rfl⟩
abbrev main_v1218 : Ref sig .tc := ⟨.hbm, 1615, rfl⟩
abbrev main_v1219 : Ref sig .tc := ⟨.hbm, 1616, rfl⟩
abbrev main_cst_328 : Ref sig .tc := ⟨.hbm, 1617, rfl⟩
abbrev main_v1220 : Ref sig .tc := ⟨.hbm, 1618, rfl⟩
abbrev main_v1221 : Ref sig .tc := ⟨.hbm, 1619, rfl⟩
abbrev main_v1222 : Ref sig .tc := ⟨.hbm, 1620, rfl⟩
abbrev main_v1223 : Ref sig .tc := ⟨.hbm, 1621, rfl⟩
abbrev main_v1224 : Ref sig .tc := ⟨.hbm, 1622, rfl⟩
abbrev main_v1225 : Ref sig .tc := ⟨.hbm, 1623, rfl⟩
abbrev main_cst_329 : Ref sig .tc := ⟨.hbm, 1624, rfl⟩
abbrev main_v1226 : Ref sig .tc := ⟨.hbm, 1625, rfl⟩
abbrev main_v1227 : Ref sig .tc := ⟨.hbm, 1626, rfl⟩
abbrev main_cst_330 : Ref sig .tc := ⟨.hbm, 1627, rfl⟩
abbrev main_v1228 : Ref sig .tc := ⟨.hbm, 1628, rfl⟩
abbrev main_v1229 : Ref sig .tc := ⟨.hbm, 1629, rfl⟩
abbrev main_cst_331 : Ref sig .tc := ⟨.hbm, 1630, rfl⟩
abbrev main_v1230 : Ref sig .tc := ⟨.hbm, 1631, rfl⟩
abbrev main_v1231 : Ref sig .tc := ⟨.hbm, 1632, rfl⟩
abbrev main_v1232 : Ref sig .tc := ⟨.hbm, 1633, rfl⟩
abbrev main_v1233 : Ref sig .tc := ⟨.hbm, 1634, rfl⟩
abbrev main_cst_332 : Ref sig .tc := ⟨.hbm, 1635, rfl⟩
abbrev main_v1234 : Ref sig .tc := ⟨.hbm, 1636, rfl⟩
abbrev main_cst_333 : Ref sig .tc := ⟨.hbm, 1637, rfl⟩
abbrev main_v1235 : Ref sig .tc := ⟨.hbm, 1638, rfl⟩
abbrev main_v1236 : Ref sig .tc := ⟨.hbm, 1639, rfl⟩
abbrev main_cst_334 : Ref sig .tc := ⟨.hbm, 1640, rfl⟩
abbrev main_v1237 : Ref sig .tc := ⟨.hbm, 1641, rfl⟩
abbrev main_v1238 : Ref sig .tc := ⟨.hbm, 1642, rfl⟩
abbrev main_cst_335 : Ref sig .tc := ⟨.hbm, 1643, rfl⟩
abbrev main_v1239 : Ref sig .tc := ⟨.hbm, 1644, rfl⟩
abbrev main_v1240 : Ref sig .tc := ⟨.hbm, 1645, rfl⟩
abbrev main_v1241 : Ref sig .tc := ⟨.hbm, 1646, rfl⟩
abbrev main_cst_336 : Ref sig .tc := ⟨.hbm, 1647, rfl⟩
abbrev main_v1242 : Ref sig .tc := ⟨.hbm, 1648, rfl⟩
abbrev main_v1243 : Ref sig .tc := ⟨.hbm, 1649, rfl⟩
abbrev main_v1244 : Ref sig .tc := ⟨.hbm, 1650, rfl⟩
abbrev main_v1245 : Ref sig .tc := ⟨.hbm, 1651, rfl⟩
abbrev main_cst_337 : Ref sig .tc := ⟨.hbm, 1652, rfl⟩
abbrev main_v1246 : Ref sig .tc := ⟨.hbm, 1653, rfl⟩
abbrev main_v1247 : Ref sig .tc := ⟨.hbm, 1654, rfl⟩
abbrev main_v1248 : Ref sig .tc := ⟨.hbm, 1655, rfl⟩
abbrev main_v1249 : Ref sig .tc := ⟨.hbm, 1656, rfl⟩
abbrev main_v1250 : Ref sig .tc := ⟨.hbm, 1657, rfl⟩
abbrev main_v1251 : Ref sig .tc := ⟨.hbm, 1658, rfl⟩
abbrev main_v1252 : Ref sig .tc := ⟨.hbm, 1659, rfl⟩
abbrev main_v1253 : Ref sig .tc := ⟨.hbm, 1660, rfl⟩
abbrev main_v1254 : Ref sig .tc := ⟨.hbm, 1661, rfl⟩
abbrev main_cst_338 : Ref sig .tc := ⟨.hbm, 1662, rfl⟩
abbrev main_v1255 : Ref sig .tc := ⟨.hbm, 1663, rfl⟩
abbrev main_v1256 : Ref sig .tc := ⟨.hbm, 1664, rfl⟩
abbrev main_v1257 : Ref sig .tc := ⟨.hbm, 1665, rfl⟩
abbrev main_v1258 : Ref sig .tc := ⟨.hbm, 1666, rfl⟩
abbrev main_v1259 : Ref sig .tc := ⟨.hbm, 1667, rfl⟩
abbrev main_v1260 : Ref sig .tc := ⟨.hbm, 1668, rfl⟩
abbrev main_cst_339 : Ref sig .tc := ⟨.hbm, 1669, rfl⟩
abbrev main_v1261 : Ref sig .tc := ⟨.hbm, 1670, rfl⟩
abbrev main_v1262 : Ref sig .tc := ⟨.hbm, 1671, rfl⟩
abbrev main_v1263 : Ref sig .tc := ⟨.hbm, 1672, rfl⟩
abbrev main_v1264 : Ref sig .tc := ⟨.hbm, 1673, rfl⟩
abbrev main_cst_340 : Ref sig .tc := ⟨.hbm, 1674, rfl⟩
abbrev main_v1265 : Ref sig .tc := ⟨.hbm, 1675, rfl⟩
abbrev main_v1266 : Ref sig .tc := ⟨.hbm, 1676, rfl⟩
abbrev main_v1267 : Ref sig .tc := ⟨.hbm, 1677, rfl⟩
abbrev main_v1268 : Ref sig .tc := ⟨.hbm, 1678, rfl⟩
abbrev main_cst_341 : Ref sig .tc := ⟨.hbm, 1679, rfl⟩
abbrev main_v1269 : Ref sig .tc := ⟨.hbm, 1680, rfl⟩
abbrev main_v1270 : Ref sig .tc := ⟨.hbm, 1681, rfl⟩
abbrev main_v1271 : Ref sig .tc := ⟨.hbm, 1682, rfl⟩
abbrev main_v1272 : Ref sig .tc := ⟨.hbm, 1683, rfl⟩
abbrev main_cst_342 : Ref sig .tc := ⟨.hbm, 1684, rfl⟩
abbrev main_v1273 : Ref sig .tc := ⟨.hbm, 1685, rfl⟩
abbrev main_v1274 : Ref sig .tc := ⟨.hbm, 1686, rfl⟩
abbrev main_v1275 : Ref sig .tc := ⟨.hbm, 1687, rfl⟩
abbrev main_v1276 : Ref sig .tc := ⟨.hbm, 1688, rfl⟩
abbrev main_cst_343 : Ref sig .tc := ⟨.hbm, 1689, rfl⟩
abbrev main_v1277 : Ref sig .tc := ⟨.hbm, 1690, rfl⟩
abbrev main_v1278 : Ref sig .tc := ⟨.hbm, 1691, rfl⟩
abbrev main_v1279 : Ref sig .tc := ⟨.hbm, 1692, rfl⟩
abbrev main_v1280 : Ref sig .tc := ⟨.hbm, 1693, rfl⟩
abbrev main_cst_344 : Ref sig .tc := ⟨.hbm, 1694, rfl⟩
abbrev main_v1281 : Ref sig .tc := ⟨.hbm, 1695, rfl⟩
abbrev main_v1282 : Ref sig .tc := ⟨.hbm, 1696, rfl⟩
abbrev main_v1283 : Ref sig .tc := ⟨.hbm, 1697, rfl⟩
abbrev main_v1284 : Ref sig .tc := ⟨.hbm, 1698, rfl⟩
abbrev main_cst_345 : Ref sig .tc := ⟨.hbm, 1699, rfl⟩
abbrev main_v1285 : Ref sig .tc := ⟨.hbm, 1700, rfl⟩
abbrev main_v1286 : Ref sig .tc := ⟨.hbm, 1701, rfl⟩
abbrev main_v1287 : Ref sig .tc := ⟨.hbm, 1702, rfl⟩
abbrev main_v1288 : Ref sig .tc := ⟨.hbm, 1703, rfl⟩
abbrev main_cst_346 : Ref sig .tc := ⟨.hbm, 1704, rfl⟩
abbrev main_v1289 : Ref sig .tc := ⟨.hbm, 1705, rfl⟩
abbrev main_v1290 : Ref sig .tc := ⟨.hbm, 1706, rfl⟩
abbrev main_v1291 : Ref sig .tc := ⟨.hbm, 1707, rfl⟩
abbrev main_v1292 : Ref sig .tc := ⟨.hbm, 1708, rfl⟩
abbrev main_cst_347 : Ref sig .tc := ⟨.hbm, 1709, rfl⟩
abbrev main_v1293 : Ref sig .tc := ⟨.hbm, 1710, rfl⟩
abbrev main_v1294 : Ref sig .tc := ⟨.hbm, 1711, rfl⟩
abbrev main_v1295 : Ref sig .tc := ⟨.hbm, 1712, rfl⟩
abbrev main_v1296 : Ref sig .tc := ⟨.hbm, 1713, rfl⟩
abbrev main_cst_348 : Ref sig .tc := ⟨.hbm, 1714, rfl⟩
abbrev main_v1297 : Ref sig .tc := ⟨.hbm, 1715, rfl⟩
abbrev main_v1298 : Ref sig .tc := ⟨.hbm, 1716, rfl⟩
abbrev main_v1299 : Ref sig .tc := ⟨.hbm, 1717, rfl⟩
abbrev main_v1300 : Ref sig .tc := ⟨.hbm, 1718, rfl⟩
abbrev main_cst_349 : Ref sig .tc := ⟨.hbm, 1719, rfl⟩
abbrev main_v1301 : Ref sig .tc := ⟨.hbm, 1720, rfl⟩
abbrev main_v1302 : Ref sig .tc := ⟨.hbm, 1721, rfl⟩
abbrev main_v1303 : Ref sig .tc := ⟨.hbm, 1722, rfl⟩
abbrev main_v1304 : Ref sig .tc := ⟨.hbm, 1723, rfl⟩
abbrev main_cst_350 : Ref sig .tc := ⟨.hbm, 1724, rfl⟩
abbrev main_v1305 : Ref sig .tc := ⟨.hbm, 1725, rfl⟩
abbrev main_v1306 : Ref sig .tc := ⟨.hbm, 1726, rfl⟩
abbrev main_v1307 : Ref sig .tc := ⟨.hbm, 1727, rfl⟩
abbrev main_v1308 : Ref sig .tc := ⟨.hbm, 1728, rfl⟩
abbrev main_cst_351 : Ref sig .tc := ⟨.hbm, 1729, rfl⟩
abbrev main_v1309 : Ref sig .tc := ⟨.hbm, 1730, rfl⟩
abbrev main_v1310 : Ref sig .tc := ⟨.hbm, 1731, rfl⟩
abbrev main_v1311 : Ref sig .tc := ⟨.hbm, 1732, rfl⟩
abbrev main_v1312 : Ref sig .tc := ⟨.hbm, 1733, rfl⟩
abbrev main_cst_352 : Ref sig .tc := ⟨.hbm, 1734, rfl⟩
abbrev main_v1313 : Ref sig .tc := ⟨.hbm, 1735, rfl⟩
abbrev main_v1314 : Ref sig .tc := ⟨.hbm, 1736, rfl⟩
abbrev main_v1315 : Ref sig .tc := ⟨.hbm, 1737, rfl⟩
abbrev main_v1316 : Ref sig .tc := ⟨.hbm, 1738, rfl⟩
abbrev main_v1317 : Ref sig .tc := ⟨.hbm, 1739, rfl⟩
abbrev main_cst_353 : Ref sig .tc := ⟨.hbm, 1740, rfl⟩
abbrev main_v1318 : Ref sig .tc := ⟨.hbm, 1741, rfl⟩
abbrev main_v1319 : Ref sig .tc := ⟨.hbm, 1742, rfl⟩
abbrev main_cst_354 : Ref sig .tc := ⟨.hbm, 1743, rfl⟩
abbrev main_v1320 : Ref sig .tc := ⟨.hbm, 1744, rfl⟩
abbrev main_v1321 : Ref sig .tc := ⟨.hbm, 1745, rfl⟩
abbrev main_v1322 : Ref sig .tc := ⟨.hbm, 1746, rfl⟩
abbrev main_v1323 : Ref sig .tc := ⟨.hbm, 1747, rfl⟩
abbrev main_v1324 : Ref sig .tc := ⟨.hbm, 1748, rfl⟩
abbrev main_cst_355 : Ref sig .tc := ⟨.hbm, 1749, rfl⟩
abbrev main_v1325 : Ref sig .tc := ⟨.hbm, 1750, rfl⟩
abbrev main_v1326 : Ref sig .tc := ⟨.hbm, 1751, rfl⟩
abbrev main_v1327 : Ref sig .tc := ⟨.hbm, 1752, rfl⟩
abbrev main_v1328 : Ref sig .tc := ⟨.hbm, 1753, rfl⟩
abbrev main_v1329 : Ref sig .tc := ⟨.hbm, 1754, rfl⟩
abbrev main_v1330 : Ref sig .tc := ⟨.hbm, 1755, rfl⟩
abbrev main_v1331 : Ref sig .tc := ⟨.hbm, 1756, rfl⟩
abbrev main_cst_356 : Ref sig .tc := ⟨.hbm, 1757, rfl⟩
abbrev main_v1332 : Ref sig .tc := ⟨.hbm, 1758, rfl⟩
abbrev main_v1333 : Ref sig .tc := ⟨.hbm, 1759, rfl⟩
abbrev main_v1334 : Ref sig .tc := ⟨.hbm, 1760, rfl⟩
abbrev main_v1335 : Ref sig .tc := ⟨.hbm, 1761, rfl⟩
abbrev main_cst_357 : Ref sig .tc := ⟨.hbm, 1762, rfl⟩
abbrev main_v1336 : Ref sig .tc := ⟨.hbm, 1763, rfl⟩
abbrev main_v1337 : Ref sig .tc := ⟨.hbm, 1764, rfl⟩
abbrev main_v1338 : Ref sig .tc := ⟨.hbm, 1765, rfl⟩
abbrev main_v1339 : Ref sig .tc := ⟨.hbm, 1766, rfl⟩
abbrev main_cst_358 : Ref sig .tc := ⟨.hbm, 1767, rfl⟩
abbrev main_v1340 : Ref sig .tc := ⟨.hbm, 1768, rfl⟩
abbrev main_v1341 : Ref sig .tc := ⟨.hbm, 1769, rfl⟩
abbrev main_v1342 : Ref sig .tc := ⟨.hbm, 1770, rfl⟩
abbrev main_v1343 : Ref sig .tc := ⟨.hbm, 1771, rfl⟩
abbrev main_cst_359 : Ref sig .tc := ⟨.hbm, 1772, rfl⟩
abbrev main_v1344 : Ref sig .tc := ⟨.hbm, 1773, rfl⟩
abbrev main_v1345 : Ref sig .tc := ⟨.hbm, 1774, rfl⟩
abbrev main_v1346 : Ref sig .tc := ⟨.hbm, 1775, rfl⟩
abbrev main_v1347 : Ref sig .tc := ⟨.hbm, 1776, rfl⟩
abbrev main_cst_360 : Ref sig .tc := ⟨.hbm, 1777, rfl⟩
abbrev main_v1348 : Ref sig .tc := ⟨.hbm, 1778, rfl⟩
abbrev main_v1349 : Ref sig .tc := ⟨.hbm, 1779, rfl⟩
abbrev main_v1350 : Ref sig .tc := ⟨.hbm, 1780, rfl⟩
abbrev main_v1351 : Ref sig .tc := ⟨.hbm, 1781, rfl⟩
abbrev main_cst_361 : Ref sig .tc := ⟨.hbm, 1782, rfl⟩
abbrev main_v1352 : Ref sig .tc := ⟨.hbm, 1783, rfl⟩
abbrev main_v1353 : Ref sig .tc := ⟨.hbm, 1784, rfl⟩
abbrev main_v1354 : Ref sig .tc := ⟨.hbm, 1785, rfl⟩
abbrev main_v1355 : Ref sig .tc := ⟨.hbm, 1786, rfl⟩
abbrev main_v1356 : Ref sig .tc := ⟨.hbm, 1787, rfl⟩
abbrev main_cst_362 : Ref sig .tc := ⟨.hbm, 1788, rfl⟩
abbrev main_v1357 : Ref sig .tc := ⟨.hbm, 1789, rfl⟩
abbrev main_v1358 : Ref sig .tc := ⟨.hbm, 1790, rfl⟩
abbrev main_cst_363 : Ref sig .tc := ⟨.hbm, 1791, rfl⟩
abbrev main_v1359 : Ref sig .tc := ⟨.hbm, 1792, rfl⟩
abbrev main_v1360 : Ref sig .tc := ⟨.hbm, 1793, rfl⟩
abbrev main_v1361 : Ref sig .tc := ⟨.hbm, 1794, rfl⟩
abbrev main_v1362 : Ref sig .tc := ⟨.hbm, 1795, rfl⟩
abbrev main_v1363 : Ref sig .tc := ⟨.hbm, 1796, rfl⟩
abbrev main_v1364 : Ref sig .tc := ⟨.hbm, 1797, rfl⟩
abbrev main_cst_364 : Ref sig .tc := ⟨.hbm, 1798, rfl⟩
abbrev main_v1365 : Ref sig .tc := ⟨.hbm, 1799, rfl⟩
abbrev main_v1366 : Ref sig .tc := ⟨.hbm, 1800, rfl⟩
abbrev main_v1367 : Ref sig .tc := ⟨.hbm, 1801, rfl⟩
abbrev main_v1368 : Ref sig .tc := ⟨.hbm, 1802, rfl⟩
abbrev main_v1369 : Ref sig .tc := ⟨.hbm, 1803, rfl⟩
abbrev main_v1370 : Ref sig .tc := ⟨.hbm, 1804, rfl⟩
abbrev main_v1371 : Ref sig .tc := ⟨.hbm, 1805, rfl⟩
abbrev main_cst_365 : Ref sig .tc := ⟨.hbm, 1806, rfl⟩
abbrev main_v1372 : Ref sig .tc := ⟨.hbm, 1807, rfl⟩
abbrev main_v1373 : Ref sig .tc := ⟨.hbm, 1808, rfl⟩
abbrev main_v1374 : Ref sig .tc := ⟨.hbm, 1809, rfl⟩
abbrev main_v1375 : Ref sig .tc := ⟨.hbm, 1810, rfl⟩
abbrev main_cst_366 : Ref sig .tc := ⟨.hbm, 1811, rfl⟩
abbrev main_v1376 : Ref sig .tc := ⟨.hbm, 1812, rfl⟩
abbrev main_v1377 : Ref sig .tc := ⟨.hbm, 1813, rfl⟩
abbrev main_v1378 : Ref sig .tc := ⟨.hbm, 1814, rfl⟩
abbrev main_v1379 : Ref sig .tc := ⟨.hbm, 1815, rfl⟩
abbrev main_v1380 : Ref sig .tc := ⟨.hbm, 1816, rfl⟩
abbrev main_cst_367 : Ref sig .tc := ⟨.hbm, 1817, rfl⟩
abbrev main_v1381 : Ref sig .tc := ⟨.hbm, 1818, rfl⟩
abbrev main_v1382 : Ref sig .tc := ⟨.hbm, 1819, rfl⟩
abbrev main_cst_368 : Ref sig .tc := ⟨.hbm, 1820, rfl⟩
abbrev main_v1383 : Ref sig .tc := ⟨.hbm, 1821, rfl⟩
abbrev main_v1384 : Ref sig .tc := ⟨.hbm, 1822, rfl⟩
abbrev main_v1385 : Ref sig .tc := ⟨.hbm, 1823, rfl⟩
abbrev main_v1386 : Ref sig .tc := ⟨.hbm, 1824, rfl⟩
abbrev main_v1387 : Ref sig .tc := ⟨.hbm, 1825, rfl⟩
abbrev main_v1388 : Ref sig .tc := ⟨.hbm, 1826, rfl⟩
abbrev main_cst_369 : Ref sig .tc := ⟨.hbm, 1827, rfl⟩
abbrev main_v1389 : Ref sig .tc := ⟨.hbm, 1828, rfl⟩
abbrev main_v1390 : Ref sig .tc := ⟨.hbm, 1829, rfl⟩
abbrev main_v1391 : Ref sig .tc := ⟨.hbm, 1830, rfl⟩
abbrev main_v1392 : Ref sig .tc := ⟨.hbm, 1831, rfl⟩
abbrev main_v1393 : Ref sig .tc := ⟨.hbm, 1832, rfl⟩
abbrev main_v1394 : Ref sig .tc := ⟨.hbm, 1833, rfl⟩
abbrev main_v1395 : Ref sig .tc := ⟨.hbm, 1834, rfl⟩
abbrev main_v1396 : Ref sig .tc := ⟨.hbm, 1835, rfl⟩
abbrev main_cst_370 : Ref sig .tc := ⟨.hbm, 1836, rfl⟩
abbrev main_v1397 : Ref sig .tc := ⟨.hbm, 1837, rfl⟩
abbrev main_v1398 : Ref sig .tc := ⟨.hbm, 1838, rfl⟩
abbrev main_cst_371 : Ref sig .tc := ⟨.hbm, 1839, rfl⟩
abbrev main_v1399 : Ref sig .tc := ⟨.hbm, 1840, rfl⟩
abbrev main_v1400 : Ref sig .tc := ⟨.hbm, 1841, rfl⟩
abbrev main_cst_372 : Ref sig .tc := ⟨.hbm, 1842, rfl⟩
abbrev main_v1401 : Ref sig .tc := ⟨.hbm, 1843, rfl⟩
abbrev main_v1402 : Ref sig .tc := ⟨.hbm, 1844, rfl⟩
abbrev main_v1403 : Ref sig .tc := ⟨.hbm, 1845, rfl⟩
abbrev main_v1404 : Ref sig .tc := ⟨.hbm, 1846, rfl⟩
abbrev main_v1405 : Ref sig .tc := ⟨.hbm, 1847, rfl⟩
abbrev main_v1406 : Ref sig .tc := ⟨.hbm, 1848, rfl⟩
abbrev main_c_373 : Ref sig .tc := ⟨.hbm, 1849, rfl⟩
abbrev main_call6_v0 : Ref sig .tc := ⟨.hbm, 1850, rfl⟩
abbrev main_v1407 : Ref sig .tc := ⟨.hbm, 1851, rfl⟩
abbrev main_c_374 : Ref sig .tc := ⟨.hbm, 1852, rfl⟩
abbrev main_call7_v0 : Ref sig .tc := ⟨.hbm, 1853, rfl⟩
abbrev main_v1408 : Ref sig .tc := ⟨.hbm, 1854, rfl⟩
abbrev main_v1409 : Ref sig .tc := ⟨.hbm, 1855, rfl⟩
abbrev main_v1410 : Ref sig .tc := ⟨.hbm, 1856, rfl⟩
abbrev main_v1411 : Ref sig .tc := ⟨.hbm, 1857, rfl⟩
abbrev main_v1412 : Ref sig .tc := ⟨.hbm, 1858, rfl⟩

abbrev nD : Nat := 1
abbrev τ : Topo := Topo.v7x

variable {F : FTy → Type} [FloatOps F]
-- ==== Kernel2.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩

abbrev nBuf : Space → Nat
  | .hbm => 50
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x5632, .f32⟩
  | .hbm, ⟨22, _⟩ => ⟨S4096x5632, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x5632, .f32⟩
  | .hbm, ⟨44, _⟩ => ⟨S4096x5632, .bf16⟩
  | .hbm, ⟨45, _⟩ => ⟨S1x1024, .f32⟩
  | .hbm, ⟨46, _⟩ => ⟨S4096x1024, .f32⟩
  | .hbm, ⟨47, _⟩ => ⟨S4096x5632, .bf16⟩
  | .hbm, ⟨48, _⟩ => ⟨S4096x1024, .bf16⟩
  | .hbm, ⟨49, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x5632, .bf16⟩
  | .local _ .vmem, ⟨6, _⟩ => ⟨S256x5632, .bf16⟩
  | .local _ .vmem, ⟨7, _⟩ => ⟨S1024x5632, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x5632, .bf16⟩
  | .local _ .vmem, ⟨12, _⟩ => ⟨S256x5632, .bf16⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v54 : BitVec 32 := Scalar.extui v53
  let c0_i32_30 : BitVec 32 := 0#32
  let v55 : BitVec 1 := Scalar.cmpi .ne v54 c0_i32_30
  v55

def k0_cond2 (i : grid0.Coords) : BitVec 1 :=
  let arg0 : BitVec 32 := BitVec.ofNat 32 (i 0).val
  let c0_i32 : BitVec 32 := 0#32
  let v53 : BitVec 1 := Scalar.cmpi .eq arg0 c0_i32
  let v_true : BitVec 1 := 1#1
  let v56 : BitVec 1 := Scalar.xori v53 v_true
  let v57 : BitVec 32 := Scalar.extui v56
  let c0_i32_31 : BitVec 32 := 0#32
  let v58 : BitVec 1 := Scalar.cmpi .ne v57 c0_i32_31
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 86
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024x5632, .bf16⟩
  | .hbm, ⟨4, _⟩ => ⟨S2816x1024, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x5632, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S2816x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x5632, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S4096x1024, .f32⟩
  | .hbm, ⟨62, _⟩ => ⟨S4096x1024, .f32⟩
  | .hbm, ⟨63, _⟩ => ⟨S_, .f32⟩
  | .hbm, ⟨64, _⟩ => ⟨S1024, .f32⟩
  | .hbm, ⟨65, _⟩ => ⟨S4096x1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x5632, .bf16⟩
  | .hbm, ⟨84, _⟩ => ⟨S4096x1024, .bf16⟩
  | .hbm, ⟨85, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_4 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_5 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩

abbrev nD : Nat := 1
abbrev τ : Topo := Topo.v7x

variable {F : FTy → Type} [FloatOps F]
-- ==== Kernel3.lean ====
abbrev S4096x8192 : Shape := ⟨2, ![4096, 8192]⟩
abbrev S1024x8192 : Shape := ⟨2, ![1024, 8192]⟩
abbrev S4096x1024 : Shape := ⟨2, ![4096, 1024]⟩
abbrev S1024 : Shape := ⟨1, ![1024]⟩
abbrev S1x1024 : Shape := ⟨2, ![1, 1024]⟩
abbrev S256x8192 : Shape := ⟨2, ![256, 8192]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x8192, .bf16⟩
  | .hbm, ⟨1, _⟩ => ⟨S1024x8192, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .local _ .vmem, ⟨0, _⟩ => ⟨S256x8192, .bf16⟩
  | .local _ .vmem, ⟨1, _⟩ => ⟨S256x8192, .bf16⟩
  | .local _ .vmem, ⟨2, _⟩ => ⟨S1024x8192, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_17 : BitVec 32 := 0#32
  let v36 : BitVec 1 := Scalar.cmpi .ne v35 c0_i32_17
  v36

def k0_cond2 (i : grid0.Coords) : BitVec 1 :=
  let arg0 : BitVec 32 := BitVec.ofNat 32 (i 0).val
  let c0_i32 : BitVec 32 := 0#32
  let v34 : BitVec 1 := Scalar.cmpi .eq arg0 c0_i32
  let v_true : BitVec 1 := 1#1
  let v37 : BitVec 1 := Scalar.xori v34 v_true
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S4096x8192 : Shape := ⟨2, ![4096, 8192]⟩
abbrev S1024x8192 : Shape := ⟨2, ![1024, 8192]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S1024x8192, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S1024x8192, .f32⟩
  | .hbm, ⟨26, _⟩ => ⟨S4096x8192, .f32⟩
  | .hbm, ⟨27, _⟩ => ⟨S4096x8192, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel4.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S4096x8192 : Shape := ⟨2, ![4096, 8192]⟩
abbrev S1024x8192 : Shape := ⟨2, ![1024, 8192]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S1024x8192, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x1024 : Shape := ⟨2, ![4096, 1024]⟩
abbrev S4096x8192 : Shape := ⟨2, ![4096, 8192]⟩
abbrev S_ : Shape := ⟨0, ![]⟩
abbrev S1024x8192 : Shape := ⟨2, ![1024, 8192]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x8192, .bf16⟩
  | .hbm, ⟨2, _⟩ => ⟨S_, .f32⟩
  | .hbm, ⟨3, _⟩ => ⟨S1024x8192, .f32⟩
  | .hbm, ⟨4, _⟩ => ⟨S4096x1024, .f32⟩
  | .hbm, ⟨5, _⟩ => ⟨S4096x8192, .f32⟩
  | .hbm, ⟨6, _⟩ => ⟨S4096x8192, .f32⟩
  | .hbm, ⟨7, _⟩ => ⟨S8192x1024, .f32⟩
  | .hbm, ⟨8, _⟩ => ⟨S1024x8192, .f32⟩
  | .hbm, ⟨9, _⟩ => ⟨S1024x8192, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S4096x4096 : Shape := ⟨2, ![4096, 4096]⟩
abbrev S2048x1024 : Shape := ⟨2, ![2048, 1024]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x2048 : Shape := ⟨2, ![4096, 2048]⟩
abbrev S4096x4096 : Shape := ⟨2, ![4096, 4096]⟩
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S2048x1024 : Shape := ⟨2, ![2048, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S4096x512, .bf16⟩
  | .hbm, ⟨3, _⟩ => ⟨S4096x1024, .bf16⟩
  | .hbm, ⟨4, _⟩ => ⟨S_, .f32⟩
  | .hbm, ⟨5, _⟩ => ⟨S512x1024, .f32⟩
  | .hbm, ⟨6, _⟩ => ⟨S4096x512, .f32⟩
  | .hbm, ⟨7, _⟩ => ⟨S4096x1024, .f32⟩
  | .hbm, ⟨8, _⟩ => ⟨S4096x1024, .f32⟩
  | .hbm, ⟨9, _⟩ => ⟨S1024x512, .f32⟩
  | .hbm, ⟨10, _⟩ => ⟨S512x1024, .f32⟩
  | .hbm, ⟨11, _⟩ => ⟨S512x1024, .bf16⟩
  | .hbm, ⟨12, _⟩ => ⟨S4096x512, .bf16⟩
  | .hbm, ⟨13, _⟩ => ⟨S4096x1024, .bf16⟩
  | .hbm, ⟨14, _⟩ => ⟨S_, .f32⟩
  | .hbm, ⟨15, _⟩ => ⟨S512x1024, .f32⟩
  | .hbm, ⟨16, _⟩ => ⟨S4096x512, .f32⟩
  | .hbm, ⟨17, _⟩ => ⟨S4096x1024, .f32⟩
  | .hbm, ⟨18, _⟩ => ⟨S4096x1024, .f32⟩
  | .hbm, ⟨19, _⟩ => ⟨S1024x512, .f32⟩
  | .hbm, ⟨20, _⟩ => ⟨S512x1024, .f32⟩
  | .hbm, ⟨21, _⟩ => ⟨S512x1024, .bf16⟩
  | .hbm, ⟨22, _⟩ => ⟨S4096x512, .bf16⟩
  | .hbm, ⟨23, _⟩ => ⟨S4096x1024, .bf16⟩
  | .hbm, ⟨24, _⟩ => ⟨S_, .f32⟩
  | .hbm, ⟨25, _⟩ => ⟨S512x1024, .f32⟩
  | .hbm, ⟨26, _⟩ => ⟨S4096x512, .f32⟩
  | .hbm, ⟨27, _⟩ => ⟨S4096x1024, .f32⟩
  | .hbm, ⟨28, _⟩ => ⟨S4096x1024, .f32⟩
  | .hbm, ⟨29, _⟩ => ⟨S1024x512, .f32⟩
  | .hbm, ⟨30, _⟩ => ⟨S512x1024, .f32⟩
  | .hbm, ⟨31, _⟩ => ⟨S512x1024, .bf16⟩
  | .hbm, ⟨32, _⟩ => ⟨S4096x512, .bf16⟩
  | .hbm, ⟨33, _⟩ => ⟨S4096x1024, .bf16⟩
  | .hbm, ⟨34, _⟩ => ⟨S_, .f32⟩
  | .hbm, ⟨35, _⟩ => ⟨S512x1024, .f32⟩
  | .hbm, ⟨36, _⟩ => ⟨S4096x512, .f32⟩
  | .hbm, ⟨37, _⟩ => ⟨S4096x1024, .f32⟩
  | .hbm, ⟨38, _⟩ => ⟨S4096x1024, .f32⟩
  | .hbm, ⟨39, _⟩ => ⟨S1024x512, .f32⟩
  | .hbm, ⟨40, _⟩ => ⟨S512x1024, .f32⟩
  | .hbm, ⟨41, _⟩ => ⟨S512x1024, .bf16⟩
  | .hbm, ⟨42, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst_1 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S4096x2816 : Shape := ⟨2, ![4096, 2816]⟩
abbrev S4096x5632 : Shape := ⟨2, ![4096, 5632]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S4096x2816, .bf16⟩
  | .hbm, ⟨8, _⟩ => ⟨S4096x5632, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .bf16⟩
  | .local _ .vmem, ⟨8, _⟩ => ⟨S256x1024, .bf16⟩
  | .local _ .vmem, ⟨9, _⟩ => ⟨S256x2816, .bf16⟩
  | .local _ .vmem, ⟨10, _⟩ => ⟨S256x2816, .bf16⟩
  | .local _ .vmem, ⟨11, _⟩ => ⟨S256x5632, .bf16⟩
  | .local _ .vmem, ⟨12, _⟩ => ⟨S256x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S4096x1024 : Shape := ⟨2, ![4096, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .bf16⟩
  | .hbm, ⟨3, _⟩ => ⟨S2816x1024, .bf16⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x5632, .f32⟩
  | .hbm, ⟨21, _⟩ => ⟨S4096x5632, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S2816x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | .hbm, ⟨45, _⟩ => ⟨S4096x2816, .bf16⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x5632, .f32⟩
  | .hbm, ⟨55, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v17_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v17_1 : Ref sig .tc := ⟨.hbm, 35, rfl⟩
abbrev main_v17_0 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x8192 : Shape := ⟨2, ![1024, 8192]⟩
abbrev S1x1024 : Shape := ⟨2, ![1, 1024]⟩
abbrev S4096x8192 : Shape := ⟨2, ![4096, 8192]⟩
abbrev S256x1024 : Shape := ⟨2, ![256, 1024]⟩
abbrev S256x8192 : Shape := ⟨2, ![256, 8192]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x8192, .bf16⟩
  | .hbm, ⟨3, _⟩ => ⟨S1x1024, .f32⟩
  | .hbm, ⟨4, _⟩ => ⟨S4096x1024, .bf16⟩
  | .hbm, ⟨5, _⟩ => ⟨S4096x8192, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x8192, .bf16⟩
  | .local _ .vmem, ⟨4, _⟩ => ⟨S256x1024, .bf16⟩
  | .local _ .vmem, ⟨5, _⟩ => ⟨S256x1024, .bf16⟩
  | .local _ .vmem, ⟨6, _⟩ => ⟨S256x8192, .bf16⟩
  | .local _ .vmem, ⟨7, _⟩ => ⟨S256x8192, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8192 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S4096x1024 : Shape := ⟨2, ![4096, 1024]⟩
abbrev S1024 : Shape := ⟨1, ![1024]⟩
abbrev S1024x8192 : Shape := ⟨2, ![1024, 8192]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x8192 : Shape := ⟨2, ![4096, 8192]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x8192, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S1024x8192, .f32⟩
  | .hbm, ⟨21, _⟩ => ⟨S4096x8192, .f32⟩
  | .hbm, ⟨22, _⟩ => ⟨S4096x8192, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.OnProven.lean ====
/- The entries of the mixers' gradient that the value claim is about: the short convolution mixer's columns and the columns beyond the
   mixers in the first result, all of the taps' gradient, all of the gradients of the gating norm's scale and shift and of the gating's
   weights and bias, and none of the other results. -/
module

public import proofs.«01_k».proof.On_proven
public import Idealize.ShloMosaic.Lib.Affine
public import Idealize.ShloMosaic.Lib.Decide
public import Idealize.ShloMosaic.Lib.Pointwise

@[expose] public section

namespace Cert.On_proven.W

open Idealize.ShloMosaic

/-- The shapes that the selection's operations take are as it says. -/
instance facts : Cert.On_proven.Facts where
  bcast_S_S4096x8192 := by decide
  bcast_S_S4x128x128 := by decide
  bcast_S_S1x512 := by decide
  bcast_S_S8x512 := by decide
  bcast_S_S32x512 := by decide

/-- The selection, column by column. -/
theorem columns : ∀ k : Fin 8192, IntOp.ori (IntOp.andi (IntOp.cmpi CmpIPredicate.sge (BitVec.ofNat 32 k.val) 512#32)
    (IntOp.cmpi CmpIPredicate.slt (BitVec.ofNat 32 k.val) 2048#32)) (IntOp.cmpi CmpIPredicate.sge (BitVec.ofNat 32 k.val) 4096#32) = 1#1
    → (512 ≤ k.val ∧ k.val < 2048) ∨ 4096 ≤ k.val := by decide +kernel

variable (x0 : FVec Ideal S4096x8192 .bf16) (x1 : FVec Ideal S4096x2048 .bf16) (x2 : FVec Ideal S4096x8192 .bf16) (x3 : FVec Ideal S4x128x128 .f32) (x4 : FVec Ideal S512 .f32) (x5 : FVec Ideal S3x512 .f32) (x6 : FVec Ideal S31x512 .f32) (x7 x8 x9 x10 : FVec Ideal S512 .f32) (x11 : FVec Ideal S4x128x128 .f32) (x12 : FVec Ideal S4x128 .f32)

/-- The columns of the first result that are selected. -/
theorem on_0 (i) (h : (fn (F := Ideal) x0 x1 x2 x3 x4 x5 x6 x7 x8 x9 x10 x11 x12).1 i = 1#1) :
    (512 ≤ (i 1).val ∧ (i 1).val < 2048) ∨ 4096 ≤ (i 1).val := by
  simp only [fn, fn_part1, fn_part2] at h
  simp only [ori, andi, cmpi, iotaInDim, broadcastInDim, constantI] at h
  exact columns (i 1) h

/-- Nothing of the second result is selected. -/
theorem off_1 (i) : ¬ (fn (F := Ideal) x0 x1 x2 x3 x4 x5 x6 x7 x8 x9 x10 x11 x12).2.1 i = 1#1 := by
  simp only [fn, fn_part1, fn_part2, cmpi, broadcastInDim, constantI]
  decide

/-- Nothing of the third result is selected. -/
theorem off_2 (i) : ¬ (fn (F := Ideal) x0 x1 x2 x3 x4 x5 x6 x7 x8 x9 x10 x11 x12).2.2.1 i = 1#1 := by
  simp only [fn, fn_part1, fn_part2, cmpi, broadcastInDim, constantI]
  decide

/-- Nothing of the fifth result is selected. -/
theorem off_4 (i) : ¬ (fn (F := Ideal) x0 x1 x2 x3 x4 x5 x6 x7 x8 x9 x10 x11 x12).2.2.2.2.1 i = 1#1 := by
  simp only [fn, fn_part1, fn_part2, cmpi, broadcastInDim, constantI]
  decide

/-- Nothing of the sixth result is selected. -/
theorem off_5 (i) : ¬ (fn (F := Ideal) x0 x1 x2 x3 x4 x5 x6 x7 x8 x9 x10 x11 x12).2.2.2.2.2.1 i = 1#1 := by
  simp only [fn, fn_part1, fn_part2, cmpi, broadcastInDim, constantI]
  decide

/-- Nothing of the seventh result is selected. -/
theorem off_6 (i) : ¬ (fn (F := Ideal) x0 x1 x2 x3 x4 x5 x6 x7 x8 x9 x10 x11 x12).2.2.2.2.2.2.1 i = 1#1 := by
  simp only [fn, fn_part1, fn_part2, cmpi, broadcastInDim, constantI]
  decide

end Cert.On_proven.W
-- ==== Proof.ShortConv.lean ====
/- The short convolution mixer's gradient as the reference computes it, element by element: its three columns' parts and the taps'
   gradient, written over rows that are zero outside the array. -/
module

public import proofs.«01_k».proof.Proof.Gen.ReferenceIdeal.Read
public import Idealize.ShloMosaic.Lib.Pipeline.ValueKit
public import Idealize.ShloMosaic.Lib.Pointwise

@[expose] public section

set_option maxRecDepth 16384

noncomputable section

open Idealize.ShloMosaic Idealize.ShloMosaic.TcCoe

namespace Cert.ShortConv

open Cert.ReferenceIdeal Cert.ReferenceIdeal.Read

/-- Column `j` of row `n - 32` of a matrix, and zero outside its rows. -/
def zrow {w : Nat} (x : (⟨2, ![4096, w]⟩ : Shape).Idx → EReal) (n : Nat) (j : Fin w) : EReal :=
  if h : 32 ≤ n ∧ n - 32 < 4096 then x (ix2 ⟨n - 32, h.2⟩ j) else 0

/-- A row of the matrix, by its own number. -/
theorem zrow_in {w : Nat} (x : (⟨2, ![4096, w]⟩ : Shape).Idx → EReal) (i : Fin 4096) (j : Fin w) : zrow x (i.val + 32) j = x (ix2 i j) := by
  rw [zrow, dif_pos ⟨by omega, by omega⟩]; congr 2

/-- Outside the rows it is zero. -/
theorem zrow_out {w : Nat} (x : (⟨2, ![4096, w]⟩ : Shape).Idx → EReal) (n : Nat) (j : Fin w) (h : n < 32 ∨ 4128 ≤ n) : zrow x n j = 0 := by
  rw [zrow, dif_neg (by omega)]

/-- The convolution's input at row `n - 32`: the gate's column times the input's. -/
def q (x0 : FVec Ideal S4096x8192 .bf16) (n : Nat) (j : Fin 512) : EReal := zrow x0 n ⟨1536 + j.val, by omega⟩ * zrow x0 n ⟨512 + j.val, by omega⟩

/-- The gradient that comes into the convolution's output at row `n - 32`. -/
def dcv (x0 : FVec Ideal S4096x8192 .bf16) (x1 : FVec Ideal S4096x2048 .bf16) (n : Nat) (j : Fin 512) : EReal := zrow x0 n ⟨1024 + j.val, by omega⟩ * zrow x1 n ⟨512 + j.val, by omega⟩

/-- The convolution's output. -/
def cv (x0 : FVec Ideal S4096x8192 .bf16) (w : FVec Ideal S3x512 .f32) (n : Nat) (j : Fin 512) : EReal :=
  w (ix2 2 j) * q x0 n j + w (ix2 1 j) * q x0 (n - 1) j + w (ix2 0 j) * q x0 (n - 2) j

/-- The gradient of the convolution's input. -/
def dq (x0 : FVec Ideal S4096x8192 .bf16) (x1 : FVec Ideal S4096x2048 .bf16) (w : FVec Ideal S3x512 .f32) (n : Nat) (j : Fin 512) : EReal :=
  w (ix2 0 j) * dcv x0 x1 (n + 2) j + w (ix2 1 j) * dcv x0 x1 (n + 1) j + w (ix2 2 j) * dcv x0 x1 n j

/-- The columns of the short convolution mixer hold that mixer's gradient. -/
theorem res_b (x0 : FVec Ideal S4096x8192 .bf16) (x1 : FVec Ideal S4096x2048 .bf16) (x2 : FVec Ideal S4096x8192 .bf16) (x3 : FVec Ideal S4x128x128 .f32) (x4 : FVec Ideal S512 .f32) (x5 : FVec Ideal S3x512 .f32) (x6 : FVec Ideal S31x512 .f32) (x7 x8 x9 x10 : FVec Ideal S512 .f32) (x11 : FVec Ideal S4x128x128 .f32) (x12 : FVec Ideal S4x128 .f32) (i : Fin 4096) (l : Fin 8192) (k : Fin 1536) (h : l.val = 512 + k.val) :
    val_main_v1405 (F := Ideal) x0 x1 x2 x3 x4 x5 x6 x7 x8 x9 x10 x11 x12 (ix2 i l) = val_main_v1238 (F := Ideal) x0 x1 x5 (ix2 i k) := by
  obtain ⟨l, hl⟩ := l; dsimp only at h; subst h
  pointwise [val_main_v1405, val_main_v1404, val_main_v1403, val_main_v1402, val_main_v1401, val_main_cst_372, val_main_v1240, val_main_v1239, val_main_cst_335, val_main_v1195, val_main_v1194, val_main_cst_320, val_main_v755, val_main_cst_183]
  have hk := k.isLt
  rw [dif_pos (by omega), dif_neg (by omega), dif_neg (by omega), zero_add, zero_add]

/-- The columns beyond the mixers are what the call was given. -/
theorem res_z (x0 : FVec Ideal S4096x8192 .bf16) (x1 : FVec Ideal S4096x2048 .bf16) (x2 : FVec Ideal S4096x8192 .bf16) (x3 : FVec Ideal S4x128x128 .f32) (x4 : FVec Ideal S512 .f32) (x5 : FVec Ideal S3x512 .f32) (x6 : FVec Ideal S31x512 .f32) (x7 x8 x9 x10 : FVec Ideal S512 .f32) (x11 : FVec Ideal S4x128x128 .f32) (x12 : FVec Ideal S4x128 .f32) (i : Fin 4096) (l : Fin 8192) (h : 4096 ≤ l.val) :
    val_main_v1405 (F := Ideal) x0 x1 x2 x3 x4 x5 x6 x7 x8 x9 x10 x11 x12 (ix2 i l) = x2 (ix2 i l) := by
  rw [show l = ⟨4096 + (⟨l.val - 4096, by omega⟩ : Fin 4096).val, by show 4096 + (l.val - 4096) < 8192; omega⟩ from Fin.ext (by show l.val = 4096 + (l.val - 4096); omega)]
  pointwise [val_main_v1405, val_main_v1404, val_main_v1403, val_main_v1402, val_main_v1401, val_main_cst_372, val_main_v1240, val_main_v1239, val_main_cst_335, val_main_v1195, val_main_v1194, val_main_cst_320, val_main_v755, val_main_cst_183]

/-- The convolution's input. -/
theorem at_q (x0 : FVec Ideal S4096x8192 .bf16) (x1 : FVec Ideal S4096x2048 .bf16) (i : Fin 4096) (j : Fin 512) : val_main_v204 (F := Ideal) x0 (ix2 i j) = q x0 (i.val + 32) j := by
  rw [q, zrow_in, zrow_in]
  pointwise [val_main_v1238, val_main_v1237, val_main_cst_334, val_main_v1236, val_main_v1235, val_main_cst_333, val_main_v1234, val_main_cst_332, val_main_v1233, val_main_v1232, val_main_v1224, val_main_v1223, val_main_v1222, val_main_v1218, val_main_v1217, val_main_cst_327, val_main_v1216, val_main_v1210, val_main_v1209, val_main_v1206, val_main_cst_323, val_main_v1205, val_main_v1199, val_main_v1198, val_main_v1197, val_main_v1196, val_main_v679, val_main_v677, val_main_v231, val_main_v230, val_main_v229, val_main_v228, val_main_v226, val_main_v225, val_main_v224, val_main_cst_65, val_main_v223, val_main_v222, val_main_v221, val_main_v220, val_main_v219, val_main_v218, val_main_v216, val_main_v215, val_main_v214, val_main_cst_63, val_main_v213, val_main_v212, val_main_v211, val_main_v210, val_main_cst_62, val_main_v209, val_main_v208, val_main_v207, val_main_v206, val_main_v205, val_main_v204, val_main_v203, val_main_v202, val_main_v201, val_main_v200, val_main_v3, val_main_v2]
  simp only [← Nat.add_assoc, Nat.reduceAdd]

/-- The convolution's input one row before. -/
theorem at_q1 (x0 : FVec Ideal S4096x8192 .bf16) (x1 : FVec Ideal S4096x2048 .bf16) (i : Fin 4096) (j : Fin 512) : val_main_v216 (F := Ideal) x0 (ix2 i j) = q x0 (i.val + 31) j := by
  pointwise [val_main_v226, val_main_v225, val_main_v224, val_main_cst_65, val_main_v216, val_main_v215, val_main_v214, val_main_cst_63]
  split
  · rw [q, zrow_out _ _ _ (by omega), zero_mul]
  · rw [at_q x0 x1]; congr 1; show i.val - 1 + 32 = i.val + 31; omega

/-- The convolution's input two rows before. -/
theorem at_q2 (x0 : FVec Ideal S4096x8192 .bf16) (x1 : FVec Ideal S4096x2048 .bf16) (i : Fin 4096) (j : Fin 512) : val_main_v226 (F := Ideal) x0 (ix2 i j) = q x0 (i.val + 30) j := by
  pointwise [val_main_v226, val_main_v225, val_main_v224, val_main_cst_65, val_main_v216, val_main_v215, val_main_v214, val_main_cst_63]
  split
  · rw [q, zrow_out _ _ _ (by omega), zero_mul]
  · rw [at_q x0 x1]; congr 1; show i.val - 2 + 32 = i.val + 30; omega

/-- The gradient that comes into the convolution's output. -/
theorem at_dcv (x0 : FVec Ideal S4096x8192 .bf16) (x1 : FVec Ideal S4096x2048 .bf16) (i : Fin 4096) (j : Fin 512) : val_main_v1196 (F := Ideal) x0 x1 (ix2 i j) = dcv x0 x1 (i.val + 32) j := by
  rw [dcv, zrow_in, zrow_in]
  pointwise [val_main_v1238, val_main_v1237, val_main_cst_334, val_main_v1236, val_main_v1235, val_main_cst_333, val_main_v1234, val_main_cst_332, val_main_v1233, val_main_v1232, val_main_v1224, val_main_v1223, val_main_v1222, val_main_v1218, val_main_v1217, val_main_cst_327, val_main_v1216, val_main_v1210, val_main_v1209, val_main_v1206, val_main_cst_323, val_main_v1205, val_main_v1199, val_main_v1198, val_main_v1197, val_main_v1196, val_main_v679, val_main_v677, val_main_v231, val_main_v230, val_main_v229, val_main_v228, val_main_v226, val_main_v225, val_main_v224, val_main_cst_65, val_main_v223, val_main_v222, val_main_v221, val_main_v220, val_main_v219, val_main_v218, val_main_v216, val_main_v215, val_main_v214, val_main_cst_63, val_main_v213, val_main_v212, val_main_v211, val_main_v210, val_main_cst_62, val_main_v209, val_main_v208, val_main_v207, val_main_v206, val_main_v205, val_main_v204, val_main_v203, val_main_v202, val_main_v201, val_main_v200, val_main_v3, val_main_v2]
  simp only [← Nat.add_assoc, Nat.reduceAdd]

/-- The convolution's output. -/
theorem at_cv (x0 : FVec Ideal S4096x8192 .bf16) (x1 : FVec Ideal S4096x2048 .bf16) (w : FVec Ideal S3x512 .f32) (i : Fin 4096) (j : Fin 512) : val_main_v231 (F := Ideal) x0 w (ix2 i j) = cv x0 w (i.val + 32) j := by
  pointwise [val_main_v231, val_main_v230, val_main_v229, val_main_v228, val_main_v223, val_main_v222, val_main_v221, val_main_v220, val_main_v219, val_main_v218, val_main_v213, val_main_v212, val_main_v211, val_main_v210, val_main_cst_62, val_main_v209, val_main_v208, val_main_v207, val_main_v206, val_main_v205]
  rw [at_q x0 x1, at_q1 x0 x1, at_q2 x0 x1, cv]
  rfl

/-- The gradient of the convolution's input. -/
theorem at_dq (x0 : FVec Ideal S4096x8192 .bf16) (x1 : FVec Ideal S4096x2048 .bf16) (w : FVec Ideal S3x512 .f32) (i : Fin 4096) (j : Fin 512) : val_main_v1224 (F := Ideal) x0 x1 w (ix2 i j) = dq x0 x1 w (i.val + 32) j := by
  pointwise [val_main_v1224, val_main_v1223, val_main_v1222, val_main_v1218, val_main_v1217, val_main_cst_327, val_main_v1216, val_main_v1210, val_main_v1209, val_main_v1206, val_main_cst_323, val_main_v1205, val_main_v1199, val_main_v1198, val_main_v228, val_main_v223, val_main_v222, val_main_v218, val_main_v213, val_main_v212, val_main_v207, val_main_v206, val_main_v205]
  rw [dq, ← at_dcv x0 x1 i j]
  congr 2
  · split
    · rw [at_dcv]; congr 2; show 2 + i.val + 32 = i.val + 32 + 2; omega
    · rw [dcv, zrow_out _ _ _ (by omega), zero_mul, mul_zero]
  · split
    · rw [at_dcv]; congr 2; show 1 + i.val + 32 = i.val + 32 + 1; omega
    · rw [dcv, zrow_out _ _ _ (by omega), zero_mul, mul_zero]

/-- The gradient of the convolution's input's column. -/
theorem ref_x (x0 : FVec Ideal S4096x8192 .bf16) (x1 : FVec Ideal S4096x2048 .bf16) (w : FVec Ideal S3x512 .f32) (i : Fin 4096) (k : Fin 1536) (j : Fin 512) (h : k.val = j.val) :
    val_main_v1238 (F := Ideal) x0 x1 w (ix2 i k) = x0 (ix2 i ⟨1536 + j.val, by omega⟩) * dq x0 x1 w (i.val + 32) j := by
  obtain ⟨k, hk⟩ := k; dsimp only at h; subst h
  have hj := j.isLt
  pointwise [val_main_v1238, val_main_v1237, val_main_cst_334, val_main_v1236, val_main_v1235, val_main_cst_333, val_main_v1234, val_main_cst_332, val_main_v1233, val_main_v1232, val_main_v1197, val_main_v679, val_main_v677, val_main_v203, val_main_v201, val_main_v200, val_main_v3, val_main_v2]
  rw [dif_neg (by omega), dif_neg (fun h => h.1), zero_add, zero_add, at_dq]
  simp only [← Nat.add_assoc, Nat.reduceAdd]

/-- The gradient of the output gate's column. -/
theorem ref_g (x0 : FVec Ideal S4096x8192 .bf16) (x1 : FVec Ideal S4096x2048 .bf16) (w : FVec Ideal S3x512 .f32) (i : Fin 4096) (k : Fin 1536) (j : Fin 512) (h : k.val = 512 + j.val) :
    val_main_v1238 (F := Ideal) x0 x1 w (ix2 i k) = x1 (ix2 i ⟨512 + j.val, by omega⟩) * cv x0 w (i.val + 32) j := by
  obtain ⟨k, hk⟩ := k; dsimp only at h; subst h
  have hj := j.isLt
  pointwise [val_main_v1238, val_main_v1237, val_main_cst_334, val_main_v1236, val_main_v1235, val_main_cst_333, val_main_v1234, val_main_cst_332, val_main_v1233, val_main_v1232, val_main_v1197, val_main_v679, val_main_v677, val_main_v203, val_main_v201, val_main_v200, val_main_v3, val_main_v2]
  rw [dif_neg (by omega), zero_add, at_cv x0 x1]

/-- The gradient of the input gate's column. -/
theorem ref_c (x0 : FVec Ideal S4096x8192 .bf16) (x1 : FVec Ideal S4096x2048 .bf16) (w : FVec Ideal S3x512 .f32) (i : Fin 4096) (k : Fin 1536) (j : Fin 512) (h : k.val = 1024 + j.val) :
    val_main_v1238 (F := Ideal) x0 x1 w (ix2 i k) = dq x0 x1 w (i.val + 32) j * x0 (ix2 i ⟨512 + j.val, by omega⟩) := by
  obtain ⟨k, hk⟩ := k; dsimp only at h; subst h
  have hj := j.isLt
  pointwise [val_main_v1238, val_main_v1237, val_main_cst_334, val_main_v1236, val_main_v1235, val_main_cst_333, val_main_v1234, val_main_cst_332, val_main_v1233, val_main_v1232, val_main_v1197, val_main_v679, val_main_v677, val_main_v203, val_main_v201, val_main_v200, val_main_v3, val_main_v2]
  rw [at_dq, dif_neg (by omega), dif_neg (by omega), add_zero, add_zero]

/-- A tap's gradient. -/
theorem ref_w (x0 : FVec Ideal S4096x8192 .bf16) (x1 : FVec Ideal S4096x2048 .bf16) (k : Fin 8) (j : Fin 512) :
    val_main_v1407 (F := Ideal) x0 x1 (ix2 k j)
    = if k.val < 3 then ∑ i : Fin 4096, dcv x0 x1 (i.val + 32) j * q x0 (i.val + 30 + k.val) j else 0 := by
  pointwise [val_main_v1231, val_main_v1230, val_main_cst_331, val_main_v1229, val_main_v1228, val_main_cst_330, val_main_v1227, val_main_v1226, val_main_cst_329, val_main_v1225, val_main_v1221, val_main_v1220, val_main_cst_328, val_main_v1219, val_main_v1214, val_main_cst_326, val_main_v1213, val_main_v1212, val_main_cst_325, val_main_v1211, val_main_v1208, val_main_cst_324, val_main_v1207, val_main_v1203, val_main_cst_322, val_main_v1202, val_main_v1201, val_main_cst_321, val_main_v1200, val_main_v1407, val_main_call6_v0, val_main_c_373]
  by_cases h3 : k.val < 3
  · rw [dif_pos h3, if_pos h3]
    simp only [Fin.sum_univ_one]
    obtain ⟨k, hk⟩ := k
    dsimp only at h3 ⊢
    interval_cases k
    · simp [at_dcv, at_q2 x0 x1]
    · simp [at_dcv, at_q1 x0 x1]
    · simp [at_dcv, at_q x0 x1]
  · rw [dif_neg h3, if_neg h3]
    show ((((0#32 : BitVec 32).toInt : ℝ)) : EReal) = 0
    simp

end Cert.ShortConv

end
-- ==== Proof.MixRows.lean ====
/- What the gradient of the four mixers reads at a grid point: its 512 rows with 32 rows on either side, assembled from the
   blocks around it, and the short convolution's taps. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Defs
public import proofs.«01_k».proof.Proof.ShortConv

@[expose] public section

set_option maxRecDepth 16384

noncomputable section

open Idealize.ShloMosaic Idealize.ShloMosaic.TcCoe Idealize.SL.Sem
open Idealize.ShloMosaic.Pipeline (Dat)

namespace Cert.KernelIdeal.W

open Cert.KernelIdeal Cert.KernelIdeal.Gen
open Cert.ReferenceIdeal.Read
open Cert.ShortConv

variable (m : (ℓ : Loc nD τ sig) → Buf (Elt Ideal) ℓ)

/-- There are eight grid points. -/
theorem lt8 (t : Fin cfg0.N) : t.val < 8 := lt_of_lt_of_eq t.isLt N_0

/-- Where each window's block stands at a grid point: its own rows, and the 32 rows before and after them. -/
theorem idx : ∀ t : Fin cfg0.N, win0_0.index t = ![16 * t.val - 1, 0] ∧ win0_1.index t = ![t.val, 0] ∧ win0_2.index t = ![min (16 * t.val + 16) 127, 0]
    ∧ win0_4.index t = ![t.val, 0] ∧ win0_5.index t = ![min (16 * t.val + 16) 127, 0] ∧ win0_10.index t = ![0, 0] ∧ win0_18.index t = ![t.val, 0] ∧ win0_21.index t = ![0, 0]
    ∧ (grid0.coords t 0).val = t.val :=
  (by decide +kernel : ∀ t : Fin grid0.N, _)

/-- The rows a grid point works on, with their neighbours, assembled. -/
def peBlk (c : Dev nD) (t : Fin cfg0.N) : FVec Ideal S576x4096 .bf16 :=
  View.canon (Val := Elt Ideal) (s := S576x4096) (e := .bf16) [⟨Rect.unit (s := S576x4096) ![544, 0] ![32, 4096] (by decide), k0_pay4 (F := Ideal) (grid0.coords t) (iblk m c 2 t)⟩,
      ⟨Rect.unit (s := S576x4096) ![32, 0] ![512, 4096] (by decide), k0_pay3 (F := Ideal) (iblk m c 1 t)⟩,
      ⟨Rect.unit (s := S576x4096) ![0, 0] ![32, 4096] (by decide), k0_pay2 (F := Ideal) (grid0.coords t) (iblk m c 0 t)⟩]

/-- The rows of the gradient that comes in, with the neighbours after them, assembled. -/
def deBlk (c : Dev nD) (t : Fin cfg0.N) : FVec Ideal S576x2048 .bf16 :=
  View.canon (Val := Elt Ideal) (s := S576x2048) (e := .bf16) [⟨Rect.unit (s := S576x2048) ![544, 0] ![32, 2048] (by decide), k0_pay7 (F := Ideal) (Scalar.cmpi .slt (BitVec.ofNat 32 (grid0.coords t 0).val) 7#32) (iblk m c 5 t)⟩,
      ⟨Rect.unit (s := S576x2048) ![32, 0] ![512, 2048] (by decide), k0_pay6 (F := Ideal) (iblk m c 4 t)⟩,
      ⟨Rect.unit (s := S576x2048) ![0, 0] ![32, 2048] (by decide), k0_pay5 (F := Ideal)⟩]

/-- The first grid point has no rows before it. -/
theorem first : ∀ t : Fin cfg0.N, Scalar.cmpi .sgt (BitVec.ofNat 32 (grid0.coords t 0).val) 0#32 = if 0 < t.val then 1#1 else 0#1 :=
  (by decide +kernel : ∀ t : Fin grid0.N, _)

/-- The last grid point has no rows after it. -/
theorem last : ∀ t : Fin cfg0.N, Scalar.cmpi .slt (BitVec.ofNat 32 (grid0.coords t 0).val) 7#32 = if t.val < 7 then 1#1 else 0#1 :=
  (by decide +kernel : ∀ t : Fin grid0.N, _)

/-- A place in whole rows. -/
theorem in_rows {w o n : Nat} {hb} {y : (⟨2, ![576, w]⟩ : Shape).Idx} (h : o ≤ (y 0).val ∧ (y 0).val < o + n) :
    y ∈ (Rect.unit (s := ⟨2, ![576, w]⟩) ![o, 0] ![n, w] hb).set := by
  have h1 : (y 1).val < w := (y 1).isLt
  refine Rect.mem_set_unit.2 fun a => ?_
  fin_cases a
  · exact h
  · exact ⟨Nat.zero_le _, by show (y 1).val < 0 + w; omega⟩

/-- Three pieces of 32, 512 and 32 rows make up 576. -/
theorem cover3 {w : Nat} {hb1 hb2 hb3} (v1 v2 v3) (y : (⟨2, ![576, w]⟩ : Shape).Idx) :
    ∃ p ∈ ([⟨Rect.unit (s := ⟨2, ![576, w]⟩) ![544, 0] ![32, w] hb1, v1⟩, ⟨Rect.unit (s := ⟨2, ![576, w]⟩) ![32, 0] ![512, w] hb2, v2⟩,
      ⟨Rect.unit (s := ⟨2, ![576, w]⟩) ![0, 0] ![32, w] hb3, v3⟩] : List ((r : Rect ⟨2, ![576, w]⟩) × (r.shape.Idx → EReal))), y ∈ p.fst.set := by
  have h0 : (y 0).val < 576 := (y 0).isLt
  by_cases ha : (y 0).val < 32
  · exact ⟨_, .tail _ (.tail _ (.head _)), in_rows (hb := hb3) ⟨by omega, by omega⟩⟩
  by_cases hb : (y 0).val < 544
  · exact ⟨_, .tail _ (.head _), in_rows (hb := hb2) ⟨by omega, by omega⟩⟩
  · exact ⟨_, .head _, in_rows (hb := hb1) ⟨by omega, by omega⟩⟩

/-- An element of the block of rows before a grid point's own. -/
theorem blk0 (c : Dev nD) (t : Fin cfg0.N) (x) : iblk m c 0 t x = (m ((c : Thread nD τ).loc main_arg0) : FVec Ideal S4096x8192 .bf16) (((cfg0.win 0).blk t).view.emb x) :=
  congrFun (V_main_arg0 m c) _

/-- An element of the block of a grid point's own rows. -/
theorem blk1 (c : Dev nD) (t : Fin cfg0.N) (x) : iblk m c 1 t x = (m ((c : Thread nD τ).loc main_arg0) : FVec Ideal S4096x8192 .bf16) (((cfg0.win 1).blk t).view.emb x) :=
  congrFun (V_main_arg0 m c) _

/-- An element of the block of rows after a grid point's own. -/
theorem blk2 (c : Dev nD) (t : Fin cfg0.N) (x) : iblk m c 2 t x = (m ((c : Thread nD τ).loc main_arg0) : FVec Ideal S4096x8192 .bf16) (((cfg0.win 2).blk t).view.emb x) :=
  congrFun (V_main_arg0 m c) _

/-- An element of the block of a grid point's own rows of the gradient that comes in. -/
theorem blk4 (c : Dev nD) (t : Fin cfg0.N) (x) : iblk m c 4 t x = (m ((c : Thread nD τ).loc main_arg1) : FVec Ideal S4096x2048 .bf16) (((cfg0.win 4).blk t).view.emb x) :=
  congrFun (V_main_arg1 m c) _

/-- An element of the block of rows after them. -/
theorem blk5 (c : Dev nD) (t : Fin cfg0.N) (x) : iblk m c 5 t x = (m ((c : Thread nD τ).loc main_arg1) : FVec Ideal S4096x2048 .bf16) (((cfg0.win 5).blk t).view.emb x) :=
  congrFun (V_main_arg1 m c) _

/-- A place in the rows where `zrow` reads. -/
theorem zrow_at {w : Nat} (x : FVec Ideal ⟨2, ![4096, w]⟩ .bf16) (n : Nat) (l : Fin w) (z : (⟨2, ![4096, w]⟩ : Shape).Idx) (h0 : n = (z 0).val + 32) (h1 : (z 1).val = l.val) :
    zrow x n l = x z := by
  have hz : (z 0).val < 4096 := (z 0).isLt
  rw [zrow, dif_pos ⟨by omega, by omega⟩]
  congr 1
  funext a
  refine Fin.ext ?_
  fin_cases a
  · show n - 32 = (z 0).val; omega
  · exact h1.symm

/-- The assembled rows are the array's, and zero outside it. -/
theorem pe_at (c : Dev nD) (t : Fin cfg0.N) (y : S576x4096.Idx) (l : Fin 8192) (hl : l.val = (y 1).val) :
    peBlk m c t y = zrow (m ((c : Thread nD τ).loc main_arg0)) (512 * t.val + (y 0).val) l := by
  have ht := lt8 t
  unfold peBlk
  canon_tiles x k using (cover3 _ _ _ _)
  · pointwise [k0_pay4]
    rw [last]
    by_cases h7 : t.val < 7
    · rw [if_pos h7]
      refine (blk2 m c t x).trans (zrow_at _ _ _ _ ?_ ?_).symm
      · blk_simp [idx t]; omega
      · blk_simp [idx t]; omega
    · rw [if_neg h7, zrow_out _ _ _ (by omega)]
      rfl
  · pointwise [k0_pay3]
    refine (blk1 m c t x).trans (zrow_at _ _ _ _ ?_ ?_).symm
    · blk_simp [idx t]; omega
    · blk_simp [idx t]; omega
  · pointwise [k0_pay2]
    rw [first]
    by_cases h7 : 0 < t.val
    · rw [if_pos h7]
      refine (blk0 m c t x).trans (zrow_at _ _ _ _ ?_ ?_).symm
      · blk_simp [idx t]; omega
      · blk_simp [idx t]; omega
    · rw [if_neg h7, zrow_out _ _ _ (by omega)]
      rfl

/-- The assembled rows of the gradient that comes in are the array's from the point's own rows on, and zero outside it. -/
theorem de_at (c : Dev nD) (t : Fin cfg0.N) (y : S576x2048.Idx) (l : Fin 2048) (hl : l.val = (y 1).val) (hy : 32 ≤ (y 0).val) :
    deBlk m c t y = zrow (m ((c : Thread nD τ).loc main_arg1)) (512 * t.val + (y 0).val) l := by
  have ht := lt8 t
  unfold deBlk
  canon_tiles x k using (cover3 _ _ _ _)
  · pointwise [k0_pay7]
    rw [last]
    by_cases h7 : t.val < 7
    · rw [if_pos h7]
      refine (blk5 m c t x).trans (zrow_at _ _ _ _ ?_ ?_).symm
      · blk_simp [idx t]; omega
      · blk_simp [idx t]; omega
    · rw [if_neg h7, zrow_out _ _ _ (by omega)]
      rfl
  · pointwise [k0_pay6]
    refine (blk4 m c t x).trans (zrow_at _ _ _ _ ?_ ?_).symm
    · blk_simp [idx t]; omega
    · blk_simp [idx t]; omega
  · omega

/-- A column group of the assembled rows. -/
def peCols (c : Dev nD) (t : Fin cfg0.N) (o : Nat) (ho : o + 512 ≤ 4096) : FVec Ideal S576x512 .bf16 :=
  fun y => zrow (m ((c : Thread nD τ).loc main_arg0)) (512 * t.val + (y 0).val) ⟨o + (y 1).val, by have : (y 1).val < 512 := (y 1).isLt; omega⟩

/-- A column group of the assembled rows, read back. -/
theorem pe_read (c : Dev nD) (t : Fin cfg0.N) (v : View sig .tc .vmem S576x4096 .bf16) (o : Nat) (ho : o + 512 ≤ 4096) (hb) :
    v.readCov (Val := Elt Ideal) [⟨Rect.unit (s := S576x4096) ![544, 0] ![32, 4096] (by decide), k0_pay4 (F := Ideal) (grid0.coords t) (iblk m c 2 t)⟩,
      ⟨Rect.unit (s := S576x4096) ![32, 0] ![512, 4096] (by decide), k0_pay3 (F := Ideal) (iblk m c 1 t)⟩,
      ⟨Rect.unit (s := S576x4096) ![0, 0] ![32, 4096] (by decide), k0_pay2 (F := Ideal) (grid0.coords t) (iblk m c 0 t)⟩] (Rect.unit (s := S576x4096) ![0, o] ![576, 512] hb).toLoadRect = peCols m c t o ho := by
  rw [View.readCov_eq_canon']
  funext j
  refine (pe_at m c t _ ⟨o + (j 1).val, by have : (j 1).val < 512 := (j 1).isLt; omega⟩ ?_).trans ?_
  · simp [LoadRect.idx, Rect.toLoadRect]
  · unfold peCols
    congr 2
    simp [LoadRect.idx, Rect.toLoadRect]

/-- The short convolution mixer's columns of the gradient that comes in, with the neighbours after them. -/
def deCols (c : Dev nD) (t : Fin cfg0.N) : FVec Ideal S576x512 .bf16 :=
  fun y => deBlk m c t (ix2 (⟨(y 0).val, (y 0).isLt⟩ : Fin 576) (⟨512 + (y 1).val, by have : (y 1).val < 512 := (y 1).isLt; omega⟩ : Fin 2048))

/-- Those columns, read back. -/
theorem de_read (c : Dev nD) (t : Fin cfg0.N) (v : View sig .tc .vmem S576x2048 .bf16) (hb) :
    v.readCov (Val := Elt Ideal) [⟨Rect.unit (s := S576x2048) ![544, 0] ![32, 2048] (by decide), k0_pay7 (F := Ideal) (Scalar.cmpi .slt (BitVec.ofNat 32 (grid0.coords t 0).val) 7#32) (iblk m c 5 t)⟩,
      ⟨Rect.unit (s := S576x2048) ![32, 0] ![512, 2048] (by decide), k0_pay6 (F := Ideal) (iblk m c 4 t)⟩,
      ⟨Rect.unit (s := S576x2048) ![0, 0] ![32, 2048] (by decide), k0_pay5 (F := Ideal)⟩] (Rect.unit (s := S576x2048) ![0, 512] ![576, 512] hb).toLoadRect = deCols m c t := by
  rw [View.readCov_eq_canon']
  funext j
  unfold deCols deBlk
  congr 1
  funext a
  exact Fin.ext (by fin_cases a <;> simp [LoadRect.idx, Rect.toLoadRect])

/-- An element of those columns from the point's own rows on. -/
theorem deCols_at (c : Dev nD) (t : Fin cfg0.N) (n : Fin 576) (j : Fin 512) (hn : 32 ≤ n.val) :
    deCols m c t (ix2 n j) = zrow (m ((c : Thread nD τ).loc main_arg1)) (512 * t.val + n.val) ⟨512 + j.val, by omega⟩ :=
  de_at m c t _ _ rfl hn

/-- Host operations in five stretches: the first, then the others. -/
theorem stretches (a b c d e : List (HloOp τ sig (Elt Ideal))) (W : Valuation τ sig (Elt Ideal)) :
    StableHlo.after (List.flatten [a, b, c, d, e]) W = StableHlo.after (b ++ (c ++ (d ++ e))) (StableHlo.after a W) := by
  simp only [List.flatten_cons, List.flatten_nil, List.append_nil, StableHlo.after_append]

/-- The taps, padded by five rows. -/
def padTaps (x : FVec Ideal S3x512 .f32) (v : FVec Ideal S_ .f32) : FVec Ideal S8x512 .f32 :=
  pad S8x512 ![0, 0] ![5, 0] ![0, 0] x v pads_S3x512_S8x512_050_000 h_S_

/-- The padded taps' first three rows are the taps. -/
theorem padTaps_at (x : FVec Ideal S3x512 .f32) (v : FVec Ideal S_ .f32) (k : Fin 3) (j : Fin 512) :
    padTaps x v (ix2 (⟨k.val, by omega⟩ : Fin 8) j) = x (ix2 k j) := by
  unfold padTaps
  pointwise []

/-- The padding of the taps, after any host operations. -/
theorem pad_taps (W : Valuation τ sig (Elt Ideal)) :
    StableHlo.after (hostOps0_1 ++ (hostOps0_2 ++ (hostOps0_3 ++ hostOps0_4))) W (Proc.devRef .tc main_v290)
      = padTaps (W (Proc.devRef .tc main_arg5)) (sitofp .f32 (W (Proc.devRef .tc main_c) : IVec S_ 32)) := by
  simp only [hostOps0_1, hostOps0_2, hostOps0_3, hostOps0_4, List.cons_append, List.nil_append]
  after_results
  rfl

/-- The host operations before leave the taps alone. -/
theorem keep_taps (c : Dev nD) : StableHlo.after hostOps0 (fun b => m (c, b)) (Proc.devRef .tc main_arg5) = m ((c : Thread nD τ).loc main_arg5) :=
  StableHlo.after_of_forall_not_mem (b := Proc.devRef .tc main_arg5) _ _ (List.forall_iff_forall_mem.mp (by
    simp only [hostOps0, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The padded taps are the argument, padded. -/
theorem taps_pad (c : Dev nD) : ∃ v : FVec Ideal S_ .f32, V m c main_v290 = padTaps (m ((c : Thread nD τ).loc main_arg5) : FVec Ideal S3x512 .f32) v :=
  ⟨_, (congrFun (stretches hostOps0 hostOps0_1 hostOps0_2 hostOps0_3 hostOps0_4 fun b => m (c, b)) _).trans ((pad_taps _).trans
    (congrArg (fun z => padTaps z _) (keep_taps m c)))⟩

/-- An element of the block of the taps. -/
theorem blk10 (c : Dev nD) (t : Fin cfg0.N) (x) : iblk m c 10 t x = (V m c main_v290 : FVec Ideal S8x512 .f32) (((cfg0.win 10).blk t).view.emb x) := rfl

/-- The block of the taps is the whole array of them. -/
theorem emb10 (t : Fin cfg0.N) (x : S8x512.Idx) : (((cfg0.win 10).blk t).view.emb x : S8x512.Idx) = x := by
  blk_ext [idx t]

/-- The window of the taps holds the argument's three rows. -/
theorem taps (c : Dev nD) (t : Fin cfg0.N) (k : Fin 3) (j : Fin 512) :
    iblk m c 10 t (ix2 (⟨k.val, by omega⟩ : Fin 8) j : S8x512.Idx) = (m ((c : Thread nD τ).loc main_arg5) : FVec Ideal S3x512 .f32) (ix2 k j) := by
  obtain ⟨v, hv⟩ := taps_pad m c
  rw [blk10, hv]
  exact (congrArg (padTaps _ v) (emb10 t _)).trans (padTaps_at _ v k j)

end Cert.KernelIdeal.W

end
-- ==== Proof.MixParts.lean ====
/- What a grid point of the mixers' gradient computes of the short convolution mixer's part, column by column and tap by tap. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.MixRows

@[expose] public section

set_option maxRecDepth 16384

noncomputable section

open Idealize.ShloMosaic Idealize.ShloMosaic.TcCoe Idealize.SL.Sem
open Idealize.ShloMosaic.Pipeline (Dat)

namespace Cert.KernelIdeal.W

open Cert.KernelIdeal Cert.KernelIdeal.Gen
open Cert.ReferenceIdeal.Read
open Cert.ShortConv

variable (m : (ℓ : Loc nD τ sig) → Buf (Elt Ideal) ℓ)

/-- The columns from 512 on are the projected array's. -/
theorem in_512 : 512 + 512 ≤ 4096 := by decide

/-- The columns from 1024 on are the projected array's. -/
theorem in_1024 : 1024 + 512 ≤ 4096 := by decide

/-- The columns from 1536 on are the projected array's. -/
theorem in_1536 : 1536 + 512 ≤ 4096 := by decide

/-- The first columns of the gate's rows on the grid point's own rows. -/
theorem peCols_at (c : Dev nD) (t : Fin cfg0.N) (o : Nat) (ho : o + 512 ≤ 4096) (n : Fin 576) (j : Fin 512) :
    peCols m c t o ho (ix2 n j) = zrow (m ((c : Thread nD τ).loc main_arg0)) (512 * t.val + n.val) ⟨o + j.val, by omega⟩ := rfl

/-- A row of the taps' window, loaded. -/
theorem ld_taps (c : Dev nD) (t : Fin cfg0.N) (k : Fin 3) (hb) (j : Fin 512) :
    View.ld (iblk m c 10 t) (Rect.unit (s := S8x512) ![k.val, 0] ![1, 512] hb) (ix2 0 j) = (m ((c : Thread nD τ).loc main_arg5) : FVec Ideal S3x512 .f32) (ix2 k j) := by
  refine Eq.trans (congrArg (iblk m c 10 t) (?_ : _ = (ix2 (⟨k.val, by omega⟩ : Fin 8) j : S8x512.Idx))) (taps m c t k j)
  funext a
  exact Fin.ext (by fin_cases a <;> simp [Rect.emb, Rect.unit])

/-- What a grid point adds to a tap's gradient: the sum over its own rows. -/
def tapSum (c : Dev nD) (t : Fin cfg0.N) (k : Nat) (j : Fin 512) : EReal :=
  ∑ i : Fin 512, dcv (m ((c : Thread nD τ).loc main_arg0)) (m ((c : Thread nD τ).loc main_arg1)) (512 * t.val + i.val + 32) j
    * q (m ((c : Thread nD τ).loc main_arg0)) (512 * t.val + i.val + 30 + k) j

variable {m}

section Parts

variable (c : Dev nD) (t : Fin cfg0.N) (X Bg Cg Dy : FVec Ideal S576x512 .bf16) (w2 w1 w0 : FVec Ideal S1x512 .f32) (W : FVec Ideal S3x512 .f32)
  (hX : X = peCols m c t 512 in_512) (hB : Bg = peCols m c t 1024 in_1024) (hC : Cg = peCols m c t 1536 in_1536) (hD : Dy = deCols m c t)
  (h2 : ∀ j, w2 (ix2 0 j) = W (ix2 2 j)) (h1 : ∀ j, w1 (ix2 0 j) = W (ix2 1 j)) (h0 : ∀ j, w0 (ix2 0 j) = W (ix2 0 j))

include hB hD in
/-- The gradient that comes into the convolution's output, on the grid point's own rows and after them. -/
theorem part_dcv (n : Fin 576) (j : Fin 512) (N : Nat) (hN : N = 512 * t.val + n.val) (hn : 32 ≤ n.val) :
    k0_pay73 (F := Ideal) Dy (ix2 n j) * Bg (ix2 n j) = dcv (m ((c : Thread nD τ).loc main_arg0)) (m ((c : Thread nD τ).loc main_arg1)) N j := by
  subst hN hB hD
  pointwise [k0_pay73]
  rw [peCols_at, deCols_at m c t n j hn, dcv, mul_comm]

include hX hC in
/-- The convolution's input, on the grid point's own rows and before them. -/
theorem part_q (n : Fin 576) (j : Fin 512) (N : Nat) (hN : N = 512 * t.val + n.val) :
    Cg (ix2 n j) * X (ix2 n j) = q (m ((c : Thread nD τ).loc main_arg0)) N j := by
  subst hN hX hC
  rw [peCols_at, peCols_at, q]

include hX hB hD h2 h1 h0 in
/-- The gate's column of the gradient. -/
theorem part_c (i j : Fin 512) (r : Fin 4096) (hr : r.val = 512 * t.val + i.val) :
    k0_pay82 (F := Ideal) (k0_pay67 X) (k0_pay78 (k0_pay74 Bg Dy) w2 w1 w0) (ix2 i j)
      = dq (m ((c : Thread nD τ).loc main_arg0)) (m ((c : Thread nD τ).loc main_arg1)) W (r.val + 32) j
        * zrow (m ((c : Thread nD τ).loc main_arg0)) (r.val + 32) ⟨512 + j.val, by omega⟩ := by
  pointwise [k0_pay82, k0_pay67, k0_pay78, k0_pay74]
  rw [part_dcv c t Bg Dy hB hD _ j (r.val + 32) (by dsimp only; omega) (by dsimp only; omega),
    part_dcv c t Bg Dy hB hD _ j (r.val + 32 + 1) (by dsimp only; omega) (by dsimp only; omega),
    part_dcv c t Bg Dy hB hD _ j (r.val + 32 + 2) (by dsimp only; omega) (by dsimp only; omega), h2, h1, h0, dq, hX, peCols_at]
  dsimp only
  rw [show 512 * t.val + (32 + i.val) = r.val + 32 by omega]
  congr 1
  rw [add_comm, add_comm (W (ix2 2 j) * _), ← add_assoc]

include hC hB hD h2 h1 h0 in
/-- The input's column of the gradient. -/
theorem part_x (i j : Fin 512) (r : Fin 4096) (hr : r.val = 512 * t.val + i.val) :
    k0_pay80 (F := Ideal) (k0_pay79 (k0_pay68 Cg) (k0_pay74 Bg Dy) w2 w1 w0) (ix2 i j)
      = zrow (m ((c : Thread nD τ).loc main_arg0)) (r.val + 32) ⟨1536 + j.val, by omega⟩
        * dq (m ((c : Thread nD τ).loc main_arg0)) (m ((c : Thread nD τ).loc main_arg1)) W (r.val + 32) j := by
  pointwise [k0_pay80, k0_pay79, k0_pay68, k0_pay78, k0_pay74]
  rw [part_dcv c t Bg Dy hB hD _ j (r.val + 32) (by dsimp only; omega) (by dsimp only; omega),
    part_dcv c t Bg Dy hB hD _ j (r.val + 32 + 1) (by dsimp only; omega) (by dsimp only; omega),
    part_dcv c t Bg Dy hB hD _ j (r.val + 32 + 2) (by dsimp only; omega) (by dsimp only; omega), h2, h1, h0, dq, hC, peCols_at]
  dsimp only
  rw [show 512 * t.val + (32 + i.val) = r.val + 32 by omega, mul_comm]
  congr 1
  rw [add_comm, add_comm (W (ix2 2 j) * _), ← add_assoc]

include hX hC hD h2 h1 h0 in
/-- The other gate's column of the gradient. -/
theorem part_g (i j : Fin 512) (r : Fin 4096) (hr : r.val = 512 * t.val + i.val) :
    k0_pay81 (F := Ideal) (k0_pay72 X Cg w2 w1 w0) (k0_pay73 Dy) (ix2 i j)
      = zrow (m ((c : Thread nD τ).loc main_arg1)) (r.val + 32) ⟨512 + j.val, by omega⟩
        * cv (m ((c : Thread nD τ).loc main_arg0)) W (r.val + 32) j := by
  pointwise [k0_pay81, k0_pay72, k0_pay73, k0_pay67, k0_pay68, k0_pay69, k0_pay70, k0_pay71]
  rw [part_q c t X Cg hX hC _ j (r.val + 32) (by dsimp only; omega),
    part_q c t X Cg hX hC _ j (r.val + 32 - 1) (by dsimp only; omega),
    part_q c t X Cg hX hC _ j (r.val + 32 - 2) (by dsimp only; omega), h2, h1, h0, cv, hD, deCols_at m c t _ j (by dsimp only; omega)]
  dsimp only
  rw [show 512 * t.val + (32 + i.val) = r.val + 32 by omega]

include hX hB hC hD in
/-- What a grid point adds to the first tap's gradient. -/
theorem part_0 (a : FVec Ideal S1x512 .f32) (j : Fin 512) :
    k0_pay77 (F := Ideal) (k0_pay71 X Cg) (k0_pay74 Bg Dy) a (ix2 0 j) = a (ix2 0 j) + tapSum m c t 0 j := by
  pointwise [k0_pay77, k0_pay71, k0_pay74, k0_pay69, k0_pay68, k0_pay67]
  refine congrArg (a (ix2 0 j) + ·) (Fin.sum_fin_congr fun i => ?_)
  rw [part_dcv c t Bg Dy hB hD _ j (512 * t.val + i.val + 32) (by dsimp only; omega) (by dsimp only; omega),
    part_q c t X Cg hX hC _ j (512 * t.val + i.val + 30 + 0) (by dsimp only; omega)]

include hX hB hC hD in
/-- What it adds to the second tap's gradient. -/
theorem part_1 (a : FVec Ideal S1x512 .f32) (j : Fin 512) :
    k0_pay76 (F := Ideal) (k0_pay70 X Cg) (k0_pay74 Bg Dy) a (ix2 0 j) = a (ix2 0 j) + tapSum m c t 1 j := by
  pointwise [k0_pay76, k0_pay70, k0_pay74, k0_pay69, k0_pay68, k0_pay67]
  refine congrArg (a (ix2 0 j) + ·) (Fin.sum_fin_congr fun i => ?_)
  rw [part_dcv c t Bg Dy hB hD _ j (512 * t.val + i.val + 32) (by dsimp only; omega) (by dsimp only; omega),
    part_q c t X Cg hX hC _ j (512 * t.val + i.val + 30 + 1) (by dsimp only; omega)]

include hX hB hC hD in
/-- What it adds to the third tap's gradient. -/
theorem part_2 (a : FVec Ideal S1x512 .f32) (j : Fin 512) :
    k0_pay75 (F := Ideal) X Bg Cg Dy a (ix2 0 j) = a (ix2 0 j) + tapSum m c t 2 j := by
  pointwise [k0_pay75, k0_pay74, k0_pay69, k0_pay68, k0_pay67]
  refine congrArg (a (ix2 0 j) + ·) (Fin.sum_fin_congr fun i => ?_)
  rw [part_dcv c t Bg Dy hB hD _ j (512 * t.val + i.val + 32) (by dsimp only; omega) (by dsimp only; omega),
    part_q c t X Cg hX hC _ j (512 * t.val + i.val + 30 + 2) (by dsimp only; omega)]

end Parts

/-- A row of a small matrix is a rectangle of it. -/
theorem row_emb (r : Nat) (hb) (k : Fin 8) (j : Fin 512) (h : k.val = r) :
    (Rect.unit (s := S8x512) ![r, 0] ![1, 512] hb).emb (ix2 0 j) = (ix2 k j : S8x512.Idx) := by
  subst h
  funext a
  exact Fin.ext (by fin_cases a <;> simp [Rect.emb, Rect.unit])

/-- Another row is outside it. -/
theorem row_out (r : Nat) (hb) (k : Fin 8) (j : Fin 512) (h : k.val ≠ r) :
    (ix2 k j : S8x512.Idx) ∉ (Rect.unit (s := S8x512) ![r, 0] ![1, 512] hb).set := by
  rw [Rect.mem_set_unit]
  intro hall
  have h1 : r ≤ k.val ∧ k.val < r + 1 := hall 0
  omega

/-- A row just written, read. -/
theorem hit_canon (r : Nat) (hb) (p : FVec Ideal S1x512 .f32) (L : List (View.Piece (Elt Ideal) S8x512 .f32)) (k : Fin 8) (j : Fin 512) (h : k.val = r) :
    View.canon (⟨Rect.unit (s := S8x512) ![r, 0] ![1, 512] hb, p⟩ :: L) (ix2 k j) = p (ix2 0 j) := by
  rw [← row_emb r hb k j h]
  exact View.canon_cons_emb (Val := Elt Ideal) (e := .f32) (Rect.unit (s := S8x512) ![r, 0] ![1, 512] hb) p L _

/-- Another row, after a row is written. -/
theorem miss_canon (r : Nat) (hb) (p : FVec Ideal S1x512 .f32) (L : List (View.Piece (Elt Ideal) S8x512 .f32)) (k : Fin 8) (j : Fin 512) (h : k.val ≠ r) :
    View.canon (⟨Rect.unit (s := S8x512) ![r, 0] ![1, 512] hb, p⟩ :: L) (ix2 k j) = View.canon L (ix2 k j) :=
  View.canon_cons_of_not_mem (Val := Elt Ideal) (e := .f32) (⟨Rect.unit (s := S8x512) ![r, 0] ![1, 512] hb, p⟩ : View.Piece (Elt Ideal) S8x512 .f32) L (row_out r hb k j h)

/-- A row just written over a matrix, read. -/
theorem hit_read {κ : Kind} {sp : Space} (v : View sig κ sp S8x512 .f32) (f : v.ty.Contents (Elt Ideal)) (r : Nat) (hb) (p : FVec Ideal S1x512 .f32) (L : List (View.Piece (Elt Ideal) S8x512 .f32))
    (k : Fin 8) (j : Fin 512) (h : k.val = r) :
    v.read (Elt Ideal) (v.writes (Elt Ideal) f (⟨Rect.unit (s := S8x512) ![r, 0] ![1, 512] hb, p⟩ :: L)) (ix2 k j) = p (ix2 0 j) := by
  rw [← row_emb r hb k j h]
  exact View.read_writes_cons_emb v f (Rect.unit (s := S8x512) ![r, 0] ![1, 512] hb) p L _

/-- Another row, after a row is written over a matrix. -/
theorem miss_read {κ : Kind} {sp : Space} (v : View sig κ sp S8x512 .f32) (f : v.ty.Contents (Elt Ideal)) (r : Nat) (hb) (p : FVec Ideal S1x512 .f32) (L : List (View.Piece (Elt Ideal) S8x512 .f32))
    (k : Fin 8) (j : Fin 512) (h : k.val ≠ r) :
    v.read (Elt Ideal) (v.writes (Elt Ideal) f (⟨Rect.unit (s := S8x512) ![r, 0] ![1, 512] hb, p⟩ :: L)) (ix2 k j) = v.read (Elt Ideal) (v.writes (Elt Ideal) f L) (ix2 k j) :=
  View.read_writes_cons_miss v f (⟨Rect.unit (s := S8x512) ![r, 0] ![1, 512] hb, p⟩ : View.Piece (Elt Ideal) S8x512 .f32) L _ (row_out r hb k j h)

/-- Three rows, written one after the other over a matrix. -/
theorem rows_kept {κ : Kind} {sp : Space} (v : View sig κ sp S8x512 (.f32)) (f : v.ty.Contents (Elt Ideal)) (p0 p1 p2 : FVec Ideal S1x512 .f32) (h0 h1 h2) (k : Fin 8) (j : Fin 512) :
    v.read (Elt Ideal) (v.writes (Elt Ideal) f [⟨Rect.unit (s := S8x512) ![0, 0] ![1, 512] h0, p0⟩, ⟨Rect.unit (s := S8x512) ![1, 0] ![1, 512] h1, p1⟩,
      ⟨Rect.unit (s := S8x512) ![2, 0] ![1, 512] h2, p2⟩]) (ix2 k j)
    = if k.val = 0 then p0 (ix2 0 j) else if k.val = 1 then p1 (ix2 0 j) else if k.val = 2 then p2 (ix2 0 j) else v.read (Elt Ideal) f (ix2 k j) := by
  by_cases e0 : k.val = 0
  · rw [if_pos e0]; exact hit_read v f 0 h0 p0 _ k j e0
  rw [if_neg e0, miss_read v f 0 h0 p0 _ k j e0]
  by_cases e1 : k.val = 1
  · rw [if_pos e1]; exact hit_read v f 1 h1 p1 _ k j e1
  rw [if_neg e1, miss_read v f 1 h1 p1 _ k j e1]
  by_cases e2 : k.val = 2
  · rw [if_pos e2]; exact hit_read v f 2 h2 p2 _ k j e2
  rw [if_neg e2, miss_read v f 2 h2 p2 _ k j e2, View.writes_nil]

/-- Three rows, written one after the other over a matrix that was written whole. -/
theorem rows_canon (p0 p1 p2 : FVec Ideal S1x512 .f32) (z : FVec Ideal S8x512 .f32) (h0 h1 h2 h3) (k : Fin 8) (j : Fin 512) :
    View.canon (Val := Elt Ideal) (s := S8x512) (e := .f32) [⟨Rect.unit (s := S8x512) ![0, 0] ![1, 512] h0, p0⟩, ⟨Rect.unit (s := S8x512) ![1, 0] ![1, 512] h1, p1⟩,
      ⟨Rect.unit (s := S8x512) ![2, 0] ![1, 512] h2, p2⟩, ⟨Rect.unit (s := S8x512) ![0, 0] S8x512.size h3, z⟩] (ix2 k j)
    = if k.val = 0 then p0 (ix2 0 j) else if k.val = 1 then p1 (ix2 0 j) else if k.val = 2 then p2 (ix2 0 j) else z (ix2 k j) := by
  by_cases e0 : k.val = 0
  · rw [if_pos e0]; exact hit_canon 0 h0 p0 _ k j e0
  rw [if_neg e0, miss_canon 0 h0 p0 _ k j e0]
  by_cases e1 : k.val = 1
  · rw [if_pos e1]; exact hit_canon 1 h1 p1 _ k j e1
  rw [if_neg e1, miss_canon 1 h1 p1 _ k j e1]
  by_cases e2 : k.val = 2
  · rw [if_pos e2]; exact hit_canon 2 h2 p2 _ k j e2
  rw [if_neg e2, miss_canon 2 h2 p2 _ k j e2]
  exact congrFun (View.canon_unit_zero (by funext a; fin_cases a <;> rfl) _ _) _

/-- A row of a small matrix, loaded. -/
theorem ld_row (X : FVec Ideal S8x512 .f32) (r : Nat) (hb) (k : Fin 8) (j : Fin 512) (h : k.val = r) :
    View.ld (Val := Elt Ideal) (e' := .f32) X (Rect.unit (s := S8x512) ![r, 0] ![1, 512] hb) (ix2 0 j) = X (ix2 k j) :=
  congrArg X (row_emb r hb k j h)

/-- Where a row of a small matrix is read. -/
theorem row_idx (r : Nat) (hb) (k : Fin 8) (j : Fin 512) (h : k.val = r) :
    (Rect.unit (s := S8x512) ![r, 0] ![1, 512] hb).toLoadRect.idx (ix2 0 j) = (ix2 k j : S8x512.Idx) := by
  subst h
  funext a
  exact Fin.ext (by fin_cases a <;> simp [LoadRect.idx, Rect.toLoadRect])

/-- The third row, before anything but the zeros is written. -/
theorem zero_2 {κ : Kind} {sp : Space} (v : View sig κ sp S8x512 .f32) (z : FVec Ideal S8x512 .f32) (h2 h3) (k : Fin 8) (j : Fin 512) (h : k.val = 2) :
    v.readCov (Val := Elt Ideal) [⟨Rect.unit (s := S8x512) ![0, 0] S8x512.size h3, z⟩] (Rect.unit (s := S8x512) ![2, 0] ![1, 512] h2).toLoadRect (ix2 0 j) = z (ix2 k j) := by
  rw [View.readCov_eq_canon']
  dsimp only
  rw [row_idx 2 h2 k j h]
  exact congrFun (View.canon_unit_zero (by funext a; fin_cases a <;> rfl) _ _) _

/-- The second row, after the third is written. -/
theorem zero_1 {κ : Kind} {sp : Space} (v : View sig κ sp S8x512 .f32) (p2 : FVec Ideal S1x512 .f32) (z : FVec Ideal S8x512 .f32) (h1 h2 h3) (k : Fin 8) (j : Fin 512) (h : k.val = 1) :
    v.readCov (Val := Elt Ideal) [⟨Rect.unit (s := S8x512) ![2, 0] ![1, 512] h2, p2⟩, ⟨Rect.unit (s := S8x512) ![0, 0] S8x512.size h3, z⟩]
      (Rect.unit (s := S8x512) ![1, 0] ![1, 512] h1).toLoadRect (ix2 0 j) = z (ix2 k j) := by
  rw [View.readCov_eq_canon']
  dsimp only
  rw [row_idx 1 h1 k j h, miss_canon 2 h2 p2 _ k j (by omega)]
  exact congrFun (View.canon_unit_zero (by funext a; fin_cases a <;> rfl) _ _) _

/-- The first row, after the others are written. -/
theorem zero_0 {κ : Kind} {sp : Space} (v : View sig κ sp S8x512 .f32) (p1 p2 : FVec Ideal S1x512 .f32) (z : FVec Ideal S8x512 .f32) (h0 h1 h2 h3) (k : Fin 8) (j : Fin 512) (h : k.val = 0) :
    v.readCov (Val := Elt Ideal) [⟨Rect.unit (s := S8x512) ![1, 0] ![1, 512] h1, p1⟩, ⟨Rect.unit (s := S8x512) ![2, 0] ![1, 512] h2, p2⟩, ⟨Rect.unit (s := S8x512) ![0, 0] S8x512.size h3, z⟩]
      (Rect.unit (s := S8x512) ![0, 0] ![1, 512] h0).toLoadRect (ix2 0 j) = z (ix2 k j) := by
  rw [View.readCov_eq_canon']
  dsimp only
  rw [row_idx 0 h0 k j h, miss_canon 1 h1 p1 _ k j (by omega), miss_canon 2 h2 p2 _ k j (by omega)]
  exact congrFun (View.canon_unit_zero (by funext a; fin_cases a <;> rfl) _ _) _

/-- The zeros that the taps' gradient starts from. -/
theorem zeros_at (y) : k0_pay9 (F := Ideal) y = (0 : EReal) := by
  pointwise [k0_pay9]

variable (m)

set_option maxHeartbeats 4000000 in
/-- A later grid point adds its part to the taps' gradient. -/
theorem acc_b (c : Dev nD) (t : Fin cfg0.N) (h : ¬ t.val % 8 = 0) (k : Fin 8) (j : Fin 512) :
    (outsAt0 m c t.val t.isLt).2.2.2.1 (ix2 k j)
      = ((outsAt0 m c (t.val - 1) (Nat.lt_of_le_of_lt (Nat.sub_le _ _) t.isLt)).2.2.2.1 (ix2 k j) : EReal) + (if k.val < 3 then tapSum m c t k.val j else 0) := by
  rw [outsAt0_B m c t h h (by omega) h (by omega) h (by omega) h (by omega) h (by omega) h (by omega) h (by omega) h (by omega) h (by omega) h (by omega) h (by omega) h (by omega) h (by omega) h (by omega) h (by omega) h (by omega) h (by omega) h (by omega) h (by omega) h (by omega)]
  dsimp only; frame_out
  rw [rows_kept]
  by_cases e0 : k.val = 0
  · rw [if_pos e0, if_pos (by omega), part_0 c t _ _ _ _ (pe_read m c t _ 512 (by decide) _) (pe_read m c t _ 1024 (by decide) _) (pe_read m c t _ 1536 (by decide) _) (de_read m c t _ _),
      ld_row _ 0 _ k j e0, e0]
  rw [if_neg e0]
  by_cases e1 : k.val = 1
  · rw [if_pos e1, if_pos (by omega), part_1 c t _ _ _ _ (pe_read m c t _ 512 (by decide) _) (pe_read m c t _ 1024 (by decide) _) (pe_read m c t _ 1536 (by decide) _) (de_read m c t _ _),
      ld_row _ 1 _ k j e1, e1]
  rw [if_neg e1]
  by_cases e2 : k.val = 2
  · rw [if_pos e2, if_pos (by omega), part_2 c t _ _ _ _ (pe_read m c t _ 512 (by decide) _) (pe_read m c t _ 1024 (by decide) _) (pe_read m c t _ 1536 (by decide) _) (de_read m c t _ _),
      ld_row _ 2 _ k j e2, e2]
  rw [if_neg e2, if_neg (by omega), add_zero]
  rw [Memref.IsWhole.read_unread]

set_option maxHeartbeats 4000000 in
/-- The first grid point writes its part of the taps' gradient. -/
theorem acc_a (c : Dev nD) (t : Fin cfg0.N) (h : t.val % 8 = 0) (k : Fin 8) (j : Fin 512) :
    (outsAt0 m c t.val t.isLt).2.2.2.1 (ix2 k j) = (0 : EReal) + (if k.val < 3 then tapSum m c t k.val j else 0) := by
  rw [outsAt0_A m c t h h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega)]
  dsimp only; frame_out
  rw [rows_canon]
  by_cases e0 : k.val = 0
  · rw [if_pos e0, if_pos (by omega), part_0 c t _ _ _ _ (pe_read m c t _ 512 (by decide) _) (pe_read m c t _ 1024 (by decide) _) (pe_read m c t _ 1536 (by decide) _) (de_read m c t _ _),
      zero_0 _ _ _ _ _ _ _ _ k j e0, zeros_at, e0]
  rw [if_neg e0]
  by_cases e1 : k.val = 1
  · rw [if_pos e1, if_pos (by omega), part_1 c t _ _ _ _ (pe_read m c t _ 512 (by decide) _) (pe_read m c t _ 1024 (by decide) _) (pe_read m c t _ 1536 (by decide) _) (de_read m c t _ _),
      zero_1 _ _ _ _ _ _ k j e1, zeros_at, e1]
  rw [if_neg e1]
  by_cases e2 : k.val = 2
  · rw [if_pos e2, if_pos (by omega), part_2 c t _ _ _ _ (pe_read m c t _ 512 (by decide) _) (pe_read m c t _ 1024 (by decide) _) (pe_read m c t _ 1536 (by decide) _) (de_read m c t _ _),
      zero_2 _ _ _ _ k j e2, zeros_at, e2]
  rw [if_neg e2, if_neg (by omega), zeros_at, add_zero]

end Cert.KernelIdeal.W

end
-- ==== Proof.MixConv.lean ====
/- The short convolution mixer's part of the gradient of the projected columns, and the gradient of its taps, after the run. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Gen.KernelIdeal.Value
public import proofs.«01_k».proof.Proof.MixParts

@[expose] public section

set_option maxRecDepth 16384

noncomputable section

open Idealize.ShloMosaic Idealize.ShloMosaic.TcCoe Idealize.SL.Sem
open Idealize.ShloMosaic.Pipeline (Dat)

namespace Cert.KernelIdeal.W

open Cert.KernelIdeal Cert.KernelIdeal.Gen
open Cert.ReferenceIdeal.Read
open Cert.ShortConv

variable (m : (ℓ : Loc nD τ sig) → Buf (Elt Ideal) ℓ)

/-- The taps' gradient after the run is the reference's. -/
theorem final_21 (c : Dev nD) : (dats m 0 c).arrAt 21 (cfgs 0).N = val_main_v1407 (F := Ideal) (m ((c : Thread nD τ).loc main_arg0)) (m ((c : Thread nD τ).loc main_arg1)) := by
  refine (dats m 0 c).arrAt_eq_of_after_last 21 t0_7 (by decide +kernel) _ fun j => ?_
  blk_simp
  obtain ⟨k, l, rfl⟩ : ∃ (k : Fin 8) (l : Fin 512), j = ix2 k l := ⟨j 0, j 1, by funext a; fin_cases a <;> rfl⟩
  rw [after0_21, Pipeline.eq_sum_fin_of_reset_step_apply_last (fun n h => (outsAt0 m c n h).2.2.2.1) 8 (fun _ => 0) (fun t y => if (y 0).val < 3 then tapSum m c t (y 0).val (y 1) else 0)
    (fun t h j => by
      obtain ⟨k, l, rfl⟩ : ∃ (k : Fin 8) (l : Fin 512), j = ix2 k l := ⟨j 0, j 1, by funext a; fin_cases a <;> rfl⟩
      exact acc_a m c t h k l)
    (fun t h j => by
      obtain ⟨k, l, rfl⟩ : ∃ (k : Fin 8) (l : Fin 512), j = ix2 k l := ⟨j 0, j 1, by funext a; fin_cases a <;> rfl⟩
      exact acc_b m c t h k l)
    (le_of_eq N_0) t0_7 rfl (ix2 k l), zero_add]
  refine Eq.trans ?_ (ref_w _ _ _ _).symm
  by_cases h3 : k.val < 3
  · rw [if_pos h3]
    refine (Fin.sum_fin_congr fun t => if_pos h3).trans ?_
    exact Fin.sum_mul_add_congr fun s i hl => by
      show dcv _ _ (512 * s.val + i.val + 32) l * q _ (512 * s.val + i.val + 30 + k.val) l = dcv _ _ (s.val * 512 + i.val + 32) l * q _ (s.val * 512 + i.val + 30 + k.val) l
      rw [Nat.mul_comm 512]
  · rw [if_neg h3]
    refine (Fin.sum_fin_congr fun t => if_neg h3).trans ?_
    exact Finset.sum_const_zero (M := EReal)

section Pieces

variable {m}
variable (c : Dev nD) (t : Fin cfg0.N) (X Bg Cg Dy : FVec Ideal S576x512 .bf16) (w2 w1 w0 : FVec Ideal S1x512 .f32)
  (hX : X = peCols m c t 512 in_512) (hB : Bg = peCols m c t 1024 in_1024) (hC : Cg = peCols m c t 1536 in_1536) (hD : Dy = deCols m c t)
  (h2 : ∀ j, w2 (ix2 0 j) = (m ((c : Thread nD τ).loc main_arg5) : FVec Ideal S3x512 .f32) (ix2 2 j)) (h1 : ∀ j, w1 (ix2 0 j) = (m ((c : Thread nD τ).loc main_arg5) : FVec Ideal S3x512 .f32) (ix2 1 j))
  (h0 : ∀ j, w0 (ix2 0 j) = (m ((c : Thread nD τ).loc main_arg5) : FVec Ideal S3x512 .f32) (ix2 0 j))

/-- The reference's gradient of the projected columns on a device's arguments. -/
def ref (m : (ℓ : Loc nD τ sig) → Buf (Elt Ideal) ℓ) (c : Dev nD) : FVec Ideal S4096x8192 .bf16 :=
  val_main_v1405 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

include hX hB hD h2 h1 h0 in
/-- A grid point's gate columns are the reference's. -/
theorem piece_c (x : S512x512.Idx) (r : Fin 4096) (l : Fin 8192) (hr : r.val = 512 * t.val + (x 0).val) (hl : l.val = 1536 + (x 1).val) :
    k0_pay82 (F := Ideal) (k0_pay67 X) (k0_pay78 (k0_pay74 Bg Dy) w2 w1 w0) x = ref m c (ix2 r l) := by
  obtain ⟨i, j, rfl⟩ : ∃ (i j : Fin 512), x = ix2 i j := ⟨x 0, x 1, by funext a; fin_cases a <;> rfl⟩
  refine (part_c c t X Bg Dy w2 w1 w0 _ hX hB hD h2 h1 h0 i j r hr).trans ?_
  rw [ref, res_b _ _ _ _ _ _ _ _ _ _ _ _ _ r l ⟨1024 + j.val, by omega⟩ (hl.trans (by dsimp only; show 1536 + j.val = _; omega)), ref_c _ _ _ r _ j rfl, zrow_in]

include hC hB hD h2 h1 h0 in
/-- Its input columns are the reference's. -/
theorem piece_x (x : S512x512.Idx) (r : Fin 4096) (l : Fin 8192) (hr : r.val = 512 * t.val + (x 0).val) (hl : l.val = 512 + (x 1).val) :
    k0_pay80 (F := Ideal) (k0_pay79 (k0_pay68 Cg) (k0_pay74 Bg Dy) w2 w1 w0) x = ref m c (ix2 r l) := by
  obtain ⟨i, j, rfl⟩ : ∃ (i j : Fin 512), x = ix2 i j := ⟨x 0, x 1, by funext a; fin_cases a <;> rfl⟩
  refine (part_x c t Bg Cg Dy w2 w1 w0 _ hB hC hD h2 h1 h0 i j r hr).trans ?_
  rw [ref, res_b _ _ _ _ _ _ _ _ _ _ _ _ _ r l ⟨j.val, by omega⟩ hl, ref_x _ _ _ r _ j rfl, zrow_in]

include hX hC hD h2 h1 h0 in
/-- Its other gate's columns are the reference's. -/
theorem piece_g (x : S512x512.Idx) (r : Fin 4096) (l : Fin 8192) (hr : r.val = 512 * t.val + (x 0).val) (hl : l.val = 1024 + (x 1).val) :
    k0_pay81 (F := Ideal) (k0_pay72 X Cg w2 w1 w0) (k0_pay73 Dy) x = ref m c (ix2 r l) := by
  obtain ⟨i, j, rfl⟩ : ∃ (i j : Fin 512), x = ix2 i j := ⟨x 0, x 1, by funext a; fin_cases a <;> rfl⟩
  refine (part_g c t X Cg Dy w2 w1 w0 _ hX hC hD h2 h1 h0 i j r hr).trans ?_
  rw [ref, res_b _ _ _ _ _ _ _ _ _ _ _ _ _ r l ⟨512 + j.val, by omega⟩ (hl.trans (by dsimp only; show 1024 + j.val = _; omega)), ref_g _ _ _ r _ j rfl, zrow_in]

end Pieces

set_option maxHeartbeats 4000000 in
/-- A grid point's block of the projected columns' gradient holds the reference's values in the short convolution mixer's columns. -/
theorem point_18 (c : Dev nD) (t : Fin cfg0.N) (y : S512x4096.Idx) (r : Fin 4096) (l : Fin 8192) (hr : r.val = 512 * t.val + (y 0).val) (hl : l.val = (y 1).val)
    (ha : 512 ≤ l.val) (hb : l.val < 2048) : (outsAt0 m c t.val t.isLt).1 y = ref m c (ix2 r l) := by
  by_cases h : t.val % 8 = 0
  · rw [outsAt0_A m c t h h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega)]
    dsimp only; frame_out
    canon_tiles x k using (View.cover_of_tiledBy (s := S512x4096) _ ![128, 128] (by sl_kernel_rfl) _)
    all_goals try (exfalso; omega)
    · exact piece_c c t _ _ _ _ _ _ (pe_read m c t _ 512 (by decide) _) (pe_read m c t _ 1024 (by decide) _) (de_read m c t _ _) (ld_taps m c t 2 _) (ld_taps m c t 1 _) (ld_taps m c t 0 _) x r l (by omega) (by omega)
    · exact piece_g c t _ _ _ _ _ _ (pe_read m c t _ 512 (by decide) _) (pe_read m c t _ 1536 (by decide) _) (de_read m c t _ _) (ld_taps m c t 2 _) (ld_taps m c t 1 _) (ld_taps m c t 0 _) x r l (by omega) (by omega)
    · exact piece_x c t _ _ _ _ _ _ (pe_read m c t _ 1024 (by decide) _) (pe_read m c t _ 1536 (by decide) _) (de_read m c t _ _) (ld_taps m c t 2 _) (ld_taps m c t 1 _) (ld_taps m c t 0 _) x r l (by omega) (by omega)
  · rw [outsAt0_B m c t h h (by omega) h (by omega) h (by omega) h (by omega) h (by omega) h (by omega) h (by omega) h (by omega) h (by omega) h (by omega) h (by omega) h (by omega) h (by omega) h (by omega) h (by omega) h (by omega) h (by omega) h (by omega) h (by omega) h (by omega)]
    dsimp only; frame_out
    canon_tiles x k using (View.cover_of_tiledBy (s := S512x4096) _ ![128, 128] (by sl_kernel_rfl) _)
    all_goals try (exfalso; omega)
    · exact piece_c c t _ _ _ _ _ _ (pe_read m c t _ 512 (by decide) _) (pe_read m c t _ 1024 (by decide) _) (de_read m c t _ _) (ld_taps m c t 2 _) (ld_taps m c t 1 _) (ld_taps m c t 0 _) x r l (by omega) (by omega)
    · exact piece_g c t _ _ _ _ _ _ (pe_read m c t _ 512 (by decide) _) (pe_read m c t _ 1536 (by decide) _) (de_read m c t _ _) (ld_taps m c t 2 _) (ld_taps m c t 1 _) (ld_taps m c t 0 _) x r l (by omega) (by omega)
    · exact piece_x c t _ _ _ _ _ _ (pe_read m c t _ 1024 (by decide) _) (pe_read m c t _ 1536 (by decide) _) (de_read m c t _ _) (ld_taps m c t 2 _) (ld_taps m c t 1 _) (ld_taps m c t 0 _) x r l (by omega) (by omega)

/-- Every grid point writes its block of the projected columns' gradient back. -/
theorem flush_18 : ∀ t : Fin cfg0.N, (cfg0.win 18).flush t = true :=
  (by decide +kernel : ∀ t : Fin grid0.N, _)

/-- The projected columns' gradient after the run, in the short convolution mixer's columns. -/
theorem final_18 (c : Dev nD) (r : Fin 4096) (l : Fin 8192) (ha : 512 ≤ l.val) (hb : l.val < 2048) :
    (dats m 0 c).arrAt 18 cfg0.N (ix2 r l : S4096x8192.Idx) = ref m c (ix2 r l) := by
  have hN : cfg0.N = 8 := N_0
  obtain ⟨t, ht⟩ : ∃ t : Fin cfg0.N, t.val = r.val / 512 := ⟨⟨r.val / 512, by omega⟩, rfl⟩
  obtain ⟨y, hy0, hy1⟩ : ∃ y : S512x4096.Idx, (y 0).val = r.val % 512 ∧ (y 1).val = l.val := ⟨ix2 ⟨r.val % 512, by omega⟩ ⟨l.val, by omega⟩, rfl, rfl⟩
  have e : (((cfg0.win 18).blk t).view.emb y : S4096x8192.Idx) = ix2 r l := by
    blk_ext [idx t]
  have h := (dats m 0 c).arrAt_emb_eq_flushed 18 Cert.KernelIdeal.Value.disjoint18 t (flush_18 t) y
  rw [Cert.KernelIdeal.Value.flushed18] at h
  refine (congrArg _ e.symm).trans (h.trans ?_)
  blk_simp
  exact point_18 m c t y r l (by omega) hy1.symm ha hb

/-- Before the run the result holds what the call was given. -/
theorem given_18 (W : Valuation τ sig (Elt Ideal)) :
    StableHlo.after (hostOps0_1 ++ (hostOps0_2 ++ (hostOps0_3 ++ hostOps0_4))) W (Proc.devRef .tc main_v297_0) = W (Proc.devRef .tc main_arg2) := by
  simp only [hostOps0_1, hostOps0_2, hostOps0_3, hostOps0_4, List.cons_append, List.nil_append]
  after_results
  rfl

/-- The host operations before leave that argument alone. -/
theorem keep_given (c : Dev nD) : StableHlo.after hostOps0 (fun b => m (c, b)) (Proc.devRef .tc main_arg2) = m ((c : Thread nD τ).loc main_arg2) :=
  StableHlo.after_of_forall_not_mem (b := Proc.devRef .tc main_arg2) _ _ (List.forall_iff_forall_mem.mp (by
    simp only [hostOps0, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The columns beyond the mixers after the run are what the call was given. -/
theorem rest_18 (c : Dev nD) (r : Fin 4096) (l : Fin 8192) (ha : 4096 ≤ l.val) :
    (dats m 0 c).arrAt 18 cfg0.N (ix2 r l : S4096x8192.Idx) = ref m c (ix2 r l) := by
  rw [ref, res_z _ _ _ _ _ _ _ _ _ _ _ _ _ r l ha]
  refine (Cert.KernelIdeal.Value.entry18 m c (ix2 r l) fun t _ hmem => ?_).trans ?_
  · obtain ⟨y, -, hy⟩ := Finset.mem_map.mp hmem
    have h1 : (((cfg0.win 18).blk t).view.emb y : S4096x8192.Idx) = ix2 r l := hy
    have h2 : ((((cfg0.win 18).blk t).view.emb y : S4096x8192.Idx) 1).val = l.val := by rw [h1]; rfl
    have h3 : ((y : S512x4096.Idx) 1).val < 4096 := ((y : S512x4096.Idx) 1).isLt
    revert h2
    blk_simp [idx t]
    intro h2
    omega
  · exact congrFun ((congrFun (stretches hostOps0 hostOps0_1 hostOps0_2 hostOps0_3 hostOps0_4 fun b => m (c, b)) _).trans ((given_18 _).trans (keep_given m c))) _

end Cert.KernelIdeal.W

end
-- ==== Proof.GateBias.lean ====
/- The spatial gating mixer's gate and the gradient of its bias, as the reference computes them, element by element. -/
module

public import proofs.«01_k».proof.Proof.Gen.ReferenceIdeal.Read
public import Idealize.ShloMosaic.Lib.Pipeline.ValueKit
public import Idealize.ShloMosaic.Lib.Pointwise
public import proofs.«01_k».proof.Proof.ShortConv

@[expose] public section

set_option maxRecDepth 16384

noncomputable section

open Idealize.ShloMosaic Idealize.ShloMosaic.TcCoe

namespace Cert.GateBias

open Cert.ReferenceIdeal Cert.ReferenceIdeal.Read Cert.ShortConv

/-- The gate's activation. -/
def gelu (x : EReal) : EReal :=
  x * (Ideal.ofBits FTy.f32 1056964608#32 * (1 + Ideal.tanh (Ideal.ofBits FTy.f32 1061962282#32 * (x + Ideal.ofBits FTy.f32 1027024659#32 * (x * x * x)))))

/-- The same, its products in another order. -/
theorem gelu_eq (x : EReal) :
    Ideal.ofBits FTy.f32 1056964608#32 * x * (1 + Ideal.tanh (Ideal.ofBits FTy.f32 1061962282#32 * (x + Ideal.ofBits FTy.f32 1027024659#32 * x * x * x))) = gelu x := by
  unfold gelu
  generalize Ideal.ofBits FTy.f32 1056964608#32 = h
  generalize Ideal.ofBits FTy.f32 1061962282#32 = a
  generalize Ideal.ofBits FTy.f32 1027024659#32 = b
  rw [mul_assoc b x x, mul_assoc b (x * x) x, mul_comm h x, mul_assoc]

/-- The gradient that comes into the gating's inner product, at row `n - 32`. -/
def dz (x0 : FVec Ideal S4096x8192 .bf16) (x1 : FVec Ideal S4096x2048 .bf16) (n : Nat) (l : Fin 512) : EReal :=
  zrow x1 n ⟨1536 + l.val, by omega⟩ * gelu (zrow x0 n ⟨3072 + l.val, by omega⟩)

/-- The activated gate. -/
theorem at_u (x0 : FVec Ideal S4096x8192 .bf16) (i : Fin 4096) (j : Fin 512) :
    val_main_v605 (F := Ideal) x0 (ix2 i j) = gelu (x0 (ix2 i ⟨3072 + j.val, by omega⟩)) := by
  pointwise [val_main_v605, val_main_v604, val_main_v603, val_main_v602, val_main_v601, val_main_v595, val_main_v594, val_main_v593, val_main_v592, val_main_v591, val_main_v590, val_main_v586, val_main_v585, val_main_v584, val_main_v583, val_main_v3, val_main_v2, val_main_cst_139, val_main_cst_140, val_main_cst_143, val_main_cst_144]
  rfl

/-- The gradient that comes into the inner product. -/
theorem at_dz (x0 : FVec Ideal S4096x8192 .bf16) (x1 : FVec Ideal S4096x2048 .bf16) (i : Fin 4096) (j : Fin 512) :
    val_main_v682 (F := Ideal) x0 x1 (ix2 i j) = dz x0 x1 (i.val + 32) j := by
  rw [dz, zrow_in, zrow_in, mul_comm, ← at_u]
  pointwise [val_main_v682, val_main_v681, val_main_v677]

/-- The bias' gradient is summed over the blocks of rows. -/
theorem ref_b (x0 : FVec Ideal S4096x8192 .bf16) (x1 : FVec Ideal S4096x2048 .bf16) (k : Fin 4) (i j : Fin 128) :
    val_main_v688 (F := Ideal) x0 x1 (ix3 k i j) = ∑ b : Fin 32, dz x0 x1 (b.val * 128 + i.val + 32) ⟨k.val * 128 + j.val, by omega⟩ := by
  pointwise [val_main_v688, val_main_v687, val_main_v686, val_main_v685, val_main_v684, val_main_cst_162, val_main_cst_163]
  simp only [Fin.sum_univ_one]
  exact Fin.sum_fin_congr fun b => at_dz x0 x1 ⟨b.val * 128 + i.val, by omega⟩ ⟨k.val * 128 + j.val, by omega⟩

end Cert.GateBias

end
-- ==== Proof.MixBias.lean ====
/- The gradient of the spatial gating's bias, after the run. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.MixRows
public import proofs.«01_k».proof.Proof.GateBias

@[expose] public section

set_option maxRecDepth 16384

noncomputable section

open Idealize.ShloMosaic Idealize.ShloMosaic.TcCoe Idealize.SL.Sem
open Idealize.ShloMosaic.Pipeline (Dat)

namespace Cert.KernelIdeal.W

open Cert.KernelIdeal Cert.KernelIdeal.Gen
open Cert.ReferenceIdeal.Read
open Cert.ShortConv Cert.GateBias

variable (m : (ℓ : Loc nD τ sig) → Buf (Elt Ideal) ℓ)

/-- A grid point's own columns of the gate, loaded. -/
theorem ld_gate (c : Dev nD) (t : Fin cfg0.N) (hb) (i j : Fin 512) :
    View.ld (iblk m c 1 t) (Rect.unit (s := S512x4096) ![0, 3072] ![512, 512] hb) (ix2 i j)
      = zrow (m ((c : Thread nD τ).loc main_arg0)) (512 * t.val + i.val + 32) ⟨3072 + j.val, by omega⟩ := by
  have ht := lt8 t
  refine (blk1 m c t _).trans (zrow_at _ _ _ _ ?_ ?_).symm
  · blk_simp [idx t]; simp [Rect.emb, Rect.unit]; omega
  · blk_simp [idx t]; simp [Rect.emb, Rect.unit]

/-- A grid point's own columns of the gradient that comes in, loaded. -/
theorem ld_dy (c : Dev nD) (t : Fin cfg0.N) (hb) (i j : Fin 512) :
    View.ld (iblk m c 4 t) (Rect.unit (s := S512x2048) ![0, 1536] ![512, 512] hb) (ix2 i j)
      = zrow (m ((c : Thread nD τ).loc main_arg1)) (512 * t.val + i.val + 32) ⟨1536 + j.val, by omega⟩ := by
  have ht := lt8 t
  refine (blk4 m c t _).trans (zrow_at _ _ _ _ ?_ ?_).symm
  · blk_simp [idx t]; simp [Rect.emb, Rect.unit]; omega
  · blk_simp [idx t]; simp [Rect.emb, Rect.unit]

/-- The gradient that comes into the gating's inner product, from the gate's columns and the gradient that comes in. -/
theorem gated_dz (X Y : FVec Ideal S512x512 .bf16) (i j : Fin 512) :
    k0_pay190 (F := Ideal) (k0_pay182 X) Y (ix2 i j) = Y (ix2 i j) * gelu (X (ix2 i j)) := by
  pointwise [k0_pay190, k0_pay182, k0_pay189, k0_pay179, k0_pay181]
  rw [gelu_eq]

/-- The gradient that comes into the gating's inner product, on a grid point's own rows. -/
theorem part_dz (c : Dev nD) (t : Fin cfg0.N) (hb hd) (i j : Fin 512) (n : Nat) (hn : n = 512 * t.val + i.val + 32) :
    k0_pay190 (F := Ideal) (k0_pay182 (View.ld (iblk m c 1 t) (Rect.unit (s := S512x4096) ![0, 3072] ![512, 512] hb)))
      (View.ld (iblk m c 4 t) (Rect.unit (s := S512x2048) ![0, 1536] ![512, 512] hd)) (ix2 i j)
      = dz (m ((c : Thread nD τ).loc main_arg0)) (m ((c : Thread nD τ).loc main_arg1)) n j := by
  subst hn
  exact (gated_dz _ _ i j).trans (congrArg₂ (fun a b : EReal => a * gelu b) (ld_dy m c t hd i j) (ld_gate m c t hb i j))

/-- What a grid point adds to the bias' gradient: the sum over its four blocks of rows. -/
def biasSum (c : Dev nD) (t : Fin cfg0.N) (k : Fin 4) (i j : Fin 128) : EReal :=
  ∑ b : Fin 4, dz (m ((c : Thread nD τ).loc main_arg0)) (m ((c : Thread nD τ).loc main_arg1)) (512 * t.val + (b.val * 128 + i.val) + 32) ⟨k.val * 128 + j.val, by omega⟩

section Sums

variable {m}
variable (c : Dev nD) (t : Fin cfg0.N) (Z : FVec Ideal S512x512 .f32)
  (hZ : ∀ (i j : Fin 512) (n : Nat), n = 512 * t.val + i.val + 32 → Z (ix2 i j) = dz (m ((c : Thread nD τ).loc main_arg0)) (m ((c : Thread nD τ).loc main_arg1)) n j)

include hZ in
/-- Four blocks of rows, one after the other. -/
theorem four (k : Fin 4) (i j : Fin 128) (l : Fin 512) (hl : l.val = k.val * 128 + j.val) (h0 h1 h2 h3) :
    Z (ix2 ⟨i.val, h0⟩ l) + Z (ix2 ⟨128 + i.val, h1⟩ l) + Z (ix2 ⟨256 + i.val, h2⟩ l) + Z (ix2 ⟨384 + i.val, h3⟩ l) = biasSum m c t k i j := by
  obtain ⟨l, hl'⟩ := l
  dsimp only at hl
  subst hl
  rw [biasSum, Fin.sum_univ_four]
  congr 1
  · congr 1
    · congr 1
      · exact hZ _ _ _ (by dsimp only; show _ + (0 * 128 + _) + _ = _; omega)
      · exact hZ _ _ _ (by dsimp only; show _ + (1 * 128 + _) + _ = _; omega)
    · exact hZ _ _ _ (by dsimp only; show _ + (2 * 128 + _) + _ = _; omega)
  · exact hZ _ _ _ (by dsimp only; show _ + (3 * 128 + _) + _ = _; omega)

include hZ in
/-- The first head's part. -/
theorem head_0 (i j : Fin 128) (k : Fin 4) (hk : k.val = 0) : k0_pay210 (F := Ideal) Z (k0_pay206 Z (k0_pay202 Z k0_pay196)) (ix2 i j) = biasSum m c t k i j := by
  rw [← four c t Z hZ k i j ⟨j.val, by omega⟩ (by rw [hk]; dsimp only; omega) (by omega) (by omega) (by omega) (by omega)]
  pointwise [k0_pay210, k0_pay206, k0_pay202, k0_pay196]

include hZ in
/-- The second head's part. -/
theorem head_1 (i j : Fin 128) (k : Fin 4) (hk : k.val = 1) : k0_pay248 (F := Ideal) Z (k0_pay245 Z (k0_pay239 Z (k0_pay229 Z k0_pay220))) (ix2 i j) = biasSum m c t k i j := by
  rw [← four c t Z hZ k i j ⟨128 + j.val, by omega⟩ (by rw [hk]) (by omega) (by omega) (by omega) (by omega)]
  pointwise [k0_pay248, k0_pay245, k0_pay239, k0_pay229, k0_pay220]

include hZ in
/-- The third head's part. -/
theorem head_2 (i j : Fin 128) (k : Fin 4) (hk : k.val = 2) : k0_pay287 (F := Ideal) Z (k0_pay278 Z (k0_pay269 Z (k0_pay262 Z k0_pay257))) (ix2 i j) = biasSum m c t k i j := by
  rw [← four c t Z hZ k i j ⟨256 + j.val, by omega⟩ (by rw [hk]) (by omega) (by omega) (by omega) (by omega)]
  pointwise [k0_pay287, k0_pay278, k0_pay269, k0_pay262, k0_pay257]

include hZ in
/-- The fourth head's part. -/
theorem head_3 (i j : Fin 128) (k : Fin 4) (hk : k.val = 3) : k0_pay311 (F := Ideal) Z (k0_pay307 Z (k0_pay303 Z k0_pay296)) (ix2 i j) = biasSum m c t k i j := by
  rw [← four c t Z hZ k i j ⟨384 + j.val, by omega⟩ (by rw [hk]) (by omega) (by omega) (by omega) (by omega)]
  pointwise [k0_pay311, k0_pay307, k0_pay303, k0_pay296]

end Sums

/-- The first head's part, added to what was there. -/
theorem add_210 (A : FVec Ideal S128x128 .f32) (B : FVec Ideal S1x128x128 .f32) (i j : Fin 128) : k0_pay216 (F := Ideal) A B (ix3 0 i j) = B (ix3 0 i j) + A (ix2 i j) := by
  pointwise [k0_pay216]

/-- The fourth head's part, added to what was there. -/
theorem add_311 (A : FVec Ideal S128x128 .f32) (B : FVec Ideal S1x128x128 .f32) (i j : Fin 128) : k0_pay317 (F := Ideal) A B (ix3 0 i j) = B (ix3 0 i j) + A (ix2 i j) := by
  pointwise [k0_pay317]

/-- The second head's part, added to what was there. -/
theorem add_248 (Z : FVec Ideal S512x512 .f32) (A : FVec Ideal S128x128 .f32) (B : FVec Ideal S1x128x128 .f32) (i j : Fin 128) : k0_pay253 (F := Ideal) Z A B (ix3 0 i j) = B (ix3 0 i j) + k0_pay248 Z A (ix2 i j) := by
  pointwise [k0_pay253]

/-- The third head's part, added to what was there. -/
theorem add_287 (Z : FVec Ideal S512x512 .f32) (A : FVec Ideal S128x128 .f32) (B : FVec Ideal S1x128x128 .f32) (i j : Fin 128) : k0_pay292 (F := Ideal) Z A B (ix3 0 i j) = B (ix3 0 i j) + k0_pay287 Z A (ix2 i j) := by
  pointwise [k0_pay292]

/-- The fourth head's, reshaped. -/
theorem cast_311 (A : FVec Ideal S128x128 .f32) (i j : Fin 128) : k0_pay316 (F := Ideal) A (ix3 0 i j) = A (ix2 i j) := by
  pointwise [k0_pay316]

/-- The first head's, reshaped. -/
theorem cast_210 (A : FVec Ideal S128x128 .f32) (i j : Fin 128) : k0_pay215 (F := Ideal) A (ix3 0 i j) = A (ix2 i j) := by
  pointwise [k0_pay215]

/-- The second head's, reshaped. -/
theorem cast_248 (Z : FVec Ideal S512x512 .f32) (A : FVec Ideal S128x128 .f32) (i j : Fin 128) : k0_pay252 (F := Ideal) Z A (ix3 0 i j) = k0_pay248 Z A (ix2 i j) := by
  pointwise [k0_pay252]

/-- The third head's, reshaped. -/
theorem cast_287 (Z : FVec Ideal S512x512 .f32) (A : FVec Ideal S128x128 .f32) (i j : Fin 128) : k0_pay291 (F := Ideal) Z A (ix3 0 i j) = k0_pay287 Z A (ix2 i j) := by
  pointwise [k0_pay291]

/-- A head's matrix is a rectangle of the four. -/
theorem slab_emb (r : Nat) (hb) (k : Fin 4) (i j : Fin 128) (h : k.val = r) :
    (Rect.unit (s := S4x128x128) ![r, 0, 0] ![1, 128, 128] hb).emb (ix3 0 i j) = (ix3 k i j : S4x128x128.Idx) := by
  subst h
  funext a
  exact Fin.ext (by fin_cases a <;> simp [Rect.emb, Rect.unit])

/-- Another head's is outside it. -/
theorem slab_out (r : Nat) (hb) (k : Fin 4) (i j : Fin 128) (h : k.val ≠ r) :
    (ix3 k i j : S4x128x128.Idx) ∉ (Rect.unit (s := S4x128x128) ![r, 0, 0] ![1, 128, 128] hb).set := by
  rw [Rect.mem_set_unit]
  intro hall
  have h1 : r ≤ k.val ∧ k.val < r + 1 := hall 0
  omega

/-- A head's matrix just written, read. -/
theorem slab_hit (r : Nat) (hb) (p : FVec Ideal S1x128x128 .f32) (L : List (View.Piece (Elt Ideal) S4x128x128 .f32)) (k : Fin 4) (i j : Fin 128) (h : k.val = r) :
    View.canon (⟨Rect.unit (s := S4x128x128) ![r, 0, 0] ![1, 128, 128] hb, p⟩ :: L) (ix3 k i j) = p (ix3 0 i j) := by
  rw [← slab_emb r hb k i j h]
  exact View.canon_cons_emb (Val := Elt Ideal) (e := .f32) (Rect.unit (s := S4x128x128) ![r, 0, 0] ![1, 128, 128] hb) p L _

/-- Another head's, after one is written. -/
theorem slab_miss (r : Nat) (hb) (p : FVec Ideal S1x128x128 .f32) (L : List (View.Piece (Elt Ideal) S4x128x128 .f32)) (k : Fin 4) (i j : Fin 128) (h : k.val ≠ r) :
    View.canon (⟨Rect.unit (s := S4x128x128) ![r, 0, 0] ![1, 128, 128] hb, p⟩ :: L) (ix3 k i j) = View.canon L (ix3 k i j) :=
  View.canon_cons_of_not_mem (Val := Elt Ideal) (e := .f32) (⟨Rect.unit (s := S4x128x128) ![r, 0, 0] ![1, 128, 128] hb, p⟩ : View.Piece (Elt Ideal) S4x128x128 .f32) L (slab_out r hb k i j h)

/-- Four heads' matrices, written one after the other. -/
theorem slabs (p0 p1 p2 p3 : FVec Ideal S1x128x128 .f32) (h0 h1 h2 h3) (k : Fin 4) (i j : Fin 128) (v : EReal)
    (e3 : k.val = 3 → p3 (ix3 0 i j) = v) (e2 : k.val = 2 → p2 (ix3 0 i j) = v) (e1 : k.val = 1 → p1 (ix3 0 i j) = v) (e0 : k.val = 0 → p0 (ix3 0 i j) = v) :
    View.canon (Val := Elt Ideal) (s := S4x128x128) (e := .f32) [⟨Rect.unit (s := S4x128x128) ![3, 0, 0] ![1, 128, 128] h3, p3⟩, ⟨Rect.unit (s := S4x128x128) ![2, 0, 0] ![1, 128, 128] h2, p2⟩,
      ⟨Rect.unit (s := S4x128x128) ![1, 0, 0] ![1, 128, 128] h1, p1⟩, ⟨Rect.unit (s := S4x128x128) ![0, 0, 0] ![1, 128, 128] h0, p0⟩] (ix3 k i j) = v := by
  by_cases c3 : k.val = 3
  · exact (slab_hit 3 h3 p3 _ k i j c3).trans (e3 c3)
  rw [slab_miss 3 h3 p3 _ k i j c3]
  by_cases c2 : k.val = 2
  · exact (slab_hit 2 h2 p2 _ k i j c2).trans (e2 c2)
  rw [slab_miss 2 h2 p2 _ k i j c2]
  by_cases c1 : k.val = 1
  · exact (slab_hit 1 h1 p1 _ k i j c1).trans (e1 c1)
  rw [slab_miss 1 h1 p1 _ k i j c1]
  have c0 : k.val = 0 := by omega
  exact (slab_hit 0 h0 p0 _ k i j c0).trans (e0 c0)

/-- A head's matrix, loaded. -/
theorem ld_slab (X : FVec Ideal S4x128x128 .f32) (r : Nat) (hb) (k : Fin 4) (i j : Fin 128) (h : k.val = r) :
    View.ld (Val := Elt Ideal) (e' := .f32) X (Rect.unit (s := S4x128x128) ![r, 0, 0] ![1, 128, 128] hb) (ix3 0 i j) = X (ix3 k i j) :=
  congrArg X (slab_emb r hb k i j h)

set_option maxHeartbeats 4000000 in
/-- A later grid point adds its part to the bias' gradient. -/
theorem bias_b (c : Dev nD) (t : Fin cfg0.N) (h : ¬ t.val % 8 = 0) (k : Fin 4) (i j : Fin 128) :
    (outsAt0 m c t.val t.isLt).2.2.2.2.2.2.2.2.2.2 (ix3 k i j)
      = ((outsAt0 m c (t.val - 1) (Nat.lt_of_le_of_lt (Nat.sub_le _ _) t.isLt)).2.2.2.2.2.2.2.2.2.2 (ix3 k i j) : EReal) + biasSum m c t k i j := by
  rw [outsAt0_B m c t h h (by omega) h (by omega) h (by omega) h (by omega) h (by omega) h (by omega) h (by omega) h (by omega) h (by omega) h (by omega) h (by omega) h (by omega) h (by omega) h (by omega) h (by omega) h (by omega) h (by omega) h (by omega) h (by omega) h (by omega)]
  dsimp only; frame_out
  refine slabs _ _ _ _ _ _ _ _ k i j _ (fun e => ?_) (fun e => ?_) (fun e => ?_) (fun e => ?_)
  · exact (add_311 _ _ _ _).trans (congrArg₂ (fun a b : EReal => a + b) (ld_slab _ 3 _ k i j e) (head_3 c t _ (part_dz m c t _ _) i j k e))
  · exact (add_287 _ _ _ _ _).trans (congrArg₂ (fun a b : EReal => a + b) (ld_slab _ 2 _ k i j e) (head_2 c t _ (part_dz m c t _ _) i j k e))
  · exact (add_248 _ _ _ _ _).trans (congrArg₂ (fun a b : EReal => a + b) (ld_slab _ 1 _ k i j e) (head_1 c t _ (part_dz m c t _ _) i j k e))
  · exact (add_210 _ _ _ _).trans (congrArg₂ (fun a b : EReal => a + b) (ld_slab _ 0 _ k i j e) (head_0 c t _ (part_dz m c t _ _) i j k e))

set_option maxHeartbeats 4000000 in
/-- The first grid point writes its part of the bias' gradient. -/
theorem bias_a (c : Dev nD) (t : Fin cfg0.N) (h : t.val % 8 = 0) (k : Fin 4) (i j : Fin 128) :
    (outsAt0 m c t.val t.isLt).2.2.2.2.2.2.2.2.2.2 (ix3 k i j) = (0 : EReal) + biasSum m c t k i j := by
  rw [outsAt0_A m c t h h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega)]
  dsimp only; frame_out
  rw [zero_add]
  refine slabs _ _ _ _ _ _ _ _ k i j _ (fun e => ?_) (fun e => ?_) (fun e => ?_) (fun e => ?_)
  · exact (cast_311 _ _ _).trans (head_3 c t _ (part_dz m c t _ _) i j k e)
  · exact (cast_287 _ _ _ _).trans (head_2 c t _ (part_dz m c t _ _) i j k e)
  · exact (cast_248 _ _ _ _).trans (head_1 c t _ (part_dz m c t _ _) i j k e)
  · exact (cast_210 _ _ _).trans (head_0 c t _ (part_dz m c t _ _) i j k e)

/-- The window of the bias' gradient is the whole array of it. -/
theorem idx28 : ∀ t : Fin cfg0.N, win0_28.index t = ![0, 0, 0] :=
  (by decide +kernel : ∀ t : Fin grid0.N, _)

/-- The bias' gradient after the run is the reference's. -/
theorem final_28 (c : Dev nD) : (dats m 0 c).arrAt 28 (cfgs 0).N = val_main_v688 (F := Ideal) (m ((c : Thread nD τ).loc main_arg0)) (m ((c : Thread nD τ).loc main_arg1)) := by
  refine (dats m 0 c).arrAt_eq_of_after_last 28 t0_7 (by decide +kernel) _ fun x => ?_
  blk_simp [idx28 t0_7]
  obtain ⟨k, i, j, rfl⟩ : ∃ (k : Fin 4) (i j : Fin 128), x = ix3 k i j := ⟨x 0, x 1, x 2, by funext a; fin_cases a <;> rfl⟩
  rw [after0_28, Pipeline.eq_sum_fin_of_reset_step_apply_last (fun n h => (outsAt0 m c n h).2.2.2.2.2.2.2.2.2.2) 8 (fun _ => 0) (fun t y => biasSum m c t (y 0) (y 1) (y 2))
    (fun t h x => by
      obtain ⟨k, i, j, rfl⟩ : ∃ (k : Fin 4) (i j : Fin 128), x = ix3 k i j := ⟨x 0, x 1, x 2, by funext a; fin_cases a <;> rfl⟩
      exact bias_a m c t h k i j)
    (fun t h x => by
      obtain ⟨k, i, j, rfl⟩ : ∃ (k : Fin 4) (i j : Fin 128), x = ix3 k i j := ⟨x 0, x 1, x 2, by funext a; fin_cases a <;> rfl⟩
      exact bias_b m c t h k i j)
    (le_of_eq N_0) t0_7 rfl (ix3 k i j), zero_add]
  refine Eq.trans ?_ (ref_b _ _ _ _ _).symm
  exact Fin.sum_mul_add_congr (S := cfg0.N) (n := 4) fun s b hl => by
    show dz _ _ (512 * s.val + (b.val * 128 + i.val) + 32) _ = dz _ _ ((s.val * 4 + b.val) * 128 + i.val + 32) _
    congr 1
    omega

end Cert.KernelIdeal.W

end
-- ==== Proof.GateW.lean ====
/- The spatial gating mixer's normalised rows and the gradient of its weights, as the reference computes them, element by element. -/
module

public import proofs.«01_k».proof.Proof.GateBias

@[expose] public section

set_option maxRecDepth 16384

noncomputable section

open Idealize.ShloMosaic Idealize.ShloMosaic.TcCoe

namespace Cert.GateBias

open Cert.ReferenceIdeal Cert.ReferenceIdeal.Read Cert.ShortConv

/-- An activated row that is normalised, at row `n - 32`. -/
def vrow (x0 : FVec Ideal S4096x8192 .bf16) (n : Nat) (l : Fin 512) : EReal := gelu (zrow x0 n ⟨3584 + l.val, by omega⟩)

/-- The activation, as the reference has it. -/
theorem at_v (x0 : FVec Ideal S4096x8192 .bf16) (i : Fin 4096) (j : Fin 512) :
    val_main_v627 (F := Ideal) x0 (ix2 i j) = vrow x0 (i.val + 32) j := by
  rw [vrow, zrow_in]
  pointwise [val_main_v627, val_main_v626, val_main_v625, val_main_v624, val_main_v623, val_main_v617, val_main_v616, val_main_v615, val_main_v614, val_main_v613, val_main_v612, val_main_v608, val_main_v607, val_main_v606, val_main_v583, val_main_v3, val_main_v2, val_main_cst_146, val_main_cst_147, val_main_cst_150, val_main_cst_151]
  rw [show (⟨3072 + (512 + j.val), by omega⟩ : Fin 8192) = ⟨3584 + j.val, by omega⟩ from Fin.ext (by dsimp only; omega)]
  rfl

/-- The mean of an activated row. -/
def vmean (x0 : FVec Ideal S4096x8192 .bf16) (n : Nat) : EReal := Ideal.div (∑ l, vrow x0 n l) (Ideal.ofBits FTy.f32 1140850688#32)

/-- The row normalised, scaled and shifted. -/
def vn (x0 : FVec Ideal S4096x8192 .bf16) (x9 x10 : FVec Ideal S512 .f32) (n : Nat) (l : Fin 512) : EReal :=
  (vrow x0 n l - vmean x0 n) * Ideal.rsqrt (Ideal.div (∑ l, (vrow x0 n l - vmean x0 n) * (vrow x0 n l - vmean x0 n)) (Ideal.ofBits FTy.f32 1140850688#32) + Ideal.ofBits FTy.f32 897988541#32)
    * x9 (ix1 l) + x10 (ix1 l)

/-- The normalised rows, as the reference has them. -/
theorem at_vn (x0 : FVec Ideal S4096x8192 .bf16) (x9 x10 : FVec Ideal S512 .f32) (i : Fin 4096) (j : Fin 512) :
    val_main_v656 (F := Ideal) x0 x9 x10 (ix2 i j) = vn x0 x9 x10 (i.val + 32) j := by
  pointwise [val_main_v656, val_main_v655, val_main_v654, val_main_v653, val_main_v652, val_main_v651, val_main_v650, val_main_v649, val_main_v645, val_main_v644, val_main_v643, val_main_cst_157, val_main_v640, val_main_v639, val_main_cst_156, val_main_v638, val_main_v637, val_main_v642, val_main_v641, val_main_v634, val_main_v633, val_main_v632, val_main_v631, val_main_v630, val_main_v629, val_main_v628, val_main_cst_152, val_main_cst_153, val_main_cst_155]
  simp only [at_v]
  rfl

/-- Whether a weight is used: the causal mask, by groups of 64 rows. -/
def used (i j : Fin 128) : BitVec 1 := val_main_v665 (F := Ideal) (ix2 i j)

/-- What a block of 128 rows adds to a weight's gradient, the block's rows from `n - 32` on. -/
def wblk (x0 : FVec Ideal S4096x8192 .bf16) (x1 : FVec Ideal S4096x2048 .bf16) (x9 x10 : FVec Ideal S512 .f32) (n : Nat) (k : Fin 4) (i j : Fin 128) : EReal :=
  ∑ l : Fin 128, dz x0 x1 (n + i.val) ⟨k.val * 128 + l.val, by omega⟩ * vn x0 x9 x10 (n + j.val) ⟨k.val * 128 + l.val, by omega⟩

/-- The weights' gradient is summed over the blocks of rows, and is zero where the weight is not used. -/
theorem ref_w (x0 : FVec Ideal S4096x8192 .bf16) (x1 : FVec Ideal S4096x2048 .bf16) (x9 x10 : FVec Ideal S512 .f32) (k : Fin 4) (i j : Fin 128) :
    val_main_v693 (F := Ideal) x0 x1 x9 x10 (ix3 k i j) = if used i j = 1#1 then ∑ b : Fin 32, wblk x0 x1 x9 x10 (b.val * 128 + 32) k i j else 0 := by
  have h : val_main_v690 (F := Ideal) x0 x1 x9 x10 (ix3 k i j) = ∑ b : Fin 32, wblk x0 x1 x9 x10 (b.val * 128 + 32) k i j := by
    pointwise [val_main_v690, val_main_v689, val_main_v657, val_main_v684]
    refine Fin.sum_fin_congr fun b => Fin.sum_fin_congr fun l => ?_
    rw [at_dz, at_vn]
    dsimp only
    rw [Nat.add_right_comm, Nat.add_right_comm _ j.val 32]
  rw [val_main_v693_apply, h]
  have hu : val_main_v667_1 (F := Ideal) (ix3 k i j) = used i j := by
    pointwise [val_main_v667_1, val_main_v666, used]
  have h0 : val_main_call4_v0 (F := Ideal) (ix3 k i j) = 0 := by
    pointwise [val_main_call4_v0, val_main_call4_cst]
  rw [hu, h0]
  rfl

end Cert.GateBias

end
-- ==== Proof.MixWeights.lean ====
/- The gradient of the spatial gating's weights, after the run. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.MixBias
public import proofs.«01_k».proof.Proof.GateW

@[expose] public section

set_option maxRecDepth 16384

noncomputable section

open Idealize.ShloMosaic Idealize.ShloMosaic.TcCoe Idealize.SL.Sem
open Idealize.ShloMosaic.Pipeline (Dat)

namespace Cert.KernelIdeal.W

open Cert.KernelIdeal Cert.KernelIdeal.Gen
open Cert.ReferenceIdeal.Read
open Cert.ShortConv Cert.GateBias

variable (m : (ℓ : Loc nD τ sig) → Buf (Elt Ideal) ℓ)

/-- The windows of the gating norm's scale and shift are the whole rows of them. -/
theorem idx_rows : ∀ t : Fin cfg0.N, win0_14.index t = ![0, 0] ∧ win0_15.index t = ![0, 0] :=
  (by decide +kernel : ∀ t : Fin grid0.N, _)

/-- A vector made a row. -/
def toRow (x : FVec Ideal S512 .f32) : FVec Ideal S1x512 .f32 := shapeCast S1x512 x shapeCasts_S512_S1x512

/-- Its elements. -/
theorem toRow_at (x : FVec Ideal S512 .f32) (j : Fin 512) : toRow x (ix2 0 j) = x (ix1 j) := by
  pointwise [toRow]

/-- The scale, made a row by the host. -/
theorem row_scale (W : Valuation τ sig (Elt Ideal)) :
    StableHlo.after (hostOps0_1 ++ (hostOps0_2 ++ (hostOps0_3 ++ hostOps0_4))) W (Proc.devRef .tc main_v294)
      = toRow (W (Proc.devRef .tc main_arg9)) := by
  simp only [hostOps0_1, hostOps0_2, hostOps0_3, hostOps0_4, List.cons_append, List.nil_append]
  after_results
  rfl

/-- The shift, made a row by the host. -/
theorem row_shift (W : Valuation τ sig (Elt Ideal)) :
    StableHlo.after (hostOps0_1 ++ (hostOps0_2 ++ (hostOps0_3 ++ hostOps0_4))) W (Proc.devRef .tc main_v295)
      = toRow (W (Proc.devRef .tc main_arg10)) := by
  simp only [hostOps0_1, hostOps0_2, hostOps0_3, hostOps0_4, List.cons_append, List.nil_append]
  after_results
  rfl

/-- The host operations before leave the scale alone. -/
theorem keep_scale (c : Dev nD) : StableHlo.after hostOps0 (fun b => m (c, b)) (Proc.devRef .tc main_arg9) = m ((c : Thread nD τ).loc main_arg9) :=
  StableHlo.after_of_forall_not_mem (b := Proc.devRef .tc main_arg9) _ _ (List.forall_iff_forall_mem.mp (by
    simp only [hostOps0, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The host operations before leave the shift alone. -/
theorem keep_shift (c : Dev nD) : StableHlo.after hostOps0 (fun b => m (c, b)) (Proc.devRef .tc main_arg10) = m ((c : Thread nD τ).loc main_arg10) :=
  StableHlo.after_of_forall_not_mem (b := Proc.devRef .tc main_arg10) _ _ (List.forall_iff_forall_mem.mp (by
    simp only [hostOps0, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The row of the scale is the argument. -/
theorem scale_row (c : Dev nD) : V m c main_v294 = toRow (m ((c : Thread nD τ).loc main_arg9)) :=
  (congrFun (stretches hostOps0 hostOps0_1 hostOps0_2 hostOps0_3 hostOps0_4 fun b => m (c, b)) _).trans ((row_scale _).trans
    (congrArg (fun z => toRow z) (keep_scale m c)))

/-- An element of the block of the scale. -/
theorem blk14 (c : Dev nD) (t : Fin cfg0.N) (x) : iblk m c 14 t x = (V m c main_v294 : FVec Ideal S1x512 .f32) (((cfg0.win 14).blk t).view.emb x) := rfl

/-- The block of the scale is the whole row of it. -/
theorem emb14 (t : Fin cfg0.N) (x : S1x512.Idx) : (((cfg0.win 14).blk t).view.emb x : S1x512.Idx) = x := by
  blk_ext [idx_rows t]

/-- The window of the scale holds the argument. -/
theorem scale_at (c : Dev nD) (t : Fin cfg0.N) (j : Fin 512) :
    iblk m c 14 t (ix2 (0 : Fin 1) j : S1x512.Idx) = (m ((c : Thread nD τ).loc main_arg9) : FVec Ideal S512 .f32) (ix1 j) := by
  rw [blk14, scale_row]
  exact (congrArg (toRow _) (emb14 t _)).trans (toRow_at _ j)

/-- The row of the shift is the argument. -/
theorem shift_row (c : Dev nD) : V m c main_v295 = toRow (m ((c : Thread nD τ).loc main_arg10)) :=
  (congrFun (stretches hostOps0 hostOps0_1 hostOps0_2 hostOps0_3 hostOps0_4 fun b => m (c, b)) _).trans ((row_shift _).trans
    (congrArg (fun z => toRow z) (keep_shift m c)))

/-- An element of the block of the shift. -/
theorem blk15 (c : Dev nD) (t : Fin cfg0.N) (x) : iblk m c 15 t x = (V m c main_v295 : FVec Ideal S1x512 .f32) (((cfg0.win 15).blk t).view.emb x) := rfl

/-- The block of the shift is the whole row of it. -/
theorem emb15 (t : Fin cfg0.N) (x : S1x512.Idx) : (((cfg0.win 15).blk t).view.emb x : S1x512.Idx) = x := by
  blk_ext [idx_rows t]

/-- The window of the shift holds the argument. -/
theorem shift_at (c : Dev nD) (t : Fin cfg0.N) (j : Fin 512) :
    iblk m c 15 t (ix2 (0 : Fin 1) j : S1x512.Idx) = (m ((c : Thread nD τ).loc main_arg10) : FVec Ideal S512 .f32) (ix1 j) := by
  rw [blk15, shift_row]
  exact (congrArg (toRow _) (emb15 t _)).trans (toRow_at _ j)

/-- A grid point's own columns that the gating normalises, loaded. -/
theorem ld_lanes (c : Dev nD) (t : Fin cfg0.N) (hb) (i j : Fin 512) :
    View.ld (iblk m c 1 t) (Rect.unit (s := S512x4096) ![0, 3584] ![512, 512] hb) (ix2 i j)
      = zrow (m ((c : Thread nD τ).loc main_arg0)) (512 * t.val + i.val + 32) ⟨3584 + j.val, by omega⟩ := by
  have ht := lt8 t
  refine (blk1 m c t _).trans (zrow_at _ _ _ _ ?_ ?_).symm
  · blk_simp [idx t]; simp [Rect.emb, Rect.unit]; omega
  · blk_simp [idx t]; simp [Rect.emb, Rect.unit]

/-- The normalised rows, from the columns and the scale and shift. -/
theorem norm_at (X : FVec Ideal S512x512 .bf16) (G B : FVec Ideal S1x512 .f32) (i j : Fin 512) (v : Fin 512 → EReal) (g b : EReal)
    (hv : ∀ l : Fin 512, gelu (X (ix2 i l)) = v l) (hg : G (ix2 0 j) = g) (hb : B (ix2 0 j) = b) :
    k0_pay188 (F := Ideal) (k0_pay180 X) (k0_pay183 X) G B (ix2 i j)
      = (v j - Ideal.div (∑ l, v l) (Ideal.ofBits FTy.f32 1140850688#32)) * Ideal.rsqrt (Ideal.div (∑ l, (v l - Ideal.div (∑ l, v l) (Ideal.ofBits FTy.f32 1140850688#32)) * (v l - Ideal.div (∑ l, v l) (Ideal.ofBits FTy.f32 1140850688#32))) (Ideal.ofBits FTy.f32 1140850688#32) + Ideal.ofBits FTy.f32 897988541#32)
        * g + b := by
  pointwise [k0_pay188, k0_pay187, k0_pay186, k0_pay185, k0_pay184, k0_pay183, k0_pay180]
  simp only [gelu_eq, hv, hg, hb]

/-- The normalised rows, on a grid point's own rows. -/
theorem part_vn (c : Dev nD) (t : Fin cfg0.N) (hb hd) (i j : Fin 512) (n : Nat) (hn : n = 512 * t.val + i.val + 32) :
    k0_pay188 (F := Ideal) (k0_pay180 (View.ld (iblk m c 1 t) (Rect.unit (s := S512x4096) ![0, 3584] ![512, 512] hb)))
      (k0_pay183 (View.ld (iblk m c 1 t) (Rect.unit (s := S512x4096) ![0, 3584] ![512, 512] hd))) (iblk m c 14 t) (iblk m c 15 t) (ix2 i j)
      = vn (m ((c : Thread nD τ).loc main_arg0)) (m ((c : Thread nD τ).loc main_arg9)) (m ((c : Thread nD τ).loc main_arg10)) n j := by
  subst hn
  exact norm_at _ _ _ i j (vrow (m ((c : Thread nD τ).loc main_arg0)) (512 * t.val + i.val + 32)) _ _ (fun l => congrArg gelu (ld_lanes m c t hb i l)) (scale_at m c t j) (shift_at m c t j)

/-- The gradient that comes into the inner product, as it is multiplied. -/
theorem part_dw (c : Dev nD) (t : Fin cfg0.N) (hb hd) (i j : Fin 512) (n : Nat) (hn : n = 512 * t.val + i.val + 32) :
    k0_pay191 (F := Ideal) (k0_pay182 (View.ld (iblk m c 1 t) (Rect.unit (s := S512x4096) ![0, 3072] ![512, 512] hb)))
      (View.ld (iblk m c 4 t) (Rect.unit (s := S512x2048) ![0, 1536] ![512, 512] hd)) (ix2 i j)
      = dz (m ((c : Thread nD τ).loc main_arg0)) (m ((c : Thread nD τ).loc main_arg1)) n j :=
  part_dz m c t hb hd i j n hn

/-- The kernel's mask. -/
def kmask : IVec S128x128 1 :=
  k0_pay194 (iota .tc S128x128 32 [0] iota_S128x128_d0_w32) (iota .tc S128x128 32 [1] iota_S128x128_d1_w32) 64#32 k0_pay192 k0_pay193

/-- The group of 64 that an index is in, as the kernel and as the reference have it. -/
theorem group : ∀ j : Fin 128, Scalar.select
        (IntOp.andi
          (IntOp.cmpi CmpIPredicate.ne
            (IntOp.subi (BitVec.setWidth 32 (IntOp.cmpi CmpIPredicate.sgt (BitVec.ofNat 32 j.val) 0#32))
              (BitVec.setWidth 32 (IntOp.cmpi CmpIPredicate.slt (BitVec.ofNat 32 j.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 j.val) 64#32) 0#32))
        (IntOp.subi (IntOp.divsi ArithUnit.vector (BitVec.ofNat 32 j.val) 64#32) 1#32)
        (IntOp.divsi ArithUnit.vector (BitVec.ofNat 32 j.val) 64#32)
    = Scalar.select
        (IntOp.andi
          (IntOp.cmpi CmpIPredicate.ne
            (if BitVec.ofNat 32 j.val = 0 then (0 : BitVec 32) else if (BitVec.ofNat 32 j.val).msb = true then -1 else 1)
            (if (64#32 : BitVec 32) = 0 then (0 : BitVec 32) else if BitVec.msb 64#32 = true then -1 else 1))
          (IntOp.cmpi CmpIPredicate.ne (IntOp.remsi ArithUnit.host (BitVec.ofNat 32 j.val) 64#32) 0#32))
        (IntOp.subi (IntOp.divsi ArithUnit.host (BitVec.ofNat 32 j.val) 64#32) 1#32)
        (IntOp.divsi ArithUnit.host (BitVec.ofNat 32 j.val) 64#32) := by decide +kernel

/-- It is the reference's. -/
theorem mask_at (i j : Fin 128) : kmask (ix2 i j) = used i j := by
  pointwise [kmask, k0_pay194, k0_pay192, k0_pay193, used, val_main_v665, val_main_v663, val_main_v664, val_main_v660, val_main_v662, val_main_call1_v11, val_main_call1_v13, val_main_call1_v2, val_main_call1_v12, val_main_call1_v10, val_main_call1_v9, val_main_call1_v8, val_main_call1_v7, val_main_call1_v6, val_main_call1_v5, val_main_call1_v4, val_main_call1_v3, val_main_call1_v1, val_main_call1_v0, val_main_call1_c, val_main_call1_c_0, val_main_c_159, val_main_call2_v11, val_main_call2_v13, val_main_call2_v2, val_main_call2_v12, val_main_call2_v10, val_main_call2_v9, val_main_call2_v8, val_main_call2_v7, val_main_call2_v6, val_main_call2_v5, val_main_call2_v4, val_main_call2_v3, val_main_call2_v1, val_main_call2_v0, val_main_call2_c, val_main_call2_c_0, val_main_c_160, val_main_v659, val_main_v661, val_main_v658]
  exact congrArg₂ (IntOp.cmpi CmpIPredicate.sle) (group j) (group i)

/-- What a grid point adds to the weights' gradient. -/
def wSum (c : Dev nD) (t : Fin cfg0.N) (k : Fin 4) (i j : Fin 128) : EReal :=
  if used i j = 1#1 then ∑ b : Fin 4, wblk (m ((c : Thread nD τ).loc main_arg0)) (m ((c : Thread nD τ).loc main_arg1)) (m ((c : Thread nD τ).loc main_arg9)) (m ((c : Thread nD τ).loc main_arg10)) (512 * t.val + b.val * 128 + 32) k i j else 0

section Sums

variable (c : Dev nD) (t : Fin cfg0.N) (V Z : FVec Ideal S512x512 .bf16) (M : IVec S128x128 1)
  (hV : ∀ (i j : Fin 512) (n : Nat), n = 512 * t.val + i.val + 32 → V (ix2 i j) = vn (m ((c : Thread nD τ).loc main_arg0)) (m ((c : Thread nD τ).loc main_arg9)) (m ((c : Thread nD τ).loc main_arg10)) n j)
  (hZ : ∀ (i j : Fin 512) (n : Nat), n = 512 * t.val + i.val + 32 → Z (ix2 i j) = dz (m ((c : Thread nD τ).loc main_arg0)) (m ((c : Thread nD τ).loc main_arg1)) n j)
  (hM : ∀ i j : Fin 128, M (ix2 i j) = used i j)

include hV hZ in
/-- A block of 128 rows. -/
theorem block_w (k : Fin 4) (i j : Fin 128) (p q : Fin 512) (col : Fin 128 → Fin 512) (n : Nat) (hp : n + i.val = 512 * t.val + p.val + 32)
    (hq : n + j.val = 512 * t.val + q.val + 32) (hc : ∀ x, (col x).val = k.val * 128 + x.val) :
    ∑ x : Fin 128, (Z (ix2 p (col x)) : EReal) * V (ix2 q (col x))
      = wblk (m ((c : Thread nD τ).loc main_arg0)) (m ((c : Thread nD τ).loc main_arg1)) (m ((c : Thread nD τ).loc main_arg9)) (m ((c : Thread nD τ).loc main_arg10)) n k i j := by
  refine Fin.sum_fin_congr fun x => ?_
  have e : col x = ⟨k.val * 128 + x.val, by omega⟩ := Fin.ext (hc x)
  rw [e, hZ p _ _ hp, hV q _ _ hq]

include hV hZ hM in
/-- Four blocks of 128 rows, where the weight is used. -/
theorem four_w (k : Fin 4) (i j : Fin 128) (p0 q0 p1 q1 p2 q2 p3 q3 : Fin 512) (col : Fin 128 → Fin 512) (hc : ∀ x, (col x).val = k.val * 128 + x.val)
    (hp0 : p0.val = i.val) (hq0 : q0.val = j.val) (hp1 : p1.val = 128 + i.val) (hq1 : q1.val = 128 + j.val) (hp2 : p2.val = 256 + i.val) (hq2 : q2.val = 256 + j.val)
    (hp3 : p3.val = 384 + i.val) (hq3 : q3.val = 384 + j.val) :
    Scalar.select (M (ix2 i j)) ((∑ x : Fin 128, (Z (ix2 p0 (col x)) : EReal) * V (ix2 q0 (col x))) + (∑ x : Fin 128, (Z (ix2 p1 (col x)) : EReal) * V (ix2 q1 (col x)))
      + (∑ x : Fin 128, (Z (ix2 p2 (col x)) : EReal) * V (ix2 q2 (col x))) + (∑ x : Fin 128, (Z (ix2 p3 (col x)) : EReal) * V (ix2 q3 (col x)))) (0 : EReal) = wSum m c t k i j := by
  rw [hM, wSum, Fin.sum_univ_four, block_w m c t V Z hV hZ k i j p0 q0 col (512 * t.val + (0 : Fin 4).val * 128 + 32) (by rw [hp0]; show 512 * t.val + 0 * 128 + 32 + _ = _; omega) (by rw [hq0]; show 512 * t.val + 0 * 128 + 32 + _ = _; omega) hc,
    block_w m c t V Z hV hZ k i j p1 q1 col (512 * t.val + (1 : Fin 4).val * 128 + 32) (by rw [hp1]; show 512 * t.val + 1 * 128 + 32 + _ = _; omega) (by rw [hq1]; show 512 * t.val + 1 * 128 + 32 + _ = _; omega) hc,
    block_w m c t V Z hV hZ k i j p2 q2 col (512 * t.val + (2 : Fin 4).val * 128 + 32) (by rw [hp2]; show 512 * t.val + 2 * 128 + 32 + _ = _; omega) (by rw [hq2]; show 512 * t.val + 2 * 128 + 32 + _ = _; omega) hc,
    block_w m c t V Z hV hZ k i j p3 q3 col (512 * t.val + (3 : Fin 4).val * 128 + 32) (by rw [hp3]; show 512 * t.val + 3 * 128 + 32 + _ = _; omega) (by rw [hq3]; show 512 * t.val + 3 * 128 + 32 + _ = _; omega) hc]
  rfl

include hV hZ hM in
/-- The first head's part. -/
theorem weight_0 (i j : Fin 128) (k : Fin 4) (hk : k.val = 0) : k0_pay212 (F := Ideal) V Z M (k0_pay205 V Z (k0_pay201 V Z (k0_pay198 V Z))) (ix2 i j) = wSum m c t k i j := by
  pointwise [k0_pay212, k0_pay205, k0_pay201, k0_pay198]
  exact four_w m c t V Z M hV hZ hM k i j _ _ _ _ _ _ _ _ (fun x => ⟨x.val, by omega⟩) (fun x => by rw [hk]; dsimp only; omega) rfl rfl rfl rfl rfl rfl rfl rfl

include hV hZ hM in
/-- The second head's part. -/
theorem weight_1 (i j : Fin 128) (k : Fin 4) (hk : k.val = 1) : k0_pay249 (F := Ideal) V Z M (k0_pay244 V Z (k0_pay238 V Z (k0_pay228 V Z k0_pay219))) (ix2 i j) = wSum m c t k i j := by
  pointwise [k0_pay249, k0_pay244, k0_pay238, k0_pay228, k0_pay219]
  exact four_w m c t V Z M hV hZ hM k i j _ _ _ _ _ _ _ _ (fun x => ⟨128 + x.val, by omega⟩) (fun x => by rw [hk]) rfl rfl rfl rfl rfl rfl rfl rfl

include hV hZ hM in
/-- The third head's part. -/
theorem weight_2 (i j : Fin 128) (k : Fin 4) (hk : k.val = 2) : k0_pay288 (F := Ideal) V Z M (k0_pay277 V Z (k0_pay268 V Z (k0_pay261 V Z k0_pay256))) (ix2 i j) = wSum m c t k i j := by
  pointwise [k0_pay288, k0_pay277, k0_pay268, k0_pay261, k0_pay256]
  exact four_w m c t V Z M hV hZ hM k i j _ _ _ _ _ _ _ _ (fun x => ⟨256 + x.val, by omega⟩) (fun x => by rw [hk]) rfl rfl rfl rfl rfl rfl rfl rfl

include hV hZ hM in
/-- The fourth head's part. -/
theorem weight_3 (i j : Fin 128) (k : Fin 4) (hk : k.val = 3) : k0_pay313 (F := Ideal) V Z M (k0_pay306 V Z (k0_pay302 V Z k0_pay295 (k0_pay298 Z) (k0_pay299 V))) (ix2 i j) = wSum m c t k i j := by
  pointwise [k0_pay313, k0_pay306, k0_pay302, k0_pay295, k0_pay298, k0_pay299]
  exact four_w m c t V Z M hV hZ hM k i j _ _ _ _ _ _ _ _ (fun x => ⟨384 + x.val, by omega⟩) (fun x => by rw [hk]) rfl rfl rfl rfl rfl rfl rfl rfl

end Sums

/-- The first head's part, added to what was there. -/
theorem addw_212 (A : FVec Ideal S128x128 .f32) (B : FVec Ideal S1x128x128 .f32) (i j : Fin 128) : k0_pay214 (F := Ideal) A B (ix3 0 i j) = B (ix3 0 i j) + A (ix2 i j) := by
  pointwise [k0_pay214]

/-- The first head's, reshaped. -/
theorem castw_212 (V Z : FVec Ideal S512x512 .bf16) (M : IVec S128x128 1) (A : FVec Ideal S128x128 .f32) (i j : Fin 128) : k0_pay213 (F := Ideal) V Z M A (ix3 0 i j) = k0_pay212 V Z M A (ix2 i j) := by
  pointwise [k0_pay213]

/-- The second head's part, added to what was there. -/
theorem addw_249 (V Z : FVec Ideal S512x512 .bf16) (M : IVec S128x128 1) (A : FVec Ideal S128x128 .f32) (B : FVec Ideal S1x128x128 .f32) (i j : Fin 128) : k0_pay251 (F := Ideal) V Z M A B (ix3 0 i j) = B (ix3 0 i j) + k0_pay249 V Z M A (ix2 i j) := by
  pointwise [k0_pay251]

/-- The second head's, reshaped. -/
theorem castw_249 (V Z : FVec Ideal S512x512 .bf16) (M : IVec S128x128 1) (A : FVec Ideal S128x128 .f32) (i j : Fin 128) : k0_pay250 (F := Ideal) V Z M A (ix3 0 i j) = k0_pay249 V Z M A (ix2 i j) := by
  pointwise [k0_pay250]

/-- The third head's part, added to what was there. -/
theorem addw_288 (V Z : FVec Ideal S512x512 .bf16) (M : IVec S128x128 1) (A : FVec Ideal S128x128 .f32) (B : FVec Ideal S1x128x128 .f32) (i j : Fin 128) : k0_pay290 (F := Ideal) V Z M A B (ix3 0 i j) = B (ix3 0 i j) + k0_pay288 V Z M A (ix2 i j) := by
  pointwise [k0_pay290]

/-- The third head's, reshaped. -/
theorem castw_288 (V Z : FVec Ideal S512x512 .bf16) (M : IVec S128x128 1) (A : FVec Ideal S128x128 .f32) (i j : Fin 128) : k0_pay289 (F := Ideal) V Z M A (ix3 0 i j) = k0_pay288 V Z M A (ix2 i j) := by
  pointwise [k0_pay289]

/-- The fourth head's part, added to what was there. -/
theorem addw_313 (A : FVec Ideal S128x128 .f32) (B : FVec Ideal S1x128x128 .f32) (i j : Fin 128) : k0_pay315 (F := Ideal) A B (ix3 0 i j) = B (ix3 0 i j) + A (ix2 i j) := by
  pointwise [k0_pay315]

/-- The fourth head's, reshaped. -/
theorem castw_313 (A : FVec Ideal S128x128 .f32) (i j : Fin 128) : k0_pay314 (F := Ideal) A (ix3 0 i j) = A (ix2 i j) := by
  pointwise [k0_pay314]

set_option maxHeartbeats 8000000 in
/-- A later grid point adds its part to the weights' gradient. -/
theorem weights_b (c : Dev nD) (t : Fin cfg0.N) (h : ¬ t.val % 8 = 0) (k : Fin 4) (i j : Fin 128) :
    (outsAt0 m c t.val t.isLt).2.2.2.2.2.2.2.2.2.1 (ix3 k i j)
      = ((outsAt0 m c (t.val - 1) (Nat.lt_of_le_of_lt (Nat.sub_le _ _) t.isLt)).2.2.2.2.2.2.2.2.2.1 (ix3 k i j) : EReal) + wSum m c t k i j := by
  rw [outsAt0_B m c t h h (by omega) h (by omega) h (by omega) h (by omega) h (by omega) h (by omega) h (by omega) h (by omega) h (by omega) h (by omega) h (by omega) h (by omega) h (by omega) h (by omega) h (by omega) h (by omega) h (by omega) h (by omega) h (by omega) h (by omega)]
  dsimp only; frame_out
  refine slabs _ _ _ _ _ _ _ _ k i j _ (fun e => ?_) (fun e => ?_) (fun e => ?_) (fun e => ?_)
  · exact (addw_313 _ _ _ _).trans (congrArg₂ (fun a b : EReal => a + b) (ld_slab _ 3 _ k i j e) (weight_3 m c t _ _ _ (part_vn m c t _ _) (part_dw m c t _ _) mask_at i j k e))
  · exact (addw_288 _ _ _ _ _ _ _).trans (congrArg₂ (fun a b : EReal => a + b) (ld_slab _ 2 _ k i j e) (weight_2 m c t _ _ _ (part_vn m c t _ _) (part_dw m c t _ _) mask_at i j k e))
  · exact (addw_249 _ _ _ _ _ _ _).trans (congrArg₂ (fun a b : EReal => a + b) (ld_slab _ 1 _ k i j e) (weight_1 m c t _ _ _ (part_vn m c t _ _) (part_dw m c t _ _) mask_at i j k e))
  · exact (addw_212 _ _ _ _).trans (congrArg₂ (fun a b : EReal => a + b) (ld_slab _ 0 _ k i j e) (weight_0 m c t _ _ _ (part_vn m c t _ _) (part_dw m c t _ _) mask_at i j k e))

set_option maxHeartbeats 8000000 in
/-- The first grid point starts the weights' gradient. -/
theorem weights_a (c : Dev nD) (t : Fin cfg0.N) (h : t.val % 8 = 0) (k : Fin 4) (i j : Fin 128) :
    (outsAt0 m c t.val t.isLt).2.2.2.2.2.2.2.2.2.1 (ix3 k i j) = (0 : EReal) + wSum m c t k i j := by
  rw [outsAt0_A m c t h h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega)]
  dsimp only; frame_out
  rw [zero_add]
  refine slabs _ _ _ _ _ _ _ _ k i j _ (fun e => ?_) (fun e => ?_) (fun e => ?_) (fun e => ?_)
  · exact (castw_313 _ _ _).trans (weight_3 m c t _ _ _ (part_vn m c t _ _) (part_dw m c t _ _) mask_at i j k e)
  · exact (castw_288 _ _ _ _ _ _).trans (weight_2 m c t _ _ _ (part_vn m c t _ _) (part_dw m c t _ _) mask_at i j k e)
  · exact (castw_249 _ _ _ _ _ _).trans (weight_1 m c t _ _ _ (part_vn m c t _ _) (part_dw m c t _ _) mask_at i j k e)
  · exact (castw_212 _ _ _ _ _ _).trans (weight_0 m c t _ _ _ (part_vn m c t _ _) (part_dw m c t _ _) mask_at i j k e)

/-- The window of the weights' gradient is the whole array of it. -/
theorem idx27 : ∀ t : Fin cfg0.N, win0_27.index t = ![0, 0, 0] :=
  (by decide +kernel : ∀ t : Fin grid0.N, _)

/-- The weights' gradient after the run is the reference's. -/
theorem final_27 (c : Dev nD) : (dats m 0 c).arrAt 27 (cfgs 0).N = val_main_v693 (F := Ideal) (m ((c : Thread nD τ).loc main_arg0)) (m ((c : Thread nD τ).loc main_arg1)) (m ((c : Thread nD τ).loc main_arg9)) (m ((c : Thread nD τ).loc main_arg10)) := by
  refine (dats m 0 c).arrAt_eq_of_after_last 27 t0_7 (by decide +kernel) _ fun x => ?_
  blk_simp [idx27 t0_7]
  obtain ⟨k, i, j, rfl⟩ : ∃ (k : Fin 4) (i j : Fin 128), x = ix3 k i j := ⟨x 0, x 1, x 2, by funext a; fin_cases a <;> rfl⟩
  rw [after0_27, Pipeline.eq_sum_fin_of_reset_step_apply_last (fun n h => (outsAt0 m c n h).2.2.2.2.2.2.2.2.2.1) 8 (fun _ => 0) (fun t y => wSum m c t (y 0) (y 1) (y 2))
    (fun t h x => by
      obtain ⟨k, i, j, rfl⟩ : ∃ (k : Fin 4) (i j : Fin 128), x = ix3 k i j := ⟨x 0, x 1, x 2, by funext a; fin_cases a <;> rfl⟩
      exact weights_a m c t h k i j)
    (fun t h x => by
      obtain ⟨k, i, j, rfl⟩ : ∃ (k : Fin 4) (i j : Fin 128), x = ix3 k i j := ⟨x 0, x 1, x 2, by funext a; fin_cases a <;> rfl⟩
      exact weights_b m c t h k i j)
    (le_of_eq N_0) t0_7 rfl (ix3 k i j), zero_add]
  refine Eq.trans ?_ (ref_w _ _ _ _ _ _ _).symm
  show ∑ s, wSum m c _ k i j = _
  by_cases hu : used i j = 1#1
  · simp only [wSum, if_pos hu]
    exact Fin.sum_mul_add_congr (S := cfg0.N) (n := 4) fun s b hl => by
      show wblk _ _ _ _ (512 * s.val + b.val * 128 + 32) k i j = wblk _ _ _ _ ((s.val * 4 + b.val) * 128 + 32) k i j
      congr 1
      omega
  · simp only [wSum, if_neg hu, Finset.sum_const_zero]

end Cert.KernelIdeal.W

end
-- ==== Proof.GateNorm.lean ====
/- The gradients of the spatial gating's norm, as the reference computes them, element by element. -/
module

public import proofs.«01_k».proof.Proof.GateW

@[expose] public section

set_option maxRecDepth 16384

noncomputable section

open Idealize.ShloMosaic Idealize.ShloMosaic.TcCoe

namespace Cert.GateBias

open Cert.ReferenceIdeal Cert.ReferenceIdeal.Read Cert.ShortConv

/-- A weight of the gating, zero where it is not used. -/
def mw (x11 : FVec Ideal S4x128x128 .f32) (k : Fin 4) (i j : Fin 128) : EReal := Scalar.select (used i j) (x11 (ix3 k i j)) (0 : EReal)

/-- The gradient of the normalised rows, at row `i` of the block of 128 rows from `n - 32` on. -/
def dv (x0 : FVec Ideal S4096x8192 .bf16) (x1 : FVec Ideal S4096x2048 .bf16) (x11 : FVec Ideal S4x128x128 .f32) (n : Nat) (i : Fin 128) (l : Fin 512) : EReal :=
  ∑ x : Fin 128, mw x11 ⟨l.val / 128, by omega⟩ x i * dz x0 x1 (n + x.val) l

/-- The reference has it at every row. -/
theorem at_dv (x0 : FVec Ideal S4096x8192 .bf16) (x1 : FVec Ideal S4096x2048 .bf16) (x11 : FVec Ideal S4x128x128 .f32) (r : Fin 4096) (l : Fin 512) :
    val_main_v694 (F := Ideal) x0 x1 x11 (ix2 r l) = dv x0 x1 x11 (r.val / 128 * 128 + 32) ⟨r.val % 128, by omega⟩ l := by
  pointwise [val_main_v694, val_main_v692, val_main_v691, val_main_v689, val_main_v684, val_main_v667_0, val_main_v667_1, val_main_v666]
  refine Fin.sum_fin_congr fun x => ?_
  have h0 : ∀ i : S4x128x128.Idx, val_main_call3_v2 (F := Ideal) i = 0 := fun i => by
    rw [val_main_call3_v2_apply, val_main_call3_v0_apply]
    pointwise [val_main_cst_161]
  rw [at_dz, h0, mul_comm, Nat.add_right_comm]
  rfl

/-- The row normalised, before its scale and shift. -/
def vh (x0 : FVec Ideal S4096x8192 .bf16) (n : Nat) (l : Fin 512) : EReal :=
  (vrow x0 n l - vmean x0 n) * Ideal.rsqrt (Ideal.div (∑ l, (vrow x0 n l - vmean x0 n) * (vrow x0 n l - vmean x0 n)) (Ideal.ofBits FTy.f32 1140850688#32) + Ideal.ofBits FTy.f32 897988541#32)

/-- The reference has it at every row. -/
theorem at_vh (x0 : FVec Ideal S4096x8192 .bf16) (i : Fin 4096) (j : Fin 512) :
    val_main_v650 (F := Ideal) x0 (ix2 i j) = vh x0 (i.val + 32) j := by
  pointwise [val_main_v650, val_main_v649, val_main_v645, val_main_v644, val_main_v643, val_main_cst_157, val_main_v640, val_main_v639, val_main_cst_156, val_main_v638, val_main_v637, val_main_v642, val_main_v641, val_main_v634, val_main_v633, val_main_v632, val_main_v631, val_main_v630, val_main_v629, val_main_v628, val_main_cst_152, val_main_cst_153, val_main_cst_155]
  simp only [at_v]
  rfl

/-- The shift's gradient is the sum over the rows. -/
theorem ref_shift (x0 : FVec Ideal S4096x8192 .bf16) (x1 : FVec Ideal S4096x2048 .bf16) (x11 : FVec Ideal S4x128x128 .f32) (l : Fin 512) :
    val_main_v1412 (F := Ideal) x0 x1 x11 (ix2 0 l) = ∑ r : Fin 4096, dv x0 x1 x11 (r.val / 128 * 128 + 32) ⟨r.val % 128, by omega⟩ l := by
  pointwise [val_main_v1412, val_main_v697, val_main_v696, val_main_v695, val_main_cst_164, val_main_cst_165]
  rw [Fin.sum_univ_one]
  exact Fin.sum_fin_congr fun r => at_dv x0 x1 x11 r l

/-- The scale's gradient is the sum over the rows of the products with the normalised rows. -/
theorem ref_scale (x0 : FVec Ideal S4096x8192 .bf16) (x1 : FVec Ideal S4096x2048 .bf16) (x11 : FVec Ideal S4x128x128 .f32) (l : Fin 512) :
    val_main_v1411 (F := Ideal) x0 x1 x11 (ix2 0 l) = ∑ r : Fin 4096, dv x0 x1 x11 (r.val / 128 * 128 + 32) ⟨r.val % 128, by omega⟩ l * vh x0 (r.val + 32) l := by
  pointwise [val_main_v1411, val_main_v703, val_main_v700, val_main_v699, val_main_v698, val_main_cst_166, val_main_cst_167]
  rw [Fin.sum_univ_one]
  refine Fin.sum_fin_congr fun r => ?_
  rw [at_dv, at_vh, mul_comm]

end Cert.GateBias

end
-- ==== Proof.MixNorm.lean ====
/- The gradient of the spatial gating's normalised rows, on a grid point's own rows. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.MixBias
public import proofs.«01_k».proof.Proof.MixWeights
public import proofs.«01_k».proof.Proof.GateNorm

@[expose] public section

set_option maxRecDepth 16384

noncomputable section

open Idealize.ShloMosaic Idealize.ShloMosaic.TcCoe Idealize.SL.Sem
open Idealize.ShloMosaic.Pipeline (Dat)

namespace Cert.KernelIdeal.W

open Cert.KernelIdeal Cert.KernelIdeal.Gen
open Cert.ReferenceIdeal.Read
open Cert.ShortConv Cert.GateBias

variable (m : (ℓ : Loc nD τ sig) → Buf (Elt Ideal) ℓ)

/-- The window of the gating's weights is the whole array of them. -/
theorem idx16 : ∀ t : Fin cfg0.N, win0_16.index t = ![0, 0, 0] :=
  (by decide +kernel : ∀ t : Fin grid0.N, _)

/-- An element of the block of the weights. -/
theorem blk16 (c : Dev nD) (t : Fin cfg0.N) (x) : iblk m c 16 t x = (m ((c : Thread nD τ).loc main_arg11) : FVec Ideal S4x128x128 .f32) (((cfg0.win 16).blk t).view.emb x) :=
  congrFun (V_main_arg11 m c) _

/-- The block of the weights is the whole array of them. -/
theorem emb16 (t : Fin cfg0.N) (x : S4x128x128.Idx) : (((cfg0.win 16).blk t).view.emb x : S4x128x128.Idx) = x := by
  blk_ext [idx16 t]

/-- A head's weights, loaded. -/
theorem ld_w (c : Dev nD) (t : Fin cfg0.N) (r : Nat) (hb) (k : Fin 4) (i j : Fin 128) (h : k.val = r) :
    View.ld (Val := Elt Ideal) (e' := .f32) (iblk m c 16 t : FVec Ideal S4x128x128 .f32) (Rect.unit (s := S4x128x128) ![r, 0, 0] ![1, 128, 128] hb) (ix3 0 i j) = (m ((c : Thread nD τ).loc main_arg11) : FVec Ideal S4x128x128 .f32) (ix3 k i j) :=
  (ld_slab _ r hb k i j h).trans ((blk16 m c t _).trans (congrArg (m ((c : Thread nD τ).loc main_arg11) : FVec Ideal S4x128x128 .f32) (emb16 t _)))

/-- The first head's weights, where they are used. -/
theorem mw_195 (M : IVec S128x128 1) (B : FVec Ideal S1x128x128 .f32) (x i : Fin 128) (b : BitVec 1) (v : EReal) (hM : M (ix2 x i) = b) (hB : B (ix3 0 x i) = v) :
    k0_pay195 (F := Ideal) M B (ix2 x i) = Scalar.select b v (0 : EReal) := by
  pointwise [k0_pay195]
  rw [hM, hB]

/-- The second head's weights, where they are used. -/
theorem mw_218 (M : IVec S128x128 1) (B : FVec Ideal S1x128x128 .f32) (x i : Fin 128) (b : BitVec 1) (v : EReal) (hM : M (ix2 x i) = b) (hB : B (ix3 0 x i) = v) :
    k0_pay218 (F := Ideal) M B (ix2 x i) = Scalar.select b v (0 : EReal) := by
  pointwise [k0_pay218]
  rw [hM, hB]

/-- The third head's weights, where they are used. -/
theorem mw_255 (M : IVec S128x128 1) (B : FVec Ideal S1x128x128 .f32) (x i : Fin 128) (b : BitVec 1) (v : EReal) (hM : M (ix2 x i) = b) (hB : B (ix3 0 x i) = v) :
    k0_pay255 (F := Ideal) M B (ix2 x i) = Scalar.select b v (0 : EReal) := by
  pointwise [k0_pay255]
  rw [hM, hB]

/-- The fourth head's weights, where they are used. -/
theorem mw_294 (M : IVec S128x128 1) (B : FVec Ideal S1x128x128 .f32) (x i : Fin 128) (b : BitVec 1) (v : EReal) (hM : M (ix2 x i) = b) (hB : B (ix3 0 x i) = v) :
    k0_pay294 (F := Ideal) M B (ix2 x i) = Scalar.select b v (0 : EReal) := by
  pointwise [k0_pay294]
  rw [hM, hB]

/-- The gradient of the normalised rows, on a grid point's own rows. -/
def dvRow (c : Dev nD) (t : Fin cfg0.N) (i l : Fin 512) : EReal :=
  dv (m ((c : Thread nD τ).loc main_arg0)) (m ((c : Thread nD τ).loc main_arg1)) (m ((c : Thread nD τ).loc main_arg11)) (512 * t.val + i.val / 128 * 128 + 32) ⟨i.val % 128, by omega⟩ l

section Products

variable (c : Dev nD) (t : Fin cfg0.N) (Z : FVec Ideal S512x512 .bf16)
  (hZ : ∀ (i j : Fin 512) (n : Nat), n = 512 * t.val + i.val + 32 → Z (ix2 i j) = dz (m ((c : Thread nD τ).loc main_arg0)) (m ((c : Thread nD τ).loc main_arg1)) n j)

include hZ in
/-- One product of a head's weights with a block of 128 rows. -/
theorem prod (W : FVec Ideal S128x128 .bf16) (k : Fin 4) (hW : ∀ x i : Fin 128, W (ix2 x i) = mw (m ((c : Thread nD τ).loc main_arg11)) k x i) (i l : Fin 512)
    (p : Fin 128 → Fin 128) (row col : Fin 128 → Fin 512) (hp : ∀ x, (p x).val = i.val % 128) (hr : ∀ x, (row x).val = i.val / 128 * 128 + x.val) (hc : ∀ x, (col x).val = l.val)
    (hk : l.val / 128 = k.val) : ∑ x : Fin 128, (W (ix2 x (p x)) : EReal) * Z (ix2 (row x) (col x)) = dvRow m c t i l := by
  rw [dvRow, dv]
  refine Fin.sum_fin_congr fun x => ?_
  have e : p x = ⟨i.val % 128, by omega⟩ := Fin.ext (hp x)
  have e' : col x = l := Fin.ext (hc x)
  have e'' : k = ⟨l.val / 128, by omega⟩ := Fin.ext hk.symm
  rw [hW, hZ (row x) (col x) (512 * t.val + i.val / 128 * 128 + 32 + x.val) (by rw [hr]; omega), e, e', e'']

set_option maxHeartbeats 2000000 in
include hZ in
/-- All sixteen, put together. -/
theorem prods (W0 W1 W2 W3 : FVec Ideal S128x128 .bf16) (h0 : ∀ x i : Fin 128, W0 (ix2 x i) = mw (m ((c : Thread nD τ).loc main_arg11)) 0 x i)
    (h1 : ∀ x i : Fin 128, W1 (ix2 x i) = mw (m ((c : Thread nD τ).loc main_arg11)) 1 x i) (h2 : ∀ x i : Fin 128, W2 (ix2 x i) = mw (m ((c : Thread nD τ).loc main_arg11)) 2 x i)
    (h3 : ∀ x i : Fin 128, W3 (ix2 x i) = mw (m ((c : Thread nD τ).loc main_arg11)) 3 x i) (i l : Fin 512) :
    k0_pay318 (F := Ideal) (k0_pay217 (k0_pay199 Z W0) (k0_pay203 Z W0) (k0_pay207 Z W0) (k0_pay211 Z W0)) (k0_pay254 Z W1 (k0_pay230 Z W1) (k0_pay240 Z W1) (k0_pay246 Z W1))
      (k0_pay293 Z W2 (k0_pay263 Z W2) (k0_pay270 Z W2) (k0_pay279 Z W2)) (k0_pay300 Z W3) (k0_pay304 Z W3) (k0_pay308 Z W3) (k0_pay312 Z W3) (ix2 i l) = dvRow m c t i l := by
  pointwise [k0_pay318, k0_pay217, k0_pay199, k0_pay203, k0_pay207, k0_pay211, k0_pay254, k0_pay230, k0_pay240, k0_pay246, k0_pay293, k0_pay263, k0_pay270, k0_pay279, k0_pay300, k0_pay304, k0_pay308, k0_pay312]
  split
  · repeat' split
    all_goals refine prod m c t Z hZ W0 0 h0 i l _ _ _ (fun x => ?_) (fun x => ?_) (fun x => ?_) ?_
    all_goals first | omega | (dsimp only; omega) | (show l.val / 128 = _; first | exact Nat.div_eq_of_lt (by assumption) | omega)
  split
  · repeat' split
    all_goals refine prod m c t Z hZ W1 1 h1 i l _ _ _ (fun x => ?_) (fun x => ?_) (fun x => ?_) ?_
    all_goals first | omega | (dsimp only; omega) | (show l.val / 128 = _; first | exact Nat.div_eq_of_lt (by assumption) | omega)
  split
  · repeat' split
    all_goals refine prod m c t Z hZ W2 2 h2 i l _ _ _ (fun x => ?_) (fun x => ?_) (fun x => ?_) ?_
    all_goals first | omega | (dsimp only; omega) | (show l.val / 128 = _; first | exact Nat.div_eq_of_lt (by assumption) | omega)
  repeat' split
  all_goals refine prod m c t Z hZ W3 3 h3 i l _ _ _ (fun x => ?_) (fun x => ?_) (fun x => ?_) ?_
  all_goals first | omega | (dsimp only; omega) | (show l.val / 128 = 3; omega)

end Products

/-- The rows normalised, from the columns. -/
theorem half_at (X : FVec Ideal S512x512 .bf16) (i j : Fin 512) (v : Fin 512 → EReal) (hv : ∀ l : Fin 512, gelu (X (ix2 i l)) = v l) :
    k0_pay187 (F := Ideal) (k0_pay180 X) (k0_pay183 X) (ix2 i j)
      = (v j - Ideal.div (∑ l, v l) (Ideal.ofBits FTy.f32 1140850688#32)) * Ideal.rsqrt (Ideal.div (∑ l, (v l - Ideal.div (∑ l, v l) (Ideal.ofBits FTy.f32 1140850688#32)) * (v l - Ideal.div (∑ l, v l) (Ideal.ofBits FTy.f32 1140850688#32))) (Ideal.ofBits FTy.f32 1140850688#32) + Ideal.ofBits FTy.f32 897988541#32) := by
  pointwise [k0_pay187, k0_pay186, k0_pay185, k0_pay184, k0_pay183, k0_pay180]
  simp only [gelu_eq, hv]

/-- The rows normalised, on a grid point's own rows. -/
theorem part_vh (c : Dev nD) (t : Fin cfg0.N) (hb hd) (i j : Fin 512) :
    k0_pay187 (F := Ideal) (k0_pay180 (View.ld (iblk m c 1 t) (Rect.unit (s := S512x4096) ![0, 3584] ![512, 512] hb)))
      (k0_pay183 (View.ld (iblk m c 1 t) (Rect.unit (s := S512x4096) ![0, 3584] ![512, 512] hd))) (ix2 i j)
      = vh (m ((c : Thread nD τ).loc main_arg0)) (512 * t.val + i.val + 32) j :=
  half_at _ i j (vrow (m ((c : Thread nD τ).loc main_arg0)) (512 * t.val + i.val + 32)) (fun l => congrArg gelu (ld_lanes m c t hb i l))

/-- A part of the shift's gradient, added to what was there. -/
theorem add_322 (A B C : FVec Ideal S512x128 .f32) (E F G H : FVec Ideal S128x128 .f32) (P : FVec Ideal S1x512 .f32) (l : Fin 512) :
    k0_pay322 (F := Ideal) A B C E F G H P (ix2 0 l) = P (ix2 0 l) + ∑ i : Fin 512, (k0_pay318 A B C E F G H (ix2 i l) : EReal) := by
  pointwise [k0_pay322, k0_pay321]

/-- A part of the shift's gradient: the sum over the rows. -/
theorem add_321 (A B C : FVec Ideal S512x128 .f32) (E F G H : FVec Ideal S128x128 .f32) (l : Fin 512) :
    k0_pay321 (F := Ideal) A B C E F G H (ix2 0 l) = ∑ i : Fin 512, (k0_pay318 A B C E F G H (ix2 i l) : EReal) := by
  pointwise [k0_pay321]

/-- A part of the scale's gradient, added to what was there. -/
theorem add_320 (V : FVec Ideal S512x512 .f32) (A B C : FVec Ideal S512x128 .f32) (E F G H : FVec Ideal S128x128 .f32) (P : FVec Ideal S1x512 .f32) (l : Fin 512) :
    k0_pay320 (F := Ideal) V A B C E F G H P (ix2 0 l) = P (ix2 0 l) + ∑ i : Fin 512, (k0_pay318 A B C E F G H (ix2 i l) : EReal) * V (ix2 i l) := by
  pointwise [k0_pay320, k0_pay319]

/-- A part of the scale's gradient: the sum over the rows. -/
theorem add_319 (V : FVec Ideal S512x512 .f32) (A B C : FVec Ideal S512x128 .f32) (E F G H : FVec Ideal S128x128 .f32) (l : Fin 512) :
    k0_pay319 (F := Ideal) V A B C E F G H (ix2 0 l) = ∑ i : Fin 512, (k0_pay318 A B C E F G H (ix2 i l) : EReal) * V (ix2 i l) := by
  pointwise [k0_pay319]

end Cert.KernelIdeal.W

end
-- ==== Proof.MixNormSum.lean ====
/- The gradients of the scale and the shift of the spatial gating's norm, after the run. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.MixBias
public import proofs.«01_k».proof.Proof.MixNorm

@[expose] public section

set_option maxRecDepth 16384

noncomputable section

open Idealize.ShloMosaic Idealize.ShloMosaic.TcCoe Idealize.SL.Sem
open Idealize.ShloMosaic.Pipeline (Dat)

namespace Cert.KernelIdeal.W

open Cert.KernelIdeal Cert.KernelIdeal.Gen
open Cert.ReferenceIdeal.Read
open Cert.ShortConv Cert.GateBias

variable (m : (ℓ : Loc nD τ sig) → Buf (Elt Ideal) ℓ)

/-- The row normalised, on a grid point's own rows, as a product's other factor. -/
def vhRow (c : Dev nD) (t : Fin cfg0.N) (i l : Fin 512) : EReal := vh (m ((c : Thread nD τ).loc main_arg0)) (512 * t.val + i.val + 32) l

set_option maxHeartbeats 8000000 in
/-- A later grid point adds its part to the shift's gradient. -/
theorem shift_b (c : Dev nD) (t : Fin cfg0.N) (h : ¬ t.val % 8 = 0) (l : Fin 512) :
    (outsAt0 m c t.val t.isLt).2.2.2.2.2.2.2.2.1 (ix2 0 l)
      = ((outsAt0 m c (t.val - 1) (Nat.lt_of_le_of_lt (Nat.sub_le _ _) t.isLt)).2.2.2.2.2.2.2.2.1 (ix2 0 l) : EReal) + ∑ i : Fin 512, dvRow m c t i l := by
  rw [outsAt0_B m c t h h (by omega) h (by omega) h (by omega) h (by omega) h (by omega) h (by omega) h (by omega) h (by omega) h (by omega) h (by omega) h (by omega) h (by omega) h (by omega) h (by omega) h (by omega) h (by omega) h (by omega) h (by omega) h (by omega) h (by omega)]
  dsimp only; frame_out
  refine (add_322 _ _ _ _ _ _ _ _ _).trans (congrArg₂ (fun a b : EReal => a + b) rfl (Fin.sum_fin_congr fun i => ?_))
  exact prods m c t _ (part_dw m c t _ _) _ _ _ _ (fun x i => mw_195 _ _ x i _ _ (mask_at x i) (ld_w m c t 0 _ 0 x i rfl)) (fun x i => mw_218 _ _ x i _ _ (mask_at x i) (ld_w m c t 1 _ 1 x i rfl))
    (fun x i => mw_255 _ _ x i _ _ (mask_at x i) (ld_w m c t 2 _ 2 x i rfl)) (fun x i => mw_294 _ _ x i _ _ (mask_at x i) (ld_w m c t 3 _ 3 x i rfl)) i l

set_option maxHeartbeats 8000000 in
/-- The first grid point starts the shift's gradient. -/
theorem shift_a (c : Dev nD) (t : Fin cfg0.N) (h : t.val % 8 = 0) (l : Fin 512) :
    (outsAt0 m c t.val t.isLt).2.2.2.2.2.2.2.2.1 (ix2 0 l) = (0 : EReal) + ∑ i : Fin 512, dvRow m c t i l := by
  rw [outsAt0_A m c t h h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega)]
  dsimp only; frame_out
  rw [zero_add]
  refine (add_321 _ _ _ _ _ _ _ _).trans (Fin.sum_fin_congr fun i => ?_)
  exact prods m c t _ (part_dw m c t _ _) _ _ _ _ (fun x i => mw_195 _ _ x i _ _ (mask_at x i) (ld_w m c t 0 _ 0 x i rfl)) (fun x i => mw_218 _ _ x i _ _ (mask_at x i) (ld_w m c t 1 _ 1 x i rfl))
    (fun x i => mw_255 _ _ x i _ _ (mask_at x i) (ld_w m c t 2 _ 2 x i rfl)) (fun x i => mw_294 _ _ x i _ _ (mask_at x i) (ld_w m c t 3 _ 3 x i rfl)) i l

set_option maxHeartbeats 8000000 in
/-- A later grid point adds its part to the scale's gradient. -/
theorem scale_b (c : Dev nD) (t : Fin cfg0.N) (h : ¬ t.val % 8 = 0) (l : Fin 512) :
    (outsAt0 m c t.val t.isLt).2.2.2.2.2.2.2.1 (ix2 0 l)
      = ((outsAt0 m c (t.val - 1) (Nat.lt_of_le_of_lt (Nat.sub_le _ _) t.isLt)).2.2.2.2.2.2.2.1 (ix2 0 l) : EReal) + ∑ i : Fin 512, dvRow m c t i l * vhRow m c t i l := by
  rw [outsAt0_B m c t h h (by omega) h (by omega) h (by omega) h (by omega) h (by omega) h (by omega) h (by omega) h (by omega) h (by omega) h (by omega) h (by omega) h (by omega) h (by omega) h (by omega) h (by omega) h (by omega) h (by omega) h (by omega) h (by omega) h (by omega)]
  dsimp only; frame_out
  refine (add_320 _ _ _ _ _ _ _ _ _ _).trans (congrArg₂ (fun a b : EReal => a + b) rfl (Fin.sum_fin_congr fun i => congrArg₂ (fun a b : EReal => a * b) ?_ (part_vh m c t _ _ i l)))
  exact prods m c t _ (part_dw m c t _ _) _ _ _ _ (fun x i => mw_195 _ _ x i _ _ (mask_at x i) (ld_w m c t 0 _ 0 x i rfl)) (fun x i => mw_218 _ _ x i _ _ (mask_at x i) (ld_w m c t 1 _ 1 x i rfl))
    (fun x i => mw_255 _ _ x i _ _ (mask_at x i) (ld_w m c t 2 _ 2 x i rfl)) (fun x i => mw_294 _ _ x i _ _ (mask_at x i) (ld_w m c t 3 _ 3 x i rfl)) i l

set_option maxHeartbeats 8000000 in
/-- The first grid point starts the scale's gradient. -/
theorem scale_a (c : Dev nD) (t : Fin cfg0.N) (h : t.val % 8 = 0) (l : Fin 512) :
    (outsAt0 m c t.val t.isLt).2.2.2.2.2.2.2.1 (ix2 0 l) = (0 : EReal) + ∑ i : Fin 512, dvRow m c t i l * vhRow m c t i l := by
  rw [outsAt0_A m c t h h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega) h (by have := lt8 t; omega)]
  dsimp only; frame_out
  rw [zero_add]
  refine (add_319 _ _ _ _ _ _ _ _ _).trans (Fin.sum_fin_congr fun i => congrArg₂ (fun a b : EReal => a * b) ?_ (part_vh m c t _ _ i l))
  exact prods m c t _ (part_dw m c t _ _) _ _ _ _ (fun x i => mw_195 _ _ x i _ _ (mask_at x i) (ld_w m c t 0 _ 0 x i rfl)) (fun x i => mw_218 _ _ x i _ _ (mask_at x i) (ld_w m c t 1 _ 1 x i rfl))
    (fun x i => mw_255 _ _ x i _ _ (mask_at x i) (ld_w m c t 2 _ 2 x i rfl)) (fun x i => mw_294 _ _ x i _ _ (mask_at x i) (ld_w m c t 3 _ 3 x i rfl)) i l

/-- The windows of the two gradients are the whole rows of them. -/
theorem idx25 : ∀ t : Fin cfg0.N, win0_25.index t = ![0, 0] ∧ win0_26.index t = ![0, 0] :=
  (by decide +kernel : ∀ t : Fin grid0.N, _)

/-- The shift's gradient after the run is the reference's. -/
theorem final_26 (c : Dev nD) : (dats m 0 c).arrAt 26 (cfgs 0).N = val_main_v1412 (F := Ideal) (m ((c : Thread nD τ).loc main_arg0)) (m ((c : Thread nD τ).loc main_arg1)) (m ((c : Thread nD τ).loc main_arg11)) := by
  refine (dats m 0 c).arrAt_eq_of_after_last 26 t0_7 (by decide +kernel) _ fun x => ?_
  blk_simp [idx25 t0_7]
  obtain ⟨l, rfl⟩ : ∃ l : Fin 512, x = ix2 0 l := ⟨x 1, by funext a; fin_cases a <;> first | exact Fin.fin_one_eq_zero _ | rfl⟩
  rw [after0_26, Pipeline.eq_sum_fin_of_reset_step_apply_last (fun n h => (outsAt0 m c n h).2.2.2.2.2.2.2.2.1) 8 (fun _ => 0) (fun t y => ∑ i : Fin 512, dvRow m c t i (y 1))
    (fun t h x => by
      obtain ⟨l, rfl⟩ : ∃ l : Fin 512, x = ix2 0 l := ⟨x 1, by funext a; fin_cases a <;> first | exact Fin.fin_one_eq_zero _ | rfl⟩
      exact shift_a m c t h l)
    (fun t h x => by
      obtain ⟨l, rfl⟩ : ∃ l : Fin 512, x = ix2 0 l := ⟨x 1, by funext a; fin_cases a <;> first | exact Fin.fin_one_eq_zero _ | rfl⟩
      exact shift_b m c t h l)
    (le_of_eq N_0) t0_7 rfl (ix2 0 l), zero_add]
  refine Eq.trans ?_ (ref_shift _ _ _ _).symm
  exact Fin.sum_mul_add_congr (S := cfg0.N) (n := 512) fun s i hl => by
    show dv _ _ _ (512 * s.val + i.val / 128 * 128 + 32) ⟨i.val % 128, _⟩ l = dv _ _ _ ((s.val * 512 + i.val) / 128 * 128 + 32) ⟨(s.val * 512 + i.val) % 128, _⟩ l
    rw [show (s.val * 512 + i.val) / 128 * 128 + 32 = 512 * s.val + i.val / 128 * 128 + 32 by omega]
    congr 2
    omega

/-- The scale's gradient after the run is the reference's. -/
theorem final_25 (c : Dev nD) : (dats m 0 c).arrAt 25 (cfgs 0).N = val_main_v1411 (F := Ideal) (m ((c : Thread nD τ).loc main_arg0)) (m ((c : Thread nD τ).loc main_arg1)) (m ((c : Thread nD τ).loc main_arg11)) := by
  refine (dats m 0 c).arrAt_eq_of_after_last 25 t0_7 (by decide +kernel) _ fun x => ?_
  blk_simp [idx25 t0_7]
  obtain ⟨l, rfl⟩ : ∃ l : Fin 512, x = ix2 0 l := ⟨x 1, by funext a; fin_cases a <;> first | exact Fin.fin_one_eq_zero _ | rfl⟩
  rw [after0_25, Pipeline.eq_sum_fin_of_reset_step_apply_last (fun n h => (outsAt0 m c n h).2.2.2.2.2.2.2.1) 8 (fun _ => 0) (fun t y => ∑ i : Fin 512, dvRow m c t i (y 1) * vhRow m c t i (y 1))
    (fun t h x => by
      obtain ⟨l, rfl⟩ : ∃ l : Fin 512, x = ix2 0 l := ⟨x 1, by funext a; fin_cases a <;> first | exact Fin.fin_one_eq_zero _ | rfl⟩
      exact scale_a m c t h l)
    (fun t h x => by
      obtain ⟨l, rfl⟩ : ∃ l : Fin 512, x = ix2 0 l := ⟨x 1, by funext a; fin_cases a <;> first | exact Fin.fin_one_eq_zero _ | rfl⟩
      exact scale_b m c t h l)
    (le_of_eq N_0) t0_7 rfl (ix2 0 l), zero_add]
  refine Eq.trans ?_ (ref_scale _ _ _ _).symm
  exact Fin.sum_mul_add_congr (S := cfg0.N) (n := 512) fun s i hl => by
    show dv _ _ _ (512 * s.val + i.val / 128 * 128 + 32) ⟨i.val % 128, _⟩ l * vh _ (512 * s.val + i.val + 32) l = dv _ _ _ ((s.val * 512 + i.val) / 128 * 128 + 32) ⟨(s.val * 512 + i.val) % 128, _⟩ l * vh _ (s.val * 512 + i.val + 32) l
    rw [show (s.val * 512 + i.val) / 128 * 128 + 32 = 512 * s.val + i.val / 128 * 128 + 32 by omega,
      show s.val * 512 + i.val + 32 = 512 * s.val + i.val + 32 by omega]
    congr 3
    omega

end Cert.KernelIdeal.W

end
-- ==== Proof.MixBranchesBwd.lean ====
/- The gradient of the four mixers, as far as it is proved here: the short convolution mixer's part of the gradient of the
   projected columns, the gradient of its taps, and the gradients of the spatial gating's weights and bias and of its norm's scale
   and shift. -/
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Defs
public import proofs.«01_k».proof.Proof.Gen.ReferenceIdeal.Run
public import proofs.«01_k».proof.Proof.OnProven
public import proofs.«01_k».proof.Proof.MixConv
public import proofs.«01_k».proof.Proof.MixBias
public import proofs.«01_k».proof.Proof.MixWeights
public import proofs.«01_k».proof.Proof.MixNormSum

@[expose] public section

set_option maxRecDepth 16384

noncomputable section

open Idealize.ShloMosaic Idealize.ShloMosaic.TcCoe Idealize.SL.Sem
open Idealize.ShloMosaic.Pipeline (Dat)

namespace Cert.KernelIdeal.W

open Cert.KernelIdeal Cert.KernelIdeal.Gen
open Cert.ReferenceIdeal.Read
open Cert.ShortConv

variable (m : (ℓ : Loc nD τ sig) → Buf (Elt Ideal) ℓ)

open Cert.On_proven.W

/-- Where the first result is selected it is the reference's. -/
theorem res_0 (c : Dev nD) (i : S4096x8192.Idx) (h : (512 ≤ (i 1).val ∧ (i 1).val < 2048) ∨ 4096 ≤ (i 1).val) : (dats m 0 c).arrAt 18 cfg0.N i = ref m c i := by
  obtain ⟨r, l, rfl⟩ : ∃ (r : Fin 4096) (l : Fin 8192), i = ix2 r l := ⟨i 0, i 1, by funext a; fin_cases a <;> rfl⟩
  rcases h with h | h
  · exact final_18 m c r l h.1 h.2
  · exact rest_18 m c r l h

set_option maxHeartbeats 2000000 in
/-- The reference's results that are claimed, and its arguments, after the run. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ fun r => ∀ c : Dev Cert.ReferenceIdeal.nD,
      r.2.mem ((c.tc : Thread Cert.ReferenceIdeal.nD Cert.ReferenceIdeal.τ).loc Cert.ReferenceIdeal.main_v1405) = val_main_v1405 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12))
      ∧ r.2.mem ((c.tc : Thread Cert.ReferenceIdeal.nD Cert.ReferenceIdeal.τ).loc Cert.ReferenceIdeal.main_v1407) = val_main_v1407 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_v1411) = val_main_v1411 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v1412) = val_main_v1412 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_v693) = val_main_v693 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      ∧ r.2.mem ((c.tc : Thread Cert.ReferenceIdeal.nD Cert.ReferenceIdeal.τ).loc Cert.ReferenceIdeal.main_v688) = val_main_v688 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12) :=
  θ_run_mono (Cert.ReferenceIdeal.Value.run m' g') fun r h c => ⟨(h c).1.trans (val_main_v1405_eq (StableHlo.launchContents m' c)),
    (h c).2.2.2.1.trans (val_main_v1407_eq (StableHlo.launchContents m' c)),
    (h c).2.2.2.2.2.2.2.1.trans (val_main_v1411_eq (StableHlo.launchContents m' c)), (h c).2.2.2.2.2.2.2.2.1.trans (val_main_v1412_eq (StableHlo.launchContents m' c)),
    (h c).2.2.2.2.2.2.2.2.2.1.trans (val_main_v693_eq (StableHlo.launchContents m' c)),
    (h c).2.2.2.2.2.2.2.2.2.2.1.trans (val_main_v688_eq (StableHlo.launchContents m' c)), (h c).2.2.2.2.2.2.2.2.2.2.2⟩

set_option maxHeartbeats 3200000 in
/-- Both programs end with the same gradient of the short convolution mixer's projected columns, the same contents beyond the mixers'
    columns, the same gradient of the taps, and the same gradients of the spatial gating's weights and bias and of its norm's scale
    and shift. -/
theorem algebraic : Cert.algebraic_KernelIdeal_ReferenceIdeal_on_proven := by
  intro m g m' g' hpre hagree
  refine ⟨fun c => ref m c, fun c => (dats m 0 c).arrAt 19 cfg0.N, fun c => (dats m 0 c).arrAt 20 cfg0.N, fun c => (dats m 0 c).arrAt 21 cfg0.N, fun c => (dats m 0 c).arrAt 22 cfg0.N,
    fun c => (dats m 0 c).arrAt 23 cfg0.N, fun c => (dats m 0 c).arrAt 24 cfg0.N, fun c => (dats m 0 c).arrAt 25 cfg0.N, fun c => (dats m 0 c).arrAt 26 cfg0.N, fun c => (dats m 0 c).arrAt 27 cfg0.N,
    fun c => (dats m 0 c).arrAt 28 cfg0.N, ?_, ?_⟩
  · refine θ_run_mono (Cert.KernelIdeal.Value.run_blocks m g) fun r hr c => ?_
    obtain ⟨h0, h1, h2, h3, h4, h5, h6, h7, h8, h9, h10, hk⟩ := hr c
    exact ⟨fun i hi => (congrFun h0 i).trans (res_0 m c i (on_0 _ _ _ _ _ _ _ _ _ _ _ _ _ i hi)), fun i _ => congrFun h1 i, fun i _ => congrFun h2 i, fun i _ => congrFun h3 i, fun i _ => congrFun h4 i,
      fun i _ => congrFun h5 i, fun i _ => congrFun h6 i, fun i _ => congrFun h7 i, fun i _ => congrFun h8 i, fun i _ => congrFun h9 i, fun i _ => congrFun h10 i, hk⟩
  · refine θ_run_mono (ref_run m' g') fun r hr c => ?_
    obtain ⟨h0, h3, h7, h8, h9, h10, hk⟩ := hr c
    obtain ⟨e0, e1, e2, e3, e4, e5, e6, e7, e8, e9, e10, e11, e12⟩ := hagree c
    rw [e0, e1, e2, e3, e4, e5, e6, e7, e8, e9, e10, e11, e12] at h0
    rw [e0, e1] at h3 h10
    rw [e0, e1, e11] at h7 h8
    rw [e0, e1, e9, e10] at h9
    exact ⟨fun i _ => congrFun h0 i, fun i hi => absurd hi (off_1 _ _ _ _ _ _ _ _ _ _ _ _ _ i), fun i hi => absurd hi (off_2 _ _ _ _ _ _ _ _ _ _ _ _ _ i),
      fun i _ => (congrFun h3 i).trans (congrFun (final_21 m c) i).symm, fun i hi => absurd hi (off_4 _ _ _ _ _ _ _ _ _ _ _ _ _ i), fun i hi => absurd hi (off_5 _ _ _ _ _ _ _ _ _ _ _ _ _ i),
      fun i hi => absurd hi (off_6 _ _ _ _ _ _ _ _ _ _ _ _ _ i), fun i _ => (congrFun h7 i).trans (congrFun (final_25 m c) i).symm, fun i _ => (congrFun h8 i).trans (congrFun (final_26 m c) i).symm,
      fun i _ => (congrFun h9 i).trans (congrFun (final_27 m c) i).symm, fun i _ => (congrFun h10 i).trans (congrFun (final_28 m c) i).symm, hk⟩

end Cert.KernelIdeal.W

end
-- ==== Proof.RowNorm.lean ====
/- The gradient of the root-mean-square norm along one row, over the extended reals: the kernel's form, which scales the
   difference of the incoming gradient and its projection, and the form the derivative of the norm's own text has. Both hold
   for every extended real, infinite entries included, because the reciprocal root is a nonnegative real. -/
module

public import Idealize.ShloMosaic.PureOps
public import Idealize.ShloMosaic.PureOps.Ideal
public import Idealize.ShloMosaic.Lib.IdealHost

@[expose] public section

noncomputable section

open Idealize.ShloMosaic

namespace Cert.RowNorm

/-- The word of 1024. -/
theorem c1024 : Ideal.ofBits .f32 0x44800000#32 = ((1024 : ℝ) : EReal) := by
  simp [Ideal.ofBits, Ideal.ieee, -EReal.coe_mul]; norm_num

/-- The word of minus one half. -/
theorem cmhalf : Ideal.ofBits .f32 0xBF000000#32 = ((-(1 / 2) : ℝ) : EReal) := by
  simp [Ideal.ofBits, Ideal.ieee, -EReal.coe_mul, -EReal.coe_neg]; norm_num

/-- The word of the small constant under the root is a positive real. -/
theorem ceps : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]
  try norm_num

/-- A square is not negative. -/
theorem sq_nonneg (x : EReal) : 0 ≤ x * x := by
  induction x with
  | bot => simp
  | top => simp
  | coe r => rw [← EReal.coe_mul]; exact_mod_cast mul_self_nonneg r

/-- A nonnegative real factor goes through a sum. -/
theorem sum_mul_coe {n : ℕ} (f : Fin n → EReal) (p : ℝ) (hp : 0 ≤ p) : ∑ k, f k * (p : EReal) = (∑ k, f k) * (p : EReal) := by
  induction n with
  | zero => simp
  | succ n ih =>
    rw [Fin.sum_univ_castSucc, Fin.sum_univ_castSucc, ih,
      EReal.right_distrib_of_nonneg_of_ne_top (by exact_mod_cast hp) (EReal.coe_ne_top p)]

/-- The mean of a row's squares with the small constant added. -/
def var {n : ℕ} (x : Fin n → EReal) : EReal :=
  Ideal.div (∑ k, x k * x k) (Ideal.ofBits .f32 0x44800000#32) + Ideal.ofBits .f32 0x358637BD#32

/-- That mean is a positive real or infinite. -/
theorem var_cases {n : ℕ} (x : Fin n → EReal) : var x = ⊤ ∨ ∃ v : ℝ, 0 < v ∧ var x = (v : EReal) := by
  obtain ⟨e, he, hE⟩ := ceps
  have h0 : (0 : EReal) ≤ (∑ k, x k * x k) * ((1 / 1024 : ℝ) : EReal) :=
    mul_nonneg (Finset.sum_nonneg fun k _ => sq_nonneg (x k)) (by exact_mod_cast (by norm_num : (0 : ℝ) ≤ 1 / 1024))
  unfold var
  rw [c1024, Ideal.div_coe (by norm_num), hE]
  generalize (∑ k, x k * x k) * ((1 / 1024 : ℝ) : EReal) = s at h0
  induction s with
  | bot => simp at h0
  | top => left; simp
  | coe r =>
    right
    refine ⟨r + e, ?_, by norm_cast⟩
    have : 0 ≤ r := by exact_mod_cast h0
    linarith

/-- The reciprocal root of the mean is zero where the mean is infinite, and otherwise a positive real whose quotient by the
    mean is its cube. -/
theorem rsqrt_cases {n : ℕ} (x : Fin n → EReal) :
    (Ideal.rsqrt (var x) = 0 ∧ Ideal.div (Ideal.rsqrt (var x)) (var x) = 0)
      ∨ ∃ p : ℝ, 0 < p ∧ Ideal.rsqrt (var x) = (p : EReal) ∧ Ideal.div (Ideal.rsqrt (var x)) (var x) = ((p * p * p : ℝ) : EReal) := by
  rcases var_cases x with h | ⟨v, hv, h⟩
  · left
    rw [h]; simp [Ideal.div]
  · right
    have hs : 0 < Real.sqrt v := Real.sqrt_pos.mpr hv
    refine ⟨(Real.sqrt v)⁻¹, inv_pos.mpr hs, ?_, ?_⟩
    · rw [h, Ideal.rsqrt_coe, if_neg (not_lt.mpr hv.le), if_neg hv.ne']
    · rw [h, Ideal.rsqrt_coe, if_neg (not_lt.mpr hv.le), if_neg hv.ne', Ideal.div_coe hv.ne', ← EReal.coe_mul]
      congr 1
      have hh : v = Real.sqrt v * Real.sqrt v := (Real.mul_self_sqrt hv.le).symm
      field_simp
      nlinarith [hh]

/-- One entry of a row's gradient, the kernel's form against the derivative's: the reciprocal root times the difference of the
    gradient `u j` and its projection on the normalised row, and the three terms of the derivative. -/
theorem row_grad {n : ℕ} (x u : Fin n → EReal) (j : Fin n) :
    Ideal.rsqrt (var x) * (u j - x j * Ideal.rsqrt (var x)
        * Ideal.div (∑ k, u k * (x k * Ideal.rsqrt (var x))) (Ideal.ofBits .f32 0x44800000#32))
      = (u j * Ideal.rsqrt (var x)
          + x j * Ideal.div ((∑ k, x k * u k) * (Ideal.ofBits .f32 0xBF000000#32 * Ideal.div (Ideal.rsqrt (var x)) (var x)))
              (Ideal.ofBits .f32 0x44800000#32))
        + Ideal.div ((∑ k, x k * u k) * (Ideal.ofBits .f32 0xBF000000#32 * Ideal.div (Ideal.rsqrt (var x)) (var x)))
              (Ideal.ofBits .f32 0x44800000#32) * x j := by
  rw [c1024, cmhalf, Ideal.div_coe (by norm_num), Ideal.div_coe (by norm_num)]
  rcases rsqrt_cases x with ⟨h, h'⟩ | ⟨p, hp, h, h'⟩
  · rw [h', h]; simp
  · rw [h', h]
    have e1 : ∑ k, u k * (x k * (p : EReal)) = (∑ k, x k * u k) * (p : EReal) := by
      rw [← sum_mul_coe _ p hp.le]
      exact Finset.sum_congr rfl fun k _ => by rw [← mul_assoc, mul_comm (u k)]
    rw [e1]
    generalize ∑ k, x k * u k = s
    have e2 : -(x j * (p : EReal) * (s * (p : EReal) * ((1 / 1024 : ℝ) : EReal))) = -(x j * s) * ((p * p * (1 / 1024) : ℝ) : EReal) := by
      rw [EReal.neg_mul, EReal.coe_mul, EReal.coe_mul]; congr 1; ac_rfl
    have e3 : x j * (s * (((-(1 / 2) : ℝ) : EReal) * ((p * p * p : ℝ) : EReal)) * ((1 / 1024 : ℝ) : EReal))
        = -(x j * s) * ((p * p * p * (1 / 2048) : ℝ) : EReal) := by
      rw [EReal.neg_mul, ← mul_neg, ← EReal.coe_neg, ← EReal.coe_mul, mul_assoc s, ← EReal.coe_mul, ← mul_assoc]
      congr 2; ring
    rw [mul_comm _ (x j), e3, sub_eq_add_neg, e2, EReal.left_distrib_of_nonneg_of_ne_top (by exact_mod_cast hp.le) (EReal.coe_ne_top p),
      mul_comm _ (u j), add_assoc, ← EReal.left_distrib_of_nonneg (by exact_mod_cast (by positivity : (0 : ℝ) ≤ p * p * p * (1 / 2048)))
        (by exact_mod_cast (by positivity : (0 : ℝ) ≤ p * p * p * (1 / 2048))), mul_left_comm, ← EReal.coe_mul, ← EReal.coe_add]
    congr 3; ring

end Cert.RowNorm

end
-- ==== Proof.Finite.lean ====
/- Extended reals that are real numbers: what keeps them so, and the derivative of the gate `a * logistic a` in the two forms it
   is written in, which agree on real numbers. -/
module

public import proofs.«01_k».proof.Proof.RowNorm
public import Idealize.ShloMosaic.Lib.KernelVsHost

@[expose] public section

noncomputable section

open Idealize.ShloMosaic

namespace Cert.Finite

/-- The extended real is a real number. -/
def Is (x : EReal) : Prop := ∃ r : ℝ, x = (r : EReal)

/-- A product of real numbers is one. -/
theorem Is.mul {x y : EReal} (hx : Is x) (hy : Is y) : Is (x * y) := by
  obtain ⟨r, rfl⟩ := hx; obtain ⟨s, rfl⟩ := hy; exact ⟨r * s, (EReal.coe_mul r s).symm⟩

/-- A finite sum of real numbers is one. -/
theorem sum {n : ℕ} {f : Fin n → EReal} (h : ∀ k, Is (f k)) : Is (∑ k, f k) := by
  induction n with
  | zero => exact ⟨0, by simp⟩
  | succ n ih =>
    rw [Fin.sum_univ_castSucc]
    obtain ⟨r, hr⟩ := ih fun k => h k.castSucc
    obtain ⟨s, hs⟩ := h (Fin.last n)
    exact ⟨r + s, by rw [hr, hs, EReal.coe_add]⟩

/-- The reciprocal root of a row's mean square is a real number. -/
theorem rsqrt_var {n : ℕ} (x : Fin n → EReal) : Is (Ideal.rsqrt (RowNorm.var x)) := by
  rcases RowNorm.rsqrt_cases x with ⟨h, _⟩ | ⟨p, _, h, _⟩
  · exact ⟨0, by rw [h]; simp⟩
  · exact ⟨p, h⟩

/-- An extended real whose size is below infinity is a real number. -/
theorem of_cmp (z : EReal) (h : Ideal.cmp .olt (max z (-z)) ⊤ = 1#1) : Is z := by
  induction z with
  | bot => simp [Ideal.cmp] at h
  | top => simp [Ideal.cmp] at h
  | coe r => exact ⟨r, rfl⟩

/-- What the test `|x| < ∞` says of one value. -/
theorem of_lt (x : Ideal .f32)
    (h : FloatOps.cmpf .olt (FloatOps.hostAbsf x) (FloatOps.ofBits (F := Ideal) .f32 0x7F800000#32) = 1#1) : Is x := by
  have htop : Ideal.ofBits .f32 0x7F800000#32 = ⊤ := by simp [Ideal.ofBits, Ideal.ieee]
  replace h : Ideal.cmp .olt (max (x : EReal) (-(x : EReal))) (Ideal.ofBits .f32 0x7F800000#32) = 1#1 := h
  rw [htop] at h
  exact of_cmp x h

/-- The derivative of the gate times the other half: the saved form, and the sum of the two terms of the product rule. -/
theorem gate_grad {a b : EReal} (ha : Is a) (hb : Is b) :
    b * (Ideal.logistic a * (1 + a * (1 - Ideal.logistic a)))
      = b * Ideal.logistic a + a * b * (Ideal.logistic a * (1 - Ideal.logistic a)) := by
  obtain ⟨r, rfl⟩ := ha; obtain ⟨s, rfl⟩ := hb
  rw [Ideal.logistic_coe]
  generalize (1 + Real.exp (-r))⁻¹ = p
  have h1 : (1 : EReal) = ((1 : ℝ) : EReal) := rfl
  rw [h1]
  simp only [← EReal.coe_mul, ← EReal.coe_add, ← EReal.coe_sub]
  congr 1; ring

end Cert.Finite

end
-- ==== Proof.FfnBwd.lean ====
/- The gradient of the feed-forward layer: the products' gradients block of rows by block of rows, the norm's scale summed over the
   blocks. -/
module

public import proofs.«01_k».proof.Defs
public import proofs.«01_k».proof.Proof.Gen.Kernel2Ideal.Frame
public import proofs.«01_k».proof.Proof.Gen.Reference2Ideal.Read
public import proofs.«01_k».proof.Proof.Finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.W

open Cert.Kernel2Ideal Cert.Kernel2Ideal.Gen
open Cert.Reference2Ideal.Read

variable (m : (ℓ : Loc nD τ sig) → Buf (Elt Ideal) ℓ)

/-- Where each window's block stands at a grid point: the rows advance with the point; the scale, the weights and the scale's
    gradient are whole. -/
theorem idx : ∀ t : Fin cfg0.N, win0_0.index t = ![t.val, 0] ∧ win0_1.index t = ![t.val, 0] ∧ win0_2.index t = ![0, 0] ∧ win0_3.index t = ![t.val, 0]
    ∧ win0_4.index t = ![0, 0] ∧ win0_5.index t = ![0, 0] ∧ win0_6.index t = ![t.val, 0] ∧ win0_7.index t = ![t.val, 0]
    ∧ win0_8.index t = ![t.val, 0] ∧ win0_9.index t = ![0, 0] :=
  (by decide +kernel : ∀ t : Fin grid0.N, _)

/-- There are sixteen grid points. -/
theorem lt16 (t : Fin cfg0.N) : t.val < 16 := lt_of_lt_of_eq t.isLt N_0

/-- Row `i` of the stream. -/
def xrow (x : FVec Ideal S4096x1024 .f32) (i : Fin 4096) (k : Fin 1024) : EReal := x (ix2 i k)

/-- Row `i` after the norm and its scale. -/
def hrow (x : FVec Ideal S4096x1024 .f32) (g : FVec Ideal S1024 .f32) (i : Fin 4096) (k : Fin 1024) : EReal :=
  xrow x i k * Ideal.rsqrt (RowNorm.var (xrow x i)) * (g (ix1 k) : EReal)

/-- One element of the first product. -/
def gate (x : FVec Ideal S4096x1024 .f32) (g : FVec Ideal S1024 .f32) (w : FVec Ideal S1024x5632 .bf16) (i : Fin 4096) (j : Fin 5632) : EReal :=
  ∑ k : Fin 1024, hrow x g i k * (w (ix2 k j) : EReal)

/-- One element of the gradient that comes into the gated array. -/
def dsv (o : FVec Ideal S4096x1024 .f32) (v : FVec Ideal S2816x1024 .bf16) (i : Fin 4096) (j : Fin 2816) : EReal :=
  ∑ k : Fin 1024, Ideal.ofBits .f32 0x3F000000#32 * (o (ix2 i k) : EReal) * (v (ix2 j k) : EReal)

/-- The column of the gated half. -/
abbrev lo (j : Fin 2816) : Fin 5632 := ⟨j.val, by omega⟩

/-- The column of the linear half. -/
abbrev hi (j : Fin 2816) : Fin 5632 := ⟨2816 + j.val, by omega⟩

/-- The saved derivative the kernel is given, at the gated half. -/
theorem saved_a (c : Dev nD) (i : Fin 4096) (l : Fin 5632) (j : Fin 2816) (h : l.val = j.val) : V m c main_v32 (ix2 i l)
    = gate (m ((c : Thread nD τ).loc main_arg1)) (m ((c : Thread nD τ).loc main_arg2)) (m ((c : Thread nD τ).loc main_arg3)) i (hi j)
      * (Ideal.logistic (gate (m ((c : Thread nD τ).loc main_arg1)) (m ((c : Thread nD τ).loc main_arg2)) (m ((c : Thread nD τ).loc main_arg3)) i (lo j))
        * (1 + gate (m ((c : Thread nD τ).loc main_arg1)) (m ((c : Thread nD τ).loc main_arg2)) (m ((c : Thread nD τ).loc main_arg3)) i (lo j)
          * (1 - Ideal.logistic (gate (m ((c : Thread nD τ).loc main_arg1)) (m ((c : Thread nD τ).loc main_arg2)) (m ((c : Thread nD τ).loc main_arg3)) i (lo j))))) := by
  obtain rfl : l = lo j := Fin.ext h
  entry_read
  pointwise [RowNorm.var, xrow, hrow, gate, dsv, lo, hi, Ideal.logistic]

/-- The saved gate the kernel is given, at the linear half. -/
theorem saved_b (c : Dev nD) (i : Fin 4096) (l : Fin 5632) (j : Fin 2816) (h : l.val = 2816 + j.val) : V m c main_v32 (ix2 i l)
    = gate (m ((c : Thread nD τ).loc main_arg1)) (m ((c : Thread nD τ).loc main_arg2)) (m ((c : Thread nD τ).loc main_arg3)) i (lo j)
      * Ideal.logistic (gate (m ((c : Thread nD τ).loc main_arg1)) (m ((c : Thread nD τ).loc main_arg2)) (m ((c : Thread nD τ).loc main_arg3)) i (lo j)) := by
  obtain rfl : l = hi j := Fin.ext h
  entry_read
  pointwise [RowNorm.var, xrow, hrow, gate, dsv, lo, hi, Ideal.logistic]

/-- The gradient of the first product at the gated half, as the reference computes it. -/
theorem ref_a (o x : FVec Ideal S4096x1024 .f32) (g : FVec Ideal S1024 .f32) (w : FVec Ideal S1024x5632 .bf16) (v : FVec Ideal S2816x1024 .bf16) (i : Fin 4096) (l : Fin 5632) (j : Fin 2816) (h : l.val = j.val) : val_main_v30 (F := Ideal) o x g w v (ix2 i l)
    = dsv o v i j * gate x g w i (hi j) * Ideal.logistic (gate x g w i (lo j))
      + gate x g w i (lo j) * (dsv o v i j * gate x g w i (hi j)) * (Ideal.logistic (gate x g w i (lo j)) * (1 - Ideal.logistic (gate x g w i (lo j)))) := by
  obtain rfl : l = lo j := Fin.ext h
  pointwise [val_main_v55, val_main_v54, val_main_v53, val_main_v52, val_main_v51, val_main_v50, val_main_v49, val_main_v48, val_main_v47, val_main_v46, val_main_cst_8, val_main_v45, val_main_v44, val_main_cst_7, val_main_v43, val_main_v42, val_main_v41, val_main_v40, val_main_v39, val_main_cst_6, val_main_v38, val_main_v37, val_main_cst_5, val_main_v36, val_main_v35, val_main_v34, val_main_v33, val_main_cst_4, val_main_v32, val_main_v31, val_main_v30, val_main_v29, val_main_call1_v2, val_main_call1_v1, val_main_call1_v0, val_main_v28, val_main_v27, val_main_v26, val_main_v25, val_main_v24, val_main_cst_3, val_main_v23, val_main_v22, val_main_v21, val_main_v20_0, val_main_v20_1, val_main_call0_v7, val_main_call0_v6, val_main_call0_cst_1, val_main_v20_2, val_main_call0_v4, val_main_call0_cst_0, val_main_call0_v3, val_main_call0_v2, val_main_call0_cst, val_main_call0_v1, val_main_call0_v0, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, RowNorm.var, xrow, hrow, gate, dsv, lo, hi, Ideal.logistic]

/-- The gradient of the first product at the linear half, as the reference computes it. -/
theorem ref_b (o x : FVec Ideal S4096x1024 .f32) (g : FVec Ideal S1024 .f32) (w : FVec Ideal S1024x5632 .bf16) (v : FVec Ideal S2816x1024 .bf16) (i : Fin 4096) (l : Fin 5632) (j : Fin 2816) (h : l.val = 2816 + j.val) : val_main_v30 (F := Ideal) o x g w v (ix2 i l)
    = gate x g w i (lo j) * Ideal.logistic (gate x g w i (lo j)) * dsv o v i j := by
  obtain rfl : l = hi j := Fin.ext h
  pointwise [val_main_v55, val_main_v54, val_main_v53, val_main_v52, val_main_v51, val_main_v50, val_main_v49, val_main_v48, val_main_v47, val_main_v46, val_main_cst_8, val_main_v45, val_main_v44, val_main_cst_7, val_main_v43, val_main_v42, val_main_v41, val_main_v40, val_main_v39, val_main_cst_6, val_main_v38, val_main_v37, val_main_cst_5, val_main_v36, val_main_v35, val_main_v34, val_main_v33, val_main_cst_4, val_main_v32, val_main_v31, val_main_v30, val_main_v29, val_main_call1_v2, val_main_call1_v1, val_main_call1_v0, val_main_v28, val_main_v27, val_main_v26, val_main_v25, val_main_v24, val_main_cst_3, val_main_v23, val_main_v22, val_main_v21, val_main_v20_0, val_main_v20_1, val_main_call0_v7, val_main_call0_v6, val_main_call0_cst_1, val_main_v20_2, val_main_call0_v4, val_main_call0_cst_0, val_main_call0_v3, val_main_call0_v2, val_main_call0_cst, val_main_call0_v1, val_main_call0_v0, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, RowNorm.var, xrow, hrow, gate, dsv, lo, hi, Ideal.logistic]

/-- An element of the first product is a real number where the arguments are. -/
theorem gate_real (x : FVec Ideal S4096x1024 .f32) (g : FVec Ideal S1024 .f32) (w : FVec Ideal S1024x5632 .bf16) (hx : ∀ i, Finite.Is (x i)) (hg : ∀ i, Finite.Is (g i)) (hw : ∀ i, Finite.Is (w i)) (i : Fin 4096) (j : Fin 5632) :
    Finite.Is (gate x g w i j) :=
  Finite.sum fun k => (((hx _).mul (Finite.rsqrt_var _)).mul (hg _)).mul (hw _)

/-- One half is a real number. -/
theorem half_real : Finite.Is (Ideal.ofBits .f32 0x3F000000#32) := ⟨1 / 2, by
  simp [Ideal.ofBits, Ideal.ieee, -EReal.coe_mul]; norm_num⟩

/-- An element of the gradient that comes into the gated array is a real number where the arguments are. -/
theorem dsv_real (o : FVec Ideal S4096x1024 .f32) (v : FVec Ideal S2816x1024 .bf16) (ho : ∀ i, Finite.Is (o i)) (hv : ∀ i, Finite.Is (v i))
    (i : Fin 4096) (j : Fin 2816) : Finite.Is (dsv o v i j) :=
  Finite.sum fun k => (half_real.mul (ho _)).mul (hv _)

/-- The precondition says that all arguments hold real numbers. -/
theorem real_of_pre [Cert.Pre_finite_ffn_bwd.Facts] (h : Cert.Pre_Kernel2Ideal_finite_ffn_bwd m) (c : Dev nD) :
    (∀ i, Finite.Is ((m ((c : Thread nD τ).loc main_arg0) : FVec Ideal S4096x1024 .f32) i))
      ∧ (∀ i, Finite.Is ((m ((c : Thread nD τ).loc main_arg1) : FVec Ideal S4096x1024 .f32) i))
      ∧ (∀ i, Finite.Is ((m ((c : Thread nD τ).loc main_arg2) : FVec Ideal S1024 .f32) i))
      ∧ (∀ i, Finite.Is ((m ((c : Thread nD τ).loc main_arg3) : FVec Ideal S1024x5632 .bf16) i))
      ∧ (∀ i, Finite.Is ((m ((c : Thread nD τ).loc main_arg4) : FVec Ideal S2816x1024 .bf16) i)) := by
  obtain ⟨h0, h1, h2, h3, h4⟩ := h c
  exact ⟨fun i => Finite.of_lt _ (congrFun h0 i), fun i => Finite.of_lt _ (congrFun h1 i), fun i => Finite.of_lt _ (congrFun h2 i),
    fun i => Finite.of_lt _ (congrFun h3 i), fun i => Finite.of_lt _ (congrFun h4 i)⟩

/-- The block of the first product's gradient a grid point leaves: its two halves, stored one after the other. -/
def dabBlk (c : Dev nD) (t : Fin cfg0.N) : FVec Ideal S256x5632 .bf16 :=
  View.canon (Val := Elt Ideal) (s := S256x5632) (e := .bf16) [⟨Rect.unit (s := S256x5632) ![0, 2816] ![256, 2816] (by decide), k0_pay9 (F := Ideal) (iblk m c 0 t) (iblk m c 5 t) (View.ld (iblk m c 3 t) (Rect.unit (s := S256x5632) ![0, 2816] ![256, 2816] (by decide)))⟩,
    ⟨Rect.unit (s := S256x5632) ![0, 0] ![256, 2816] (by decide), k0_pay8 (F := Ideal) (iblk m c 0 t) (iblk m c 5 t) (View.ld (iblk m c 3 t) (Rect.unit (s := S256x5632) ![0, 0] ![256, 2816] (by decide)))⟩]

/-- An element of the gated half of that block. -/
theorem pay8_ix (c : Dev nD) (t : Fin cfg0.N) (r : Fin 256) (j : Fin 2816) :
    k0_pay8 (F := Ideal) (iblk m c 0 t) (iblk m c 5 t) (View.ld (iblk m c 3 t) (Rect.unit (s := S256x5632) ![0, 0] ![256, 2816] (by decide))) (ix2 r j)
    = dsv (m ((c : Thread nD τ).loc main_arg0)) (m ((c : Thread nD τ).loc main_arg4)) ⟨t.val * 256 + r.val, by have := lt16 t; omega⟩ j
      * V m c main_v32 (ix2 (⟨t.val * 256 + r.val, by have := lt16 t; omega⟩ : Fin 4096) (lo j)) := by
  pointwise [k0_pay9, k0_pay8, k0_pay7, k0_pay6, dsv, lo]
  blk_point [iblk, idx t]

/-- An element of the linear half of that block. -/
theorem pay9_ix (c : Dev nD) (t : Fin cfg0.N) (r : Fin 256) (j : Fin 2816) :
    k0_pay9 (F := Ideal) (iblk m c 0 t) (iblk m c 5 t) (View.ld (iblk m c 3 t) (Rect.unit (s := S256x5632) ![0, 2816] ![256, 2816] (by decide))) (ix2 r j)
    = dsv (m ((c : Thread nD τ).loc main_arg0)) (m ((c : Thread nD τ).loc main_arg4)) ⟨t.val * 256 + r.val, by have := lt16 t; omega⟩ j
      * V m c main_v32 (ix2 (⟨t.val * 256 + r.val, by have := lt16 t; omega⟩ : Fin 4096) (hi j)) := by
  pointwise [k0_pay9, k0_pay8, k0_pay7, k0_pay6, dsv, hi]
  blk_point [iblk, idx t]

/-- The gradient at the gated half on real numbers: the saved derivative times what comes in, and the two terms of the product
    rule. -/
theorem gate_grad_mul {d a b : EReal} (hd : Finite.Is d) (ha : Finite.Is a) (hb : Finite.Is b) :
    d * (b * (Ideal.logistic a * (1 + a * (1 - Ideal.logistic a))))
      = d * b * Ideal.logistic a + a * (d * b) * (Ideal.logistic a * (1 - Ideal.logistic a)) := by
  rw [← Finite.gate_grad ha (hd.mul hb), mul_assoc]

/-- The block's elements are the reference's at the block's rows. -/
theorem dab_at [Cert.Pre_finite_ffn_bwd.Facts] (h : Cert.Pre_Kernel2Ideal_finite_ffn_bwd m) (c : Dev nD) (t : Fin cfg0.N) (y : S256x5632.Idx) :
    dabBlk m c t y = val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (⟨t.val * 256 + (y 0).val, by have := lt16 t; have : (y 0).val < 256 := (y 0).isLt; exact (by omega : t.val * 256 + (y 0).val < 4096)⟩ : Fin 4096) (y 1)) := by
  obtain ⟨ho, hx, hg, hw, hv⟩ := real_of_pre m h c
  unfold dabBlk
  canon_tiles x k
  · refine (congrArg _ (ValueIdx.eq_ix2 _)).trans ((pay9_ix m c t _ _).trans ?_)
    rw [saved_b m c _ _ (x 1) rfl, ref_b _ _ _ _ _ _ _ (x 1) k1, mul_comm (G := EReal)]
    simp only [k0]
  · refine (congrArg _ (ValueIdx.eq_ix2 _)).trans ((pay8_ix m c t _ _).trans ?_)
    rw [saved_a m c _ _ (x 1) rfl, ref_a _ _ _ _ _ _ _ (x 1) k1]
    simp only [k0]
    exact gate_grad_mul (dsv_real _ _ ho hv _ _) (gate_real _ _ _ hx hg hw _ _) (gate_real _ _ _ hx hg hw _ _)

/-- The block read back whole. -/
theorem dab_read (c : Dev nD) (t : Fin cfg0.N) (v : View sig .tc .vmem S256x5632 .bf16) (hb) :
    v.readCov (Val := Elt Ideal) [⟨Rect.unit (s := S256x5632) ![0, 2816] ![256, 2816] (by decide), k0_pay9 (F := Ideal) (iblk m c 0 t) (iblk m c 5 t) (View.ld (iblk m c 3 t) (Rect.unit (s := S256x5632) ![0, 2816] ![256, 2816] (by decide)))⟩,
      ⟨Rect.unit (s := S256x5632) ![0, 0] ![256, 2816] (by decide), k0_pay8 (F := Ideal) (iblk m c 0 t) (iblk m c 5 t) (View.ld (iblk m c 3 t) (Rect.unit (s := S256x5632) ![0, 0] ![256, 2816] (by decide)))⟩]
      (Rect.unit (s := S256x5632) ![0, 0] ![256, 5632] hb).toLoadRect = dabBlk m c t := by
  rw [View.readCov_eq_canon']
  funext j
  unfold dabBlk
  congr 1
  funext a
  exact Fin.ext (by fin_cases a <;> simp [LoadRect.idx, Rect.toLoadRect])

/-- Row `i` of the gradient of the first product, as the reference computes it. -/
def dab (o x : FVec Ideal S4096x1024 .f32) (g : FVec Ideal S1024 .f32) (w : FVec Ideal S1024x5632 .bf16) (v : FVec Ideal S2816x1024 .bf16) (i : Fin 4096) (l : Fin 5632) : EReal := val_main_v30 (F := Ideal) o x g w v (ix2 i l)

/-- Row `i` of the gradient that comes into the norm's scaled rows: the gradient of the first product times the transposed weight. -/
def grad (o x : FVec Ideal S4096x1024 .f32) (g : FVec Ideal S1024 .f32) (w : FVec Ideal S1024x5632 .bf16) (v : FVec Ideal S2816x1024 .bf16) (i : Fin 4096) (k : Fin 1024) : EReal := ∑ l : Fin 5632, dab o x g w v i l * (w (ix2 k l) : EReal)

/-- Row `i` of the gradient that comes into the normalised rows. -/
def urow (o x : FVec Ideal S4096x1024 .f32) (g : FVec Ideal S1024 .f32) (w : FVec Ideal S1024x5632 .bf16) (v : FVec Ideal S2816x1024 .bf16) (i : Fin 4096) (k : Fin 1024) : EReal := grad o x g w v i k * (g (ix1 k) : EReal)

/-- One element of the reference's gradient of the stream, in the form the kernel computes it. -/
theorem ref_ix (o x : FVec Ideal S4096x1024 .f32) (g : FVec Ideal S1024 .f32) (w : FVec Ideal S1024x5632 .bf16) (v : FVec Ideal S2816x1024 .bf16) (i : Fin 4096) (j : Fin 1024) :
    val_main_v52 (F := Ideal) o x g w v (ix2 i j)
    = (o (ix2 i j) : EReal) + Ideal.rsqrt (RowNorm.var (xrow x i)) * (urow o x g w v i j - xrow x i j * Ideal.rsqrt (RowNorm.var (xrow x i))
        * Ideal.div (∑ k, urow o x g w v i k * (xrow x i k * Ideal.rsqrt (RowNorm.var (xrow x i)))) (Ideal.ofBits .f32 0x44800000#32)) := by
  rw [RowNorm.row_grad]
  pointwise [val_main_v55, val_main_v54, val_main_v53, val_main_v52, val_main_v51, val_main_v50, val_main_v49, val_main_v48, val_main_v47, val_main_v46, val_main_cst_8, val_main_v45, val_main_v44, val_main_cst_7, val_main_v43, val_main_v42, val_main_v41, val_main_v40, val_main_v39, val_main_cst_6, val_main_v38, val_main_v37, val_main_cst_5, val_main_v36, val_main_v35, val_main_v34, val_main_v33, val_main_cst_4, val_main_v32, val_main_v31, val_main_v29, val_main_call1_v2, val_main_call1_v1, val_main_call1_v0, val_main_v28, val_main_v27, val_main_v26, val_main_v25, val_main_v24, val_main_cst_3, val_main_v23, val_main_v22, val_main_v21, val_main_v20_0, val_main_v20_1, val_main_call0_v7, val_main_call0_v6, val_main_call0_cst_1, val_main_v20_2, val_main_call0_v4, val_main_call0_cst_0, val_main_call0_v3, val_main_call0_v2, val_main_call0_cst, val_main_call0_v1, val_main_call0_v0, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, RowNorm.var, xrow, urow, grad, dab]
  simp only [Fin.sum_univ_one]

/-- One element of the block of the stream's gradient is the reference's at the place the block stands. -/
theorem point_6 [Cert.Pre_finite_ffn_bwd.Facts] (h : Cert.Pre_Kernel2Ideal_finite_ffn_bwd m) (c : Dev nD) (t : Fin cfg0.N) (y) :
    k0_pay4 (F := Ideal) (iblk m c 0 t) (k0_pay10 (F := Ideal) (dabBlk m c t) (iblk m c 4 t)) (iblk m c 1 t) (k0_pay11 (F := Ideal) (iblk m c 2 t))
      (k0_pay12 (F := Ideal) (iblk m c 1 t)) (FloatOps.ofBits FTy.f32 1149239296#32) y
    = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  refine Eq.trans ?_ ((congrArg _ (ValueIdx.eq_ix2 _)).trans (ref_ix _ _ _ _ _ _ _)).symm
  pointwise [k0_pay12, k0_pay11, k0_pay10, k0_pay4, k0_pay3, k0_pay2, k0_pay1, RowNorm.var, xrow, urow, grad, dab]
  simp only [dab_at m h]
  blk_point [iblk, V, idx t]

/-- One element of the block of the first product's gradient is the reference's at the place the block stands. -/
theorem point_7 [Cert.Pre_finite_ffn_bwd.Facts] (h : Cert.Pre_Kernel2Ideal_finite_ffn_bwd m) (c : Dev nD) (t : Fin cfg0.N) (y) :
    dabBlk m c t y = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  rw [dab_at m h]
  pointwise [val_main_v53]
  blk_point [idx t]

/-- One element of the block of halved gradients is the reference's at the place the block stands. -/
theorem point_8 (c : Dev nD) (t : Fin cfg0.N) (y) : k0_pay6 (F := Ideal) (iblk m c 0 t) y
    = val_main_v54 (F := Ideal) (m ((c : Thread nD τ).loc main_arg0)) (((cfg0.win 8).blk t).view.emb y) := by
  pointwise [k0_pay6, val_main_v55, val_main_v54, val_main_v53, val_main_v52, val_main_v51, val_main_v50, val_main_v49, val_main_v48, val_main_v47, val_main_v46, val_main_cst_8, val_main_v45, val_main_v44, val_main_cst_7, val_main_v43, val_main_v42, val_main_v41, val_main_v40, val_main_v39, val_main_cst_6, val_main_v38, val_main_v37, val_main_cst_5, val_main_v36, val_main_v35, val_main_v34, val_main_v33, val_main_cst_4, val_main_v32, val_main_v31, val_main_v30, val_main_v29, val_main_call1_v2, val_main_call1_v1, val_main_call1_v0, val_main_v28, val_main_v27, val_main_v26, val_main_v25, val_main_v24, val_main_cst_3, val_main_v23, val_main_v22, val_main_v21, val_main_v20_0, val_main_v20_1, val_main_call0_v7, val_main_call0_v6, val_main_call0_cst_1, val_main_v20_2, val_main_call0_v4, val_main_call0_cst_0, val_main_call0_v3, val_main_call0_v2, val_main_call0_cst, val_main_call0_v1, val_main_call0_v0, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0]
  blk_point [iblk, V, idx t]

/-- What a row gives to the scale's gradient. -/
def grow (o x : FVec Ideal S4096x1024 .f32) (g : FVec Ideal S1024 .f32) (w : FVec Ideal S1024x5632 .bf16) (v : FVec Ideal S2816x1024 .bf16) (r : Fin 4096) (j : Fin 1024) : EReal := grad o x g w v r j * (xrow x r j * Ideal.rsqrt (RowNorm.var (xrow x r)))

/-- The reference's gradient of the scale is the sum over the rows. -/
theorem ref_g (o x : FVec Ideal S4096x1024 .f32) (g : FVec Ideal S1024 .f32) (w : FVec Ideal S1024x5632 .bf16) (v : FVec Ideal S2816x1024 .bf16) (y : S1x1024.Idx) : val_main_v55 (F := Ideal) o x g w v y = ∑ r : Fin 4096, grow o x g w v r (y 1) := by
  pointwise [val_main_v55, val_main_v54, val_main_v53, val_main_v52, val_main_v51, val_main_v50, val_main_v49, val_main_v48, val_main_v47, val_main_v46, val_main_cst_8, val_main_v45, val_main_v44, val_main_cst_7, val_main_v43, val_main_v42, val_main_v41, val_main_v40, val_main_v39, val_main_cst_6, val_main_v38, val_main_v37, val_main_cst_5, val_main_v36, val_main_v35, val_main_v34, val_main_v33, val_main_cst_4, val_main_v32, val_main_v31, val_main_v29, val_main_call1_v2, val_main_call1_v1, val_main_call1_v0, val_main_v28, val_main_v27, val_main_v26, val_main_v25, val_main_v24, val_main_cst_3, val_main_v23, val_main_v22, val_main_v21, val_main_v20_0, val_main_v20_1, val_main_call0_v7, val_main_call0_v6, val_main_call0_cst_1, val_main_v20_2, val_main_call0_v4, val_main_call0_cst_0, val_main_call0_v3, val_main_call0_v2, val_main_call0_cst, val_main_call0_v1, val_main_call0_v0, val_main_v19, val_main_v18, val_main_v17, val_main_v16, val_main_v15, val_main_v14, val_main_v13, val_main_v12, val_main_v11, val_main_v10, val_main_v9, val_main_cst_2, val_main_v8, val_main_v7, val_main_v6, val_main_v5, val_main_cst_1, val_main_v4, val_main_v3, val_main_cst_0, val_main_v2, val_main_v1, val_main_cst, val_main_v0, RowNorm.var, xrow, grow, grad, dab]
  simp only [Fin.sum_univ_one]
  exact Fin.sum_fin_congr fun r => mul_comm (G := EReal) _ _

/-- What a grid point adds to the scale's gradient. -/
def part (c : Dev nD) (t : Fin cfg0.N) : FVec Ideal S1x1024 .f32 :=
  k0_pay3 (F := Ideal) (k0_pay10 (F := Ideal) (dabBlk m c t) (iblk m c 4 t)) (iblk m c 1 t)
    (k0_pay12 (F := Ideal) (iblk m c 1 t)) (FloatOps.ofBits FTy.f32 1149239296#32)

/-- That part is the sum over the point's own rows. -/
theorem tile_g [Cert.Pre_finite_ffn_bwd.Facts] (h : Cert.Pre_Kernel2Ideal_finite_ffn_bwd m) (c : Dev nD) (t : Fin cfg0.N) (y) :
    part m c t y
    = ∑ k : Fin 256, grow (m ((c : Thread nD τ).loc main_arg0)) (m ((c : Thread nD τ).loc main_arg1)) (m ((c : Thread nD τ).loc main_arg2)) (m ((c : Thread nD τ).loc main_arg3)) (m ((c : Thread nD τ).loc main_arg4)) ⟨t.val * 256 + k.val, by have := lt16 t; omega⟩ (y 1) := by
  unfold part
  pointwise [k0_pay12, k0_pay11, k0_pay10, k0_pay4, k0_pay3, k0_pay2, k0_pay1, RowNorm.var, xrow, grow, grad, dab]
  simp only [dab_at m h]
  blk_point [iblk, V, idx t]

/-- A later grid point adds its part to what the point before left. -/
theorem hpay (a b e f acc j) : k0_pay5 (F := Ideal) a b e f acc j = (acc j : EReal) + k0_pay3 (F := Ideal) a b e f j := by
  pointwise [k0_pay5]

/-- The gradient of the stream after the run. -/
theorem final_6 [Cert.Pre_finite_ffn_bwd.Facts] (h : Cert.Pre_Kernel2Ideal_finite_ffn_bwd m) (c : Dev nD) :
    (dats m 0 c).arrAt 6 (cfgs 0).N = val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  by_cases h0 : t.val % 16 = 0
  · rw [outsAt0_A m c t h0 (by have := lt16 t; omega)]
    dsimp only; frame_out
    exact (congrFun (congrArg (fun D => k0_pay4 (F := Ideal) (iblk m c 0 t) (k0_pay10 (F := Ideal) D (iblk m c 4 t)) (iblk m c 1 t)
      (k0_pay11 (F := Ideal) (iblk m c 2 t)) (k0_pay12 (F := Ideal) (iblk m c 1 t)) (FloatOps.ofBits FTy.f32 1149239296#32))
      (dab_read m c t (ms0_7 t).view inb_S256x5632_S256x5632_0_0)) y).trans (point_6 m h c t y)
  · rw [outsAt0_B m c t h0 (by omega)]
    dsimp only; frame_out
    exact (congrFun (congrArg (fun D => k0_pay4 (F := Ideal) (iblk m c 0 t) (k0_pay10 (F := Ideal) D (iblk m c 4 t)) (iblk m c 1 t)
      (k0_pay11 (F := Ideal) (iblk m c 2 t)) (k0_pay12 (F := Ideal) (iblk m c 1 t)) (FloatOps.ofBits FTy.f32 1149239296#32))
      (dab_read m c t (ms0_7 t).view inb_S256x5632_S256x5632_0_0)) y).trans (point_6 m h c t y)

/-- The gradient of the first product after the run. -/
theorem final_7 [Cert.Pre_finite_ffn_bwd.Facts] (h : Cert.Pre_Kernel2Ideal_finite_ffn_bwd m) (c : Dev nD) :
    (dats m 0 c).arrAt 7 (cfgs 0).N = val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  by_cases h0 : t.val % 16 = 0
  · rw [outsAt0_A m c t h0 (by have := lt16 t; omega)]
    dsimp only; frame_out
    exact point_7 m h c t y
  · rw [outsAt0_B m c t h0 (by omega)]
    dsimp only; frame_out
    exact point_7 m h c t y

/-- The halved gradient after the run. -/
theorem final_8 (c : Dev nD) : (dats m 0 c).arrAt 8 (cfgs 0).N = val_main_v54 (F := Ideal) (m ((c : Thread nD τ).loc main_arg0)) := by
  refine (dats m 0 c).arrAt_eq_of_covers 8 _ (by decide +kernel) fun t _ y => ?_
  blk_simp
  rw [after0_8]
  by_cases h0 : t.val % 16 = 0
  · rw [outsAt0_A m c t h0 (by have := lt16 t; omega)]
    dsimp only; frame_out
    exact point_8 m c t y
  · rw [outsAt0_B m c t h0 (by omega)]
    dsimp only; frame_out
    exact point_8 m c t y

/-- The scale's gradient after the run: the points' sums over their own rows make up the sum over all rows. -/
theorem final_9 [Cert.Pre_finite_ffn_bwd.Facts] (hp : Cert.Pre_Kernel2Ideal_finite_ffn_bwd m) (c : Dev nD) :
    (dats m 0 c).arrAt 9 (cfgs 0).N = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0) (part m c)
    (fun t h j => by
      rw [outsAt0_A m c t h (by have := lt16 t; omega)]; dsimp only; frame_out
      exact (congrFun (congrArg (fun D => k0_pay3 (F := Ideal) (k0_pay10 (F := Ideal) D (iblk m c 4 t)) (iblk m c 1 t)
        (k0_pay12 (F := Ideal) (iblk m c 1 t)) (FloatOps.ofBits FTy.f32 1149239296#32))
        (dab_read m c t (ms0_7 t).view inb_S256x5632_S256x5632_0_0)) j).trans (zero_add (M := EReal) _).symm)
    (fun t h j => by
      rw [outsAt0_B m c t h (by omega)]; dsimp only; frame_out
      exact (congrFun (congrArg (fun D => k0_pay5 (F := Ideal) (k0_pay10 (F := Ideal) D (iblk m c 4 t)) (iblk m c 1 t)
        (k0_pay12 (F := Ideal) (iblk m c 1 t)) (FloatOps.ofBits FTy.f32 1149239296#32) _)
        (dab_read m c t (ms0_7 t).view inb_S256x5632_S256x5632_0_0)) j).trans (hpay _ _ _ _ _ _))
    (le_of_eq N_0) t0_15 rfl j, zero_add]
  refine Eq.trans ?_ (ref_g _ _ _ _ _ _).symm
  refine (Fin.sum_fin_congr fun t => tile_g m hp c t j).trans ?_
  exact Fin.sum_mul_add_congr fun s k hl => by congr 1

set_option maxHeartbeats 3200000 in
/-- Both programs end with the same four arrays, on finite arguments. -/
theorem algebraic [Cert.Pre_finite_ffn_bwd.Facts] : Cert.algebraic_Kernel2Ideal_Reference2Ideal_pre_finite_ffn_bwd := by
  pair_intro
  · run_from Cert.Kernel2Ideal.Gen.run_main m g
  · run_from Cert.Reference2Ideal.Value.run m' g'
    · obtain ⟨e0, e1, e2, e3, e4⟩ := hagree c
      rw [val_main_v52_eq, e0, e1, e2, e3, e4]
      exact (final_6 m hpre c).symm
    · obtain ⟨e0, e1, e2, e3, e4⟩ := hagree c
      rw [val_main_v53_eq, e0, e1, e2, e3, e4]
      exact (final_7 m hpre c).symm
    · exact (final_8 m c).symm
    · obtain ⟨e0, e1, e2, e3, e4⟩ := hagree c
      rw [val_main_v55_eq, e0, e1, e2, e3, e4]
      exact (final_9 m hpre c).symm

end Cert.Kernel2Ideal.W

end
-- ==== Proof.MixInBwd.lean ====
/- The gradient through the mixer's input product and norm: block of rows by block of rows for the stream, summed over the
   blocks for the norm's scale. -/
module

public import proofs.«01_k».proof.Defs
public import proofs.«01_k».proof.Proof.Gen.Kernel3Ideal.Frame
public import proofs.«01_k».proof.Proof.Gen.Reference3Ideal.Read
public import Idealize.ShloMosaic.Lib.Pipeline.ValueKit
public import Idealize.ShloMosaic.Lib.Pointwise
public import Idealize.ShloMosaic.Lib.Claim
public import proofs.«01_k».proof.Proof.RowNorm

@[expose] public section

set_option maxRecDepth 16384

noncomputable section

open Idealize.ShloMosaic Idealize.ShloMosaic.TcCoe Idealize.SL.Sem
open Idealize.ShloMosaic.Pipeline (Dat)

namespace Cert.Kernel3Ideal.W

open Cert.Kernel3Ideal Cert.Kernel3Ideal.Gen
open Cert.Reference3Ideal.Read

variable (m : (ℓ : Loc nD τ sig) → Buf (Elt Ideal) ℓ)

/-- Where each window's block stands at a grid point: the rows advance with the point, the weight, the scale and its gradient are
    whole. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- There are sixteen grid points. -/
theorem lt16 (t : Fin cfg0.N) : t.val < 16 := lt_of_lt_of_eq t.isLt N_0

/-- Row `i` of the stream. -/
def xrow (x : FVec Ideal S4096x1024 .f32) (i : Fin 4096) (k : Fin 1024) : EReal := x (ix2 i k)

/-- Row `i` of the gradient that comes into the norm's scaled rows: the incoming gradient times the transposed weight. -/
def hrow (dp : FVec Ideal S4096x8192 .bf16) (w : FVec Ideal S1024x8192 .bf16) (i : Fin 4096) (k : Fin 1024) : EReal :=
  ∑ l : Fin 8192, (dp (ix2 i l) : EReal) * w (ix2 k l)

/-- Row `i` of the gradient that comes into the normalised rows. -/
def urow (dp : FVec Ideal S4096x8192 .bf16) (w : FVec Ideal S1024x8192 .bf16) (g : FVec Ideal S1024 .f32) (i : Fin 4096) (k : Fin 1024) :
    EReal := hrow dp w i k * (g (ix1 k) : EReal)

/-- One element of the reference's gradient of the stream, in the form the kernel computes it. -/
theorem ref_ix (dp : FVec Ideal S4096x8192 .bf16) (w : FVec Ideal S1024x8192 .bf16) (x : FVec Ideal S4096x1024 .f32)
    (g : FVec Ideal S1024 .f32) (o : FVec Ideal S4096x1024 .f32) (i : Fin 4096) (j : Fin 1024) :
    val_main_v40 (F := Ideal) dp w x g o (ix2 i j)
    = (o (ix2 i j) : EReal) + Ideal.rsqrt (RowNorm.var (xrow x i)) * (urow dp w g i j - xrow x i j * Ideal.rsqrt (RowNorm.var (xrow x i))
        * Ideal.div (∑ k, urow dp w g i k * (xrow x i k * Ideal.rsqrt (RowNorm.var (xrow x i)))) (Ideal.ofBits .f32 0x44800000#32)) := by
  rw [RowNorm.row_grad]
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, RowNorm.var, xrow, urow, hrow]
  simp only [Fin.sum_univ_one]

/-- One element of the block the kernel stores is the reference's element at the place the block stands. -/
theorem point_5 (c : Dev nD) (t : Fin cfg0.N) (y) :
    k0_pay6 (F := Ideal) (iblk m c 0 t) (iblk m c 1 t) (iblk m c 2 t) (iblk m c 3 t) (iblk m c 4 t) y
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  refine Eq.trans ?_ ((congrArg _ (ValueIdx.eq_ix2 _)).trans (ref_ix _ _ _ _ _ _ _)).symm
  pointwise [k0_pay6, k0_pay4, k0_pay3, k0_pay2, RowNorm.var, xrow, urow, hrow]
  blk_point [iblk, V, idx t]

/-- The gradient of the stream after the run. -/
theorem final_5 (c : Dev nD) : (dats m 0 c).arrAt 5 (cfgs 0).N = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  by_cases h : t.val % 16 = 0
  · rw [outsAt0_A m c t h (by have := lt16 t; omega)]
    dsimp only; frame_out
    exact point_5 m c t y
  · rw [outsAt0_B m c t h (by omega)]
    dsimp only; frame_out
    exact point_5 m c t y

/-- What a row gives to the scale's gradient: the gradient that comes in times the normalised row. -/
def grow (dp : FVec Ideal S4096x8192 .bf16) (w : FVec Ideal S1024x8192 .bf16) (x : FVec Ideal S4096x1024 .f32) (r : Fin 4096) (j : Fin 1024) :
    EReal := hrow dp w r j * (xrow x r j * Ideal.rsqrt (RowNorm.var (xrow x r)))

/-- The reference's gradient of the scale is the sum over the rows. -/
theorem ref_g (dp : FVec Ideal S4096x8192 .bf16) (w : FVec Ideal S1024x8192 .bf16) (x : FVec Ideal S4096x1024 .f32) (y : S1x1024.Idx) :
    val_main_v41 (F := Ideal) dp w x y = ∑ r : Fin 4096, grow dp w x r (y 1) := by
  pointwise [val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, RowNorm.var, xrow, hrow, grow]
  simp only [Fin.sum_univ_one]
  exact Fin.sum_fin_congr fun r => mul_comm (G := EReal) _ _

/-- What a grid point adds to the scale's gradient is the sum over its own rows. -/
theorem tile_g (c : Dev nD) (t : Fin cfg0.N) (y) : k0_pay5 (F := Ideal) (iblk m c 0 t) (iblk m c 1 t) (iblk m c 2 t) y
    = ∑ k : Fin 256, grow (m ((c : Thread nD τ).loc main_arg0)) (m ((c : Thread nD τ).loc main_arg1)) (m ((c : Thread nD τ).loc main_arg2)) ⟨t.val * 256 + k.val, by have := lt16 t; omega⟩ (y 1) := by
  pointwise [k0_pay5, k0_pay4, k0_pay3, k0_pay2, RowNorm.var, xrow, hrow, grow]
  blk_point [iblk, V, idx t]

/-- A later grid point adds its part to what the point before left. -/
theorem hpay (acc : FVec Ideal S1x1024 .f32) (p : FVec Ideal S1x1024 .f32) (j) : k0_pay1 (F := Ideal) p acc j = (acc j : EReal) + p j := by
  pointwise [k0_pay1]

/-- The scale's gradient after the run: the points' sums over their own rows make up the sum over all rows. -/
theorem final_6 (c : Dev nD) : (dats m 0 c).arrAt 6 (cfgs 0).N = val_main_v41 (F := Ideal) (m ((c : Thread nD τ).loc main_arg0)) (m ((c : Thread nD τ).loc main_arg1)) (m ((c : Thread nD τ).loc main_arg2)) := by
  refine (dats m 0 c).arrAt_eq_of_after_last 6 t0_15 (by decide +kernel) _ fun j => ?_
  blk_simp
  rw [after0_6, Pipeline.eq_sum_fin_of_reset_step_apply_last (fun n h => (outsAt0 m c n h).2) 16 (fun _ => 0) _
    (fun t h j => by
      rw [outsAt0_A m c t h (by have := lt16 t; omega)]; dsimp only; frame_out
      exact (zero_add _).symm)
    (fun t h j => by rw [outsAt0_B m c t h (by omega)]; dsimp only; frame_out; rw [hpay])
    (le_of_eq N_0) t0_15 rfl j, zero_add]
  refine Eq.trans ?_ (ref_g _ _ _ _).symm
  refine (Fin.sum_fin_congr fun t => tile_g m c t j).trans ?_
  exact Fin.sum_mul_add_congr fun s k hl => by congr 1

/-- Both programs end with the same gradients of the stream and of the norm's scale. -/
theorem algebraic : Cert.algebraic_Kernel3Ideal_Reference3Ideal := by
  pair_intro
  · run_from Cert.Kernel3Ideal.Gen.run_main m g
  · run_from Cert.Reference3Ideal.Value.run m' g'
    · obtain ⟨e0, e1, e2, e3, e4⟩ := hagree c
      rw [val_main_v40_eq, e0, e1, e2, e3, e4]
      exact (final_5 m c).symm
    · exact (final_6 m c).symm

end Cert.Kernel3Ideal.W

end
-- ==== Proof.W13.lean ====
/- The gradient of the gate-and-up weight `w13`: the kernel's result is the transposed product of the saved activation
   with the incoming gradient, read at one block of columns of one grid point. -/
module

public import proofs.«01_k».proof.Defs
public import proofs.«01_k».proof.Proof.Gen.Kernel4Ideal.Frame
public import proofs.«01_k».proof.Proof.Gen.Reference4Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel4Ideal.W

open Cert.Kernel4Ideal Cert.Kernel4Ideal.Gen
open Cert.Reference4Ideal.Read

variable (m : (ℓ : Loc nD τ sig) → Buf (Elt Ideal) ℓ)

/-- Where each window's block stands at a grid point: the activation is taken whole, the gradient and the result by columns. -/
theorem idx : ∀ t : Fin cfg0.N, win0_0.index t = ![0, 0] ∧ win0_1.index t = ![0, t.val] ∧ win0_2.index t = ![0, t.val] :=
  (by decide +kernel : ∀ t : Fin grid0.N, _)

/-- One element of the block a grid point stores is the reference's element at the place the block stands. -/
theorem point (c : Dev nD) (t : Fin cfg0.N) (y) : k0_pay1 (F := Ideal) (iblk m c 0 t) (iblk m c 1 t) y
    = val_main_v6 (F := Ideal) (m ((c : Thread nD τ).loc main_arg0)) (m ((c : Thread nD τ).loc main_arg1)) (((cfg0.win 2).blk t).view.emb y) := by
  pointwise [k0_pay1, val_main_v6, val_main_v5, val_main_v4, val_main_v3, val_main_v1]
  refine Fin.sum_fin_congr fun k => (mul_comm _ _).trans ?_
  blk_point [iblk, V, idx t]

/-- The result array after the run is the reference's term of the two arguments. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Both programs end with the same gradient of the weight. -/
theorem algebraic : Cert.algebraic_Kernel4Ideal_Reference4Ideal := by
  pair_intro
  · run_from Cert.Kernel4Ideal.Gen.run_main m g
  · run_from Cert.Reference4Ideal.Value.run m' g'
    exact (final m c).symm

end Cert.Kernel4Ideal.W

end
-- ==== Proof.W2.lean ====
/- The gradient of the down weight `w2`: the transposed product of the gated activation with the incoming gradient, one
   block of rows of the weight at a time. -/
module

public import proofs.«01_k».proof.Defs
public import proofs.«01_k».proof.Proof.Gen.Kernel5Ideal.Frame
public import proofs.«01_k».proof.Proof.Gen.Reference5Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.W

open Cert.Kernel5Ideal Cert.Kernel5Ideal.Gen
open Cert.Reference5Ideal.Read

variable (m : (ℓ : Loc nD τ sig) → Buf (Elt Ideal) ℓ)

/-- Where each window's block stands at a grid point: the gradient is taken whole, the activation by columns, the result by rows. -/
theorem idx : ∀ t : Fin cfg0.N, win0_0.index t = ![0, t.val] ∧ win0_1.index t = ![0, 0] ∧ win0_2.index t = ![t.val, 0] :=
  (by decide +kernel : ∀ t : Fin grid0.N, _)

/-- One element of the block a grid point stores is the reference's element at the place the block stands. -/
theorem point (c : Dev nD) (t : Fin cfg0.N) (y) : k0_pay1 (F := Ideal) (iblk m c 0 t) (iblk m c 1 t) y
    = val_main_v6 (F := Ideal) (m ((c : Thread nD τ).loc main_arg0)) (m ((c : Thread nD τ).loc main_arg1)) (((cfg0.win 2).blk t).view.emb y) := by
  pointwise [k0_pay1, val_main_v6, val_main_v5, val_main_v4, val_main_v3, val_main_v1]
  refine Fin.sum_fin_congr fun k => (mul_comm _ _).trans ?_
  blk_point [iblk, V, idx t]

/-- The result array after the run is the reference's term of the two arguments. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Both programs end with the same gradient of the weight. -/
theorem algebraic : Cert.algebraic_Kernel5Ideal_Reference5Ideal := by
  pair_intro
  · run_from Cert.Kernel5Ideal.Gen.run_main m g
  · run_from Cert.Reference5Ideal.Value.run m' g'
    exact (final m c).symm

end Cert.Kernel5Ideal.W

end
-- ==== Proof.WIn.lean ====
/- The gradient of the mixer's input weight `w_in`: the transposed product of the normalised input with the gradient of
   the projections, one block of columns at a time. -/
module

public import proofs.«01_k».proof.Defs
public import proofs.«01_k».proof.Proof.Gen.Kernel6Ideal.Frame
public import proofs.«01_k».proof.Proof.Gen.Reference6Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.W

open Cert.Kernel6Ideal Cert.Kernel6Ideal.Gen
open Cert.Reference6Ideal.Read

variable (m : (ℓ : Loc nD τ sig) → Buf (Elt Ideal) ℓ)

/-- Where each window's block stands at a grid point: the activation is taken whole, the gradient and the result by columns. -/
theorem idx : ∀ t : Fin cfg0.N, win0_0.index t = ![0, 0] ∧ win0_1.index t = ![0, t.val] ∧ win0_2.index t = ![0, t.val] :=
  (by decide +kernel : ∀ t : Fin grid0.N, _)

/-- One element of the block a grid point stores is the reference's element at the place the block stands. -/
theorem point (c : Dev nD) (t : Fin cfg0.N) (y) : k0_pay1 (F := Ideal) (iblk m c 0 t) (iblk m c 1 t) y
    = val_main_v6 (F := Ideal) (m ((c : Thread nD τ).loc main_arg0)) (m ((c : Thread nD τ).loc main_arg1)) (((cfg0.win 2).blk t).view.emb y) := by
  pointwise [k0_pay1, val_main_v6, val_main_v5, val_main_v4, val_main_v3, val_main_v1]
  refine Fin.sum_fin_congr fun k => (mul_comm _ _).trans ?_
  blk_point [iblk, V, idx t]

/-- The result array after the run is the reference's term of the two arguments. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Both programs end with the same gradient of the weight. -/
theorem algebraic : Cert.algebraic_Kernel6Ideal_Reference6Ideal := by
  pair_intro
  · run_from Cert.Kernel6Ideal.Gen.run_main m g
  · run_from Cert.Reference6Ideal.Value.run m' g'
    exact (final m c).symm

end Cert.Kernel6Ideal.W

end
-- ==== Proof.WOut.lean ====
/- The gradient of the mixer's output weight `w_out`: the transposed product of the gated branches with the incoming
   gradient, one block of columns at a time. -/
module

public import proofs.«01_k».proof.Defs
public import proofs.«01_k».proof.Proof.Gen.Kernel7Ideal.Frame
public import proofs.«01_k».proof.Proof.Gen.Reference7Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.W

open Cert.Kernel7Ideal Cert.Kernel7Ideal.Gen
open Cert.Reference7Ideal.Read

variable (m : (ℓ : Loc nD τ sig) → Buf (Elt Ideal) ℓ)

/-- Where each window's block stands at a grid point: the activation is taken whole, the gradient and the result by columns. -/
theorem idx : ∀ t : Fin cfg0.N, win0_0.index t = ![0, 0] ∧ win0_1.index t = ![0, t.val] ∧ win0_2.index t = ![0, t.val] :=
  (by decide +kernel : ∀ t : Fin grid0.N, _)

/-- One element of the block a grid point stores is the reference's element at the place the block stands. -/
theorem point (c : Dev nD) (t : Fin cfg0.N) (y) : k0_pay1 (F := Ideal) (iblk m c 0 t) (iblk m c 1 t) y
    = val_main_v6 (F := Ideal) (m ((c : Thread nD τ).loc main_arg0)) (m ((c : Thread nD τ).loc main_arg1)) (((cfg0.win 2).blk t).view.emb y) := by
  pointwise [k0_pay1, val_main_v6, val_main_v5, val_main_v4, val_main_v3, val_main_v1]
  refine Fin.sum_fin_congr fun k => (mul_comm _ _).trans ?_
  blk_point [iblk, V, idx t]

/-- The result array after the run is the reference's term of the two arguments. -/
theorem final (c : Dev nD) : (dats m 0 c).arrAt 2 (cfgs 0).N
    = val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Both programs end with the same gradient of the weight. -/
theorem algebraic : Cert.algebraic_Kernel7Ideal_Reference7Ideal := by
  pair_intro
  · run_from Cert.Kernel7Ideal.Gen.run_main m g
  · run_from Cert.Reference7Ideal.Value.run m' g'
    exact (final m c).symm

end Cert.Kernel7Ideal.W

end
-- ==== Proof.WUp.lean ====
/- The gradient of the four branches' up projections `w_up`: per branch, the transposed product of the branch's output
   with the gradient of its projection; one branch a grid point. -/
module

public import proofs.«01_k».proof.Defs
public import proofs.«01_k».proof.Proof.Gen.Kernel8Ideal.Frame
public import proofs.«01_k».proof.Proof.Gen.Reference8Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.W

open Cert.Kernel8Ideal Cert.Kernel8Ideal.Gen
open Cert.Reference8Ideal.Read

variable (m : (ℓ : Loc nD τ sig) → Buf (Elt Ideal) ℓ)

/-- Where each window's block stands at a grid point: each branch's columns of the two operands, its rows of the result. -/
theorem idx : ∀ t : Fin cfg0.N, win0_0.index t = ![0, t.val] ∧ win0_1.index t = ![0, t.val] ∧ win0_2.index t = ![t.val, 0] :=
  (by decide +kernel : ∀ t : Fin grid0.N, _)

/-- One element of the block a grid point stores is the reference's element at the place the block stands. -/
theorem point (c : Dev nD) (t : Fin cfg0.N) (y) : k0_pay1 (F := Ideal) (iblk m c 0 t) (iblk m c 1 t) y
    = val_main_v36 (F := Ideal) (m ((c : Thread nD τ).loc main_arg0)) (m ((c : Thread nD τ).loc main_arg1)) (((cfg0.win 2).blk t).view.emb y) := by
  pointwise [k0_pay1, val_main_v36, val_main_v35, val_main_v34, val_main_v33, val_main_v32, val_main_v30, val_main_v28, val_main_v27, val_main_v26, val_main_v25, val_main_v24, val_main_v23, val_main_v21, val_main_v19, val_main_v18, val_main_v17, val_main_v16, val_main_v15, val_main_v14, val_main_v12, val_main_v10, val_main_v9, val_main_v8, val_main_v7, val_main_v6, val_main_v5, val_main_v3, val_main_v1, val_main_v0]
  have e : (((View.whole main_v0).slice ((win0 2).rect t)).emb y 0).val = t.val * 512 + (y 0).val := by blk_simp [idx t]
  split_ifs
  all_goals refine Fin.sum_fin_congr fun k => (mul_comm (G := EReal) _ _).trans ?_
  all_goals blk_point [iblk, V, idx t]
  all_goals omega

/-- The result array after the run is the reference's term of the two arguments. -/
theorem final (c : Dev nD) : (dats m 0 c).arrAt 2 (cfgs 0).N
    = val_main_v36 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- Both programs end with the same gradient of the weight. -/
theorem algebraic : Cert.algebraic_Kernel8Ideal_Reference8Ideal := by
  pair_intro
  · run_from Cert.Kernel8Ideal.Gen.run_main m g
  · run_from Cert.Reference8Ideal.Value.run m' g'
    exact (final m c).symm

end Cert.Kernel8Ideal.W

end
-- ==== Proof.FfnFwd.lean ====
/- The forward feed-forward product: normalised rows, the gated product, the residual sum and the saved gate derivatives. -/
module

public import proofs.«01_k».proof.Defs
public import proofs.«01_k».proof.Proof.Gen.Kernel9Ideal.Frame
public import proofs.«01_k».proof.Proof.Gen.Reference9Ideal.Read
public import proofs.«01_k».proof.Proof.Finite
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.W

open Cert.Kernel9Ideal Cert.Kernel9Ideal.Gen
open Cert.Reference9Ideal.Read

variable (m : (ℓ : Loc nD τ sig) → Buf (Elt Ideal) ℓ)

/-- Where each window's block stands at a grid point: the rows advance with the point, the scale and the weights are whole. -/
theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] ∧ win0_7.index t = ![t.val, 0] :=
  (by decide +kernel : ∀ t : Fin grid0.N, _)

/-- Row `i` of the stream. -/
def xrow (x : FVec Ideal S4096x1024 .f32) (i : Fin 4096) (k : Fin 1024) : EReal := x (ix2 i k)

/-- Row `i` after the norm and its scale. -/
def hrow (x : FVec Ideal S4096x1024 .f32) (g : FVec Ideal S1024 .f32) (i : Fin 4096) (k : Fin 1024) : EReal :=
  xrow x i k * Ideal.rsqrt (RowNorm.var (xrow x i)) * (g (ix1 k) : EReal)

/-- One element of the first product. -/
def gate (x : FVec Ideal S4096x1024 .f32) (g : FVec Ideal S1024 .f32) (w : FVec Ideal S1024x5632 .bf16) (i : Fin 4096) (j : Fin 5632) : EReal :=
  ∑ k : Fin 1024, hrow x g i k * (w (ix2 k j) : EReal)

/-- The column of the gated half. -/
abbrev lo (j : Fin 2816) : Fin 5632 := ⟨j.val, by omega⟩

/-- The column of the linear half. -/
abbrev hi (j : Fin 2816) : Fin 5632 := ⟨2816 + j.val, by omega⟩

/-- The gated element, as the reference computes it. -/
theorem ref_s (x : FVec Ideal S4096x1024 .f32) (g : FVec Ideal S1024 .f32) (w : FVec Ideal S1024x5632 .bf16) (i : Fin 4096) (j : Fin 2816) : val_main_v25 (F := Ideal) x g w (ix2 i j)
    = gate x g w i (lo j) * Ideal.logistic (gate x g w i (lo j)) * gate x g w i (hi j) := by
  pointwise [val_main_v31, val_main_v30, val_main_v29, val_main_call1_v2, val_main_call1_v1, val_main_call1_v0, val_main_v28, val_main_v27, val_main_v26, val_main_cst_3, val_main_v25, val_main_v24, val_main_v23, val_main_v22, val_main_v21, val_main_cst_2, val_main_v20, val_main_v19, val_main_v18, val_main_v17_0, val_main_v17_1, val_main_call0_v7, val_main_call0_v6, val_main_call0_cst_1, val_main_v17_2, val_main_call0_v4, val_main_call0_cst_0, val_main_call0_v3, val_main_call0_v2, val_main_call0_cst, val_main_call0_v1, val_main_call0_v0, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0, RowNorm.var, xrow, hrow, gate, lo, hi, Ideal.logistic]

/-- The saved gate, as the reference computes it. -/
theorem ref_b (x : FVec Ideal S4096x1024 .f32) (g : FVec Ideal S1024 .f32) (w : FVec Ideal S1024x5632 .bf16) (i : Fin 4096) (l : Fin 5632) (j : Fin 2816) (h : l.val = 2816 + j.val) : val_main_v31 (F := Ideal) x g w (ix2 i l)
    = gate x g w i (lo j) * Ideal.logistic (gate x g w i (lo j)) := by
  obtain rfl : l = hi j := Fin.ext h
  pointwise [val_main_v31, val_main_v30, val_main_v29, val_main_call1_v2, val_main_call1_v1, val_main_call1_v0, val_main_v28, val_main_v27, val_main_v26, val_main_cst_3, val_main_v25, val_main_v24, val_main_v23, val_main_v22, val_main_v21, val_main_cst_2, val_main_v20, val_main_v19, val_main_v18, val_main_v17_0, val_main_v17_1, val_main_call0_v7, val_main_call0_v6, val_main_call0_cst_1, val_main_v17_2, val_main_call0_v4, val_main_call0_cst_0, val_main_call0_v3, val_main_call0_v2, val_main_call0_cst, val_main_call0_v1, val_main_call0_v0, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0, RowNorm.var, xrow, hrow, gate, lo, hi, Ideal.logistic]

/-- The saved derivative, as the reference computes it. -/
theorem ref_a (x : FVec Ideal S4096x1024 .f32) (g : FVec Ideal S1024 .f32) (w : FVec Ideal S1024x5632 .bf16) (i : Fin 4096) (l : Fin 5632) (j : Fin 2816) (h : l.val = j.val) : val_main_v31 (F := Ideal) x g w (ix2 i l)
    = gate x g w i (hi j) * Ideal.logistic (gate x g w i (lo j))
      + gate x g w i (lo j) * gate x g w i (hi j) * (Ideal.logistic (gate x g w i (lo j)) * (1 - Ideal.logistic (gate x g w i (lo j)))) := by
  obtain rfl : l = lo j := Fin.ext h
  pointwise [val_main_v31, val_main_v30, val_main_v29, val_main_call1_v2, val_main_call1_v1, val_main_call1_v0, val_main_v28, val_main_v27, val_main_v26, val_main_cst_3, val_main_v25, val_main_v24, val_main_v23, val_main_v22, val_main_v21, val_main_cst_2, val_main_v20, val_main_v19, val_main_v18, val_main_v17_0, val_main_v17_1, val_main_call0_v7, val_main_call0_v6, val_main_call0_cst_1, val_main_v17_2, val_main_call0_v4, val_main_call0_cst_0, val_main_call0_v3, val_main_call0_v2, val_main_call0_cst, val_main_call0_v1, val_main_call0_v0, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0, RowNorm.var, xrow, hrow, gate, lo, hi, Ideal.logistic]

/-- One element of the block of normalised rows is the reference's at the place the block stands. -/
theorem point_5 (c : Dev nD) (t : Fin cfg0.N) (y) : k0_pay2 (F := Ideal) (iblk m c 0 t) (iblk m c 1 t) y
    = val_main_v24 (F := Ideal) (m ((c : Thread nD τ).loc main_arg0)) (m ((c : Thread nD τ).loc main_arg1)) (((cfg0.win 5).blk t).view.emb y) := by
  pointwise [k0_pay2, val_main_v31, val_main_v30, val_main_v29, val_main_call1_v2, val_main_call1_v1, val_main_call1_v0, val_main_v28, val_main_v27, val_main_v26, val_main_cst_3, val_main_v25, val_main_v24, val_main_v23, val_main_v22, val_main_v21, val_main_cst_2, val_main_v20, val_main_v19, val_main_v18, val_main_v17_0, val_main_v17_1, val_main_call0_v7, val_main_call0_v6, val_main_call0_cst_1, val_main_v17_2, val_main_call0_v4, val_main_call0_cst_0, val_main_call0_v3, val_main_call0_v2, val_main_call0_cst, val_main_call0_v1, val_main_call0_v0, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  blk_point [iblk, V, idx t]

/-- One element of the gated block is the reference's at the place the block stands. -/
theorem point_6 (c : Dev nD) (t : Fin cfg0.N) (y) : k0_pay11 (F := Ideal) (iblk m c 0 t) (iblk m c 1 t) (iblk m c 2 t) (iblk m c 3 t) y
    = val_main_v25 (F := Ideal) (m ((c : Thread nD τ).loc main_arg0)) (m ((c : Thread nD τ).loc main_arg1)) (m ((c : Thread nD τ).loc main_arg2)) (((cfg0.win 6).blk t).view.emb y) := by
  refine Eq.trans ?_ ((congrArg _ (ValueIdx.eq_ix2 _)).trans (ref_s _ _ _ _ _)).symm
  pointwise [k0_pay11, k0_pay10, k0_pay9, k0_pay8, k0_pay7, k0_pay6, k0_pay5, k0_pay4, k0_pay3, k0_pay2, k0_pay1, RowNorm.var, xrow, hrow, gate, lo, hi, Ideal.logistic]
  blk_point [iblk, V, idx t]

/-- The stream after the layer, as the reference computes it. -/
theorem ref_y (x : FVec Ideal S4096x1024 .f32) (g : FVec Ideal S1024 .f32) (w : FVec Ideal S1024x5632 .bf16) (v : FVec Ideal S2816x1024 .bf16) (i : Fin 4096) (j : Fin 1024) : val_main_v23 (F := Ideal) x g w v (ix2 i j)
    = (x (ix2 i j) : EReal) + Ideal.ofBits .f32 0x3F000000#32
      * ∑ l : Fin 2816, gate x g w i (lo l) * Ideal.logistic (gate x g w i (lo l)) * gate x g w i (hi l) * (v (ix2 l j) : EReal) := by
  pointwise [val_main_v31, val_main_v30, val_main_v29, val_main_call1_v2, val_main_call1_v1, val_main_call1_v0, val_main_v28, val_main_v27, val_main_v26, val_main_cst_3, val_main_v25, val_main_v24, val_main_v23, val_main_v22, val_main_v21, val_main_cst_2, val_main_v20, val_main_v19, val_main_v18, val_main_v17_0, val_main_v17_1, val_main_call0_v7, val_main_call0_v6, val_main_call0_cst_1, val_main_v17_2, val_main_call0_v4, val_main_call0_cst_0, val_main_call0_v3, val_main_call0_v2, val_main_call0_cst, val_main_call0_v1, val_main_call0_v0, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0, RowNorm.var, xrow, hrow, gate, lo, hi, Ideal.logistic]

/-- One element of the block of the stream is the reference's at the place the block stands. -/
theorem point_4 (c : Dev nD) (t : Fin cfg0.N) (y) :
    k0_pay1 (F := Ideal) (iblk m c 0 t) (k0_pay11 (F := Ideal) (iblk m c 0 t) (iblk m c 1 t) (iblk m c 2 t) (iblk m c 3 t)) (iblk m c 3 t) y
    = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  refine Eq.trans ?_ ((congrArg _ (ValueIdx.eq_ix2 _)).trans (ref_y _ _ _ _ _ _)).symm
  pointwise [k0_pay11, k0_pay10, k0_pay9, k0_pay8, k0_pay7, k0_pay6, k0_pay5, k0_pay4, k0_pay3, k0_pay2, k0_pay1, RowNorm.var, xrow, hrow, gate, lo, hi, Ideal.logistic]
  blk_point [iblk, V, idx t]

/-- An element of the first product is a real number where the arguments are. -/
theorem gate_real (x : FVec Ideal S4096x1024 .f32) (g : FVec Ideal S1024 .f32) (w : FVec Ideal S1024x5632 .bf16) (hx : ∀ i, Finite.Is (x i)) (hg : ∀ i, Finite.Is (g i)) (hw : ∀ i, Finite.Is (w i)) (i : Fin 4096) (j : Fin 5632) :
    Finite.Is (gate x g w i j) :=
  Finite.sum fun k => (((hx _).mul (Finite.rsqrt_var _)).mul (hg _)).mul (hw _)

/-- The precondition says that the stream, the scale and the first weight hold real numbers. -/
theorem real_of_pre [Cert.Pre_finite_ffn_fwd.Facts] (h : Cert.Pre_Kernel9Ideal_finite_ffn_fwd m) (c : Dev nD) :
    (∀ i, Finite.Is ((m ((c : Thread nD τ).loc main_arg0) : FVec Ideal S4096x1024 .f32) i))
      ∧ (∀ i, Finite.Is ((m ((c : Thread nD τ).loc main_arg1) : FVec Ideal S1024 .f32) i))
      ∧ (∀ i, Finite.Is ((m ((c : Thread nD τ).loc main_arg2) : FVec Ideal S1024x5632 .bf16) i)) := by
  obtain ⟨h0, h1, h2⟩ := h c
  exact ⟨fun i => Finite.of_lt _ (congrFun h0 i), fun i => Finite.of_lt _ (congrFun h1 i), fun i => Finite.of_lt _ (congrFun h2 i)⟩

set_option maxHeartbeats 1600000 in
/-- One element of the block of saved derivatives and gates is the reference's at the place the block stands. -/
theorem point_7 [Cert.Pre_finite_ffn_fwd.Facts] (h : Cert.Pre_Kernel9Ideal_finite_ffn_fwd m) (c : Dev nD) (t : Fin cfg0.N) (y) :
    out0_7 (F := Ideal) (iblk m c 0 t) (iblk m c 1 t) (iblk m c 2 t) (iblk m c 3 t) y
    = val_main_v31 (F := Ideal) (m ((c : Thread nD τ).loc main_arg0)) (m ((c : Thread nD τ).loc main_arg1)) (m ((c : Thread nD τ).loc main_arg2)) (((cfg0.win 7).blk t).view.emb y) := by
  obtain ⟨hx, hg, hw⟩ := real_of_pre m h c
  have hcol : ((((cfg0.win 7).blk t).view.emb y 1 : Fin 5632)).val = (y 1).val := by
    blk_simp [idx t]
  canon_tiles x k
  · refine Eq.trans ?_ ((congrArg _ (ValueIdx.eq_ix2 _)).trans (ref_b _ _ _ _ _ ⟨(x 1).val, by omega⟩ (hcol.trans k1))).symm
    pointwise [k0_pay11, k0_pay10, k0_pay9, k0_pay8, k0_pay7, k0_pay6, k0_pay5, k0_pay4, k0_pay3, k0_pay2, k0_pay1, RowNorm.var, xrow, hrow, gate, lo, hi, Ideal.logistic]
    blk_point [iblk, V, idx t]
  · refine Eq.trans ?_ ((congrArg _ (ValueIdx.eq_ix2 _)).trans ((ref_a _ _ _ _ _ ⟨(x 1).val, by omega⟩ (hcol.trans k1)).trans
      (Finite.gate_grad (gate_real _ _ _ hx hg hw _ _) (gate_real _ _ _ hx hg hw _ _)).symm)).symm
    pointwise [k0_pay11, k0_pay10, k0_pay9, k0_pay8, k0_pay7, k0_pay6, k0_pay5, k0_pay4, k0_pay3, k0_pay2, k0_pay1, RowNorm.var, xrow, hrow, gate, lo, hi, Ideal.logistic]
    blk_point [iblk, V, idx t]

/-- The stream after the run. -/
theorem final_4 (c : Dev nD) : (dats m 0 c).arrAt 4 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point_4 m c t y

/-- The array of normalised rows after the run. -/
theorem final_5 (c : Dev nD) : (dats m 0 c).arrAt 5 (cfgs 0).N = val_main_v24 (F := Ideal) (m ((c : Thread nD τ).loc main_arg0)) (m ((c : Thread nD τ).loc main_arg1)) := by
  refine (dats m 0 c).arrAt_eq_of_covers 5 _ (by decide +kernel) fun t _ y => ?_
  blk_simp
  rw [after0_5]; frame_out
  exact point_5 m c t y

/-- The gated array after the run. -/
theorem final_6 (c : Dev nD) : (dats m 0 c).arrAt 6 (cfgs 0).N = val_main_v25 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  exact point_6 m c t y

/-- The array of saved derivatives and gates after the run. -/
theorem final_7 [Cert.Pre_finite_ffn_fwd.Facts] (h : Cert.Pre_Kernel9Ideal_finite_ffn_fwd m) (c : Dev nD) :
    (dats m 0 c).arrAt 7 (cfgs 0).N = val_main_v31 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  exact point_7 m h c t y

/-- Both programs end with the same four arrays, on arguments whose stream, scale and first weight are finite. -/
theorem algebraic [Cert.Pre_finite_ffn_fwd.Facts] : Cert.algebraic_Kernel9Ideal_Reference9Ideal_pre_finite_ffn_fwd := by
  pair_intro
  · run_from Cert.Kernel9Ideal.Gen.run_main m g
  · run_from Cert.Reference9Ideal.Value.run m' g'
    · exact (final_4 m c).symm
    · exact (final_5 m c).symm
    · exact (final_6 m c).symm
    · obtain ⟨e0, e1, e2, e3⟩ := hagree c
      rw [val_main_v31_eq, e0, e1, e2]
      exact (final_7 m hpre c).symm

end Cert.Kernel9Ideal.W

end
-- ==== Proof.MixIn.lean ====
/- The forward product of the mixer: the normalised rows and their product with `w_in`, block of rows by block of rows. -/
module

public import proofs.«01_k».proof.Defs
public import proofs.«01_k».proof.Proof.Gen.Kernel10Ideal.Frame
public import proofs.«01_k».proof.Proof.Gen.Reference10Ideal.Read
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.W

open Cert.Kernel10Ideal Cert.Kernel10Ideal.Gen
open Cert.Reference10Ideal.Read

variable (m : (ℓ : Loc nD τ sig) → Buf (Elt Ideal) ℓ)

/-- Where each window's block stands at a grid point: the rows advance with the point, the scale and the weight are whole. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- One element of the block of normalised rows is the reference's at the place the block stands. -/
theorem point_3 (c : Dev nD) (t : Fin cfg0.N) (y) : k0_pay1 (F := Ideal) (iblk m c 0 t) (iblk m c 1 t) y
    = val_main_v13 (F := Ideal) (m ((c : Thread nD τ).loc main_arg0)) (m ((c : Thread nD τ).loc main_arg1)) (((cfg0.win 3).blk t).view.emb y) := by
  pointwise [k0_pay1, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_v0, val_main_cst]
  blk_point [iblk, V, idx t]

/-- One element of the block of products is the reference's at the place the block stands. -/
theorem point_4 (c : Dev nD) (t : Fin cfg0.N) (y) : k0_pay2 (F := Ideal) (iblk m c 0 t) (iblk m c 1 t) (iblk m c 2 t) y
    = val_main_v16 (F := Ideal) (m ((c : Thread nD τ).loc main_arg0)) (m ((c : Thread nD τ).loc main_arg1)) (m ((c : Thread nD τ).loc main_arg2)) (((cfg0.win 4).blk t).view.emb y) := by
  pointwise [k0_pay2, k0_pay1, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_v0, val_main_cst]
  blk_point [iblk, V, idx t]

/-- The array of normalised rows after the run. -/
theorem final_3 (c : Dev nD) : (dats m 0 c).arrAt 3 (cfgs 0).N = val_main_v13 (F := Ideal) (m ((c : Thread nD τ).loc main_arg0)) (m ((c : Thread nD τ).loc main_arg1)) := by
  refine (dats m 0 c).arrAt_eq_of_covers 3 _ (by decide +kernel) fun t _ y => ?_
  blk_simp
  rw [after0_3]; frame_out
  exact point_3 m c t y

/-- The array of products after the run. -/
theorem final_4 (c : Dev nD) : (dats m 0 c).arrAt 4 (cfgs 0).N = val_main_v16 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_4 m c t y

/-- Both programs end with the same two arrays. -/
theorem algebraic : Cert.algebraic_Kernel10Ideal_Reference10Ideal := by
  pair_intro
  · run_from Cert.Kernel10Ideal.Gen.run_main m g
  · run_from Cert.Reference10Ideal.Value.run m' g'
    exacts [(final_3 m c).symm, (final_4 m c).symm]

end Cert.Kernel10Ideal.W

end
-- ==== Proof.lean ====
/- The claim: every program runs to its end and leaves its arguments alone, the idealized kernels are the kernels, and the kernels
   compute what their references compute. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Pre_finite_ffn_bwd
public import proofs.«01_k».proof.Proof.Gen.Pre_finite_ffn_fwd
public import proofs.«01_k».proof.Proof.OnProven
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.MixBranchesBwd
public import proofs.«01_k».proof.Proof.FfnBwd
public import proofs.«01_k».proof.Proof.MixInBwd
public import proofs.«01_k».proof.Proof.W13
public import proofs.«01_k».proof.Proof.W2
public import proofs.«01_k».proof.Proof.WIn
public import proofs.«01_k».proof.Proof.WOut
public import proofs.«01_k».proof.Proof.WUp
public import proofs.«01_k».proof.Proof.FfnFwd
public import proofs.«01_k».proof.Proof.MixIn
public import Idealize.ShloMosaic.Adequacy
public import Idealize.ShloMosaic.Init

@[expose] public section

noncomputable section

namespace Cert.Proof

open Idealize.ShloMosaic Idealize.SL.Sem

set_option maxHeartbeats 40000000 in
/-- The kernel of the mixers' gradient runs one function, the same under machine and under exact arithmetic. -/
theorem function_Kernel : @Cert.Kernel.cc0_mix_branches_bwd Bits _ _ = @Cert.KernelIdeal.cc0_mix_branches_bwd Bits _ _ := rfl

set_option maxHeartbeats 40000000 in
/-- So the two tables of functions agree. -/
theorem body_Kernel : @Cert.Kernel.defs₀ Bits _ _ = @Cert.KernelIdeal.defs₀ Bits _ _ := by
  unfold Cert.Kernel.defs₀ Cert.KernelIdeal.defs₀
  rw [function_Kernel]
  congr 1
  funext l a
  match l, a with
  | 0, (t, s) => rfl
  | ⟨k + 1, h⟩, _ => exact absurd h (Nat.not_lt.2 (Nat.le_add_left _ _))

set_option maxHeartbeats 40000000 in
/-- And the pipelines around them. -/
theorem table_Kernel : @Cert.Kernel.defs Bits _ _ = @Cert.KernelIdeal.defs Bits _ _ :=
  congrArg (Pipeline.defs (Cert.KernelIdeal.pcfgs (F := Bits))) body_Kernel

set_option maxHeartbeats 40000000 in
/-- The kernel of the mixers' gradient runs to its end. -/
theorem quiescent_Kernel : Cert.quiescent_Kernel := fun m ρ _ => by
  rw [table_Kernel]
  exact Cert.KernelIdeal.Gen.frame (F := Bits) m ρ

/-- The kernel of the mixers' gradient runs to its end under exact arithmetic. -/
theorem quiescent_KernelIdeal : Cert.quiescent_KernelIdeal := fun m ρ _ => Cert.KernelIdeal.Gen.frame (F := Ideal) m ρ

/-- The reference of the mixers' gradient runs to its end under exact arithmetic. -/
theorem quiescent_ReferenceIdeal : Cert.quiescent_ReferenceIdeal := fun m ρ _ =>
  (θ_run Cert.ReferenceIdeal.defs _ _).mono (fun r h => ⟨fun c => (h c).2.2.2.2.2.2.2.2.2.2.2,
    sem_eq_zero_of_no_sems (by decide) r.2⟩) (Cert.ReferenceIdeal.Value.run (F := Ideal) m ρ)

set_option maxHeartbeats 2000000 in
/-- The kernel of the feed-forward layer's gradient runs one function, the same under machine and under exact arithmetic. -/
theorem function_Kernel2 : @Cert.Kernel2.cc0_ffn_bwd Bits _ _ = @Cert.Kernel2Ideal.cc0_ffn_bwd Bits _ _ := rfl

set_option maxHeartbeats 2000000 in
/-- So the two tables of functions agree. -/
theorem body_Kernel2 : @Cert.Kernel2.defs₀ Bits _ _ = @Cert.Kernel2Ideal.defs₀ Bits _ _ := by
  unfold Cert.Kernel2.defs₀ Cert.Kernel2Ideal.defs₀
  rw [function_Kernel2]
  congr 1
  funext l a
  match l, a with
  | 0, (t, s) => rfl
  | ⟨k + 1, h⟩, _ => exact absurd h (Nat.not_lt.2 (Nat.le_add_left _ _))

set_option maxHeartbeats 2000000 in
/-- And the pipelines around them. -/
theorem table_Kernel2 : @Cert.Kernel2.defs Bits _ _ = @Cert.Kernel2Ideal.defs Bits _ _ :=
  congrArg (Pipeline.defs (Cert.Kernel2Ideal.pcfgs (F := Bits))) body_Kernel2

set_option maxHeartbeats 2000000 in
/-- The kernel of the feed-forward layer's gradient runs to its end. -/
theorem quiescent_Kernel2 : Cert.quiescent_Kernel2 := fun m ρ _ => by
  rw [table_Kernel2]
  exact Cert.Kernel2Ideal.Gen.frame (F := Bits) m ρ

/-- The kernel of the feed-forward layer's gradient runs to its end under exact arithmetic. -/
theorem quiescent_Kernel2Ideal : Cert.quiescent_Kernel2Ideal := fun m ρ _ => Cert.Kernel2Ideal.Gen.frame (F := Ideal) m ρ

/-- The kernel of the feed-forward layer's gradient runs to its end under exact arithmetic, on finite arguments too. -/
theorem quiescent_Kernel2Ideal_pre_finite_ffn_bwd : Cert.quiescent_Kernel2Ideal_pre_finite_ffn_bwd := fun m ρ _ => Cert.Kernel2Ideal.Gen.frame (F := Ideal) m ρ

/-- The reference of the feed-forward layer's gradient runs to its end under exact arithmetic. -/
theorem quiescent_Reference2Ideal : Cert.quiescent_Reference2Ideal := fun m ρ _ =>
  (θ_run Cert.Reference2Ideal.defs _ _).mono (fun r h => ⟨fun c => (h c).2.2.2.2,
    sem_eq_zero_of_no_sems (by decide) r.2⟩) (Cert.Reference2Ideal.Value.run (F := Ideal) m ρ)

/-- The reference of the feed-forward layer's gradient runs to its end under exact arithmetic, on finite arguments too. -/
theorem quiescent_Reference2Ideal_pre_finite_ffn_bwd : Cert.quiescent_Reference2Ideal_pre_finite_ffn_bwd := fun m ρ _ =>
  (θ_run Cert.Reference2Ideal.defs _ _).mono (fun r h => ⟨fun c => (h c).2.2.2.2,
    sem_eq_zero_of_no_sems (by decide) r.2⟩) (Cert.Reference2Ideal.Value.run (F := Ideal) m ρ)

set_option maxHeartbeats 2000000 in
/-- The kernel of the mixer input's gradient runs one function, the same under machine and under exact arithmetic. -/
theorem function_Kernel3 : @Cert.Kernel3.cc0_mix_in_bwd Bits _ _ = @Cert.Kernel3Ideal.cc0_mix_in_bwd Bits _ _ := rfl

set_option maxHeartbeats 2000000 in
/-- So the two tables of functions agree. -/
theorem body_Kernel3 : @Cert.Kernel3.defs₀ Bits _ _ = @Cert.Kernel3Ideal.defs₀ Bits _ _ := by
  unfold Cert.Kernel3.defs₀ Cert.Kernel3Ideal.defs₀
  rw [function_Kernel3]
  congr 1
  funext l a
  match l, a with
  | 0, (t, s) => rfl
  | ⟨k + 1, h⟩, _ => exact absurd h (Nat.not_lt.2 (Nat.le_add_left _ _))

set_option maxHeartbeats 2000000 in
/-- And the pipelines around them. -/
theorem table_Kernel3 : @Cert.Kernel3.defs Bits _ _ = @Cert.Kernel3Ideal.defs Bits _ _ :=
  congrArg (Pipeline.defs (Cert.Kernel3Ideal.pcfgs (F := Bits))) body_Kernel3

set_option maxHeartbeats 2000000 in
/-- The kernel of the mixer input's gradient runs to its end. -/
theorem quiescent_Kernel3 : Cert.quiescent_Kernel3 := fun m ρ _ => by
  rw [table_Kernel3]
  exact Cert.Kernel3Ideal.Gen.frame (F := Bits) m ρ

/-- The kernel of the mixer input's gradient runs to its end under exact arithmetic. -/
theorem quiescent_Kernel3Ideal : Cert.quiescent_Kernel3Ideal := fun m ρ _ => Cert.Kernel3Ideal.Gen.frame (F := Ideal) m ρ

/-- The reference of the mixer input's gradient runs to its end under exact arithmetic. -/
theorem quiescent_Reference3Ideal : Cert.quiescent_Reference3Ideal := fun m ρ _ =>
  (θ_run Cert.Reference3Ideal.defs _ _).mono (fun r h => ⟨fun c => (h c).2.2,
    sem_eq_zero_of_no_sems (by decide) r.2⟩) (Cert.Reference3Ideal.Value.run (F := Ideal) m ρ)

/-- The kernel of the gradient of the first feed-forward weight runs one function, the same under machine and under exact arithmetic. -/
theorem function_Kernel4 : @Cert.Kernel4.cc0_wgrad_w13 Bits _ _ = @Cert.Kernel4Ideal.cc0_wgrad_w13 Bits _ _ := rfl

/-- So the two tables of functions agree. -/
theorem body_Kernel4 : @Cert.Kernel4.defs₀ Bits _ _ = @Cert.Kernel4Ideal.defs₀ Bits _ _ := by
  unfold Cert.Kernel4.defs₀ Cert.Kernel4Ideal.defs₀
  rw [function_Kernel4]
  congr 1
  funext l a
  match l, a with
  | 0, (t, s) => rfl
  | ⟨k + 1, h⟩, _ => exact absurd h (Nat.not_lt.2 (Nat.le_add_left _ _))

/-- And the pipelines around them. -/
theorem table_Kernel4 : @Cert.Kernel4.defs Bits _ _ = @Cert.Kernel4Ideal.defs Bits _ _ :=
  congrArg (Pipeline.defs (Cert.Kernel4Ideal.pcfgs (F := Bits))) body_Kernel4

/-- The kernel of the gradient of the first feed-forward weight runs to its end. -/
theorem quiescent_Kernel4 : Cert.quiescent_Kernel4 := fun m ρ _ => by
  rw [table_Kernel4]
  exact Cert.Kernel4Ideal.Gen.frame (F := Bits) m ρ

/-- The kernel of the gradient of the first feed-forward weight runs to its end under exact arithmetic. -/
theorem quiescent_Kernel4Ideal : Cert.quiescent_Kernel4Ideal := fun m ρ _ => Cert.Kernel4Ideal.Gen.frame (F := Ideal) m ρ

/-- The reference of the gradient of the first feed-forward weight runs to its end under exact arithmetic. -/
theorem quiescent_Reference4Ideal : Cert.quiescent_Reference4Ideal := fun m ρ _ =>
  (θ_run Cert.Reference4Ideal.defs _ _).mono (fun r h => ⟨fun c => (h c).2,
    sem_eq_zero_of_no_sems (by decide) r.2⟩) (Cert.Reference4Ideal.Value.run (F := Ideal) m ρ)

/-- The kernel of the gradient of the second feed-forward weight runs one function, the same under machine and under exact arithmetic. -/
theorem function_Kernel5 : @Cert.Kernel5.cc0_wgrad_w2 Bits _ _ = @Cert.Kernel5Ideal.cc0_wgrad_w2 Bits _ _ := rfl

/-- So the two tables of functions agree. -/
theorem body_Kernel5 : @Cert.Kernel5.defs₀ Bits _ _ = @Cert.Kernel5Ideal.defs₀ Bits _ _ := by
  unfold Cert.Kernel5.defs₀ Cert.Kernel5Ideal.defs₀
  rw [function_Kernel5]
  congr 1
  funext l a
  match l, a with
  | 0, (t, s) => rfl
  | ⟨k + 1, h⟩, _ => exact absurd h (Nat.not_lt.2 (Nat.le_add_left _ _))

/-- And the pipelines around them. -/
theorem table_Kernel5 : @Cert.Kernel5.defs Bits _ _ = @Cert.Kernel5Ideal.defs Bits _ _ :=
  congrArg (Pipeline.defs (Cert.Kernel5Ideal.pcfgs (F := Bits))) body_Kernel5

/-- The kernel of the gradient of the second feed-forward weight runs to its end. -/
theorem quiescent_Kernel5 : Cert.quiescent_Kernel5 := fun m ρ _ => by
  rw [table_Kernel5]
  exact Cert.Kernel5Ideal.Gen.frame (F := Bits) m ρ

/-- The kernel of the gradient of the second feed-forward weight runs to its end under exact arithmetic. -/
theorem quiescent_Kernel5Ideal : Cert.quiescent_Kernel5Ideal := fun m ρ _ => Cert.Kernel5Ideal.Gen.frame (F := Ideal) m ρ

/-- The reference of the gradient of the second feed-forward weight runs to its end under exact arithmetic. -/
theorem quiescent_Reference5Ideal : Cert.quiescent_Reference5Ideal := fun m ρ _ =>
  (θ_run Cert.Reference5Ideal.defs _ _).mono (fun r h => ⟨fun c => (h c).2,
    sem_eq_zero_of_no_sems (by decide) r.2⟩) (Cert.Reference5Ideal.Value.run (F := Ideal) m ρ)

/-- The kernel of the gradient of the mixer's input weight runs one function, the same under machine and under exact arithmetic. -/
theorem function_Kernel6 : @Cert.Kernel6.cc0_wgrad_w_in Bits _ _ = @Cert.Kernel6Ideal.cc0_wgrad_w_in Bits _ _ := rfl

/-- So the two tables of functions agree. -/
theorem body_Kernel6 : @Cert.Kernel6.defs₀ Bits _ _ = @Cert.Kernel6Ideal.defs₀ Bits _ _ := by
  unfold Cert.Kernel6.defs₀ Cert.Kernel6Ideal.defs₀
  rw [function_Kernel6]
  congr 1
  funext l a
  match l, a with
  | 0, (t, s) => rfl
  | ⟨k + 1, h⟩, _ => exact absurd h (Nat.not_lt.2 (Nat.le_add_left _ _))

/-- And the pipelines around them. -/
theorem table_Kernel6 : @Cert.Kernel6.defs Bits _ _ = @Cert.Kernel6Ideal.defs Bits _ _ :=
  congrArg (Pipeline.defs (Cert.Kernel6Ideal.pcfgs (F := Bits))) body_Kernel6

/-- The kernel of the gradient of the mixer's input weight runs to its end. -/
theorem quiescent_Kernel6 : Cert.quiescent_Kernel6 := fun m ρ _ => by
  rw [table_Kernel6]
  exact Cert.Kernel6Ideal.Gen.frame (F := Bits) m ρ

/-- The kernel of the gradient of the mixer's input weight runs to its end under exact arithmetic. -/
theorem quiescent_Kernel6Ideal : Cert.quiescent_Kernel6Ideal := fun m ρ _ => Cert.Kernel6Ideal.Gen.frame (F := Ideal) m ρ

/-- The reference of the gradient of the mixer's input weight runs to its end under exact arithmetic. -/
theorem quiescent_Reference6Ideal : Cert.quiescent_Reference6Ideal := fun m ρ _ =>
  (θ_run Cert.Reference6Ideal.defs _ _).mono (fun r h => ⟨fun c => (h c).2,
    sem_eq_zero_of_no_sems (by decide) r.2⟩) (Cert.Reference6Ideal.Value.run (F := Ideal) m ρ)

/-- The kernel of the gradient of the mixer's output weight runs one function, the same under machine and under exact arithmetic. -/
theorem function_Kernel7 : @Cert.Kernel7.cc0_wgrad_w_out Bits _ _ = @Cert.Kernel7Ideal.cc0_wgrad_w_out Bits _ _ := rfl

/-- So the two tables of functions agree. -/
theorem body_Kernel7 : @Cert.Kernel7.defs₀ Bits _ _ = @Cert.Kernel7Ideal.defs₀ Bits _ _ := by
  unfold Cert.Kernel7.defs₀ Cert.Kernel7Ideal.defs₀
  rw [function_Kernel7]
  congr 1
  funext l a
  match l, a with
  | 0, (t, s) => rfl
  | ⟨k + 1, h⟩, _ => exact absurd h (Nat.not_lt.2 (Nat.le_add_left _ _))

/-- And the pipelines around them. -/
theorem table_Kernel7 : @Cert.Kernel7.defs Bits _ _ = @Cert.Kernel7Ideal.defs Bits _ _ :=
  congrArg (Pipeline.defs (Cert.Kernel7Ideal.pcfgs (F := Bits))) body_Kernel7

/-- The kernel of the gradient of the mixer's output weight runs to its end. -/
theorem quiescent_Kernel7 : Cert.quiescent_Kernel7 := fun m ρ _ => by
  rw [table_Kernel7]
  exact Cert.Kernel7Ideal.Gen.frame (F := Bits) m ρ

/-- The kernel of the gradient of the mixer's output weight runs to its end under exact arithmetic. -/
theorem quiescent_Kernel7Ideal : Cert.quiescent_Kernel7Ideal := fun m ρ _ => Cert.Kernel7Ideal.Gen.frame (F := Ideal) m ρ

/-- The reference of the gradient of the mixer's output weight runs to its end under exact arithmetic. -/
theorem quiescent_Reference7Ideal : Cert.quiescent_Reference7Ideal := fun m ρ _ =>
  (θ_run Cert.Reference7Ideal.defs _ _).mono (fun r h => ⟨fun c => (h c).2,
    sem_eq_zero_of_no_sems (by decide) r.2⟩) (Cert.Reference7Ideal.Value.run (F := Ideal) m ρ)

/-- The kernel of the gradient of the branches' weights runs one function, the same under machine and under exact arithmetic. -/
theorem function_Kernel8 : @Cert.Kernel8.cc0_wgrad_w_up Bits _ _ = @Cert.Kernel8Ideal.cc0_wgrad_w_up Bits _ _ := rfl

/-- So the two tables of functions agree. -/
theorem body_Kernel8 : @Cert.Kernel8.defs₀ Bits _ _ = @Cert.Kernel8Ideal.defs₀ Bits _ _ := by
  unfold Cert.Kernel8.defs₀ Cert.Kernel8Ideal.defs₀
  rw [function_Kernel8]
  congr 1
  funext l a
  match l, a with
  | 0, (t, s) => rfl
  | ⟨k + 1, h⟩, _ => exact absurd h (Nat.not_lt.2 (Nat.le_add_left _ _))

/-- And the pipelines around them. -/
theorem table_Kernel8 : @Cert.Kernel8.defs Bits _ _ = @Cert.Kernel8Ideal.defs Bits _ _ :=
  congrArg (Pipeline.defs (Cert.Kernel8Ideal.pcfgs (F := Bits))) body_Kernel8

/-- The kernel of the gradient of the branches' weights runs to its end. -/
theorem quiescent_Kernel8 : Cert.quiescent_Kernel8 := fun m ρ _ => by
  rw [table_Kernel8]
  exact Cert.Kernel8Ideal.Gen.frame (F := Bits) m ρ

/-- The kernel of the gradient of the branches' weights runs to its end under exact arithmetic. -/
theorem quiescent_Kernel8Ideal : Cert.quiescent_Kernel8Ideal := fun m ρ _ => Cert.Kernel8Ideal.Gen.frame (F := Ideal) m ρ

/-- The reference of the gradient of the branches' weights runs to its end under exact arithmetic. -/
theorem quiescent_Reference8Ideal : Cert.quiescent_Reference8Ideal := fun m ρ _ =>
  (θ_run Cert.Reference8Ideal.defs _ _).mono (fun r h => ⟨fun c => (h c).2,
    sem_eq_zero_of_no_sems (by decide) r.2⟩) (Cert.Reference8Ideal.Value.run (F := Ideal) m ρ)

/-- The kernel of the feed-forward layer runs one function, the same under machine and under exact arithmetic. -/
theorem function_Kernel9 : @Cert.Kernel9.cc0_ffn_fwd Bits _ _ = @Cert.Kernel9Ideal.cc0_ffn_fwd Bits _ _ := rfl

/-- So the two tables of functions agree. -/
theorem body_Kernel9 : @Cert.Kernel9.defs₀ Bits _ _ = @Cert.Kernel9Ideal.defs₀ Bits _ _ := by
  unfold Cert.Kernel9.defs₀ Cert.Kernel9Ideal.defs₀
  rw [function_Kernel9]
  congr 1
  funext l a
  match l, a with
  | 0, (t, s) => rfl
  | ⟨k + 1, h⟩, _ => exact absurd h (Nat.not_lt.2 (Nat.le_add_left _ _))

/-- And the pipelines around them. -/
theorem table_Kernel9 : @Cert.Kernel9.defs Bits _ _ = @Cert.Kernel9Ideal.defs Bits _ _ :=
  congrArg (Pipeline.defs (Cert.Kernel9Ideal.pcfgs (F := Bits))) body_Kernel9

/-- The kernel of the feed-forward layer runs to its end. -/
theorem quiescent_Kernel9 : Cert.quiescent_Kernel9 := fun m ρ _ => by
  rw [table_Kernel9]
  exact Cert.Kernel9Ideal.Gen.frame (F := Bits) m ρ

/-- The kernel of the feed-forward layer runs to its end under exact arithmetic. -/
theorem quiescent_Kernel9Ideal : Cert.quiescent_Kernel9Ideal := fun m ρ _ => Cert.Kernel9Ideal.Gen.frame (F := Ideal) m ρ

/-- The kernel of the feed-forward layer runs to its end under exact arithmetic, on finite arguments too. -/
theorem quiescent_Kernel9Ideal_pre_finite_ffn_fwd : Cert.quiescent_Kernel9Ideal_pre_finite_ffn_fwd := fun m ρ _ => Cert.Kernel9Ideal.Gen.frame (F := Ideal) m ρ

/-- The reference of the feed-forward layer runs to its end under exact arithmetic. -/
theorem quiescent_Reference9Ideal : Cert.quiescent_Reference9Ideal := fun m ρ _ =>
  (θ_run Cert.Reference9Ideal.defs _ _).mono (fun r h => ⟨fun c => (h c).2.2.2.2,
    sem_eq_zero_of_no_sems (by decide) r.2⟩) (Cert.Reference9Ideal.Value.run (F := Ideal) m ρ)

/-- The reference of the feed-forward layer runs to its end under exact arithmetic, on finite arguments too. -/
theorem quiescent_Reference9Ideal_pre_finite_ffn_fwd : Cert.quiescent_Reference9Ideal_pre_finite_ffn_fwd := fun m ρ _ =>
  (θ_run Cert.Reference9Ideal.defs _ _).mono (fun r h => ⟨fun c => (h c).2.2.2.2,
    sem_eq_zero_of_no_sems (by decide) r.2⟩) (Cert.Reference9Ideal.Value.run (F := Ideal) m ρ)

/-- The kernel of the mixer's input product runs one function, the same under machine and under exact arithmetic. -/
theorem function_Kernel10 : @Cert.Kernel10.cc0_mix_in Bits _ _ = @Cert.Kernel10Ideal.cc0_mix_in Bits _ _ := rfl

/-- So the two tables of functions agree. -/
theorem body_Kernel10 : @Cert.Kernel10.defs₀ Bits _ _ = @Cert.Kernel10Ideal.defs₀ Bits _ _ := by
  unfold Cert.Kernel10.defs₀ Cert.Kernel10Ideal.defs₀
  rw [function_Kernel10]
  congr 1
  funext l a
  match l, a with
  | 0, (t, s) => rfl
  | ⟨k + 1, h⟩, _ => exact absurd h (Nat.not_lt.2 (Nat.le_add_left _ _))

/-- And the pipelines around them. -/
theorem table_Kernel10 : @Cert.Kernel10.defs Bits _ _ = @Cert.Kernel10Ideal.defs Bits _ _ :=
  congrArg (Pipeline.defs (Cert.Kernel10Ideal.pcfgs (F := Bits))) body_Kernel10

/-- The kernel of the mixer's input product runs to its end. -/
theorem quiescent_Kernel10 : Cert.quiescent_Kernel10 := fun m ρ _ => by
  rw [table_Kernel10]
  exact Cert.Kernel10Ideal.Gen.frame (F := Bits) m ρ

/-- The kernel of the mixer's input product runs to its end under exact arithmetic. -/
theorem quiescent_Kernel10Ideal : Cert.quiescent_Kernel10Ideal := fun m ρ _ => Cert.Kernel10Ideal.Gen.frame (F := Ideal) m ρ

/-- The reference of the mixer's input product runs to its end under exact arithmetic. -/
theorem quiescent_Reference10Ideal : Cert.quiescent_Reference10Ideal := fun m ρ _ =>
  (θ_run Cert.Reference10Ideal.defs _ _).mono (fun r h => ⟨fun c => (h c).2.2,
    sem_eq_zero_of_no_sems (by decide) r.2⟩) (Cert.Reference10Ideal.Value.run (F := Ideal) m ρ)

/-- All claims together. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Pre_finite_ffn_bwd.Gen.facts, Cert.Pre_finite_ffn_fwd.Gen.facts, Cert.On_proven.W.facts,
  quiescent_Kernel,
  quiescent_KernelIdeal,
  quiescent_ReferenceIdeal,
  quiescent_Kernel2,
  quiescent_Kernel2Ideal,
  quiescent_Kernel2Ideal_pre_finite_ffn_bwd,
  quiescent_Reference2Ideal,
  quiescent_Reference2Ideal_pre_finite_ffn_bwd,
  quiescent_Kernel3,
  quiescent_Kernel3Ideal,
  quiescent_Reference3Ideal,
  quiescent_Kernel4,
  quiescent_Kernel4Ideal,
  quiescent_Reference4Ideal,
  quiescent_Kernel5,
  quiescent_Kernel5Ideal,
  quiescent_Reference5Ideal,
  quiescent_Kernel6,
  quiescent_Kernel6Ideal,
  quiescent_Reference6Ideal,
  quiescent_Kernel7,
  quiescent_Kernel7Ideal,
  quiescent_Reference7Ideal,
  quiescent_Kernel8,
  quiescent_Kernel8Ideal,
  quiescent_Reference8Ideal,
  quiescent_Kernel9,
  quiescent_Kernel9Ideal,
  quiescent_Kernel9Ideal_pre_finite_ffn_fwd,
  quiescent_Reference9Ideal,
  quiescent_Reference9Ideal_pre_finite_ffn_fwd,
  quiescent_Kernel10,
  quiescent_Kernel10Ideal,
  quiescent_Reference10Ideal,
  trivial,
  Cert.KernelIdeal.W.algebraic,
  trivial,
  Cert.Kernel2Ideal.W.algebraic,
  trivial,
  Cert.Kernel3Ideal.W.algebraic,
  trivial,
  Cert.Kernel4Ideal.W.algebraic,
  trivial,
  Cert.Kernel5Ideal.W.algebraic,
  trivial,
  Cert.Kernel6Ideal.W.algebraic,
  trivial,
  Cert.Kernel7Ideal.W.algebraic,
  trivial,
  Cert.Kernel8Ideal.W.algebraic,
  trivial,
  Cert.Kernel9Ideal.W.algebraic,
  trivial,
  Cert.Kernel10Ideal.W.algebraic⟩

end Cert.Proof

end
